-- ==== Defs.lean ====
def Pre_Kernel [hPre_first_tiles : Cert.Pre_first_tiles.Facts] (m : (ℓ : Loc Cert.Kernel.nD Cert.Kernel.τ Cert.Kernel.sig) → Buf (Elt Bits) ℓ) : Prop :=
  ∀ c : Dev Cert.Kernel.nD,
    (Cert.Pre_first_tiles.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_first_tiles : Cert.Pre_first_tiles.Facts] (m : (ℓ : Loc Cert.KernelIdeal.nD Cert.KernelIdeal.τ Cert.KernelIdeal.sig) → Buf (Elt Ideal) ℓ) : Prop :=
  ∀ c : Dev Cert.KernelIdeal.nD,
    (Cert.Pre_first_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_regions : Cert.Pre_regions.Facts] (m : (ℓ : Loc Cert.Experts.nD Cert.Experts.τ Cert.Experts.sig) → Buf (Elt Bits) ℓ) : Prop :=
  ∀ c : Dev Cert.Experts.nD,
    (Cert.Pre_regions.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_regions : Cert.Pre_regions.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_regions.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_regions [hPre_regions : Cert.Pre_regions.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_regions.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] [hPre_first_tiles : Cert.Pre_first_tiles.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_first_tiles : Cert.Pre_first_tiles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_regions : Cert.Pre_regions.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_regions : Cert.Pre_regions.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_regions [hExpertsReferenceIdeal : Cert.ExpertsReferenceIdeal.Facts] [hPre_regions : Cert.Pre_regions.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_regions m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF1800000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_regions : Cert.Pre_regions.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v58) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v0)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v0) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v3) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)) →
    ∃ (v0 : (c : Dev Cert.ProjectionIdeal.nD) → Buf (Elt Ideal) ((c.tc : Thread Cert.ProjectionIdeal.nD Cert.ProjectionIdeal.τ).loc Cert.ProjectionIdeal.main_v0_0)) (v1 : (c : Dev Cert.ProjectionIdeal.nD) → Buf (Elt Ideal) ((c.tc : Thread Cert.ProjectionIdeal.nD Cert.ProjectionIdeal.τ).loc Cert.ProjectionIdeal.main_v0_4)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v0_0) = v0 c
          ∧ r.2.mem ((c.tc : Thread Cert.ProjectionIdeal.nD Cert.ProjectionIdeal.τ).loc Cert.ProjectionIdeal.main_v0_4) = v1 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v33) = v0 c
          ∧ r.2.mem ((c.tc : Thread Cert.ProjectionReferenceIdeal.nD Cert.ProjectionReferenceIdeal.τ).loc Cert.ProjectionReferenceIdeal.main_v34) = v1 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hModulation : Cert.Modulation.Facts) (hModulationIdeal : Cert.ModulationIdeal.Facts) (hModulationReferenceIdeal : Cert.ModulationReferenceIdeal.Facts) (hProjection : Cert.Projection.Facts) (hProjectionIdeal : Cert.ProjectionIdeal.Facts) (hProjectionReferenceIdeal : Cert.ProjectionReferenceIdeal.Facts) (hPre_first_tiles : Cert.Pre_first_tiles.Facts) (hPre_finite_scores : Cert.Pre_finite_scores.Facts) (hPre_regions : Cert.Pre_regions.Facts),
    quiescent_Kernel (hKernel := hKernel) (hPre_first_tiles := hPre_first_tiles)
    ∧ quiescent_KernelIdeal (hKernelIdeal := hKernelIdeal) (hPre_first_tiles := hPre_first_tiles)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_regions := hPre_regions)
    ∧ quiescent_ExpertsIdeal (hExpertsIdeal := hExpertsIdeal) (hPre_regions := hPre_regions)
    ∧ quiescent_ExpertsReferenceIdeal (hExpertsReferenceIdeal := hExpertsReferenceIdeal)
    ∧ quiescent_ExpertsReferenceIdeal_pre_regions (hExpertsReferenceIdeal := hExpertsReferenceIdeal) (hPre_regions := hPre_regions)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal (hExpertsIdeal := hExpertsIdeal) (hExpertsReferenceIdeal := hExpertsReferenceIdeal) (hPre_regions := hPre_regions)
    ∧ preserves_Modulation_ModulationIdeal
    ∧ algebraic_ModulationIdeal_ModulationReferenceIdeal (hModulationIdeal := hModulationIdeal) (hModulationReferenceIdeal := hModulationReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_finite_scores.lean ====
abbrev S128 : Shape := ⟨1, ![128]⟩
abbrev S8x64 : Shape := ⟨2, ![8, 64]⟩
abbrev S2048x16384 : Shape := ⟨2, ![2048, 16384]⟩
abbrev S16384x1024 : Shape := ⟨2, ![16384, 1024]⟩
abbrev S4x16384x2 : Shape := ⟨3, ![4, 16384, 2]⟩
abbrev S_ : Shape := ⟨0, ![]⟩
abbrev S512x16384 : Shape := ⟨2, ![512, 16384]⟩
abbrev S16384x512 : Shape := ⟨2, ![16384, 512]⟩

class Facts : Prop where
  bcast_S_S128 : S_.BroadcastsInDim S128 (![] : Fin 0 → Fin S128.rank)
  reducesTo_S128_S_d0 : S128.ReducesTo [0] S_
  h_S_ : 0 < S_.numel
  bcast_S_S8x64 : S_.BroadcastsInDim S8x64 (![] : Fin 0 → Fin S8x64.rank)
  reducesTo_S8x64_S_d0_1 : S8x64.ReducesTo [0, 1] S_
  bcast_S_S4x16384x2 : S_.BroadcastsInDim S4x16384x2 (![] : Fin 0 → Fin S4x16384x2.rank)
  reducesTo_S4x16384x2_S_d0_1_2 : S4x16384x2.ReducesTo [0, 1, 2] S_
  slices_S2048x16384_S512x16384_1024_0 : S2048x16384.Slices ![1024, 0] S512x16384
  bitsLt_bf16_f32 : FTy.bits .bf16 < FTy.bits .f32
  bcast_S_S512x16384 : S_.BroadcastsInDim S512x16384 (![] : Fin 0 → Fin S512x16384.rank)
  reducesTo_S512x16384_S_d0_1 : S512x16384.ReducesTo [0, 1] S_
  slices_S16384x1024_S16384x512_0_0 : S16384x1024.Slices ![0, 0] S16384x512
  bcast_S_S16384x512 : S_.BroadcastsInDim S16384x512 (![] : Fin 0 → Fin S16384x512.rank)
  reducesTo_S16384x512_S_d0_1 : S16384x512.ReducesTo [0, 1] S_

variable [Facts]

def fn_part1 {F : FTy → Type} [FloatOps F] (main_arg3 : FVec F S16384x1024 .bf16) (main_v12 : IVec S_ 1) (main_v15 : FVec F S512x16384 .f32) (main_v16 : FVec F S512x16384 .f32) : IVec S_ 1 :=
  let main_v17 : IVec S512x16384 1 := cmpf .olt main_v15 main_v16
  let main_c_5 : IVec S_ 1 := constantI S_ 1 1#1
  let main_v18 : IVec S_ 1 := (fun x v => Host.reduce IntOp.andi x v reducesTo_S512x16384_S_d0_1 h_S_) main_v17 main_c_5
  let main_v19 : IVec S_ 1 := andi main_v12 main_v18
  let main_v20 : FVec F S16384x512 .bf16 := (extractStridedSlice S16384x512 ![0, 0] · slices_S16384x1024_S16384x512_0_0) main_arg3
  let main_v21 : FVec F S16384x512 .f32 := (extf .f32 · bitsLt_bf16_f32) main_v20
  let main_v22 : FVec F S16384x512 .f32 := Host.absf main_v21
  let main_cst_6 : FVec F S_ .f32 := constant S_ .f32 0x7F800000#32
  let main_v23 : FVec F S16384x512 .f32 := broadcastInDim S16384x512 ![] bcast_S_S16384x512 main_cst_6
  let main_v24 : IVec S16384x512 1 := cmpf .olt main_v22 main_v23
  let main_c_7 : IVec S_ 1 := constantI S_ 1 1#1
  let main_v25 : IVec S_ 1 := (fun x v => Host.reduce IntOp.andi x v reducesTo_S16384x512_S_d0_1 h_S_) main_v24 main_c_7
  let main_v26 : IVec S_ 1 := andi main_v19 main_v25
  main_v26

def fn {F : FTy → Type} [FloatOps F] (main_arg0 : IVec S128 32) (main_arg1 : FVec F S8x64 .f32) (main_arg2 : FVec F S2048x16384 .bf16) (main_arg3 : FVec F S16384x1024 .bf16) (main_arg4 : FVec F S4x16384x2 .f32) : IVec S_ 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 1 := constantI S_ 1 1#1
  let main_v2 : IVec S_ 1 := (fun x v => Host.reduce IntOp.andi x v reducesTo_S128_S_d0 h_S_) main_v1 main_c_0
  let main_v3 : FVec F S8x64 .f32 := Host.absf main_arg1
  let main_cst : FVec F S_ .f32 := constant S_ .f32 0x7F800000#32
  let main_v4 : FVec F S8x64 .f32 := broadcastInDim S8x64 ![] bcast_S_S8x64 main_cst
  let main_v5 : IVec S8x64 1 := cmpf .olt main_v3 main_v4
  let main_c_1 : IVec S_ 1 := constantI S_ 1 1#1
  let main_v6 : IVec S_ 1 := (fun x v => Host.reduce IntOp.andi x v reducesTo_S8x64_S_d0_1 h_S_) main_v5 main_c_1
  let main_v7 : IVec S_ 1 := andi main_v2 main_v6
  let main_v8 : FVec F S4x16384x2 .f32 := Host.absf main_arg4
  let main_cst_2 : FVec F S_ .f32 := constant S_ .f32 0x7F800000#32
  let main_v9 : FVec F S4x16384x2 .f32 := broadcastInDim S4x16384x2 ![] bcast_S_S4x16384x2 main_cst_2
  let main_v10 : IVec S4x16384x2 1 := cmpf .olt main_v8 main_v9
  let main_c_3 : IVec S_ 1 := constantI S_ 1 1#1
  let main_v11 : IVec S_ 1 := (fun x v => Host.reduce IntOp.andi x v reducesTo_S4x16384x2_S_d0_1_2 h_S_) main_v10 main_c_3
  let main_v12 : IVec S_ 1 := andi main_v7 main_v11
  let main_v13 : FVec F S512x16384 .bf16 := (extractStridedSlice S512x16384 ![1024, 0] · slices_S2048x16384_S512x16384_1024_0) main_arg2
  let main_v14 : FVec F S512x16384 .f32 := (extf .f32 · bitsLt_bf16_f32) main_v13
  let main_v15 : FVec F S512x16384 .f32 := Host.absf main_v14
  let main_cst_4 : FVec F S_ .f32 := constant S_ .f32 0x7F800000#32
  let main_v16 : FVec F S512x16384 .f32 := broadcastInDim S512x16384 ![] bcast_S_S512x16384 main_cst_4
  fn_part1 (F := F) main_arg3 main_v12 main_v15 main_v16
-- ==== Pre_first_tiles.lean ====
abbrev S128 : Shape := ⟨1, ![128]⟩
abbrev S8x64 : Shape := ⟨2, ![8, 64]⟩
abbrev S2048x16384 : Shape := ⟨2, ![2048, 16384]⟩
abbrev S16384x1024 : Shape := ⟨2, ![16384, 1024]⟩
abbrev S4x16384x2 : Shape := ⟨3, ![4, 16384, 2]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : IVec S128 32) (main_arg1 : FVec F S8x64 .f32) (main_arg2 : FVec F S2048x16384 .bf16) (main_arg3 : FVec F S16384x1024 .bf16) (main_arg4 : FVec F S4x16384x2 .f32) : IVec S_ 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 1 := constantI S_ 1 1#1
  let main_v2 : IVec S_ 1 := (fun x v => Host.reduce IntOp.andi x v reducesTo_S128_S_d0 h_S_) main_v1 main_c_0
  main_v2
-- ==== Pre_regions.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S159 : Shape := ⟨1, ![159]⟩
abbrev S_ : Shape := ⟨0, ![]⟩

class Facts : Prop where
  slices_S160_S159_1 : S160.Slices ![1] S159
  slices_S160_S1_0 : S160.Slices ![0] S1
  concatenates_S159_S1_S160_d0 : Shape.Concatenates [S159, S1] S160 0
  bcast_S_S160 : S_.BroadcastsInDim S160 (![] : Fin 0 → Fin S160.rank)
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  reducesTo_S160_S_d0 : S160.ReducesTo [0] S_

variable [Facts]

def fn_where {F : FTy → Type} [FloatOps F] (arg0 : IVec S160 1) (arg1 : IVec S160 32) (arg2 : IVec S160 32) : IVec S160 32 :=
  let v0 : IVec S160 32 := select arg0 arg1 arg2
  v0

def fn_where_0 {F : FTy → Type} [FloatOps F] (arg0 : IVec S160 1) (arg1 : IVec S160 32) (arg2 : IVec S_ 32) : IVec S160 32 :=
  let v0 : IVec S_ 32 := id arg2
  let v1 : IVec S160 32 := broadcastInDim S160 ![] bcast_S_S160 v0
  let v2 : IVec S160 32 := select arg0 arg1 v1
  v2

def fn_part1 {F : FTy → Type} [FloatOps F] (main_arg0 : IVec S160 32) (main_arg1 : IVec S160 32) (main_arg2 : IVec S1 32) (main_v0 : IVec S160 32) (main_v14 : IVec S160 32) (main_v17 : IVec S_ 1) (main_v18 : IVec S1 32) : IVec S_ 1 :=
  let main_v19 : IVec S1 1 := cmpi .sle main_arg2 main_v18
  let main_c_4 : IVec S_ 1 := constantI S_ 1 1#1
  let main_v20 : IVec S_ 1 := (fun x v => Host.reduce IntOp.andi x v reducesTo_S1_S_d0 h_S_) main_v19 main_c_4
  let main_v21 : IVec S_ 1 := andi main_v17 main_v20
  let main_c_5 : IVec S_ 32 := constantI S_ 32 0#32
  let main_v22 : IVec S160 32 := broadcastInDim S160 ![] bcast_S_S160 main_c_5
  let main_v23 : IVec S160 1 := cmpi .sge main_arg0 main_v22
  let main_c_6 : IVec S_ 1 := constantI S_ 1 1#1
  let main_v24 : IVec S_ 1 := (fun x v => Host.reduce IntOp.andi x v reducesTo_S160_S_d0 h_S_) main_v23 main_c_6
  let main_v25 : IVec S_ 1 := andi main_v21 main_v24
  let main_c_7 : IVec S_ 32 := constantI S_ 32 32#32
  let main_v26 : IVec S160 32 := broadcastInDim S160 ![] bcast_S_S160 main_c_7
  let main_v27 : IVec S160 1 := cmpi .slt main_arg0 main_v26
  let main_c_8 : IVec S_ 1 := constantI S_ 1 1#1
  let main_v28 : IVec S_ 1 := (fun x v => Host.reduce IntOp.andi x v reducesTo_S160_S_d0 h_S_) main_v27 main_c_8
  let main_v29 : IVec S_ 1 := andi main_v25 main_v28
  let main_v30 : IVec S_ 32 := shapeCast S_ main_arg2 shapeCasts_S1_S_
  let main_v31 : IVec S160 32 := broadcastInDim S160 ![] bcast_S_S160 main_v30
  let main_v32 : IVec S160 1 := cmpi .sle main_v31 main_v0
  let main_v33 : IVec S160 1 := cmpi .eq main_arg1 main_v14
  let main_v34 : IVec S160 1 := ori main_v32 main_v33
  let main_c_9 : IVec S_ 1 := constantI S_ 1 1#1
  let main_v35 : IVec S_ 1 := (fun x v => Host.reduce IntOp.andi x v reducesTo_S160_S_d0 h_S_) main_v34 main_c_9
  let main_v36 : IVec S_ 1 := andi main_v29 main_v35
  main_v36

def fn {F : FTy → Type} [FloatOps F] (main_arg0 : IVec S160 32) (main_arg1 : IVec S160 32) (main_arg2 : IVec S1 32) (main_arg3 : FVec F S655360x128 .f32) (main_arg4 : FVec F S32x1024x2048 .f32) (main_arg5 : FVec F S32x1x2048 .f32) (main_arg6 : FVec F S32x1024x1024 .f32) (main_arg7 : FVec F S32x1x1024 .f32) : IVec S_ 1 :=
  let main_v0 : IVec S160 32 := iotaInDim S160 32 0
  let main_v1 : IVec S159 32 := (extractStridedSlice S159 ![1] · slices_S160_S159_1) main_arg0
  let main_v2 : IVec S1 32 := (extractStridedSlice S1 ![0] · slices_S160_S1_0) main_arg0
  let main_v3 : IVec S160 32 := (fun a b => concatenate S160 0 [⟨S159, a⟩, ⟨S1, b⟩] concatenates_S159_S1_S160_d0) main_v1 main_v2
  let main_v4 : IVec S159 32 := (extractStridedSlice S159 ![1] · slices_S160_S159_1) main_arg1
  let main_v5 : IVec S1 32 := (extractStridedSlice S1 ![0] · slices_S160_S1_0) main_arg1
  let main_v6 : IVec S160 32 := (fun a b => concatenate S160 0 [⟨S159, a⟩, ⟨S1, b⟩] concatenates_S159_S1_S160_d0) main_v4 main_v5
  let main_c : IVec S_ 32 := constantI S_ 32 1#32
  let main_v7 : IVec S160 32 := broadcastInDim S160 ![] bcast_S_S160 main_c
  let main_v8 : IVec S160 32 := addi main_v0 main_v7
  let main_v9 : IVec S_ 32 := shapeCast S_ main_arg2 shapeCasts_S1_S_
  let main_v10 : IVec S160 32 := broadcastInDim S160 ![] bcast_S_S160 main_v9
  let main_v11 : IVec S160 1 := cmpi .slt main_v8 main_v10
  let main_v12 : IVec S160 1 := cmpi .ne main_v3 main_arg0
  let main_v13 : IVec S160 32 := fn_where (F := F) main_v12 main_v3 main_v6
  let main_c_0 : IVec S_ 32 := constantI S_ 32 4294967295#32
  let main_v14 : IVec S160 32 := fn_where_0 (F := F) main_v11 main_v13 main_c_0
  let main_c_1 : IVec S_ 32 := constantI S_ 32 1#32
  let main_v15 : IVec S1 32 := broadcastInDim S1 ![] bcast_S_S1 main_c_1
  let main_v16 : IVec S1 1 := cmpi .sge main_arg2 main_v15
  let main_c_2 : IVec S_ 1 := constantI S_ 1 1#1
  let main_v17 : IVec S_ 1 := (fun x v => Host.reduce IntOp.andi x v reducesTo_S1_S_d0 h_S_) main_v16 main_c_2
  let main_c_3 : IVec S_ 32 := constantI S_ 32 160#32
  let main_v18 : IVec S1 32 := broadcastInDim S1 ![] bcast_S_S1 main_c_3
  fn_part1 (F := F) main_arg0 main_arg1 main_arg2 main_v0 main_v14 main_v17 main_v18
-- ==== Kernel.lean ====
abbrev S128 : Shape := ⟨1, ![128]⟩
abbrev S8x64 : Shape := ⟨2, ![8, 64]⟩
abbrev S2048x16384 : Shape := ⟨2, ![2048, 16384]⟩
abbrev S16384x1024 : Shape := ⟨2, ![16384, 1024]⟩
abbrev S4x16384x2 : Shape := ⟨3, ![4, 16384, 2]⟩
abbrev S16384x512 : Shape := ⟨2, ![16384, 512]⟩
abbrev S128x512 : Shape := ⟨2, ![128, 512]⟩
abbrev S16384x128 : Shape := ⟨2, ![16384, 128]⟩
abbrev S128x16384 : Shape := ⟨2, ![128, 16384]⟩
abbrev S1x16384x2 : Shape := ⟨3, ![1, 16384, 2]⟩
abbrev S512x128 : Shape := ⟨2, ![512, 128]⟩
abbrev S2x1x512 : Shape := ⟨3, ![2, 1, 512]⟩
abbrev S2x80x512 : Shape := ⟨3, ![2, 80, 512]⟩
abbrev S1 : Shape := ⟨1, ![1]⟩
abbrev S16x256 : Shape := ⟨2, ![16, 256]⟩
abbrev S1x512 : Shape := ⟨2, ![1, 512]⟩
abbrev S256x512 : Shape := ⟨2, ![256, 512]⟩
abbrev S256x64 : Shape := ⟨2, ![256, 64]⟩
abbrev S64x512 : Shape := ⟨2, ![64, 512]⟩
abbrev S1x256x1 : Shape := ⟨3, ![1, 256, 1]⟩
abbrev S256x1 : Shape := ⟨2, ![256, 1]⟩
abbrev S1x1 : Shape := ⟨2, ![1, 1]⟩
abbrev S1x1x512 : Shape := ⟨3, ![1, 1, 512]⟩
abbrev S512 : Shape := ⟨1, ![512]⟩
abbrev S64x256 : Shape := ⟨2, ![64, 256]⟩
abbrev S80x256 : Shape := ⟨2, ![80, 256]⟩
abbrev S1x80x512 : Shape := ⟨3, ![1, 80, 512]⟩
abbrev S80x512 : Shape := ⟨2, ![80, 512]⟩
abbrev S1x64x512 : Shape := ⟨3, ![1, 64, 512]⟩

abbrev nBuf : Space → Nat
  | .hbm => 5
  | .vmem => 12
  | .smem => 2
  | _ => 0

abbrev bufTy : (tb : Table) → Fin (tcTables nBuf tb) → BufTy
  | .hbm, ⟨0, _⟩ => ⟨S8x64, .f32⟩
  | .hbm, ⟨1, _⟩ => ⟨S2048x16384, .bf16⟩
  | .hbm, ⟨2, _⟩ => ⟨S16384x1024, .bf16⟩
  | .hbm, ⟨3, _⟩ => ⟨S4x16384x2, .f32⟩
  | .hbm, ⟨4, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S16384x128, .bf16⟩
  | .local _ .vmem, ⟨3, _⟩ => ⟨S16384x128, .bf16⟩
  | .local _ .vmem, ⟨4, _⟩ => ⟨S128x16384, .bf16⟩
  | .local _ .vmem, ⟨5, _⟩ => ⟨S128x16384, .bf16⟩
  | .local _ .vmem, ⟨6, _⟩ => ⟨S1x16384x2, .f32⟩
  | .local _ .vmem, ⟨7, _⟩ => ⟨S1x16384x2, .f32⟩
  | .local _ .vmem, ⟨8, _⟩ => ⟨S512x128, .bf16⟩
  | .local _ .vmem, ⟨9, _⟩ => ⟨S512x128, .bf16⟩
  | .local _ .vmem, ⟨10, _⟩ => ⟨S2x1x512, .f32⟩
  | .local _ .vmem, ⟨11, _⟩ => ⟨S2x80x512, .f32⟩
  | .local _ .smem, ⟨0, _⟩ => ⟨S128, .i32⟩
  | .local _ .smem, ⟨1, _⟩ => ⟨S8x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
@[reducible] def k0_t1_loop (i : grid0.Coords) (v3 : BitVec 32) : Scf.Loop 32 :=
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_13 : BitVec 32 := 1#32
  ⟨v3, v40, c1_i32_13⟩

def k0_mult1 (i : grid0.Coords) (v3 : BitVec 32) (k0_t1 : Fin (k0_t1_loop i v3).trips) : BitVec 32 :=
  let c1_i32_13 : BitVec 32 := 1#32
  let arg11 : BitVec 32 := Scf.iv v3 c1_i32_13 k0_t1
  let c256_i32_231 : BitVec 32 := 256#32
  let v463 : BitVec 32 := Scalar.muli arg11 c256_i32_231
  v463
def k0_off2 (i : grid0.Coords) (v3 : BitVec 32) (k0_t1 : Fin (k0_t1_loop i v3).trips) : Fin 2 → Nat :=
  let c1_i32_13 : BitVec 32 := 1#32
  let arg11 : BitVec 32 := Scf.iv v3 c1_i32_13 k0_t1
  let c256_i32_231 : BitVec 32 := 256#32
  let v463 : BitVec 32 := Scalar.muli arg11 c256_i32_231
  let v464 : BitVec 32 := v463
  let v465 : Index := Scalar.indexCast v464
  let c0_232 : Index := 0#32
  ![v465.toNat, 0]
def k0_off3 (i : grid0.Coords) (v3 : BitVec 32) (k0_t1 : Fin (k0_t1_loop i v3).trips) : Fin 3 → Nat :=
  let c0_236 : Index := 0#32
  let c1_i32_13 : BitVec 32 := 1#32
  let arg11 : BitVec 32 := Scf.iv v3 c1_i32_13 k0_t1
  let c256_i32_231 : BitVec 32 := 256#32
  let v463 : BitVec 32 := Scalar.muli arg11 c256_i32_231
  let v464 : BitVec 32 := v463
  let v469 : Index := Scalar.indexCast v464
  let c0_237 : Index := 0#32
  ![0, v469.toNat, 0]
def k0_off4 (i : grid0.Coords) (v3 : BitVec 32) (k0_t1 : Fin (k0_t1_loop i v3).trips) : Fin 2 → Nat :=
  let c1_i32_13 : BitVec 32 := 1#32
  let arg11 : BitVec 32 := Scf.iv v3 c1_i32_13 k0_t1
  let c256_i32_231 : BitVec 32 := 256#32
  let v463 : BitVec 32 := Scalar.muli arg11 c256_i32_231
  let v464 : BitVec 32 := v463
  let v474 : Index := Scalar.indexCast v464
  let c64_238 : Index := 64#32
  ![v474.toNat, 64]
def k0_off5 (i : grid0.Coords) (v3 : BitVec 32) (k0_t1 : Fin (k0_t1_loop i v3).trips) : Fin 3 → Nat :=
  let c0_242 : Index := 0#32
  let c1_i32_13 : BitVec 32 := 1#32
  let arg11 : BitVec 32 := Scf.iv v3 c1_i32_13 k0_t1
  let c256_i32_231 : BitVec 32 := 256#32
  let v463 : BitVec 32 := Scalar.muli arg11 c256_i32_231
  let v464 : BitVec 32 := v463
  let v478 : Index := Scalar.indexCast v464
  let c1_243 : Index := 1#32
  ![0, v478.toNat, 1]
def k0_off6 (i : grid0.Coords) (c0_i32_245 : BitVec 32) : Fin 2 → Nat :=
  let c2_i32_244 : BitVec 32 := 2#32
  let arg0 : BitVec 32 := BitVec.ofNat 32 (i 0).val
  let v483 : BitVec 32 := Scalar.muli c2_i32_244 arg0
  let v484 : BitVec 32 := Scalar.addi v483 c0_i32_245
  let v486 : Index := Scalar.indexCast v484
  let c2_i32_246 : BitVec 32 := 2#32
  let arg1 : BitVec 32 := BitVec.ofNat 32 (i 1).val
  let v485 : BitVec 32 := Scalar.muli c2_i32_246 arg1
  let v487 : Index := Scalar.indexCast v485
  ![v486.toNat, v487.toNat]
def k0_off7 (i : grid0.Coords) (v3 : BitVec 32) (k0_t1 : Fin (k0_t1_loop i v3).trips) (c0_i32_245 : BitVec 32) : Fin 2 → Nat :=
  let c2_i32_244 : BitVec 32 := 2#32
  let arg0 : BitVec 32 := BitVec.ofNat 32 (i 0).val
  let v483 : BitVec 32 := Scalar.muli c2_i32_244 arg0
  let v484 : BitVec 32 := Scalar.addi v483 c0_i32_245
  let v489 : Index := Scalar.indexCast v484
  let c1_i32_13 : BitVec 32 := 1#32
  let arg11 : BitVec 32 := Scf.iv v3 c1_i32_13 k0_t1
  let v490 : Index := Scalar.indexCast arg11
  ![v489.toNat, v490.toNat]
def k0_off8 (i : grid0.Coords) (c0_i32_245 : BitVec 32) : Fin 2 → Nat :=
  let c2_i32_244 : BitVec 32 := 2#32
  let arg0 : BitVec 32 := BitVec.ofNat 32 (i 0).val
  let v483 : BitVec 32 := Scalar.muli c2_i32_244 arg0
  let v484 : BitVec 32 := Scalar.addi v483 c0_i32_245
  let v496 : Index := Scalar.indexCast v484
  let c2_i32_248 : BitVec 32 := 2#32
  let arg1 : BitVec 32 := BitVec.ofNat 32 (i 1).val
  let v494 : BitVec 32 := Scalar.muli c2_i32_248 arg1
  let c1_i32_249 : BitVec 32 := 1#32
  let v495 : BitVec 32 := Scalar.addi v494 c1_i32_249
  let v497 : Index := Scalar.indexCast v495
  ![v496.toNat, v497.toNat]
def k0_mult2 (i : grid0.Coords) (v3 : BitVec 32) (k0_t1 : Fin (k0_t1_loop i v3).trips) : BitVec 32 :=
  let c1_i32_13 : BitVec 32 := 1#32
  let arg11 : BitVec 32 := Scf.iv v3 c1_i32_13 k0_t1
  let c256_i32_280 : BitVec 32 := 256#32
  let v567 : BitVec 32 := Scalar.muli arg11 c256_i32_280
  v567
def k0_off9 (i : grid0.Coords) (v3 : BitVec 32) (k0_t1 : Fin (k0_t1_loop i v3).trips) : Fin 2 → Nat :=
  let c0_281 : Index := 0#32
  let c1_i32_13 : BitVec 32 := 1#32
  let arg11 : BitVec 32 := Scf.iv v3 c1_i32_13 k0_t1
  let c256_i32_280 : BitVec 32 := 256#32
  let v567 : BitVec 32 := Scalar.muli arg11 c256_i32_280
  let v568 : BitVec 32 := v567
  let v569 : Index := Scalar.indexCast v568
  ![0, v569.toNat]
def k0_off10 (i : grid0.Coords) (v3 : BitVec 32) (k0_t1 : Fin (k0_t1_loop i v3).trips) : Fin 2 → Nat :=
  let c64_289 : Index := 64#32
  let c1_i32_13 : BitVec 32 := 1#32
  let arg11 : BitVec 32 := Scf.iv v3 c1_i32_13 k0_t1
  let c256_i32_280 : BitVec 32 := 256#32
  let v567 : BitVec 32 := Scalar.muli arg11 c256_i32_280
  let v568 : BitVec 32 := v567
  let v581 : Index := Scalar.indexCast v568
  ![64, v581.toNat]
@[reducible] def k0_t2_loop (i : grid0.Coords) (v3 : BitVec 32) : Scf.Loop 32 :=
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let v37 : BitVec 32 := Scalar.addi v3 v36
  let c1_i32_14 : BitVec 32 := 1#32
  ⟨v40, v37, c1_i32_14⟩
def k0_mult3 (i : grid0.Coords) (v3 : BitVec 32) (k0_t2 : Fin (k0_t2_loop i v3).trips) : BitVec 32 :=
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_231 : BitVec 32 := 256#32
  let v463 : BitVec 32 := Scalar.muli arg11 c256_i32_231
  v463
def k0_off11 (i : grid0.Coords) (v3 : BitVec 32) (k0_t2 : Fin (k0_t2_loop i v3).trips) : Fin 2 → Nat :=
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_231 : BitVec 32 := 256#32
  let v463 : BitVec 32 := Scalar.muli arg11 c256_i32_231
  let v464 : BitVec 32 := v463
  let v465 : Index := Scalar.indexCast v464
  let c0_232 : Index := 0#32
  ![v465.toNat, 0]
def k0_off12 (i : grid0.Coords) (v3 : BitVec 32) (k0_t2 : Fin (k0_t2_loop i v3).trips) : Fin 3 → Nat :=
  let c0_236 : Index := 0#32
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_231 : BitVec 32 := 256#32
  let v463 : BitVec 32 := Scalar.muli arg11 c256_i32_231
  let v464 : BitVec 32 := v463
  let v469 : Index := Scalar.indexCast v464
  let c0_237 : Index := 0#32
  ![0, v469.toNat, 0]
def k0_off13 (i : grid0.Coords) (v3 : BitVec 32) (k0_t2 : Fin (k0_t2_loop i v3).trips) : Fin 2 → Nat :=
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_231 : BitVec 32 := 256#32
  let v463 : BitVec 32 := Scalar.muli arg11 c256_i32_231
  let v464 : BitVec 32 := v463
  let v474 : Index := Scalar.indexCast v464
  let c64_238 : Index := 64#32
  ![v474.toNat, 64]
def k0_off14 (i : grid0.Coords) (v3 : BitVec 32) (k0_t2 : Fin (k0_t2_loop i v3).trips) : Fin 3 → Nat :=
  let c0_242 : Index := 0#32
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_231 : BitVec 32 := 256#32
  let v463 : BitVec 32 := Scalar.muli arg11 c256_i32_231
  let v464 : BitVec 32 := v463
  let v478 : Index := Scalar.indexCast v464
  let c1_243 : Index := 1#32
  ![0, v478.toNat, 1]
def k0_off15 (i : grid0.Coords) (c0_i32_245 : BitVec 32) : Fin 2 → Nat :=
  let c2_i32_244 : BitVec 32 := 2#32
  let arg0 : BitVec 32 := BitVec.ofNat 32 (i 0).val
  let v483 : BitVec 32 := Scalar.muli c2_i32_244 arg0
  let v484 : BitVec 32 := Scalar.addi v483 c0_i32_245
  let v486 : Index := Scalar.indexCast v484
  let c2_i32_246 : BitVec 32 := 2#32
  let arg1 : BitVec 32 := BitVec.ofNat 32 (i 1).val
  let v485 : BitVec 32 := Scalar.muli c2_i32_246 arg1
  let v487 : Index := Scalar.indexCast v485
  ![v486.toNat, v487.toNat]
def k0_off16 (i : grid0.Coords) (v3 : BitVec 32) (k0_t2 : Fin (k0_t2_loop i v3).trips) (c0_i32_245 : BitVec 32) : Fin 2 → Nat :=
  let c2_i32_244 : BitVec 32 := 2#32
  let arg0 : BitVec 32 := BitVec.ofNat 32 (i 0).val
  let v483 : BitVec 32 := Scalar.muli c2_i32_244 arg0
  let v484 : BitVec 32 := Scalar.addi v483 c0_i32_245
  let v489 : Index := Scalar.indexCast v484
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let v490 : Index := Scalar.indexCast arg11
  ![v489.toNat, v490.toNat]
def k0_off17 (i : grid0.Coords) (c0_i32_245 : BitVec 32) : Fin 2 → Nat :=
  let c2_i32_244 : BitVec 32 := 2#32
  let arg0 : BitVec 32 := BitVec.ofNat 32 (i 0).val
  let v483 : BitVec 32 := Scalar.muli c2_i32_244 arg0
  let v484 : BitVec 32 := Scalar.addi v483 c0_i32_245
  let v496 : Index := Scalar.indexCast v484
  let c2_i32_248 : BitVec 32 := 2#32
  let arg1 : BitVec 32 := BitVec.ofNat 32 (i 1).val
  let v494 : BitVec 32 := Scalar.muli c2_i32_248 arg1
  let c1_i32_249 : BitVec 32 := 1#32
  let v495 : BitVec 32 := Scalar.addi v494 c1_i32_249
  let v497 : Index := Scalar.indexCast v495
  ![v496.toNat, v497.toNat]
def k0_mult4 (i : grid0.Coords) (v3 : BitVec 32) (k0_t2 : Fin (k0_t2_loop i v3).trips) : BitVec 32 :=
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_280 : BitVec 32 := 256#32
  let v567 : BitVec 32 := Scalar.muli arg11 c256_i32_280
  v567
def k0_off18 (i : grid0.Coords) (v3 : BitVec 32) (k0_t2 : Fin (k0_t2_loop i v3).trips) : Fin 2 → Nat :=
  let c0_281 : Index := 0#32
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_280 : BitVec 32 := 256#32
  let v567 : BitVec 32 := Scalar.muli arg11 c256_i32_280
  let v568 : BitVec 32 := v567
  let v569 : Index := Scalar.indexCast v568
  ![0, v569.toNat]
def k0_off19 (i : grid0.Coords) (v3 : BitVec 32) (k0_t2 : Fin (k0_t2_loop i v3).trips) : Fin 2 → Nat :=
  let c64_289 : Index := 64#32
  let c2_i32 : BitVec 32 := 2#32
  let arg1 : BitVec 32 := BitVec.ofNat 32 (i 1).val
  let v34 : BitVec 32 := Scalar.muli c2_i32 arg1
  let c1_i32 : BitVec 32 := 1#32
  let v35 : BitVec 32 := Scalar.subi v34 c1_i32
  let v36 : BitVec 32 := Scalar.subi v35 v3
  let c1_i32_12 : BitVec 32 := 1#32
  let v38 : BitVec 32 := Scalar.divsi v36 c1_i32_12
  let v39 : BitVec 32 := Scalar.muli v38 c1_i32_12
  let v40 : BitVec 32 := Scalar.addi v3 v39
  let c1_i32_14 : BitVec 32 := 1#32
  let arg11 : BitVec 32 := Scf.iv v40 c1_i32_14 k0_t2
  let c256_i32_280 : BitVec 32 := 256#32
  let v567 : BitVec 32 := Scalar.muli arg11 c256_i32_280
  let v568 : BitVec 32 := v567
  let v581 : Index := Scalar.indexCast v568
  ![64, v581.toNat]

def k0_chk1 (i : grid0.Coords) (v3 : BitVec 32) : Prop :=
  ((k0_t1_loop i v3).OK) ∧
  (∀ k0_t1 : Fin (k0_t1_loop i v3).trips, 256 ∣ (k0_mult1 i v3 k0_t1).toNat) ∧
  (∀ k0_t1 : Fin (k0_t1_loop i v3).trips, ∀ a, (k0_off2 i v3 k0_t1) a + S256x64.size a ≤ S16384x128.size a) ∧
  (∀ k0_t1 : Fin (k0_t1_loop i v3).trips, ∀ a, (k0_off3 i v3 k0_t1) a + S1x256x1.size a ≤ S1x16384x2.size a) ∧
  (∀ k0_t1 : Fin (k0_t1_loop i v3).trips, ∀ a, (k0_off4 i v3 k0_t1) a + S256x64.size a ≤ S16384x128.size a) ∧
  (∀ k0_t1 : Fin (k0_t1_loop i v3).trips, ∀ a, (k0_off5 i v3 k0_t1) a + S1x256x1.size a ≤ S1x16384x2.size a) ∧
  (∀ k0_t1 : Fin (k0_t1_loop i v3).trips, ∀ (r : Fin 2), ∀ a, (k0_off7 i v3 k0_t1 (BitVec.ofNat 32 r.val)) a + S1x1.size a ≤ S8x64.size a) ∧
  (∀ k0_t1 : Fin (k0_t1_loop i v3).trips, 256 ∣ (k0_mult2 i v3 k0_t1).toNat) ∧
  (∀ k0_t1 : Fin (k0_t1_loop i v3).trips, ∀ a, (k0_off9 i v3 k0_t1) a + S64x256.size a ≤ S128x16384.size a) ∧
  (∀ k0_t1 : Fin (k0_t1_loop i v3).trips, ∀ a, (k0_off10 i v3 k0_t1) a + S64x256.size a ≤ S128x16384.size a) ∧
  ((k0_t2_loop i v3).OK) ∧
  (∀ k0_t2 : Fin (k0_t2_loop i v3).trips, 256 ∣ (k0_mult3 i v3 k0_t2).toNat) ∧
  (∀ k0_t2 : Fin (k0_t2_loop i v3).trips, ∀ a, (k0_off11 i v3 k0_t2) a + S256x64.size a ≤ S16384x128.size a) ∧
  (∀ k0_t2 : Fin (k0_t2_loop i v3).trips, ∀ a, (k0_off12 i v3 k0_t2) a + S1x256x1.size a ≤ S1x16384x2.size a) ∧
  (∀ k0_t2 : Fin (k0_t2_loop i v3).trips, ∀ a, (k0_off13 i v3 k0_t2) a + S256x64.size a ≤ S16384x128.size a) ∧
  (∀ k0_t2 : Fin (k0_t2_loop i v3).trips, ∀ a, (k0_off14 i v3 k0_t2) a + S1x256x1.size a ≤ S1x16384x2.size a) ∧
  (∀ k0_t2 : Fin (k0_t2_loop i v3).trips, ∀ (r : Fin 2), ∀ a, (k0_off16 i v3 k0_t2 (BitVec.ofNat 32 r.val)) a + S1x1.size a ≤ S8x64.size a) ∧
  (∀ k0_t2 : Fin (k0_t2_loop i v3).trips, 256 ∣ (k0_mult4 i v3 k0_t2).toNat) ∧
  (∀ k0_t2 : Fin (k0_t2_loop i v3).trips, ∀ a, (k0_off18 i v3 k0_t2) a + S64x256.size a ≤ S128x16384.size a) ∧
  (∀ k0_t2 : Fin (k0_t2_loop i v3).trips, ∀ a, (k0_off19 i v3 k0_t2) a + S64x256.size a ≤ S128x16384.size a)
theorem k0_t1_ok : ∀ (i : grid0.Coords) (v3 : BitVec 32) (k0_hw1 : k0_chk1 i v3), (k0_t1_loop i v3).OK := fun i v3 k0_hw1 => k0_hw1.1
theorem k0_mult1_dvd : ∀ (i : grid0.Coords) (v3 : BitVec 32) (k0_hw1 : k0_chk1 i v3) (k0_t1 : Fin (k0_t1_loop i v3).trips), 256 ∣ (k0_mult1 i v3 k0_t1).toNat := fun i v3 k0_hw1 k0_t1 => k0_hw1.2.1 k0_t1
theorem k0_off2_inb : ∀ (i : grid0.Coords) (v3 : BitVec 32) (k0_hw1 : k0_chk1 i v3) (k0_t1 : Fin (k0_t1_loop i v3).trips), ∀ a, (k0_off2 i v3 k0_t1) a + S256x64.size a ≤ S16384x128.size a := fun i v3 k0_hw1 k0_t1 => k0_hw1.2.2.1 k0_t1
theorem k0_off3_inb : ∀ (i : grid0.Coords) (v3 : BitVec 32) (k0_hw1 : k0_chk1 i v3) (k0_t1 : Fin (k0_t1_loop i v3).trips), ∀ a, (k0_off3 i v3 k0_t1) a + S1x256x1.size a ≤ S1x16384x2.size a := fun i v3 k0_hw1 k0_t1 => k0_hw1.2.2.2.1 k0_t1
theorem k0_off4_inb : ∀ (i : grid0.Coords) (v3 : BitVec 32) (k0_hw1 : k0_chk1 i v3) (k0_t1 : Fin (k0_t1_loop i v3).trips), ∀ a, (k0_off4 i v3 k0_t1) a + S256x64.size a ≤ S16384x128.size a := fun i v3 k0_hw1 k0_t1 => k0_hw1.2.2.2.2.1 k0_t1
theorem k0_off5_inb : ∀ (i : grid0.Coords) (v3 : BitVec 32) (k0_hw1 : k0_chk1 i v3) (k0_t1 : Fin (k0_t1_loop i v3).trips), ∀ a, (k0_off5 i v3 k0_t1) a + S1x256x1.size a ≤ S1x16384x2.size a := fun i v3 k0_hw1 k0_t1 => k0_hw1.2.2.2.2.2.1 k0_t1
theorem k0_off7_inb : ∀ (i : grid0.Coords) (v3 : BitVec 32) (k0_hw1 : k0_chk1 i v3) (k0_t1 : Fin (k0_t1_loop i v3).trips), ∀ (r : Fin 2), ∀ a, (k0_off7 i v3 k0_t1 (BitVec.ofNat 32 r.val)) a + S1x1.size a ≤ S8x64.size a := fun i v3 k0_hw1 k0_t1 r => k0_hw1.2.2.2.2.2.2.1 k0_t1 r
theorem k0_mult2_dvd : ∀ (i : grid0.Coords) (v3 : BitVec 32) (k0_hw1 : k0_chk1 i v3) (k0_t1 : Fin (k0_t1_loop i v3).trips), 256 ∣ (k0_mult2 i v3 k0_t1).toNat := fun i v3 k0_hw1 k0_t1 => k0_hw1.2.2.2.2.2.2.2.1 k0_t1
theorem k0_off9_inb : ∀ (i : grid0.Coords) (v3 : BitVec 32) (k0_hw1 : k0_chk1 i v3) (k0_t1 : Fin (k0_t1_loop i v3).trips), ∀ a, (k0_off9 i v3 k0_t1) a + S64x256.size a ≤ S128x16384.size a := fun i v3 k0_hw1 k0_t1 => k0_hw1.2.2.2.2.2.2.2.2.1 k0_t1
theorem k0_off10_inb : ∀ (i : grid0.Coords) (v3 : BitVec 32) (k0_hw1 : k0_chk1 i v3) (k0_t1 : Fin (k0_t1_loop i v3).trips), ∀ a, (k0_off10 i v3 k0_t1) a + S64x256.size a ≤ S128x16384.size a := fun i v3 k0_hw1 k0_t1 => k0_hw1.2.2.2.2.2.2.2.2.2.1 k0_t1
theorem k0_t2_ok : ∀ (i : grid0.Coords) (v3 : BitVec 32) (k0_hw1 : k0_chk1 i v3), (k0_t2_loop i v3).OK := fun i v3 k0_hw1 => k0_hw1.2.2.2.2.2.2.2.2.2.2.1
theorem k0_mult3_dvd : ∀ (i : grid0.Coords) (v3 : BitVec 32) (k0_hw1 : k0_chk1 i v3) (k0_t2 : Fin (k0_t2_loop i v3).trips), 256 ∣ (k0_mult3 i v3 k0_t2).toNat := fun i v3 k0_hw1 k0_t2 => k0_hw1.2.2.2.2.2.2.2.2.2.2.2.1 k0_t2
theorem k0_off11_inb : ∀ (i : grid0.Coords) (v3 : BitVec 32) (k0_hw1 : k0_chk1 i v3) (k0_t2 : Fin (k0_t2_loop i v3).trips), ∀ a, (k0_off11 i v3 k0_t2) a + S256x64.size a ≤ S16384x128.size a := fun i v3 k0_hw1 k0_t2 => k0_hw1.2.2.2.2.2.2.2.2.2.2.2.2.1 k0_t2
theorem k0_off12_inb : ∀ (i : grid0.Coords) (v3 : BitVec 32) (k0_hw1 : k0_chk1 i v3) (k0_t2 : Fin (k0_t2_loop i v3).trips), ∀ a, (k0_off12 i v3 k0_t2) a + S1x256x1.size a ≤ S1x16384x2.size a := fun i v3 k0_hw1 k0_t2 => k0_hw1.2.2.2.2.2.2.2.2.2.2.2.2.2.1 k0_t2
theorem k0_off13_inb : ∀ (i : grid0.Coords) (v3 : BitVec 32) (k0_hw1 : k0_chk1 i v3) (k0_t2 : Fin (k0_t2_loop i v3).trips), ∀ a, (k0_off13 i v3 k0_t2) a + S256x64.size a ≤ S16384x128.size a := fun i v3 k0_hw1 k0_t2 => k0_hw1.2.2.2.2.2.2.2.2.2.2.2.2.2.2.1 k0_t2
theorem k0_off14_inb : ∀ (i : grid0.Coords) (v3 : BitVec 32) (k0_hw1 : k0_chk1 i v3) (k0_t2 : Fin (k0_t2_loop i v3).trips), ∀ a, (k0_off14 i v3 k0_t2) a + S1x256x1.size a ≤ S1x16384x2.size a := fun i v3 k0_hw1 k0_t2 => k0_hw1.2.2.2.2.2.2.2.2.2.2.2.2.2.2.2.1 k0_t2
theorem k0_off16_inb : ∀ (i : grid0.Coords) (v3 : BitVec 32) (k0_hw1 : k0_chk1 i v3) (k0_t2 : Fin (k0_t2_loop i v3).trips), ∀ (r : Fin 2), ∀ a, (k0_off16 i v3 k0_t2 (BitVec.ofNat 32 r.val)) a + S1x1.size a ≤ S8x64.size a := fun i v3 k0_hw1 k0_t2 r => k0_hw1.2.2.2.2.2.2.2.2.2.2.2.2.2.2.2.2.1 k0_t2 r
theorem k0_mult4_dvd : ∀ (i : grid0.Coords) (v3 : BitVec 32) (k0_hw1 : k0_chk1 i v3) (k0_t2 : Fin (k0_t2_loop i v3).trips), 256 ∣ (k0_mult4 i v3 k0_t2).toNat := fun i v3 k0_hw1 k0_t2 => k0_hw1.2.2.2.2.2.2.2.2.2.2.2.2.2.2.2.2.2.1 k0_t2
theorem k0_off18_inb : ∀ (i : grid0.Coords) (v3 : BitVec 32) (k0_hw1 : k0_chk1 i v3) (k0_t2 : Fin (k0_t2_loop i v3).trips), ∀ a, (k0_off18 i v3 k0_t2) a + S64x256.size a ≤ S128x16384.size a := fun i v3 k0_hw1 k0_t2 => k0_hw1.2.2.2.2.2.2.2.2.2.2.2.2.2.2.2.2.2.2.1 k0_t2
theorem k0_off19_inb : ∀ (i : grid0.Coords) (v3 : BitVec 32) (k0_hw1 : k0_chk1 i v3) (k0_t2 : Fin (k0_t2_loop i v3).trips), ∀ a, (k0_off19 i v3 k0_t2) a + S64x256.size a ≤ S128x16384.size a := fun i v3 k0_hw1 k0_t2 => k0_hw1.2.2.2.2.2.2.2.2.2.2.2.2.2.2.2.2.2.2.2 k0_t2

def k0_mult5 (i : grid0.Coords) : BitVec 32 :=
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_21 : BitVec 32 := 256#32
  let v47 : BitVec 32 := Scalar.muli v43 c256_i32_21
  v47
def k0_off20 (i : grid0.Coords) : Fin 2 → Nat :=
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_21 : BitVec 32 := 256#32
  let v47 : BitVec 32 := Scalar.muli v43 c256_i32_21
  let v48 : BitVec 32 := v47
  let v49 : Index := Scalar.indexCast v48
  let c0_22 : Index := 0#32
  ![v49.toNat, 0]
def k0_off21 (i : grid0.Coords) : Fin 3 → Nat :=
  let c0_26 : Index := 0#32
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_21 : BitVec 32 := 256#32
  let v47 : BitVec 32 := Scalar.muli v43 c256_i32_21
  let v48 : BitVec 32 := v47
  let v53 : Index := Scalar.indexCast v48
  let c0_27 : Index := 0#32
  ![0, v53.toNat, 0]
def k0_off22 (i : grid0.Coords) : Fin 2 → Nat :=
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_21 : BitVec 32 := 256#32
  let v47 : BitVec 32 := Scalar.muli v43 c256_i32_21
  let v48 : BitVec 32 := v47
  let v58 : Index := Scalar.indexCast v48
  let c64 : Index := 64#32
  ![v58.toNat, 64]
def k0_off23 (i : grid0.Coords) : Fin 3 → Nat :=
  let c0_31 : Index := 0#32
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_21 : BitVec 32 := 256#32
  let v47 : BitVec 32 := Scalar.muli v43 c256_i32_21
  let v48 : BitVec 32 := v47
  let v62 : Index := Scalar.indexCast v48
  let c1 : Index := 1#32
  ![0, v62.toNat, 1]
def k0_mult6 (i : grid0.Coords) : BitVec 32 :=
  let c2_i32_18 : BitVec 32 := 2#32
  let arg1 : BitVec 32 := BitVec.ofNat 32 (i 1).val
  let v44 : BitVec 32 := Scalar.muli c2_i32_18 arg1
  let c256_i32_32 : BitVec 32 := 256#32
  let v67 : BitVec 32 := Scalar.muli v44 c256_i32_32
  v67
def k0_off24 (i : grid0.Coords) : Fin 2 → Nat :=
  let c2_i32_18 : BitVec 32 := 2#32
  let arg1 : BitVec 32 := BitVec.ofNat 32 (i 1).val
  let v44 : BitVec 32 := Scalar.muli c2_i32_18 arg1
  let c256_i32_32 : BitVec 32 := 256#32
  let v67 : BitVec 32 := Scalar.muli v44 c256_i32_32
  let v68 : BitVec 32 := v67
  let v69 : Index := Scalar.indexCast v68
  let c0_33 : Index := 0#32
  ![v69.toNat, 0]
def k0_off25 (i : grid0.Coords) : Fin 3 → Nat :=
  let c0_37 : Index := 0#32
  let c2_i32_18 : BitVec 32 := 2#32
  let arg1 : BitVec 32 := BitVec.ofNat 32 (i 1).val
  let v44 : BitVec 32 := Scalar.muli c2_i32_18 arg1
  let c256_i32_32 : BitVec 32 := 256#32
  let v67 : BitVec 32 := Scalar.muli v44 c256_i32_32
  let v68 : BitVec 32 := v67
  let v73 : Index := Scalar.indexCast v68
  let c0_38 : Index := 0#32
  ![0, v73.toNat, 0]
def k0_off26 (i : grid0.Coords) : Fin 2 → Nat :=
  let c2_i32_18 : BitVec 32 := 2#32
  let arg1 : BitVec 32 := BitVec.ofNat 32 (i 1).val
  let v44 : BitVec 32 := Scalar.muli c2_i32_18 arg1
  let c256_i32_32 : BitVec 32 := 256#32
  let v67 : BitVec 32 := Scalar.muli v44 c256_i32_32
  let v68 : BitVec 32 := v67
  let v80 : Index := Scalar.indexCast v68
  let c64_40 : Index := 64#32
  ![v80.toNat, 64]
def k0_off27 (i : grid0.Coords) : Fin 3 → Nat :=
  let c0_44 : Index := 0#32
  let c2_i32_18 : BitVec 32 := 2#32
  let arg1 : BitVec 32 := BitVec.ofNat 32 (i 1).val
  let v44 : BitVec 32 := Scalar.muli c2_i32_18 arg1
  let c256_i32_32 : BitVec 32 := 256#32
  let v67 : BitVec 32 := Scalar.muli v44 c256_i32_32
  let v68 : BitVec 32 := v67
  let v84 : Index := Scalar.indexCast v68
  let c1_45 : Index := 1#32
  ![0, v84.toNat, 1]
def k0_mult7 (i : grid0.Coords) : BitVec 32 :=
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_47 : BitVec 32 := 256#32
  let v91 : BitVec 32 := Scalar.muli v46 c256_i32_47
  v91
def k0_off28 (i : grid0.Coords) : Fin 2 → Nat :=
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_47 : BitVec 32 := 256#32
  let v91 : BitVec 32 := Scalar.muli v46 c256_i32_47
  let v92 : BitVec 32 := v91
  let v93 : Index := Scalar.indexCast v92
  let c0_48 : Index := 0#32
  ![v93.toNat, 0]
def k0_off29 (i : grid0.Coords) : Fin 3 → Nat :=
  let c0_52 : Index := 0#32
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_47 : BitVec 32 := 256#32
  let v91 : BitVec 32 := Scalar.muli v46 c256_i32_47
  let v92 : BitVec 32 := v91
  let v97 : Index := Scalar.indexCast v92
  let c0_53 : Index := 0#32
  ![0, v97.toNat, 0]
def k0_off30 (i : grid0.Coords) : Fin 2 → Nat :=
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_47 : BitVec 32 := 256#32
  let v91 : BitVec 32 := Scalar.muli v46 c256_i32_47
  let v92 : BitVec 32 := v91
  let v104 : Index := Scalar.indexCast v92
  let c64_55 : Index := 64#32
  ![v104.toNat, 64]
def k0_off31 (i : grid0.Coords) : Fin 3 → Nat :=
  let c0_59 : Index := 0#32
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_47 : BitVec 32 := 256#32
  let v91 : BitVec 32 := Scalar.muli v46 c256_i32_47
  let v92 : BitVec 32 := v91
  let v108 : Index := Scalar.indexCast v92
  let c1_60 : Index := 1#32
  ![0, v108.toNat, 1]
def k0_off32 (i : grid0.Coords) (c0_i32_65 : BitVec 32) : Fin 2 → Nat :=
  let c2_i32_64 : BitVec 32 := 2#32
  let arg0 : BitVec 32 := BitVec.ofNat 32 (i 0).val
  let v117 : BitVec 32 := Scalar.muli c2_i32_64 arg0
  let v118 : BitVec 32 := Scalar.addi v117 c0_i32_65
  let v120 : Index := Scalar.indexCast v118
  let c2_i32_66 : BitVec 32 := 2#32
  let arg1 : BitVec 32 := BitVec.ofNat 32 (i 1).val
  let v119 : BitVec 32 := Scalar.muli c2_i32_66 arg1
  let v121 : Index := Scalar.indexCast v119
  ![v120.toNat, v121.toNat]
def k0_off33 (i : grid0.Coords) (c0_i32_65 : BitVec 32) : Fin 2 → Nat :=
  let c2_i32_64 : BitVec 32 := 2#32
  let arg0 : BitVec 32 := BitVec.ofNat 32 (i 0).val
  let v117 : BitVec 32 := Scalar.muli c2_i32_64 arg0
  let v118 : BitVec 32 := Scalar.addi v117 c0_i32_65
  let v123 : Index := Scalar.indexCast v118
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let v124 : Index := Scalar.indexCast v43
  ![v123.toNat, v124.toNat]
def k0_off34 (i : grid0.Coords) (c0_i32_65 : BitVec 32) : Fin 2 → Nat :=
  let c2_i32_64 : BitVec 32 := 2#32
  let arg0 : BitVec 32 := BitVec.ofNat 32 (i 0).val
  let v117 : BitVec 32 := Scalar.muli c2_i32_64 arg0
  let v118 : BitVec 32 := Scalar.addi v117 c0_i32_65
  let v130 : Index := Scalar.indexCast v118
  let c2_i32_68 : BitVec 32 := 2#32
  let arg1 : BitVec 32 := BitVec.ofNat 32 (i 1).val
  let v128 : BitVec 32 := Scalar.muli c2_i32_68 arg1
  let c1_i32_69 : BitVec 32 := 1#32
  let v129 : BitVec 32 := Scalar.addi v128 c1_i32_69
  let v131 : Index := Scalar.indexCast v129
  ![v130.toNat, v131.toNat]
def k0_mult8 (i : grid0.Coords) : BitVec 32 :=
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_131 : BitVec 32 := 256#32
  let v285 : BitVec 32 := Scalar.muli v43 c256_i32_131
  v285
def k0_off35 (i : grid0.Coords) : Fin 2 → Nat :=
  let c0_132 : Index := 0#32
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_131 : BitVec 32 := 256#32
  let v285 : BitVec 32 := Scalar.muli v43 c256_i32_131
  let v286 : BitVec 32 := v285
  let v287 : Index := Scalar.indexCast v286
  ![0, v287.toNat]
def k0_off36 (i : grid0.Coords) : Fin 2 → Nat :=
  let c64_140 : Index := 64#32
  let c2_i32_15 : BitVec 32 := 2#32
  let arg1 : BitVec 32 := BitVec.ofNat 32 (i 1).val
  let v41 : BitVec 32 := Scalar.muli c2_i32_15 arg1
  let c1_i32_16 : BitVec 32 := 1#32
  let v42 : BitVec 32 := Scalar.subi v41 c1_i32_16
  let c0_i32_17 : BitVec 32 := 0#32
  let v43 : BitVec 32 := Scalar.maxsi v42 c0_i32_17
  let c256_i32_131 : BitVec 32 := 256#32
  let v285 : BitVec 32 := Scalar.muli v43 c256_i32_131
  let v286 : BitVec 32 := v285
  let v299 : Index := Scalar.indexCast v286
  ![64, v299.toNat]
def k0_mult9 (i : grid0.Coords) : BitVec 32 :=
  let c2_i32_18 : BitVec 32 := 2#32
  let arg1 : BitVec 32 := BitVec.ofNat 32 (i 1).val
  let v44 : BitVec 32 := Scalar.muli c2_i32_18 arg1
  let c256_i32_183 : BitVec 32 := 256#32
  let v395 : BitVec 32 := Scalar.muli v44 c256_i32_183
  v395
def k0_off37 (i : grid0.Coords) : Fin 2 → Nat :=
  let c0_184 : Index := 0#32
  let c2_i32_18 : BitVec 32 := 2#32
  let arg1 : BitVec 32 := BitVec.ofNat 32 (i 1).val
  let v44 : BitVec 32 := Scalar.muli c2_i32_18 arg1
  let c256_i32_183 : BitVec 32 := 256#32
  let v395 : BitVec 32 := Scalar.muli v44 c256_i32_183
  let v396 : BitVec 32 := v395
  let v397 : Index := Scalar.indexCast v396
  ![0, v397.toNat]
def k0_off38 (i : grid0.Coords) : Fin 2 → Nat :=
  let c64_192 : Index := 64#32
  let c2_i32_18 : BitVec 32 := 2#32
  let arg1 : BitVec 32 := BitVec.ofNat 32 (i 1).val
  let v44 : BitVec 32 := Scalar.muli c2_i32_18 arg1
  let c256_i32_183 : BitVec 32 := 256#32
  let v395 : BitVec 32 := Scalar.muli v44 c256_i32_183
  let v396 : BitVec 32 := v395
  let v409 : Index := Scalar.indexCast v396
  ![64, v409.toNat]
def k0_mult10 (i : grid0.Coords) : BitVec 32 :=
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_200 : BitVec 32 := 256#32
  let v421 : BitVec 32 := Scalar.muli v46 c256_i32_200
  v421
def k0_off39 (i : grid0.Coords) : Fin 2 → Nat :=
  let c0_201 : Index := 0#32
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_200 : BitVec 32 := 256#32
  let v421 : BitVec 32 := Scalar.muli v46 c256_i32_200
  let v422 : BitVec 32 := v421
  let v423 : Index := Scalar.indexCast v422
  ![0, v423.toNat]
def k0_off40 (i : grid0.Coords) : Fin 2 → Nat :=
  let c64_209 : Index := 64#32
  let c2_i32_19 : BitVec 32 := 2#32
  let arg1 : BitVec 32 := BitVec.ofNat 32 (i 1).val
  let v45 : BitVec 32 := Scalar.muli c2_i32_19 arg1
  let c1_i32_20 : BitVec 32 := 1#32
  let v46 : BitVec 32 := Scalar.addi v45 c1_i32_20
  let c256_i32_200 : BitVec 32 := 256#32
  let v421 : BitVec 32 := Scalar.muli v46 c256_i32_200
  let v422 : BitVec 32 := v421
  let v435 : Index := Scalar.indexCast v422
  ![64, v435.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16384x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S128 : Shape := ⟨1, ![128]⟩
abbrev S8x64 : Shape := ⟨2, ![8, 64]⟩
abbrev S2048x16384 : Shape := ⟨2, ![2048, 16384]⟩
abbrev S16384x1024 : Shape := ⟨2, ![16384, 1024]⟩
abbrev S4x16384x2 : Shape := ⟨3, ![4, 16384, 2]⟩
abbrev S512x16384 : Shape := ⟨2, ![512, 16384]⟩
abbrev S8x64x16384 : Shape := ⟨3, ![8, 64, 16384]⟩
abbrev S8x16384x64 : Shape := ⟨3, ![8, 16384, 64]⟩
abbrev S16384x512 : Shape := ⟨2, ![16384, 512]⟩
abbrev S16384x8x64 : Shape := ⟨3, ![16384, 8, 64]⟩
abbrev S4x2x16384 : Shape := ⟨3, ![4, 2, 16384]⟩
abbrev S8x16384 : Shape := ⟨2, ![8, 16384]⟩
abbrev S_ : Shape := ⟨0, ![]⟩
abbrev S8x64x256 : Shape := ⟨3, ![8, 64, 256]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S4x32 : Shape := ⟨2, ![4, 32]⟩
abbrev S4x2x32 : Shape := ⟨3, ![4, 2, 32]⟩
abbrev S8x32 : Shape := ⟨2, ![8, 32]⟩
abbrev S8x32x512 : Shape := ⟨3, ![8, 32, 512]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩

abbrev nBuf : Space → Nat
  | .hbm => 88
  | .vmem => 0
  | .smem => 0
  | _ => 0

abbrev bufTy : (tb : Table) → Fin (tcTables nBuf tb) → BufTy
  | .hbm, ⟨0, _⟩ => ⟨S128, .i32⟩
  | .hbm, ⟨1, _⟩ => ⟨S8x64, .f32⟩
  | .hbm, ⟨2, _⟩ => ⟨S2048x16384, .bf16⟩
  | .hbm, ⟨3, _⟩ => ⟨S16384x1024, .bf16⟩
  | .hbm, ⟨4, _⟩ => ⟨S4x16384x2, .f32⟩
  | .hbm, ⟨5, _⟩ => ⟨S512x16384, .bf16⟩
  | .hbm, ⟨6, _⟩ => ⟨S512x16384, .f32⟩
  | .hbm, ⟨7, _⟩ => ⟨S8x64x16384, .f32⟩
  | .hbm, ⟨8, _⟩ => ⟨S8x16384x64, .f32⟩
  | .hbm, ⟨9, _⟩ => ⟨S16384x512, .bf16⟩
  | .hbm, ⟨10, _⟩ => ⟨S16384x512, .f32⟩
  | .hbm, ⟨11, _⟩ => ⟨S16384x8x64, .f32⟩
  | .hbm, ⟨12, _⟩ => ⟨S8x16384x64, .f32⟩
  | .hbm, ⟨13, _⟩ => ⟨S512x16384, .bf16⟩
  | .hbm, ⟨14, _⟩ => ⟨S512x16384, .f32⟩
  | .hbm, ⟨15, _⟩ => ⟨S8x64x16384, .f32⟩
  | .hbm, ⟨16, _⟩ => ⟨S8x16384x64, .f32⟩
  | .hbm, ⟨17, _⟩ => ⟨S4x2x16384, .f32⟩
  | .hbm, ⟨18, _⟩ => ⟨S8x16384, .f32⟩
  | .hbm, ⟨19, _⟩ => ⟨S_, .f32⟩
  | .hbm, ⟨20, _⟩ => ⟨S_, .f32⟩
  | .hbm, ⟨21, _⟩ => ⟨S8x64x256, .f32⟩
  | .hbm, ⟨22, _⟩ => ⟨S8x16384, .f32⟩
  | .hbm, ⟨23, _⟩ => ⟨S_, .f32⟩
  | .hbm, ⟨24, _⟩ => ⟨S8x16384, .f32⟩
  | .hbm, ⟨25, _⟩ => ⟨S8x16384, .f32⟩
  | .hbm, ⟨26, _⟩ => ⟨S8x16384, .f32⟩
  | .hbm, ⟨27, _⟩ => ⟨S8x16384x16384, .f32⟩
  | .hbm, ⟨28, _⟩ => ⟨S_, .f32⟩
  | .hbm, ⟨29, _⟩ => ⟨S8x16384x16384, .f32⟩
  | .hbm, ⟨30, _⟩ => ⟨S8x16384x16384, .f32⟩
  | .hbm, ⟨31, _⟩ => ⟨S8x16384x1, .f32⟩
  | .hbm, ⟨32, _⟩ => ⟨S8x16384x16384, .f32⟩
  | .hbm, ⟨33, _⟩ => ⟨S8x16384x16384, .f32⟩
  | .hbm, ⟨34, _⟩ => ⟨S8x1x16384, .f32⟩
  | .hbm, ⟨35, _⟩ => ⟨S8x16384x16384, .f32⟩
  | .hbm, ⟨36, _⟩ => ⟨S8x16384x16384, .f32⟩
  | .hbm, ⟨37, _⟩ => ⟨S4x32, .i32⟩
  | .hbm, ⟨38, _⟩ => ⟨S4x32, .i32⟩
  | .hbm, ⟨39, _⟩ => ⟨S_, .i32⟩
  | .hbm, ⟨40, _⟩ => ⟨S4x32, .i32⟩
  | .hbm, ⟨41, _⟩ => ⟨S4x32, .i32⟩
  | .hbm, ⟨42, _⟩ => ⟨S_, .i32⟩
  | .hbm, ⟨43, _⟩ => ⟨S4x32, .i32⟩
  | .hbm, ⟨44, _⟩ => ⟨S4x32, .i32⟩
  | .hbm, ⟨45, _⟩ => ⟨S4x32, .i32⟩
  | .hbm, ⟨46, _⟩ => ⟨S_, .i32⟩
  | .hbm, ⟨47, _⟩ => ⟨S4x32, .i32⟩
  | .hbm, ⟨48, _⟩ => ⟨S4x32, .i32⟩
  | .hbm, ⟨49, _⟩ => ⟨S4x2x32, .i32⟩
  | .hbm, ⟨50, _⟩ => ⟨S8x32, .i32⟩
  | .hbm, ⟨51, _⟩ => ⟨S8x32x512, .i32⟩
  | .hbm, ⟨52, _⟩ => ⟨S8x16384, .i32⟩
  | .hbm, ⟨53, _⟩ => ⟨S16384, .i32⟩
  | .hbm, ⟨54, _⟩ => ⟨S1x1x16384, .i32⟩
  | .hbm, ⟨55, _⟩ => ⟨S1x16384x1, .i32⟩
  | .hbm, ⟨56, _⟩ => ⟨S1x16384x16384, .i32⟩
  | .hbm, ⟨57, _⟩ => ⟨S1x16384x16384, .i32⟩
  | .hbm, ⟨58, _⟩ => ⟨S1x16384x16384, .i1⟩
  | .hbm, ⟨59, _⟩ => ⟨S1x1x16384, .i32⟩
  | .hbm, ⟨60, _⟩ => ⟨S8x16384x1, .i32⟩
  | .hbm, ⟨61, _⟩ => ⟨S8x16384x16384, .i32⟩
  | .hbm, ⟨62, _⟩ => ⟨S8x16384x16384, .i32⟩
  | .hbm, ⟨63, _⟩ => ⟨S8x16384x16384, .i1⟩
  | .hbm, ⟨64, _⟩ => ⟨S8x16384x16384, .i1⟩
  | .hbm, ⟨65, _⟩ => ⟨S8x16384x16384, .i1⟩
  | .hbm, ⟨66, _⟩ => ⟨S_, .f32⟩
  | .hbm, ⟨67, _⟩ => ⟨S_, .f32⟩
  | .hbm, ⟨68, _⟩ => ⟨S8x16384x16384, .f32⟩
  | .hbm, ⟨69, _⟩ => ⟨S8x16384x16384, .f32⟩
  | .hbm, ⟨70, _⟩ => ⟨S_, .f32⟩
  | .hbm, ⟨71, _⟩ => ⟨S8x16384, .f32⟩
  | .hbm, ⟨72, _⟩ => ⟨S_, .f32⟩
  | .hbm, ⟨73, _⟩ => ⟨S8x16384, .f32⟩
  | .hbm, ⟨74, _⟩ => ⟨S8x16384, .f32⟩
  | .hbm, ⟨75, _⟩ => ⟨S8x16384x1, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384, .f32⟩
  | .hbm, ⟨81, _⟩ => ⟨S8x16384x1, .f32⟩
  | .hbm, ⟨82, _⟩ => ⟨S8x16384x16384, .f32⟩
  | .hbm, ⟨83, _⟩ => ⟨S8x16384x16384, .f32⟩
  | .hbm, ⟨84, _⟩ => ⟨S8x16384x64, .f32⟩
  | .hbm, ⟨85, _⟩ => ⟨S16384x8x64, .f32⟩
  | .hbm, ⟨86, _⟩ => ⟨S16384x512, .f32⟩
  | .hbm, ⟨87, _⟩ => ⟨S16384x512, .bf16⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_c_0 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_1 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1x2048 : Shape := ⟨3, ![1, 1, 2048]⟩
abbrev S1x1x1024 : Shape := ⟨3, ![1, 1, 1024]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S128x2048 : Shape := ⟨2, ![128, 2048]⟩
abbrev S128x1024 : Shape := ⟨2, ![128, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 12
  | .smem => 3
  | _ => 0

abbrev bufTy : (tb : Table) → Fin (tcTables nBuf tb) → BufTy
  | .hbm, ⟨0, _⟩ => ⟨S655360x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S655360x128, .f32⟩
  | .local _ .vmem, ⟨0, _⟩ => ⟨S4096x128, .f32⟩
  | .local _ .vmem, ⟨1, _⟩ => ⟨S4096x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S4096x128, .f32⟩
  | .local _ .vmem, ⟨7, _⟩ => ⟨S4096x128, .f32⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S160, .i32⟩
  | .local _ .smem, ⟨1, _⟩ => ⟨S160, .i32⟩
  | .local _ .smem, ⟨2, _⟩ => ⟨S1, .i32⟩
  | _, _ => ⟨S655360x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond1 (i : grid0.Coords) : BitVec 1 :=
  let arg0 : BitVec 32 := BitVec.ofNat 32 (i 0).val
  let c0_i32_1 : BitVec 32 := 0#32
  let v9 : BitVec 1 := Scalar.cmpi .eq arg0 c0_i32_1
  let v10 : BitVec 32 := Scalar.extui v9
  let c0_i32_2 : BitVec 32 := 0#32
  let v11 : BitVec 1 := Scalar.cmpi .ne v10 c0_i32_2
  v11

def k0_off3 (v25 : BitVec 32) : Fin 3 → Nat :=
  let c0_i32_10 : BitVec 32 := 0#32
  let c0_i32_11 : BitVec 32 := 0#32
  ![v25.toNat, 0, 0]

def k0_off4 (v25 : BitVec 32) : Fin 3 → Nat :=
  let c0_i32_13 : BitVec 32 := 0#32
  let c0_i32_14 : BitVec 32 := 0#32
  ![v25.toNat, 0, 0]

def k0_chk1 (i : grid0.Coords) (v25 : BitVec 32) : Prop :=
  (∀ (k0_h1 : k0_cond1 i = 1#1), ∀ a, (k0_off3 v25) a + S1x1024x2048.size a ≤ S32x1024x2048.size a) ∧
  (∀ (k0_h1 : k0_cond1 i = 1#1), ∀ a, (k0_off4 v25) a + S1x1024x1024.size a ≤ S32x1024x1024.size a)
theorem k0_off3_inb : ∀ (i : grid0.Coords) (v25 : BitVec 32) (k0_hw1 : k0_chk1 i v25), ∀ (k0_h1 : k0_cond1 i = 1#1), ∀ a, (k0_off3 v25) a + S1x1024x2048.size a ≤ S32x1024x2048.size a := fun i v25 k0_hw1 k0_h1 => k0_hw1.1 k0_h1
theorem k0_off4_inb : ∀ (i : grid0.Coords) (v25 : BitVec 32) (k0_hw1 : k0_chk1 i v25), ∀ (k0_h1 : k0_cond1 i = 1#1), ∀ a, (k0_off4 v25) a + S1x1024x1024.size a ≤ S32x1024x1024.size a := fun i v25 k0_hw1 k0_h1 => k0_hw1.2 k0_h1

def k0_off5 (i : grid0.Coords) : Fin 1 → Nat :=
  let arg0 : BitVec 32 := BitVec.ofNat 32 (i 0).val
  let v25 : Index := Scalar.indexCast arg0
  ![v25.toNat]
def k0_off6 (v26 : BitVec 32) : Fin 3 → Nat :=
  let c0_i32_9 : BitVec 32 := 0#32
  let c0_i32_10 : BitVec 32 := 0#32
  ![v26.toNat, 0, 0]
def k0_cond2 (i : grid0.Coords) (v3 : BitVec 32) (v6 : BitVec 32) (v12 : BitVec 32) : BitVec 1 :=
  let arg0 : BitVec 32 := BitVec.ofNat 32 (i 0).val
  let v13 : BitVec 1 := Scalar.cmpi .slt arg0 v12
  let c0_i32_0 : BitVec 32 := 0#32
  let v4 : BitVec 1 := Scalar.cmpi .eq arg0 c0_i32_0
  let v7 : BitVec 1 := Scalar.cmpi .ne v6 v3
  let v8 : BitVec 1 := Scalar.ori v4 v7
  let v14 : BitVec 1 := Scalar.andi v13 v8
  let v15 : BitVec 32 := Scalar.extui v14
  let c0_i32_3 : BitVec 32 := 0#32
  let v16 : BitVec 1 := Scalar.cmpi .ne v15 c0_i32_3
  v16

def k0_off7 (v26 : BitVec 32) : Fin 3 → Nat :=
  let c0_i32_12 : BitVec 32 := 0#32
  let c0_i32_13 : BitVec 32 := 0#32
  ![v26.toNat, 0, 0]

def k0_chk2 (i : grid0.Coords) (v3 : BitVec 32) (v6 : BitVec 32) (v12 : BitVec 32) (v26 : BitVec 32) : Prop :=
  (∀ (k0_h2 : k0_cond2 i v3 v6 v12 = 1#1), ∀ a, (k0_off6 v26) a + S1x1024x2048.size a ≤ S32x1024x2048.size a) ∧
  (∀ (k0_h2 : k0_cond2 i v3 v6 v12 = 1#1), ∀ a, (k0_off7 v26) a + S1x1024x1024.size a ≤ S32x1024x1024.size a)
theorem k0_off6_inb : ∀ (i : grid0.Coords) (v3 : BitVec 32) (v6 : BitVec 32) (v12 : BitVec 32) (v26 : BitVec 32) (k0_hw2 : k0_chk2 i v3 v6 v12 v26), ∀ (k0_h2 : k0_cond2 i v3 v6 v12 = 1#1), ∀ a, (k0_off6 v26) a + S1x1024x2048.size a ≤ S32x1024x2048.size a := fun i v3 v6 v12 v26 k0_hw2 k0_h2 => k0_hw2.1 k0_h2
theorem k0_off7_inb : ∀ (i : grid0.Coords) (v3 : BitVec 32) (v6 : BitVec 32) (v12 : BitVec 32) (v26 : BitVec 32) (k0_hw2 : k0_chk2 i v3 v6 v12 v26), ∀ (k0_h2 : k0_cond2 i v3 v6 v12 = 1#1), ∀ a, (k0_off7 v26) a + S1x1024x1024.size a ≤ S32x1024x1024.size a := fun i v3 v6 v12 v26 k0_hw2 k0_h2 => k0_hw2.2 k0_h2

@[reducible] def k0_t1_loop : Scf.Loop 32 :=
  let c0_i32_14 : BitVec 32 := 0#32
  let c8_i32 : BitVec 32 := 8#32
  let v35 : BitVec 32 := Scalar.addi c0_i32_14 c8_i32
  let c1_i32_15 : BitVec 32 := 1#32
  ⟨c0_i32_14, v35, c1_i32_15⟩
def k0_mult1 (k0_t1 : Fin k0_t1_loop.trips) : BitVec 32 :=
  let c0_i32_14 : BitVec 32 := 0#32
  let c1_i32_15 : BitVec 32 := 1#32
  let arg15 : BitVec 32 := Scf.iv c0_i32_14 c1_i32_15 k0_t1
  let c128_i32 : BitVec 32 := 128#32
  let v42 : BitVec 32 := Scalar.muli arg15 c128_i32
  v42
def k0_off8 (k0_t1 : Fin k0_t1_loop.trips) : Fin 2 → Nat :=
  let c0_i32_14 : BitVec 32 := 0#32
  let c1_i32_15 : BitVec 32 := 1#32
  let arg15 : BitVec 32 := Scf.iv c0_i32_14 c1_i32_15 k0_t1
  let c128_i32 : BitVec 32 := 128#32
  let v42 : BitVec 32 := Scalar.muli arg15 c128_i32
  let v43 : BitVec 32 := v42
  let v44 : Index := Scalar.indexCast v43
  let c0_23 : Index := 0#32
  ![v44.toNat, 0]
@[reducible] def k0_t2_loop : Scf.Loop 32 :=
  let c0_i32_17 : BitVec 32 := 0#32
  let c8_i32_18 : BitVec 32 := 8#32
  let v36 : BitVec 32 := Scalar.addi c0_i32_17 c8_i32_18
  let c1_i32_19 : BitVec 32 := 1#32
  ⟨c0_i32_17, v36, c1_i32_19⟩
def k0_mult2 (k0_t2 : Fin k0_t2_loop.trips) : BitVec 32 :=
  let c0_i32_17 : BitVec 32 := 0#32
  let c1_i32_19 : BitVec 32 := 1#32
  let arg15 : BitVec 32 := Scf.iv c0_i32_17 c1_i32_19 k0_t2
  let c128_i32 : BitVec 32 := 128#32
  let v42 : BitVec 32 := Scalar.muli arg15 c128_i32
  v42
def k0_off9 (k0_t2 : Fin k0_t2_loop.trips) : Fin 2 → Nat :=
  let c0_i32_17 : BitVec 32 := 0#32
  let c1_i32_19 : BitVec 32 := 1#32
  let arg15 : BitVec 32 := Scf.iv c0_i32_17 c1_i32_19 k0_t2
  let c128_i32 : BitVec 32 := 128#32
  let v42 : BitVec 32 := Scalar.muli arg15 c128_i32
  let v43 : BitVec 32 := v42
  let v44 : Index := Scalar.indexCast v43
  let c0_23 : Index := 0#32
  ![v44.toNat, 0]
def k0_off10 (i : grid0.Coords) : Fin 1 → Nat :=
  let arg0 : BitVec 32 := BitVec.ofNat 32 (i 0).val
  let v37 : Index := Scalar.indexCast arg0
  ![v37.toNat]
def k0_off11 (i : grid0.Coords) : Fin 1 → Nat :=
  let arg0 : BitVec 32 := BitVec.ofNat 32 (i 0).val
  let v42 : Index := Scalar.indexCast arg0
  ![v42.toNat]
def k0_off12 (v43 : BitVec 32) : Fin 3 → Nat :=
  let c0_i32_24 : BitVec 32 := 0#32
  let c0_i32_25 : BitVec 32 := 0#32
  ![v43.toNat, 0, 0]
def k0_cond3 (v38 : BitVec 32) : BitVec 1 :=
  let c0_i32_21 : BitVec 32 := 0#32
  let v39 : BitVec 1 := Scalar.cmpi .sge v38 c0_i32_21
  let v40 : BitVec 32 := Scalar.extui v39
  let c0_i32_22 : BitVec 32 := 0#32
  let v41 : BitVec 1 := Scalar.cmpi .ne v40 c0_i32_22
  v41

def k0_off13 (v43 : BitVec 32) : Fin 3 → Nat :=
  let c0_i32_27 : BitVec 32 := 0#32
  let c0_i32_28 : BitVec 32 := 0#32
  ![v43.toNat, 0, 0]

def k0_chk3 (i : grid0.Coords) (v3 : BitVec 32) (v6 : BitVec 32) (v12 : BitVec 32) (v38 : BitVec 32) (v43 : BitVec 32) : Prop :=
  (∀ (k0_h2 : k0_cond2 i v3 v6 v12 = 1#1), ∀ (k0_h3 : k0_cond3 v38 = 1#1), ∀ a, (k0_off12 v43) a + S1x1024x2048.size a ≤ S32x1024x2048.size a) ∧
  (∀ (k0_h2 : k0_cond2 i v3 v6 v12 = 1#1), ∀ (k0_h3 : k0_cond3 v38 = 1#1), ∀ a, (k0_off13 v43) a + S1x1024x1024.size a ≤ S32x1024x1024.size a)
theorem k0_off12_inb : ∀ (i : grid0.Coords) (v3 : BitVec 32) (v6 : BitVec 32) (v12 : BitVec 32) (v38 : BitVec 32) (v43 : BitVec 32) (k0_hw3 : k0_chk3 i v3 v6 v12 v38 v43), ∀ (k0_h2 : k0_cond2 i v3 v6 v12 = 1#1), ∀ (k0_h3 : k0_cond3 v38 = 1#1), ∀ a, (k0_off12 v43) a + S1x1024x2048.size a ≤ S32x1024x2048.size a := fun i v3 v6 v12 v38 v43 k0_hw3 k0_h2 k0_h3 => k0_hw3.1 k0_h2 k0_h3
theorem k0_off13_inb : ∀ (i : grid0.Coords) (v3 : BitVec 32) (v6 : BitVec 32) (v12 : BitVec 32) (v38 : BitVec 32) (v43 : BitVec 32) (k0_hw3 : k0_chk3 i v3 v6 v12 v38 v43), ∀ (k0_h2 : k0_cond2 i v3 v6 v12 = 1#1), ∀ (k0_h3 : k0_cond3 v38 = 1#1), ∀ a, (k0_off13 v43) a + S1x1024x1024.size a ≤ S32x1024x1024.size a := fun i v3 v6 v12 v38 v43 k0_hw3 k0_h2 k0_h3 => k0_hw3.2 k0_h2 k0_h3

def k0_cond4 (i : grid0.Coords) (v17 : BitVec 32) : BitVec 1 :=
  let arg0 : BitVec 32 := BitVec.ofNat 32 (i 0).val
  let v18 : BitVec 1 := Scalar.cmpi .slt arg0 v17
  let v19 : BitVec 32 := Scalar.extui v18
  let c0_i32_5 : BitVec 32 := 0#32
  let v20 : BitVec 1 := Scalar.cmpi .ne v19 c0_i32_5
  v20

def k0_cond5 (i : grid0.Coords) (v21 : BitVec 32) : BitVec 1 :=
  let arg0 : BitVec 32 := BitVec.ofNat 32 (i 0).val
  let v22 : BitVec 1 := Scalar.cmpi .sge arg0 v21
  let v23 : BitVec 32 := Scalar.extui v22
  let c0_i32_7 : BitVec 32 := 0#32
  let v24 : BitVec 1 := Scalar.cmpi .ne v23 c0_i32_7
  v24

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S160 : Shape := ⟨1, ![160]⟩
abbrev S1 : Shape := ⟨1, ![1]⟩
abbrev S655360x128 : Shape := ⟨2, ![655360, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x512x1024 : Shape := ⟨3, ![160, 512, 1024]⟩
abbrev S_ : Shape := ⟨0, ![]⟩
abbrev S160x1 : Shape := ⟨2, ![160, 1]⟩
abbrev S160x1024x2048 : Shape := ⟨3, ![160, 1024, 2048]⟩
abbrev S160x512x2048 : Shape := ⟨3, ![160, 512, 2048]⟩
abbrev S160x1x2048 : Shape := ⟨3, ![160, 1, 2048]⟩
abbrev S160x1024x1024 : Shape := ⟨3, ![160, 1024, 1024]⟩
abbrev S160x1x1024 : Shape := ⟨3, ![160, 1, 1024]⟩
abbrev S160x1x1 : Shape := ⟨3, ![160, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S655360x128, .f32⟩
  | .hbm, ⟨4, _⟩ => ⟨S32x1024x2048, .f32⟩
  | .hbm, ⟨5, _⟩ => ⟨S32x1x2048, .f32⟩
  | .hbm, ⟨6, _⟩ => ⟨S32x1024x1024, .f32⟩
  | .hbm, ⟨7, _⟩ => ⟨S32x1x1024, .f32⟩
  | .hbm, ⟨8, _⟩ => ⟨S160x512x1024, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x1024x2048, .f32⟩
  | .hbm, ⟨18, _⟩ => ⟨S160x512x2048, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x1x2048, .f32⟩
  | .hbm, ⟨28, _⟩ => ⟨S160x512x2048, .f32⟩
  | .hbm, ⟨29, _⟩ => ⟨S160x512x2048, .f32⟩
  | .hbm, ⟨30, _⟩ => ⟨S160x512x1024, .f32⟩
  | .hbm, ⟨31, _⟩ => ⟨S_, .f32⟩
  | .hbm, ⟨32, _⟩ => ⟨S160x512x1024, .f32⟩
  | .hbm, ⟨33, _⟩ => ⟨S160x512x1024, .f32⟩
  | .hbm, ⟨34, _⟩ => ⟨S160x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S160x512x1024, .f32⟩
  | .hbm, ⟨39, _⟩ => ⟨S160x512x1024, .f32⟩
  | .hbm, ⟨40, _⟩ => ⟨S_, .f32⟩
  | .hbm, ⟨41, _⟩ => ⟨S160x512x1024, .f32⟩
  | .hbm, ⟨42, _⟩ => ⟨S160x512x1024, .f32⟩
  | .hbm, ⟨43, _⟩ => ⟨S_, .f32⟩
  | .hbm, ⟨44, _⟩ => ⟨S160x512x1024, .f32⟩
  | .hbm, ⟨45, _⟩ => ⟨S160x512x1024, .f32⟩
  | .hbm, ⟨46, _⟩ => ⟨S160x512x1024, .f32⟩
  | .hbm, ⟨47, _⟩ => ⟨S160x512x1024, .f32⟩
  | .hbm, ⟨48, _⟩ => ⟨S_, .f32⟩
  | .hbm, ⟨49, _⟩ => ⟨S160x512x1024, .f32⟩
  | .hbm, ⟨50, _⟩ => ⟨S160x512x1024, .f32⟩
  | .hbm, ⟨51, _⟩ => ⟨S_, .f32⟩
  | .hbm, ⟨52, _⟩ => ⟨S160x512x1024, .f32⟩
  | .hbm, ⟨53, _⟩ => ⟨S160x512x1024, .f32⟩
  | .hbm, ⟨54, _⟩ => ⟨S160x512x1024, .f32⟩
  | .hbm, ⟨55, _⟩ => ⟨S_, .f32⟩
  | .hbm, ⟨56, _⟩ => ⟨S160x512x1024, .f32⟩
  | .hbm, ⟨57, _⟩ => ⟨S160x512x1024, .f32⟩
  | .hbm, ⟨58, _⟩ => ⟨S160x512x1024, .f32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S_, .i32⟩
  | .hbm, ⟨63, _⟩ => ⟨S160, .i32⟩
  | .hbm, ⟨64, _⟩ => ⟨S160, .i32⟩
  | .hbm, ⟨65, _⟩ => ⟨S160, .i32⟩
  | .hbm, ⟨66, _⟩ => ⟨S160x1, .i32⟩
  | .hbm, ⟨67, _⟩ => ⟨S160x1024x1024, .f32⟩
  | .hbm, ⟨68, _⟩ => ⟨S160x512x1024, .f32⟩
  | .hbm, ⟨69, _⟩ => ⟨S_, .i32⟩
  | .hbm, ⟨70, _⟩ => ⟨S160, .i32⟩
  | .hbm, ⟨71, _⟩ => ⟨S160, .i1⟩
  | .hbm, ⟨72, _⟩ => ⟨S_, .i32⟩
  | .hbm, ⟨73, _⟩ => ⟨S160, .i32⟩
  | .hbm, ⟨74, _⟩ => ⟨S160, .i32⟩
  | .hbm, ⟨75, _⟩ => ⟨S160, .i32⟩
  | .hbm, ⟨76, _⟩ => ⟨S160x1, .i32⟩
  | .hbm, ⟨77, _⟩ => ⟨S160x1x1024, .f32⟩
  | .hbm, ⟨78, _⟩ => ⟨S160x512x1024, .f32⟩
  | .hbm, ⟨79, _⟩ => ⟨S160x512x1024, .f32⟩
  | .hbm, ⟨80, _⟩ => ⟨S160, .i32⟩
  | .hbm, ⟨81, _⟩ => ⟨S_, .i32⟩
  | .hbm, ⟨82, _⟩ => ⟨S160, .i32⟩
  | .hbm, ⟨83, _⟩ => ⟨S160, .i1⟩
  | .hbm, ⟨84, _⟩ => ⟨S160x1x1, .i1⟩
  | .hbm, ⟨85, _⟩ => ⟨S_, .f32⟩
  | .hbm, ⟨86, _⟩ => ⟨S_, .f32⟩
  | .hbm, ⟨87, _⟩ => ⟨S160x512x1024, .i1⟩
  | .hbm, ⟨88, _⟩ => ⟨S160x512x1024, .f32⟩
  | .hbm, ⟨89, _⟩ => ⟨S160x512x1024, .f32⟩
  | .hbm, ⟨90, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v57 : Ref sig .tc := ⟨.hbm, 89, rfl⟩
abbrev main_v58 : Ref sig .tc := ⟨.hbm, 90, rfl⟩

abbrev nD : Nat := 1
abbrev τ : Topo := Topo.v7x

variable {F : FTy → Type} [FloatOps F]
-- ==== Modulation.lean ====
abbrev S8x1024 : Shape := ⟨2, ![8, 1024]⟩
abbrev S1024x6144 : Shape := ⟨2, ![1024, 6144]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationReferenceIdeal.lean ====
abbrev S8x1024 : Shape := ⟨2, ![8, 1024]⟩
abbrev S1024x6144 : Shape := ⟨2, ![1024, 6144]⟩
abbrev S1x6144 : Shape := ⟨2, ![1, 6144]⟩
abbrev S_ : Shape := ⟨0, ![]⟩
abbrev S8x6144 : Shape := ⟨2, ![8, 6144]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S8x6144, .f32⟩
  | .hbm, ⟨14, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Projection.lean ====
abbrev S16384x1024 : Shape := ⟨2, ![16384, 1024]⟩
abbrev S1x1024 : Shape := ⟨2, ![1, 1024]⟩
abbrev S1024x3072 : Shape := ⟨2, ![1024, 3072]⟩
abbrev S8x1024 : Shape := ⟨2, ![8, 1024]⟩
abbrev S8x1 : Shape := ⟨2, ![8, 1]⟩
abbrev S8x16384 : Shape := ⟨2, ![8, 16384]⟩
abbrev S8x64x16384 : Shape := ⟨3, ![8, 64, 16384]⟩
abbrev S32x2x8 : Shape := ⟨3, ![32, 2, 8]⟩
abbrev S2048x16384 : Shape := ⟨2, ![2048, 16384]⟩
abbrev S4x16384x2 : Shape := ⟨3, ![4, 16384, 2]⟩
abbrev S512x1024 : Shape := ⟨2, ![512, 1024]⟩
abbrev S8x512 : Shape := ⟨2, ![8, 512]⟩
abbrev S8x64x512 : Shape := ⟨3, ![8, 64, 512]⟩
abbrev S1x2x8 : Shape := ⟨3, ![1, 2, 8]⟩
abbrev S2048x512 : Shape := ⟨2, ![2048, 512]⟩
abbrev S4x512x2 : Shape := ⟨3, ![4, 512, 2]⟩
abbrev S64x512 : Shape := ⟨2, ![64, 512]⟩
abbrev S512 : Shape := ⟨1, ![512]⟩
abbrev S512x1 : Shape := ⟨2, ![512, 1]⟩
abbrev S512x8 : Shape := ⟨2, ![512, 8]⟩
abbrev S1024x512 : Shape := ⟨2, ![1024, 512]⟩
abbrev S512x512 : Shape := ⟨2, ![512, 512]⟩
abbrev S8 : Shape := ⟨1, ![8]⟩
abbrev S1x8 : Shape := ⟨2, ![1, 8]⟩
abbrev S1x1x8 : Shape := ⟨3, ![1, 1, 8]⟩
abbrev S512x2 : Shape := ⟨2, ![512, 2]⟩
abbrev S1x512x2 : Shape := ⟨3, ![1, 512, 2]⟩
abbrev S256x512 : Shape := ⟨2, ![256, 512]⟩
abbrev S1x512 : Shape := ⟨2, ![1, 512]⟩
abbrev S64x64 : Shape := ⟨2, ![64, 64]⟩
abbrev S1x64x512 : Shape := ⟨3, ![1, 64, 512]⟩

abbrev nBuf : Space → Nat
  | .hbm => 13
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .bf16⟩
  | .hbm, ⟨5, _⟩ => ⟨S8x1024, .f32⟩
  | .hbm, ⟨6, _⟩ => ⟨S8x1, .f32⟩
  | .hbm, ⟨7, _⟩ => ⟨S16384x1024, .bf16⟩
  | .hbm, ⟨8, _⟩ => ⟨S8x16384, .f32⟩
  | .hbm, ⟨9, _⟩ => ⟨S8x64x16384, .f32⟩
  | .hbm, ⟨10, _⟩ => ⟨S32x2x8, .f32⟩
  | .hbm, ⟨11, _⟩ => ⟨S2048x16384, .bf16⟩
  | .hbm, ⟨12, _⟩ => ⟨S4x16384x2, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S8x1024, .f32⟩
  | .local _ .vmem, ⟨7, _⟩ => ⟨S8x1, .f32⟩
  | .local _ .vmem, ⟨8, _⟩ => ⟨S512x1024, .bf16⟩
  | .local _ .vmem, ⟨9, _⟩ => ⟨S512x1024, .bf16⟩
  | .local _ .vmem, ⟨10, _⟩ => ⟨S8x512, .f32⟩
  | .local _ .vmem, ⟨11, _⟩ => ⟨S8x512, .f32⟩
  | .local _ .vmem, ⟨12, _⟩ => ⟨S8x64x512, .f32⟩
  | .local _ .vmem, ⟨13, _⟩ => ⟨S8x64x512, .f32⟩
  | .local _ .vmem, ⟨14, _⟩ => ⟨S1x2x8, .f32⟩
  | .local _ .vmem, ⟨15, _⟩ => ⟨S1x2x8, .f32⟩
  | .local _ .vmem, ⟨16, _⟩ => ⟨S2048x512, .bf16⟩
  | .local _ .vmem, ⟨17, _⟩ => ⟨S2048x512, .bf16⟩
  | .local _ .vmem, ⟨18, _⟩ => ⟨S4x512x2, .f32⟩
  | .local _ .vmem, ⟨19, _⟩ => ⟨S4x512x2, .f32⟩
  | .local _ .vmem, ⟨20, _⟩ => ⟨S64x512, .f32⟩
  | .local _ .vmem, ⟨21, _⟩ => ⟨S8x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def k0_off1 (i : grid0.Coords) (c0_i32_106 : BitVec 32) : Fin 2 → Nat :=
  let arg0 : BitVec 32 := BitVec.ofNat 32 (i 0).val
  let c2_i32_105 : BitVec 32 := 2#32
  let v225 : BitVec 32 := Scalar.muli arg0 c2_i32_105
  let v226 : BitVec 32 := Scalar.addi v225 c0_i32_106
  let v227 : Index := Scalar.indexCast v226
  let c0_107 : Index := 0#32
  ![v227.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjectionReferenceIdeal.lean ====
abbrev S16384x1024 : Shape := ⟨2, ![16384, 1024]⟩
abbrev S1x1024 : Shape := ⟨2, ![1, 1024]⟩
abbrev S1024x3072 : Shape := ⟨2, ![1024, 3072]⟩
abbrev S8x1024 : Shape := ⟨2, ![8, 1024]⟩
abbrev S8x1 : Shape := ⟨2, ![8, 1]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x512 : Shape := ⟨2, ![16384, 512]⟩
abbrev S16384x2048 : Shape := ⟨2, ![16384, 2048]⟩
abbrev S2048x16384 : Shape := ⟨2, ![2048, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .bf16⟩
  | .hbm, ⟨5, _⟩ => ⟨S8x1024, .f32⟩
  | .hbm, ⟨6, _⟩ => ⟨S8x1, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1024x3072, .f32⟩
  | .hbm, ⟨30, _⟩ => ⟨S16384x3072, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x1024, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S16384x2048, .f32⟩
  | .hbm, ⟨45, _⟩ => ⟨S2048x16384, .f32⟩
  | .hbm, ⟨46, _⟩ => ⟨S16384x1024, .bf16⟩
  | .hbm, ⟨47, _⟩ => ⟨S2048x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Words.lean ====
/- The word arithmetic of the loop over key tiles: its bounds as integers, and that no trip leaves the arrays. -/
module

public import Idealize.ShloMosaic.Lib.LoopRemainder
public import Mathlib.Data.Fin.VecNotation
public import Mathlib.Tactic.IntervalCases
public import Mathlib.Tactic.FinCases
public import Mathlib.Tactic.NormNum

@[expose] public section

namespace Cert.Words

open Idealize.ShloMosaic

/-- The word `2 g - 1`: one past the last key tile that the loop takes. -/
def lastTile (g : ℕ) : BitVec 32 := Scalar.subi (Scalar.muli 2#32 (BitVec.ofNat 32 g)) 1#32

theorem lastTile_toInt {g : ℕ} (hg : g < 32) : (lastTile g).toInt = 2 * (g : ℤ) - 1 := by
  unfold lastTile Scalar.subi Scalar.muli IntOp.subi IntOp.muli
  interval_cases g <;> decide

/-- The loop's upper bound as the program computes it: `x + ((2 g - 1) - x) / 1 * 1`. -/
def upper (g : ℕ) (x : BitVec 32) : BitVec 32 :=
  Scalar.addi x (Scalar.muli (Scalar.divsi (Scalar.subi (lastTile g) x) 1#32) 1#32)

theorem upper_eq (g : ℕ) (x : BitVec 32) : upper g x = lastTile g := by
  unfold upper
  rw [Scalar.muli_divsi_one]
  unfold Scalar.addi Scalar.subi IntOp.addi IntOp.subi
  show x + (lastTile g - x) = lastTile g
  rw [BitVec.add_comm]; exact BitVec.sub_add_cancel _ _

/-- The number of trips: the tiles from `x` to `2 g - 2`. -/
theorem trips_eq {g : ℕ} (hg : g < 32) (x : BitVec 32) (hx : 0 ≤ x.toInt) :
    Scf.trips x (upper g x) 1#32 = 2 * g - 1 - x.toNat := by
  have h1 : (1#32 : BitVec 32).toInt = 1 := by decide
  have hn : x.toInt = (x.toNat : ℤ) := by
    rw [BitVec.toInt_eq_toNat_cond] at hx ⊢; split <;> [rfl; skip]
    have := x.isLt; split at hx <;> omega
  unfold Scf.trips
  rw [upper_eq, lastTile_toInt hg, h1, hn]
  omega

theorem ok {g : ℕ} (hg : g < 32) (x : BitVec 32) (hx : 0 ≤ x.toInt) : Scf.OK x (upper g x) 1#32 := by
  have h1 : (1#32 : BitVec 32).toInt = 1 := by decide
  have hn : x.toInt = (x.toNat : ℤ) := by
    rw [BitVec.toInt_eq_toNat_cond] at hx ⊢; split <;> [rfl; skip]
    have := x.isLt; split at hx <;> omega
  have hlt : (x.toNat : ℤ) < 2 ^ 31 := by
    rw [← hn]; exact BitVec.toInt_lt
  refine ⟨by rw [h1]; decide, ?_⟩
  rw [trips_eq hg x hx, h1, hn]
  norm_num at hlt ⊢
  omega

/-- The tile of trip `k`. -/
theorem iv_toNat {g : ℕ} (hg : g < 32) (x : BitVec 32) (hx : 0 ≤ x.toInt) {k : ℕ} (hk : k < Scf.trips x (upper g x) 1#32) :
    (Scf.iv x 1#32 k).toNat = x.toNat + k ∧ x.toNat + k + 1 < 2 * g := by
  rw [trips_eq hg x hx] at hk
  refine ⟨?_, by omega⟩
  unfold Scf.iv
  rw [BitVec.mul_one, BitVec.toNat_add, BitVec.toNat_ofNat]
  omega

theorem iv_lt {g : ℕ} (hg : g < 32) (x : BitVec 32) (hx : 0 ≤ x.toInt) {k : ℕ} (hk : k < Scf.trips x (upper g x) 1#32) :
    (Scf.iv x 1#32 k).toNat < 62 := by
  have := iv_toNat hg x hx hk; omega

/-- A tile's first row. -/
theorem row_toNat {x : BitVec 32} (h : x.toNat < 64) : (Scalar.muli x 256#32).toNat = 256 * x.toNat := by
  show (x * 256#32).toNat = _
  rw [BitVec.toNat_mul]
  simp only [BitVec.toNat_ofNat]
  omega

/-- A head's number: `2 p + r`. -/
theorem head_toNat {p r : ℕ} (hp : p < 4) (hr : r < 2) :
    (Scalar.addi (Scalar.muli 2#32 (BitVec.ofNat 32 p)) (BitVec.ofNat 32 r)).toNat = 2 * p + r := by
  unfold Scalar.addi Scalar.muli IntOp.addi IntOp.muli
  interval_cases p <;> interval_cases r <;> decide

/-- The tile before the query block's own two, as the program computes it. -/
theorem tail1 {g : ℕ} (hg : g < 32) :
    (Scalar.maxsi (Scalar.subi (Scalar.muli 2#32 (BitVec.ofNat 32 g)) 1#32) 0#32).toNat = 2 * g - 1 ∧
    (Scalar.muli (Scalar.maxsi (Scalar.subi (Scalar.muli 2#32 (BitVec.ofNat 32 g)) 1#32) 0#32) 256#32).toNat = 256 * (2 * g - 1) := by
  interval_cases g <;> decide

/-- The first of the query block's own two tiles. -/
theorem tail2 {g : ℕ} (hg : g < 32) :
    (Scalar.muli 2#32 (BitVec.ofNat 32 g)).toNat = 2 * g ∧
    (Scalar.muli (Scalar.muli 2#32 (BitVec.ofNat 32 g)) 256#32).toNat = 256 * (2 * g) := by
  interval_cases g <;> decide

/-- The second of the query block's own two tiles. -/
theorem tail3 {g : ℕ} (hg : g < 32) :
    (Scalar.addi (Scalar.muli 2#32 (BitVec.ofNat 32 g)) 1#32).toNat = 2 * g + 1 ∧
    (Scalar.muli (Scalar.addi (Scalar.muli 2#32 (BitVec.ofNat 32 g)) 1#32) 256#32).toNat = 256 * (2 * g + 1) := by
  interval_cases g <;> decide

/-- Whether there is a tile before the query block's own two. -/
theorem some_before {g : ℕ} (hg : g < 32) :
    Scalar.cmpi .sge (BitVec.ofNat 32 g) 1#32 = if 1 ≤ g then 1#1 else 0#1 := by
  interval_cases g <;> decide

end Cert.Words
-- ==== Proof.Checks.lean ====
/- What the bodies assume of the table of first tiles holds when no entry is negative; so the runs apply. -/
module

public import proofs.«01_k».proof.Defs
public import proofs.«01_k».proof.Proof.Gen.Kernel.Frame
public import proofs.«01_k».proof.Proof.Gen.KernelIdeal.Frame
public import proofs.«01_k».proof.Proof.Gen.Pre_first_tiles
public import proofs.«01_k».proof.Proof.Gen.Pre_finite_scores
public import proofs.«01_k».proof.Proof.Words

@[expose] public section

namespace Cert.KernelProof

open Cert.Kernel Cert.Kernel.Gen
open Idealize.ShloMosaic Idealize.ShloMosaic.TcCoe

/-- What the body assumes of the word it reads holds of every word that is not negative. -/
theorem chk_of_nonneg (i : grid0.Coords) (x : BitVec 32) (hx : 0 ≤ x.toInt) : k0_chk1 i x := by
  have hg : (i 1).val < 32 := (i 1).isLt
  have hp : (i 0).val < 4 := (i 0).isLt
  have row : ∀ k : Fin (k0_t1_loop i x).trips, (Scalar.muli (Scf.iv x 1#32 k.val) 256#32).toNat = 256 * (Scf.iv x 1#32 k.val).toNat := fun k =>
    Words.row_toNat (by have := Words.iv_lt hg x hx (k := k.val) k.isLt; omega)
  have lt : ∀ k : Fin (k0_t1_loop i x).trips, (Scf.iv x 1#32 k.val).toNat < 62 := fun k => Words.iv_lt hg x hx (k := k.val) k.isLt
  refine ⟨Words.ok hg x hx, fun k => ?_, fun k a => ?_, fun k a => ?_, fun k a => ?_, fun k a => ?_, fun k r a => ?_, fun k => ?_, fun k a => ?_,
    fun k a => ?_, Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim⟩
  · exact (row k).symm ▸ Dvd.intro _ rfl
  · have h := row k; have h2 := lt k
    fin_cases a
    · show (Scalar.muli (Scf.iv x 1#32 k.val) 256#32).toNat + 256 ≤ 16384
      omega
    · show 0 + 64 ≤ 128
      omega
  · have h := row k; have h2 := lt k
    fin_cases a
    · show 0 + 1 ≤ 1
      omega
    · show (Scalar.muli (Scf.iv x 1#32 k.val) 256#32).toNat + 256 ≤ 16384
      omega
    · show 0 + 1 ≤ 2
      omega
  · have h := row k; have h2 := lt k
    fin_cases a
    · show (Scalar.muli (Scf.iv x 1#32 k.val) 256#32).toNat + 256 ≤ 16384
      omega
    · show 64 + 64 ≤ 128
      omega
  · have h := row k; have h2 := lt k
    fin_cases a
    · show 0 + 1 ≤ 1
      omega
    · show (Scalar.muli (Scf.iv x 1#32 k.val) 256#32).toNat + 256 ≤ 16384
      omega
    · show 1 + 1 ≤ 2
      omega
  · have h2 := lt k
    fin_cases a
    · show (Scalar.addi (Scalar.muli 2#32 (BitVec.ofNat 32 (i 0).val)) (BitVec.ofNat 32 r.val)).toNat + 1 ≤ 8
      rw [Words.head_toNat hp r.isLt]; omega
    · show (Scf.iv x 1#32 k.val).toNat + 1 ≤ 64
      omega
  · exact (row k).symm ▸ Dvd.intro _ rfl
  · have h := row k; have h2 := lt k
    fin_cases a
    · show 0 + 64 ≤ 128
      omega
    · show (Scalar.muli (Scf.iv x 1#32 k.val) 256#32).toNat + 256 ≤ 16384
      omega
  · have h := row k; have h2 := lt k
    fin_cases a
    · show 64 + 64 ≤ 128
      omega
    · show (Scalar.muli (Scf.iv x 1#32 k.val) 256#32).toNat + 256 ≤ 16384
      omega

section Any
variable {F : FTy → Type} [FloatOps F]

/-- No index map reads the table. -/
theorem ok_all (m : (ℓ : Loc nD τ sig) → Buf (Elt F) ℓ) : Ok m := by
  trivial

/-- The body's side conditions from a table with no negative word. -/
theorem hyps_of (m : (ℓ : Loc nD τ sig) → Buf (Elt F) ℓ)
    (h : ∀ (c : Dev nD) (y : S128.Idx), 0 ≤ (m ((c : Thread nD τ).loc main_arg0) y : BitVec 32).toInt) : Hyps m (ok_all m) :=
  Hyps.of (m := m) (fun c t => chk_of_nonneg _ _ (h 0 _))
end Any

end Cert.KernelProof

namespace Cert.KernelIdealProof

open Cert.KernelIdeal Cert.KernelIdeal.Gen
open Idealize.ShloMosaic Idealize.ShloMosaic.TcCoe

/-- What the body assumes of the word it reads holds of every word that is not negative. -/
theorem chk_of_nonneg (i : grid0.Coords) (x : BitVec 32) (hx : 0 ≤ x.toInt) : k0_chk1 i x := by
  have hg : (i 1).val < 32 := (i 1).isLt
  have hp : (i 0).val < 4 := (i 0).isLt
  have row : ∀ k : Fin (k0_t1_loop i x).trips, (Scalar.muli (Scf.iv x 1#32 k.val) 256#32).toNat = 256 * (Scf.iv x 1#32 k.val).toNat := fun k =>
    Words.row_toNat (by have := Words.iv_lt hg x hx (k := k.val) k.isLt; omega)
  have lt : ∀ k : Fin (k0_t1_loop i x).trips, (Scf.iv x 1#32 k.val).toNat < 62 := fun k => Words.iv_lt hg x hx (k := k.val) k.isLt
  refine ⟨Words.ok hg x hx, fun k => ?_, fun k a => ?_, fun k a => ?_, fun k a => ?_, fun k a => ?_, fun k r a => ?_, fun k => ?_, fun k a => ?_,
    fun k a => ?_, Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim⟩
  · exact (row k).symm ▸ Dvd.intro _ rfl
  · have h := row k; have h2 := lt k
    fin_cases a
    · show (Scalar.muli (Scf.iv x 1#32 k.val) 256#32).toNat + 256 ≤ 16384
      omega
    · show 0 + 64 ≤ 128
      omega
  · have h := row k; have h2 := lt k
    fin_cases a
    · show 0 + 1 ≤ 1
      omega
    · show (Scalar.muli (Scf.iv x 1#32 k.val) 256#32).toNat + 256 ≤ 16384
      omega
    · show 0 + 1 ≤ 2
      omega
  · have h := row k; have h2 := lt k
    fin_cases a
    · show (Scalar.muli (Scf.iv x 1#32 k.val) 256#32).toNat + 256 ≤ 16384
      omega
    · show 64 + 64 ≤ 128
      omega
  · have h := row k; have h2 := lt k
    fin_cases a
    · show 0 + 1 ≤ 1
      omega
    · show (Scalar.muli (Scf.iv x 1#32 k.val) 256#32).toNat + 256 ≤ 16384
      omega
    · show 1 + 1 ≤ 2
      omega
  · have h2 := lt k
    fin_cases a
    · show (Scalar.addi (Scalar.muli 2#32 (BitVec.ofNat 32 (i 0).val)) (BitVec.ofNat 32 r.val)).toNat + 1 ≤ 8
      rw [Words.head_toNat hp r.isLt]; omega
    · show (Scf.iv x 1#32 k.val).toNat + 1 ≤ 64
      omega
  · exact (row k).symm ▸ Dvd.intro _ rfl
  · have h := row k; have h2 := lt k
    fin_cases a
    · show 0 + 64 ≤ 128
      omega
    · show (Scalar.muli (Scf.iv x 1#32 k.val) 256#32).toNat + 256 ≤ 16384
      omega
  · have h := row k; have h2 := lt k
    fin_cases a
    · show 64 + 64 ≤ 128
      omega
    · show (Scalar.muli (Scf.iv x 1#32 k.val) 256#32).toNat + 256 ≤ 16384
      omega

section Any
variable {F : FTy → Type} [FloatOps F] [Named F]

/-- No index map reads the table. -/
theorem ok_all (m : (ℓ : Loc nD τ sig) → Buf (Elt F) ℓ) : Ok m := by
  trivial

/-- The body's side conditions from a table with no negative word. -/
theorem hyps_of (m : (ℓ : Loc nD τ sig) → Buf (Elt F) ℓ)
    (h : ∀ (c : Dev nD) (y : S128.Idx), 0 ≤ (m ((c : Thread nD τ).loc main_arg0) y : BitVec 32).toInt) : Hyps m (ok_all m) :=
  Hyps.of (m := m) (fun c t => chk_of_nonneg _ _ (h 0 _))
end Any

end Cert.KernelIdealProof
-- ==== Proof.Decode.lean ====
/- What the two preconditions say of the argument arrays, word by word and element by element: every entry of the
   first-tile table is not negative; and (of `finite_scores`) the queries, keys, rescaled gate sums and tile starts are
   real numbers. -/
module

public import proofs.«01_k».proof.Defs
public import proofs.«01_k».proof.Proof.Gen.Pre_first_tiles
public import proofs.«01_k».proof.Proof.Gen.Pre_finite_scores
public import Idealize.ShloMosaic.Lib.ReduceAll
public import Idealize.ShloMosaic.PureOps.Ideal.Laws

@[expose] public section

namespace Cert.Decode

open Idealize.ShloMosaic

/-- An extended real whose absolute value is below `+∞` is a real number. -/
theorem real_of_abs_lt {x : EReal} (h : max x (-x) < ⊤) : ∃ r : ℝ, x = r := by
  induction x using EReal.rec with
  | bot => simp at h
  | coe r => exact ⟨r, rfl⟩
  | top => simp at h

theorem inf_word : Ideal.ofBits .f32 0x7F800000#32 = ⊤ := by simp [Ideal.ofBits, Ideal.ieee]

/-- The comparison `|x| < inf` says that `x` is a real number. -/
theorem real_of_cmp {x : EReal} (h : Ideal.cmp .olt (max x (-x)) (Ideal.ofBits .f32 0x7F800000#32) = 1#1) : ∃ r : ℝ, x = r := by
  refine real_of_abs_lt ?_
  rw [inf_word] at h
  by_contra hn
  simp [Ideal.cmp, hn] at h

theorem nonneg_of_cmp {x : BitVec 32} (h : IntOp.cmpi .sge x 0#32 = 1#1) : 0 ≤ x.toInt := by
  by_contra hn
  simp only [IntOp.cmpi, BitVec.sle] at h
  rw [show (0#32).toInt = 0 from rfl, decide_eq_false hn] at h
  exact absurd h (by decide)

instance : Subsingleton (Cert.Pre_first_tiles.S_).Idx := ⟨fun a b => funext fun k => k.elim0⟩
instance : Subsingleton (Cert.Pre_finite_scores.S_).Idx := ⟨fun a b => funext fun k => k.elim0⟩

section Tiles
open Cert.Pre_first_tiles
variable [Facts] {F : FTy → Type} [FloatOps F]

/-- `first_tiles`, decoded. -/
theorem first_tiles (a0 : IVec S128 32) (a1 : FVec F S8x64 .f32) (a2 : FVec F S2048x16384 .bf16) (a3 : FVec F S16384x1024 .bf16)
    (a4 : FVec F S4x16384x2 .f32) (h : fn (F := F) a0 a1 a2 a3 a4 = fun _ => 1#1) (y : S128.Idx) : 0 ≤ (a0 y : BitVec 32).toInt := by
  have e := congrFun h (fun k => k.elim0)
  dsimp only [fn] at e
  exact nonneg_of_cmp (Host.reduce_andi_all _ _ _ _ _ e y)
end Tiles

section Scores
open Cert.Pre_finite_scores
variable [Facts]

/-- `finite_scores`, decoded. -/
theorem finite_scores (a0 : IVec S128 32) (a1 : FVec Ideal S8x64 .f32) (a2 : FVec Ideal S2048x16384 .bf16)
    (a3 : FVec Ideal S16384x1024 .bf16) (a4 : FVec Ideal S4x16384x2 .f32)
    (h : fn (F := Ideal) a0 a1 a2 a3 a4 = fun _ => 1#1) :
    (∀ y : S128.Idx, 0 ≤ (a0 y : BitVec 32).toInt) ∧ (∀ y, ∃ r : ℝ, a1 y = (r : EReal)) ∧ (∀ y, ∃ r : ℝ, a4 y = (r : EReal))
      ∧ (∀ y, ∃ r : ℝ, extractStridedSlice S512x16384 ![1024, 0] a2 Facts.slices_S2048x16384_S512x16384_1024_0 y = (r : EReal))
      ∧ ∀ y, ∃ r : ℝ, extractStridedSlice S16384x512 ![0, 0] a3 Facts.slices_S16384x1024_S16384x512_0_0 y = (r : EReal) := by
  have e := congrFun h (fun k => k.elim0)
  dsimp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fun y => nonneg_of_cmp (Host.reduce_andi_all _ _ _ _ _ e1 y), fun y => real_of_cmp (Host.reduce_andi_all _ _ _ _ _ e2 y),
    fun y => real_of_cmp (Host.reduce_andi_all _ _ _ _ _ e3 y), fun y => real_of_cmp (Host.reduce_andi_all _ _ _ _ _ e4 y),
    fun y => real_of_cmp (Host.reduce_andi_all _ _ _ _ _ e5 y)⟩
end Scores

end Cert.Decode
-- ==== Proof.Vec.lean ====
/-
  One tile of the attention as the kernel computes it, read at an index: the scores of 256 keys
  against 512 queries, the running maximum, the factor that rescales what is held, the weights, and the
  accumulation of values and weights. The payloads of the printed body are these functions.
-/
module

public import proofs.«01_k».proof.Proof.Gen.KernelIdeal.Skeleton
public import Idealize.ShloMosaic.Lib.Pointwise

@[expose] public section

noncomputable section

open Idealize.ShloMosaic Idealize.SL.Sem

namespace Cert.Tile

open Cert.KernelIdeal Cert.KernelIdeal.Gen

variable {F : FTy → Type} [FloatOps F] [Named F]

/-- The shift of a tile's scores per query: the gate sums' difference in base two for the first and the
    second half of the queries, minus infinity where a half is off. -/
def shiftV (v21 : IVec S1x512 1) (oa ob : BitVec 1) (a b c d : F .f32) : FVec F S1x512 .f32 :=
  select v21
    (broadcast S1x512 (Scalar.select oa (Scalar.mulf (Named.named κ "log2e" 0x3FB8AA3B#32) (Scalar.subf a b)) (Named.named κ "mask" 0xF1800000#32)))
    (broadcast S1x512 (Scalar.select ob (Scalar.mulf (Named.named κ "log2e" 0x3FB8AA3B#32) (Scalar.subf c d)) (Named.named κ "mask" 0xF1800000#32)))

/-- The new running maximum. -/
def newM (s : FVec F S256x512 .f32) (sh : FVec F S1x512 .f32) (m : Vec F S1x1x512 .f32) : FVec F S1x512 .f32 :=
  maximumf (shapeCast S1x512 m shapeCasts_S1x1x512_S1x512)
    (addf (shapeCast S1x512 (multiReduction .maximumf [0] S512 s 0xFF800000#32 reduces_S256x512_S512 (.inl rfl) rfl) shapeCasts_S512_S1x512) sh)

/-- The same as the buffer keeps it. -/
def newB (s : FVec F S256x512 .f32) (sh : FVec F S1x512 .f32) (m : Vec F S1x1x512 .f32) : FVec F S1x1x512 .f32 :=
  shapeCast S1x1x512 (newM s sh m) shapeCasts_S1x512_S1x1x512

/-- The factor that rescales what is held. -/
def alphaV (s : FVec F S256x512 .f32) (sh : FVec F S1x512 .f32) (m : Vec F S1x1x512 .f32) : FVec F S1x512 .f32 :=
  exp2 (subf (shapeCast S1x512 m shapeCasts_S1x1x512_S1x512) (newM s sh m))

/-- The tile's weights. -/
def pV (s : FVec F S256x512 .f32) (sh : FVec F S1x512 .f32) (m : Vec F S1x1x512 .f32) : FVec F S256x512 .bf16 :=
  truncf .bf16 (exp2 (subf s (broadcastTo S256x512 (subf (newM s sh m) sh) broadcasts_S1x512_S256x512))) bitsLt_bf16_f32

/-- The accumulator after the tile: what is held, rescaled, and the tile's weighted values, with the row
    of ones below the values. -/
def accV (v : Vec F S64x256 .bf16) (al : FVec F S1x512 .f32) (p : FVec F S256x512 .bf16) (a : Vec F S1x80x512 .f32) : FVec F S1x80x512 .f32 :=
  shapeCast S1x80x512
    (addf (mulf (shapeCast S80x512 a shapeCasts_S1x80x512_S80x512) (broadcastTo S80x512 al broadcasts_S1x512_S80x512))
      (matmul dot_S80x256_S256x512_S80x512_1_0_0_1_n_n none
        (concatenate S80x256 0 [⟨S64x256, v⟩, ⟨S16x256, k0_pay36⟩] concatenates_S64x256_S16x256_S80x256_d0) p
        (constant S80x512 .f32 0x00000000#32))) shapeCasts_S80x512_S1x80x512

/-! ### Comparisons of small words -/

theorem cmp_eq (a b : ℕ) (ha : a < 2 ^ 31) (hb : b < 2 ^ 31) :
    IntOp.cmpi .eq (BitVec.ofNat 32 a) (BitVec.ofNat 32 b) = if a = b then 1#1 else 0#1 := by
  have e : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  unfold IntOp.cmpi
  by_cases h : a = b
  · simp [h]
  · simp only [h, if_false]
    rw [show (BitVec.ofNat 32 a == BitVec.ofNat 32 b) = false from beq_eq_false_iff_ne.mpr (mt e.mp h)]
    rfl

theorem toInt_small (a : ℕ) (ha : a < 2 ^ 31) : (BitVec.ofNat 32 a).toInt = a := by
  rw [BitVec.toInt_eq_toNat_of_lt (by rw [BitVec.toNat_ofNat, Nat.mod_eq_of_lt (by omega)]; omega), BitVec.toNat_ofNat, Nat.mod_eq_of_lt (by omega)]

theorem cmp_slt (a b : ℕ) (ha : a < 2 ^ 31) (hb : b < 2 ^ 31) :
    IntOp.cmpi .slt (BitVec.ofNat 32 a) (BitVec.ofNat 32 b) = if a < b then 1#1 else 0#1 := by
  unfold IntOp.cmpi
  simp only [BitVec.slt, toInt_small a ha, toInt_small b hb, Nat.cast_lt]
  by_cases h : a < b <;> simp [h]

theorem cmp_sgt (a b : ℕ) (ha : a < 2 ^ 31) (hb : b < 2 ^ 31) :
    IntOp.cmpi .sgt (BitVec.ofNat 32 a) (BitVec.ofNat 32 b) = if b < a then 1#1 else 0#1 := by
  unfold IntOp.cmpi
  simp only [BitVec.slt, toInt_small a ha, toInt_small b hb, Nat.cast_lt]
  by_cases h : b < a <;> simp [h]

theorem cmp_sge (a b : ℕ) (ha : a < 2 ^ 31) (hb : b < 2 ^ 31) :
    IntOp.cmpi .sge (BitVec.ofNat 32 a) (BitVec.ofNat 32 b) = if b ≤ a then 1#1 else 0#1 := by
  unfold IntOp.cmpi
  simp only [BitVec.sle, toInt_small a ha, toInt_small b hb, Nat.cast_le]
  by_cases h : b ≤ a <;> simp [h]

/-! ### The functions at an index, over the extended reals -/

/-- The masked value is minus infinity. -/
theorem mask_eq : (Named.named κ "mask" 0xF1800000#32 : Ideal .f32) = (⊥ : EReal) := rfl

/-- The base-two logarithm of e. -/
theorem log2e_eq : (Named.named κ "log2e" 0x3FB8AA3B#32 : Ideal .f32) = (((Real.log 2)⁻¹ : ℝ) : EReal) := rfl

/-- A one-bit choice. -/
theorem select_true {α : Type} (x y : α) : Scalar.select 1#1 x y = x := rfl

/-- A one-bit choice, off. -/
theorem select_false {α : Type} (x y : α) : Scalar.select 0#1 x y = y := rfl

set_option maxRecDepth 16384

theorem score_apply (k : Vec Ideal S256x64 .bf16) (q : Vec Ideal S64x512 .bf16) (n : Vec Ideal S1x256x1 .f32) (r : Fin 256) (y : Fin 512) :
    k0_pay2 (F := Ideal) k q n (ix2 r y) = (∑ d : Fin 64, (k (ix2 r d) : EReal) * q (ix2 d y)) + n (ix3 0 r 0) := by
  pointwise [k0_pay2]

theorem newM_apply (s : FVec Ideal S256x512 .f32) (sh : FVec Ideal S1x512 .f32) (m : Vec Ideal S1x1x512 .f32) (y : Fin 512) :
    newM s sh m (ix2 0 y) = max (m (ix3 0 0 y) : EReal) ((Finset.univ.fold max (⊥ : EReal) fun k : Fin 256 => s (ix2 k y)) + sh (ix2 0 y)) := by
  pointwise [newM]
  rfl

theorem newB_apply (s : FVec Ideal S256x512 .f32) (sh : FVec Ideal S1x512 .f32) (m : Vec Ideal S1x1x512 .f32) (y : Fin 512) :
    newB s sh m (ix3 0 0 y) = newM s sh m (ix2 0 y) := by
  pointwise [newB]

theorem alphaV_apply (s : FVec Ideal S256x512 .f32) (sh : FVec Ideal S1x512 .f32) (m : Vec Ideal S1x1x512 .f32) (y : Fin 512) :
    alphaV s sh m (ix2 0 y) = (Ideal.exp2 ((m (ix3 0 0 y) : EReal) - newM s sh m (ix2 0 y)) : EReal) := by
  pointwise [alphaV]
  rfl

theorem pV_apply (s : FVec Ideal S256x512 .f32) (sh : FVec Ideal S1x512 .f32) (m : Vec Ideal S1x1x512 .f32) (k : Fin 256) (y : Fin 512) :
    pV s sh m (ix2 k y) = (Ideal.exp2 ((s (ix2 k y) : EReal) - ((newM s sh m (ix2 0 y) : EReal) - sh (ix2 0 y))) : EReal) := by
  pointwise [pV]
  rfl

/-- The left operand of the accumulation at a row: the values, then ones, then zeros. -/
def rowsOf (v : Vec Ideal S64x256 .bf16) (r : Fin 80) (k : Fin 256) : EReal :=
  if h : r.val < 64 then v (ix2 ⟨r.val, h⟩ k) else if r.val = 64 then 1 else 0

theorem ones_apply (r : Fin 16) (k : Fin 256) : k0_pay36 (F := Ideal) (ix2 r k) = if r.val = 0 then (1 : EReal) else 0 := by
  pointwise [k0_pay36]
  revert r
  intro r
  rw [cmp_eq _ _ (by omega) (by omega)]
  by_cases h : r.val = 0 <;> simp [h, Scalar.select]

theorem accV_apply (v : Vec Ideal S64x256 .bf16) (al : FVec Ideal S1x512 .f32) (p : FVec Ideal S256x512 .bf16) (a : Vec Ideal S1x80x512 .f32)
    (r : Fin 80) (y : Fin 512) :
    accV v al p a (ix3 0 r y) = (a (ix3 0 r y) : EReal) * al (ix2 0 y) + ∑ k : Fin 256, rowsOf v r k * p (ix2 k y) := by
  pointwise [accV]
  refine congrArg _ (Finset.sum_congr rfl fun k _ => ?_)
  unfold rowsOf
  by_cases h : r.val < 64
  · simp [h]
  · simp only [h, dite_false, ones_apply]
    by_cases h' : r.val = 64
    · simp [h']
    · simp [h', show ¬ (r.val - 64 = 0) by omega]

theorem final_apply (n0 : Vec Ideal S1x64x512 .f32) (l0 : Vec Ideal S1x1x512 .f32) (n1 : Vec Ideal S1x64x512 .f32) (l1 : Vec Ideal S1x1x512 .f32)
    (y : Fin 512) (d : Fin 128) :
    k0_pay1 (F := Ideal) (k0_pay96 (F := Ideal) n0 l0 n1 l1) (ix2 y d) =
      if h : d.val < 64 then (Ideal.div (n0 (ix3 0 ⟨d.val, h⟩ y)) (l0 (ix3 0 0 y)) : EReal)
      else Ideal.div (n1 (ix3 0 ⟨d.val - 64, by omega⟩ y)) (l1 (ix3 0 0 y)) := by
  pointwise [k0_pay1, k0_pay96]

theorem shiftV_apply (v21 : IVec S1x512 1) (oa ob : BitVec 1) (a b c d : Ideal .f32) (y : Fin 512) :
    shiftV v21 oa ob a b c d (ix2 0 y) =
      Scalar.select (v21 (ix2 0 y)) (Scalar.select oa ((((Real.log 2)⁻¹ : ℝ) : EReal) * (a - b)) ⊥)
        (Scalar.select ob ((((Real.log 2)⁻¹ : ℝ) : EReal) * (c - d)) ⊥) := rfl

theorem first_apply (y : Fin 512) : k0_pay37 (ix2 0 y) = if y.val < 256 then 1#1 else 0#1 := by
  pointwise [k0_pay37]
  exact cmp_slt _ _ (by omega) (by omega)

theorem futA_apply (r : Fin 256) (y : Fin 512) : k0_pay38 (ix2 r y) = if y.val < 256 ∧ y.val < r.val then 1#1 else 0#1 := by
  pointwise [k0_pay38]
  rw [show (256#32) = BitVec.ofNat 32 256 from rfl, cmp_slt _ _ (by omega) (by omega), cmp_sgt _ _ (by omega) (by omega)]
  by_cases h : y.val < 256 <;> by_cases h' : y.val < r.val <;> simp [h, h', IntOp.andi]

theorem futB_apply (r : Fin 256) (y : Fin 512) : k0_pay39 (ix2 r y) = if 256 ≤ y.val ∧ y.val < r.val + 256 then 1#1 else 0#1 := by
  pointwise [k0_pay39]
  rw [show (256#32) = BitVec.ofNat 32 256 from rfl, cmp_sge _ _ (by omega) (by omega)]
  by_cases h : 256 ≤ y.val
  · have e : IntOp.subi (BitVec.ofNat 32 y.val) (BitVec.ofNat 32 256) = BitVec.ofNat 32 (y.val - 256) := by
      unfold IntOp.subi
      apply BitVec.eq_of_toNat_eq
      simp only [BitVec.toNat_sub, BitVec.toNat_ofNat]
      omega
    rw [e, cmp_sgt _ _ (by omega) (by omega)]
    by_cases h' : y.val - 256 < r.val
    · simp [h, h', show y.val < r.val + 256 by omega, IntOp.andi]
    · simp [h, h', show ¬ y.val < r.val + 256 by omega, IntOp.andi]
  · simp [h, IntOp.andi]

end Cert.Tile

end
-- ==== Proof.Trip.lean ====
/-
  The pieces one trip of the loop over key tiles stores, as the tile functions of what it finds.
-/
module

public import proofs.«01_k».proof.Proof.Vec
public import proofs.«01_k».proof.Proof.Gen.KernelIdeal.Frame

@[expose] public section

noncomputable section

open Idealize.ShloMosaic Idealize.ShloMosaic.TcCoe Idealize.SL.Sem

namespace Cert.Tile

open Cert.KernelIdeal Cert.KernelIdeal.Gen

variable {F : FTy → Type} [FloatOps F] [Named F]

/-- One head's running maximum in the buffer of both heads. -/
abbrev headM (h : Fin 2) : Rect S2x1x512 := Rect.unit ![h.val, 0, 0] S1x1x512.size (by
  intro a; have := h.isLt; fin_cases a
  · show h.val + 1 ≤ 2; omega
  · show 0 + 1 ≤ 1; omega
  · show 0 + 512 ≤ 512; omega)

/-- One head's accumulator in the buffer of both heads. -/
abbrev headA (h : Fin 2) : Rect S2x80x512 := Rect.unit ![h.val, 0, 0] S1x80x512.size (by
  intro a; have := h.isLt; fin_cases a
  · show h.val + 1 ≤ 2; omega
  · show 0 + 80 ≤ 80; omega
  · show 0 + 512 ≤ 512; omega)

section Trip

variable (𝒱 : Variants) (c : Dev nD) (bd : Option 𝒱.V) (i : grid0.Coords) (arg2 : Memref sig .tc .smem S128 .i32) (harg2 : arg2.IsWhole) (arg3 : Memref sig .tc .smem S8x64 .f32) (harg3 : arg3.IsWhole) (arg4 : Memref sig .tc .vmem S128x512 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S1x16384x2 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x80x512 .f32) (harg10 : arg10.IsWhole) (arg0 : BitVec 32) (arg1 : BitVec 32) (v3 : Elt F .i32) (k0_hw1 : k0_chk1 i v3) (v21 : IVec S1x512 1) (v35 : BitVec 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin (k0_t1_loop i v3).trips) (f9 : BufTy.Contents (Elt F) arg9.view.ty) (f10 : BufTy.Contents (Elt F) arg10.view.ty)

theorem trip9 : (tripL_k0_t1 (F := F) 𝒱 c bd i arg2 harg2 arg3 harg3 arg4 harg4 arg5 harg5 arg6 harg6 arg7 harg7 arg8 harg8 arg9 harg9 arg10 harg10 arg0 arg1 v3 k0_hw1 k0_pay36 v21 v35 X_arg3 X_arg4 X_arg5 X_arg6 X_arg7 k f9 f10).1 =
    [⟨headM 1, newB (trip_k0_t1.sl.r_4 i arg4 arg5 arg7 v3 k0_hw1 X_arg4 X_arg5 X_arg7 k) (trip_k0_t1.sl.r_11 i arg3 v3 k0_hw1 v21 X_arg3 k) (View.readAt (Elt F) arg9.view (headM 1).toLoadRect f9)⟩,
     ⟨headM 0, newB (trip_k0_t1.sl.r_3 i arg4 arg5 arg7 v3 k0_hw1 X_arg4 X_arg5 X_arg7 k) (trip_k0_t1.sl.r_10 i arg3 v3 k0_hw1 v21 X_arg3 k) (View.readAt (Elt F) arg9.view (headM 0).toLoadRect f9)⟩] := by
  unfold tripL_k0_t1
  unfold trip_k0_t1
  rfl

theorem trip10 : (tripL_k0_t1 (F := F) 𝒱 c bd i arg2 harg2 arg3 harg3 arg4 harg4 arg5 harg5 arg6 harg6 arg7 harg7 arg8 harg8 arg9 harg9 arg10 harg10 arg0 arg1 v3 k0_hw1 k0_pay36 v21 v35 X_arg3 X_arg4 X_arg5 X_arg6 X_arg7 k f9 f10).2 =
    [⟨headA 1, accV (View.readAt (Elt F) arg6.view (Rect.unit (s:=S128x16384) (k0_off10 i v3 k) S64x256.size (k0_hw1.2.2.2.2.2.2.2.2.2.1 k)).toLoadRect X_arg6) (alphaV (trip_k0_t1.sl.r_4 i arg4 arg5 arg7 v3 k0_hw1 X_arg4 X_arg5 X_arg7 k) (trip_k0_t1.sl.r_11 i arg3 v3 k0_hw1 v21 X_arg3 k) (View.readAt (Elt F) arg9.view (headM 1).toLoadRect f9)) (pV (trip_k0_t1.sl.r_4 i arg4 arg5 arg7 v3 k0_hw1 X_arg4 X_arg5 X_arg7 k) (trip_k0_t1.sl.r_11 i arg3 v3 k0_hw1 v21 X_arg3 k) (View.readAt (Elt F) arg9.view (headM 1).toLoadRect f9)) (View.readAt (Elt F) arg10.view (headA 1).toLoadRect f10)⟩,
     ⟨headA 0, accV (View.readAt (Elt F) arg6.view (Rect.unit (s:=S128x16384) (k0_off9 i v3 k) S64x256.size (k0_hw1.2.2.2.2.2.2.2.2.1 k)).toLoadRect X_arg6) (alphaV (trip_k0_t1.sl.r_3 i arg4 arg5 arg7 v3 k0_hw1 X_arg4 X_arg5 X_arg7 k) (trip_k0_t1.sl.r_10 i arg3 v3 k0_hw1 v21 X_arg3 k) (View.readAt (Elt F) arg9.view (headM 0).toLoadRect f9)) (pV (trip_k0_t1.sl.r_3 i arg4 arg5 arg7 v3 k0_hw1 X_arg4 X_arg5 X_arg7 k) (trip_k0_t1.sl.r_10 i arg3 v3 k0_hw1 v21 X_arg3 k) (View.readAt (Elt F) arg9.view (headM 0).toLoadRect f9)) (View.readAt (Elt F) arg10.view (headA 0).toLoadRect f10)⟩] := by
  unfold tripL_k0_t1
  unfold trip_k0_t1
  rfl

end Trip

end Cert.Tile

end
-- ==== Proof.Loads.lean ====
/-
  What the kernel's loads read, by coordinates of the arrays that the blocks hold.
-/
module

public import proofs.«01_k».proof.Proof.Trip
public import Idealize.ShloMosaic.Lib.Pipeline.ValueKit.Tiles
public import Idealize.ShloMosaic.Lib.Pipeline.ReadBack

@[expose] public section

noncomputable section

open Idealize.ShloMosaic Idealize.ShloMosaic.TcCoe Idealize.SL.Sem

namespace Cert.Tile

open Cert.KernelIdeal Cert.KernelIdeal.Gen

variable {F : FTy → Type} [FloatOps F] [Named F]

/-- Row `r` of key tile `J`. -/
abbrev keyRow (J : Fin 64) (r : Fin 256) : Fin 16384 := ⟨256 * J.val + r.val, by omega⟩

/-- Column `d` of one head of the pair. -/
abbrev headCol (h : Fin 2) (d : Fin 64) : Fin 128 := ⟨64 * h.val + d.val, by omega⟩

/-- The key tile of one head. -/
def tileK (X : Vec F S16384x128 .bf16) (J : Fin 64) (h : Fin 2) : Vec F S256x64 .bf16 :=
  fun x => X (ix2 (keyRow J (x 0)) (headCol h (x 1)))

/-- The query tile of one head, transposed. -/
def tileQ (X : Vec F S128x512 .bf16) (h : Fin 2) : Vec F S64x512 .bf16 :=
  fun x => X (ix2 (headCol h (x 0)) (x 1))

/-- The gate sums of a key tile. -/
def tileN (X : Vec F S1x16384x2 .f32) (J : Fin 64) (h : Fin 2) : Vec F S1x256x1 .f32 :=
  fun x => X (ix3 (0 : Fin 1) (keyRow J (x 1)) h)

/-- The value tile of one head, transposed. -/
def tileV (X : Vec F S128x16384 .bf16) (J : Fin 64) (h : Fin 2) : Vec F S64x256 .bf16 :=
  fun x => X (ix2 (headCol h (x 0)) (keyRow J (x 1)))

theorem load_k {arg : Memref sig .tc .vmem S16384x128 .bf16} (harg : arg.IsWhole) (X : Vec F S16384x128 .bf16)
    {off : Fin 2 → ℕ} (inb : ∀ a, off a + S256x64.size a ≤ S16384x128.size a) (J : Fin 64) (h : Fin 2)
    (h0 : off 0 = 256 * J.val) (h1 : off 1 = 64 * h.val) :
    View.readAt (Elt F) arg.view (Rect.unit (s := S16384x128) off S256x64.size inb).toLoadRect (harg.unread X) = tileK X J h := by
  rw [View.readAt_eq_ld, harg.read_unread]
  funext x
  show X _ = X _
  congr 1
  funext a
  apply Fin.ext
  fin_cases a
  · exact (Rect.idx_unit_val _ _ _ _ _).trans (congrArg (· + _) h0)
  · exact (Rect.idx_unit_val _ _ _ _ _).trans (congrArg (· + _) h1)

theorem load_q {arg : Memref sig .tc .vmem S128x512 .bf16} (harg : arg.IsWhole) (X : Vec F S128x512 .bf16)
    {off : Fin 2 → ℕ} (inb : ∀ a, off a + S64x512.size a ≤ S128x512.size a) (h : Fin 2)
    (h0 : off 0 = 64 * h.val) (h1 : off 1 = 0) :
    View.readAt (Elt F) arg.view (Rect.unit (s := S128x512) off S64x512.size inb).toLoadRect (harg.unread X) = tileQ X h := by
  rw [View.readAt_eq_ld, harg.read_unread]
  funext x
  show X _ = X _
  congr 1
  funext a
  apply Fin.ext
  fin_cases a
  · exact (Rect.idx_unit_val _ _ _ _ _).trans (congrArg (· + _) h0)
  · exact (Rect.idx_unit_val _ _ _ _ _).trans ((congrArg (· + _) h1).trans (Nat.zero_add _))

theorem load_n {arg : Memref sig .tc .vmem S1x16384x2 .f32} (harg : arg.IsWhole) (X : Vec F S1x16384x2 .f32)
    {off : Fin 3 → ℕ} (inb : ∀ a, off a + S1x256x1.size a ≤ S1x16384x2.size a) (J : Fin 64) (h : Fin 2)
    (h0 : off 0 = 0) (h1 : off 1 = 256 * J.val) (h2 : off 2 = h.val) :
    View.readAt (Elt F) arg.view (Rect.unit (s := S1x16384x2) off S1x256x1.size inb).toLoadRect (harg.unread X) = tileN X J h := by
  rw [View.readAt_eq_ld, harg.read_unread]
  funext x
  show X _ = X _
  congr 1
  funext a
  apply Fin.ext
  fin_cases a
  · refine (Rect.idx_unit_val _ _ _ _ _).trans ?_
    have h3 : (x 0 : ℕ) < 1 := (x 0).isLt
    show off 0 + (x 0 : ℕ) = 0
    omega
  · exact (Rect.idx_unit_val _ _ _ _ _).trans (congrArg (· + _) h1)
  · refine (Rect.idx_unit_val _ _ _ _ _).trans ?_
    have h3 : (x 2 : ℕ) < 1 := (x 2).isLt
    show off 2 + (x 2 : ℕ) = h.val
    omega

theorem load_v {arg : Memref sig .tc .vmem S128x16384 .bf16} (harg : arg.IsWhole) (X : Vec F S128x16384 .bf16)
    {off : Fin 2 → ℕ} (inb : ∀ a, off a + S64x256.size a ≤ S128x16384.size a) (J : Fin 64) (h : Fin 2)
    (h0 : off 0 = 64 * h.val) (h1 : off 1 = 256 * J.val) :
    View.readAt (Elt F) arg.view (Rect.unit (s := S128x16384) off S64x256.size inb).toLoadRect (harg.unread X) = tileV X J h := by
  rw [View.readAt_eq_ld, harg.read_unread]
  funext x
  show X _ = X _
  congr 1
  funext a
  apply Fin.ext
  fin_cases a
  · exact (Rect.idx_unit_val _ _ _ _ _).trans (congrArg (· + _) h0)
  · exact (Rect.idx_unit_val _ _ _ _ _).trans (congrArg (· + _) h1)

theorem load_c {arg : Memref sig .tc .smem S8x64 .f32} (harg : arg.IsWhole) (X : Vec F S8x64 .f32)
    {off : Fin 2 → ℕ} (inb : ∀ a, off a + S1x1.size a ≤ S8x64.size a) (R : Fin 8) (J : Fin 64) (x : S1x1.Idx)
    (h0 : off 0 = R.val) (h1 : off 1 = J.val) :
    View.readAt (Elt F) arg.view (Rect.unit (s := S8x64) off S1x1.size inb).toLoadRect (harg.unread X) x = X (ix2 R J) := by
  rw [View.readAt_eq_ld, harg.read_unread]
  show X _ = X _
  congr 1
  funext a
  apply Fin.ext
  fin_cases a
  · refine (Rect.idx_unit_val _ _ _ _ _).trans ?_
    have h3 : (x 0 : ℕ) < 1 := (x 0).isLt
    show off 0 + (x 0 : ℕ) = R.val
    omega
  · refine (Rect.idx_unit_val _ _ _ _ _).trans ?_
    have h3 : (x 1 : ℕ) < 1 := (x 1).isLt
    show off 1 + (x 1 : ℕ) = J.val
    omega

/-- One head's running maxima and accumulator. -/
abbrev St (F : FTy → Type) := FVec F S1x1x512 .f32 × FVec F S1x80x512 .f32

/-- What one key tile does to a head's running maxima and accumulator. -/
def step (s : FVec F S256x512 .f32) (sh : FVec F S1x512 .f32) (v : FVec F S64x256 .bf16) (x : St F) : St F :=
  (newB s sh x.1, accV v (alphaV s sh x.1) (pV s sh x.1) x.2)

/-- The stored pieces `L9` and `L10` leave the two heads' states `st`. -/
def Holds (arg9 : Memref sig .tc .vmem S2x1x512 .f32) (arg10 : Memref sig .tc .vmem S2x80x512 .f32)
    (L9 : List (View.Piece (Elt F) S2x1x512 .f32)) (L10 : List (View.Piece (Elt F) S2x80x512 .f32)) (st : Fin 2 → St F) : Prop :=
  ∀ h, arg9.view.readCov L9 (headM h).toLoadRect = (st h).1 ∧ arg10.view.readCov L10 (headA h).toLoadRect = (st h).2

theorem disj_m : LoadRect.disj (headM 1) (headM 0).toLoadRect = true := by decide
theorem disj_m' : LoadRect.disj (headM 0) (headM 1).toLoadRect = true := by decide
theorem disj_a : LoadRect.disj (headA 1) (headA 0).toLoadRect = true := by decide
theorem disj_a' : LoadRect.disj (headA 0) (headA 1).toLoadRect = true := by decide

/-- Storing both heads' pieces leaves what was stored. -/
theorem holds_cons {arg9 : Memref sig .tc .vmem S2x1x512 .f32} {arg10 : Memref sig .tc .vmem S2x80x512 .f32}
    {L9 : List (View.Piece (Elt F) S2x1x512 .f32)} {L10 : List (View.Piece (Elt F) S2x80x512 .f32)} {st : Fin 2 → St F}
    {n0 n1 : FVec F S1x1x512 .f32} {b0 b1 : FVec F S1x80x512 .f32}
    (hn0 : n0 = (st 0).1) (hn1 : n1 = (st 1).1) (hb0 : b0 = (st 0).2) (hb1 : b1 = (st 1).2) :
    Holds arg9 arg10 (⟨headM 1, n1⟩ :: ⟨headM 0, n0⟩ :: L9) (⟨headA 1, b1⟩ :: ⟨headA 0, b0⟩ :: L10) st := by
  intro h
  fin_cases h
  · refine ⟨?_, ?_⟩
    · exact (View.readCov_skip _ _ _ _ _ disj_m).trans ((View.readCov_cons_toLoadRect _ _ _ _).trans hn0)
    · exact (View.readCov_skip _ _ _ _ _ disj_a).trans ((View.readCov_cons_toLoadRect _ _ _ _).trans hb0)
  · refine ⟨?_, ?_⟩
    · exact (View.readCov_cons_toLoadRect _ _ _ _).trans hn1
    · exact (View.readCov_cons_toLoadRect _ _ _ _).trans hb1

/-- The states before the first key tile. -/
def st0 : Fin 2 → St F := fun h =>
  (View.ld (Val := Elt F) (e' := .f32) (k0_pay34 (F := F)) (headM h), View.ld (Val := Elt F) (e' := .f32) (k0_pay35 (F := F)) (headA h))

theorem holds_nil (arg9 : Memref sig .tc .vmem S2x1x512 .f32) (arg10 : Memref sig .tc .vmem S2x80x512 .f32) :
    Holds arg9 arg10 (F := F) kernelRun0_A.sl.HS0_1 kernelRun0_A.sl.HS1_1 st0 := by
  have z : ∀ a, (![0, 0, 0] : Fin 3 → ℕ) a = 0 := by intro a; fin_cases a <;> rfl
  intro h
  exact ⟨View.readCov_fill _ _ _ _ _ z, View.readCov_fill _ _ _ _ _ z⟩

end Cert.Tile

end
-- ==== Proof.Body.lean ====
/-
  One launch as a fold over key tiles: the loop's trips and the three tiles after it each take the two heads' states one
  step on, and the block stored is the quotient of the last states.
-/
module

public import proofs.«01_k».proof.Proof.Loads
public import proofs.«01_k».proof.Proof.Words

@[expose] public section

noncomputable section

open Idealize.ShloMosaic Idealize.ShloMosaic.TcCoe Idealize.SL.Sem

namespace Cert.Tile

open Cert.KernelIdeal Cert.KernelIdeal.Gen

variable {F : FTy → Type} [FloatOps F] [Named F]

/-- A key tile by its number. -/
abbrev tl (n : ℕ) : Fin 64 := Fin.ofNat 64 n

theorem tl_val {n : ℕ} (h : n < 64) : (tl n).val = n := Nat.mod_eq_of_lt h

/-- The row of the gate sums of one head of the pair. -/
abbrev headRow (i : grid0.Coords) (h : Fin 2) : Fin 8 := ⟨2 * (i 0).val + h.val, by
  have h0 : (i 0).val < 4 := (i 0).isLt
  omega⟩

/-- The scores of a key tile before the query block's own two. -/
def scoreT (x1 : Vec F S128x512 .bf16) (x2 : Vec F S16384x128 .bf16) (x4 : Vec F S1x16384x2 .f32) (J : Fin 64) (h : Fin 2) :
    FVec F S256x512 .f32 := k0_pay2 (tileK x2 J h) (tileQ x1 h) (tileN x4 J h)

/-- The shifts of a key tile against the query block's two tiles. -/
def shiftT (i : grid0.Coords) (x0 : Vec F S8x64 .f32) (oa ob : BitVec 1) (J : Fin 64) (h : Fin 2) : FVec F S1x512 .f32 :=
  shiftV k0_pay37 oa ob (x0 (ix2 (headRow i h) (tl (2 * (i 1).val)))) (x0 (ix2 (headRow i h) J))
    (x0 (ix2 (headRow i h) (tl (2 * (i 1).val + 1)))) (x0 (ix2 (headRow i h) J))

/-- The two heads' states before trip `k` of the loop that starts at tile `n`. -/
def stL (i : grid0.Coords) (x0 : Vec F S8x64 .f32) (x1 : Vec F S128x512 .bf16) (x2 : Vec F S16384x128 .bf16) (x3 : Vec F S128x16384 .bf16) (x4 : Vec F S1x16384x2 .f32) (n : ℕ) : ℕ → Fin 2 → St F
  | 0 => st0
  | k + 1 => fun h => step (scoreT x1 x2 x4 (tl (n + k)) h) (shiftT i x0 1#1 1#1 (tl (n + k)) h) (tileV x3 (tl (n + k)) h)
      (stL i x0 x1 x2 x3 x4 n k h)

section Loop

variable (𝒱 : Variants) (c : Dev nD) (bd : Option 𝒱.V) (i : grid0.Coords) (arg2 : Memref sig .tc .smem S128 .i32) (harg2 : arg2.IsWhole) (arg3 : Memref sig .tc .smem S8x64 .f32) (harg3 : arg3.IsWhole) (arg4 : Memref sig .tc .vmem S128x512 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S1x16384x2 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x80x512 .f32) (harg10 : arg10.IsWhole) (arg0 arg1 : BitVec 32) (v3 : Elt F .i32) (k0_hw1 : k0_chk1 i v3) (v35 : BitVec 32) (x0 : Vec F S8x64 .f32) (x1 : Vec F S128x512 .bf16) (x2 : Vec F S16384x128 .bf16) (x3 : Vec F S128x16384 .bf16) (x4 : Vec F S1x16384x2 .f32)

omit [FloatOps F] [Named F] in
theorem loop_tile (v3 : BitVec 32) (hx : 0 ≤ v3.toInt) (k : Fin (k0_t1_loop i v3).trips) :
    (Scf.iv v3 1#32 k.val).toNat = (tl (v3.toNat + k.val)).val ∧ (tl (v3.toNat + k.val)).val < 62 := by
  have h := Words.iv_toNat (show (i 1).val < 32 from (i 1).isLt) v3 hx k.isLt
  have h1 : (i 1).val < 32 := (i 1).isLt
  rw [tl_val (by omega)]
  omega

omit [FloatOps F] [Named F] in
theorem loop_row (v3 : BitVec 32) (hx : 0 ≤ v3.toInt) (k : Fin (k0_t1_loop i v3).trips) :
    (Scalar.muli (Scf.iv v3 1#32 k.val) 256#32).toNat = 256 * (tl (v3.toNat + k.val)).val := by
  have h := loop_tile i v3 hx k
  rw [Words.row_toNat (by omega), h.1]

omit [FloatOps F] [Named F] in
theorem head_row (h : Fin 2) :
    (Scalar.addi (Scalar.muli 2#32 (BitVec.ofNat 32 (i 0).val)) (BitVec.ofNat 32 h.val)).toNat = (headRow i h).val :=
  Words.head_toNat (show (i 0).val < 4 from (i 0).isLt) h.isLt

theorem trip_score0 (hx : 0 ≤ v3.toInt) (k : Fin (k0_t1_loop i v3).trips) :
    trip_k0_t1.sl.r_3 i arg4 arg5 arg7 v3 k0_hw1 (harg4.unread x1) (harg5.unread x2) (harg7.unread x4) k
      = scoreT x1 x2 x4 (tl (v3.toNat + k.val)) 0 := by
  unfold trip_k0_t1.sl.r_3
  rw [load_k harg5 x2 _ (tl (v3.toNat + k.val)) 0 (loop_row i v3 hx k) rfl, load_q harg4 x1 _ 0 rfl rfl,
    load_n harg7 x4 _ (tl (v3.toNat + k.val)) 0 rfl (loop_row i v3 hx k) rfl]
  rfl

theorem trip_score1 (hx : 0 ≤ v3.toInt) (k : Fin (k0_t1_loop i v3).trips) :
    trip_k0_t1.sl.r_4 i arg4 arg5 arg7 v3 k0_hw1 (harg4.unread x1) (harg5.unread x2) (harg7.unread x4) k
      = scoreT x1 x2 x4 (tl (v3.toNat + k.val)) 1 := by
  unfold trip_k0_t1.sl.r_4
  rw [load_k harg5 x2 _ (tl (v3.toNat + k.val)) 1 (loop_row i v3 hx k) rfl, load_q harg4 x1 _ 1 rfl rfl,
    load_n harg7 x4 _ (tl (v3.toNat + k.val)) 1 rfl (loop_row i v3 hx k) rfl]
  rfl

theorem trip_shift0 (hx : 0 ≤ v3.toInt) (k : Fin (k0_t1_loop i v3).trips) :
    trip_k0_t1.sl.r_10 (F := F) i arg3 v3 k0_hw1 k0_pay37 (harg3.unread x0) k = shiftT i x0 1#1 1#1 (tl (v3.toNat + k.val)) 0 := by
  have h1 : (i 1).val < 32 := (i 1).isLt
  have ha : trip_k0_t1.sl.r (F := F) i arg3 (harg3.unread x0) = x0 (ix2 (headRow i 0) (tl (2 * (i 1).val))) :=
    load_c harg3 x0 _ _ _ _ (head_row i 0) ((Words.tail2 h1).1.trans (tl_val (by omega)).symm)
  have hb : trip_k0_t1.sl.r_1 (F := F) i arg3 v3 k0_hw1 (harg3.unread x0) k = x0 (ix2 (headRow i 0) (tl (v3.toNat + k.val))) :=
    load_c harg3 x0 _ _ _ _ (head_row i 0) (loop_tile i v3 hx k).1
  have hc : trip_k0_t1.sl.r_2 (F := F) i arg3 (harg3.unread x0) = x0 (ix2 (headRow i 0) (tl (2 * (i 1).val + 1))) :=
    load_c harg3 x0 _ _ _ _ (head_row i 0) ((Words.tail3 h1).1.trans (tl_val (by omega)).symm)
  unfold trip_k0_t1.sl.r_10 trip_k0_t1.sl.r_5 trip_k0_t1.sl.r_6
  rw [ha, hb, hc]
  rfl

theorem trip_shift1 (hx : 0 ≤ v3.toInt) (k : Fin (k0_t1_loop i v3).trips) :
    trip_k0_t1.sl.r_11 (F := F) i arg3 v3 k0_hw1 k0_pay37 (harg3.unread x0) k = shiftT i x0 1#1 1#1 (tl (v3.toNat + k.val)) 1 := by
  have h1 : (i 1).val < 32 := (i 1).isLt
  have ha : trip_k0_t1.sl.r_7 (F := F) i arg3 (harg3.unread x0) = x0 (ix2 (headRow i 1) (tl (2 * (i 1).val))) :=
    load_c harg3 x0 _ _ _ _ (head_row i 1) ((Words.tail2 h1).1.trans (tl_val (by omega)).symm)
  have hb : trip_k0_t1.sl.r_8 (F := F) i arg3 v3 k0_hw1 (harg3.unread x0) k = x0 (ix2 (headRow i 1) (tl (v3.toNat + k.val))) :=
    load_c harg3 x0 _ _ _ _ (head_row i 1) (loop_tile i v3 hx k).1
  have hc : trip_k0_t1.sl.r_9 (F := F) i arg3 (harg3.unread x0) = x0 (ix2 (headRow i 1) (tl (2 * (i 1).val + 1))) :=
    load_c harg3 x0 _ _ _ _ (head_row i 1) ((Words.tail3 h1).1.trans (tl_val (by omega)).symm)
  unfold trip_k0_t1.sl.r_11
  rw [ha, hb, hc]
  rfl

/-- The pieces of the trips before `k` leave the states before trip `k`. -/
theorem loop_holds (hx : 0 ≤ v3.toInt) : ∀ k : ℕ, k ≤ (k0_t1_loop i v3).trips →
    Holds arg9 arg10 ((pb_k0_t1 (F := F) 𝒱 c bd i arg2 harg2 arg3 harg3 arg4 harg4 arg5 harg5 arg6 harg6 arg7 harg7 arg8 harg8 arg9 harg9 arg10 harg10 arg0 arg1 v3 k0_hw1 k0_pay36 k0_pay37 v35 (harg3.unread x0) (harg4.unread x1) (harg5.unread x2) (harg6.unread x3) (harg7.unread x4) (arg9.view.writes (Elt F) arg9.view.junk kernelRun0_A.sl.HS0_1) (arg10.view.writes (Elt F) arg10.view.junk kernelRun0_A.sl.HS1_1) k).1 ++ kernelRun0_A.sl.HS0_1) ((pb_k0_t1 (F := F) 𝒱 c bd i arg2 harg2 arg3 harg3 arg4 harg4 arg5 harg5 arg6 harg6 arg7 harg7 arg8 harg8 arg9 harg9 arg10 harg10 arg0 arg1 v3 k0_hw1 k0_pay36 k0_pay37 v35 (harg3.unread x0) (harg4.unread x1) (harg5.unread x2) (harg6.unread x3) (harg7.unread x4) (arg9.view.writes (Elt F) arg9.view.junk kernelRun0_A.sl.HS0_1) (arg10.view.writes (Elt F) arg10.view.junk kernelRun0_A.sl.HS1_1) k).2 ++ kernelRun0_A.sl.HS1_1)
      (stL i x0 x1 x2 x3 x4 v3.toNat k)
  | 0, _ => by
    rw [pb_k0_t1.eq_1]
    exact holds_nil arg9 arg10
  | k + 1, hk => by
    have ih := loop_holds hx k (by omega)
    have e := pb_k0_t1_succ (F := F) 𝒱 c bd i arg2 harg2 arg3 harg3 arg4 harg4 arg5 harg5 arg6 harg6 arg7 harg7 arg8 harg8 arg9 harg9 arg10 harg10 arg0 arg1 v3 k0_hw1 k0_pay36 k0_pay37 v35 (harg3.unread x0) (harg4.unread x1) (harg5.unread x2) (harg6.unread x3) (harg7.unread x4) (arg9.view.writes (Elt F) arg9.view.junk kernelRun0_A.sl.HS0_1) (arg10.view.writes (Elt F) arg10.view.junk kernelRun0_A.sl.HS1_1) ⟨k, hk⟩
    rw [trip9, trip10, trip_score0 (hx := hx), trip_score1 (hx := hx), trip_shift0 (hx := hx), trip_shift1 (hx := hx),
      load_v harg6 x3 _ (tl (v3.toNat + k)) 1 rfl (loop_row i v3 hx ⟨k, hk⟩),
      load_v harg6 x3 _ (tl (v3.toNat + k)) 0 rfl (loop_row i v3 hx ⟨k, hk⟩),
      ← View.writes_append, ← View.writes_append] at e
    rw [e]
    have m0 := (ih 0).1
    have m1 := (ih 1).1
    have a0 := (ih 0).2
    have a1 := (ih 1).2
    refine holds_cons ?_ ?_ ?_ ?_
    · exact congrArg (newB _ _) m0
    · exact congrArg (newB _ _) m1
    · exact congrArg₂ (fun m a => accV _ (alphaV _ _ m) (pV _ _ m) a) m0 a0
    · exact congrArg₂ (fun m a => accV _ (alphaV _ _ m) (pV _ _ m) a) m1 a1

end Loop

end Cert.Tile

end
-- ==== Proof.Tail.lean ====
/-
  The three tiles after the loop, and the block a launch stores.
-/
module

public import proofs.«01_k».proof.Proof.Body

@[expose] public section

noncomputable section

open Idealize.ShloMosaic Idealize.ShloMosaic.TcCoe Idealize.SL.Sem

namespace Cert.Tile

open Cert.KernelIdeal Cert.KernelIdeal.Gen

variable {F : FTy → Type} [FloatOps F] [Named F]

/-- The first own tile's scores, the later keys masked. -/
def scoreA (x1 : Vec F S128x512 .bf16) (x2 : Vec F S16384x128 .bf16) (x4 : Vec F S1x16384x2 .f32) (J : Fin 64) (h : Fin 2) :
    FVec F S256x512 .f32 := k0_pay44 k0_pay38 (tileK x2 J h) (tileQ x1 h) (tileN x4 J h)

/-- The second own tile's scores, the later keys masked. -/
def scoreB (x1 : Vec F S128x512 .bf16) (x2 : Vec F S16384x128 .bf16) (x4 : Vec F S1x16384x2 .f32) (J : Fin 64) (h : Fin 2) :
    FVec F S256x512 .f32 := k0_pay46 k0_pay39 (tileK x2 J h) (tileQ x1 h) (tileN x4 J h)

/-- Whether there is a tile before the query block's own two. -/
def before (i : grid0.Coords) : BitVec 1 := Scalar.cmpi .sge (BitVec.ofNat 32 (i 1).val) 1#32

section States

variable (i : grid0.Coords) (x0 : Vec F S8x64 .f32) (x1 : Vec F S128x512 .bf16) (x2 : Vec F S16384x128 .bf16) (x3 : Vec F S128x16384 .bf16) (x4 : Vec F S1x16384x2 .f32) (n t : ℕ)

/-- The states after the tile before the query block's own two. -/
def stA (h : Fin 2) : St F :=
  step (scoreT x1 x2 x4 (tl (2 * (i 1).val - 1)) h) (shiftT i x0 (before i) (before i) (tl (2 * (i 1).val - 1)) h)
    (tileV x3 (tl (2 * (i 1).val - 1)) h) (stL i x0 x1 x2 x3 x4 n t h)

/-- The states after the first own tile. -/
def stB (h : Fin 2) : St F :=
  step (scoreA x1 x2 x4 (tl (2 * (i 1).val)) h) (shiftT i x0 1#1 1#1 (tl (2 * (i 1).val)) h)
    (tileV x3 (tl (2 * (i 1).val)) h) (stA i x0 x1 x2 x3 x4 n t h)

/-- The states after the second own tile. -/
def stC (h : Fin 2) : St F :=
  step (scoreB x1 x2 x4 (tl (2 * (i 1).val + 1)) h) (shiftT i x0 0#1 1#1 (tl (2 * (i 1).val + 1)) h)
    (tileV x3 (tl (2 * (i 1).val + 1)) h) (stB i x0 x1 x2 x3 x4 n t h)

end States

section Tail

variable (c : Dev nD) (i : grid0.Coords) (arg3 : Memref sig .tc .smem S8x64 .f32) (harg3 : arg3.IsWhole) (arg4 : Memref sig .tc .vmem S128x512 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S1x16384x2 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x80x512 .f32) (harg10 : arg10.IsWhole) (x0 : Vec F S8x64 .f32) (x1 : Vec F S128x512 .bf16) (x2 : Vec F S16384x128 .bf16) (x3 : Vec F S128x16384 .bf16) (x4 : Vec F S1x16384x2 .f32) (xt0 : TbBuf0 (F := F) c tbM0_0)
  (k0_hw1 : k0_chk1 i (kernelRun0_A.sl.r c i xt0))

theorem r_1_eq : kernelRun0_A.sl.r_1 i arg4 harg4 arg5 harg5 arg7 harg7 x1 x2 x4 = scoreT x1 x2 x4 (tl (2 * (i 1).val - 1)) 0 := by
  have h1 : (i 1).val < 32 := (i 1).isLt
  have hr : (tl (2 * (i 1).val - 1)).val = 2 * (i 1).val - 1 := tl_val (by omega)
  have hw := (Words.tail1 h1).2.trans (congrArg (256 * ·) hr.symm)
  unfold kernelRun0_A.sl.r_1
  rw [load_k harg5 x2 _ (tl (2 * (i 1).val - 1)) 0 hw rfl, load_q harg4 x1 _ 0 rfl rfl, load_n harg7 x4 _ (tl (2 * (i 1).val - 1)) 0 rfl hw rfl]
  rfl

theorem r_2_eq : kernelRun0_A.sl.r_2 i arg4 harg4 arg5 harg5 arg7 harg7 x1 x2 x4 = scoreT x1 x2 x4 (tl (2 * (i 1).val - 1)) 1 := by
  have h1 : (i 1).val < 32 := (i 1).isLt
  have hr : (tl (2 * (i 1).val - 1)).val = 2 * (i 1).val - 1 := tl_val (by omega)
  have hw := (Words.tail1 h1).2.trans (congrArg (256 * ·) hr.symm)
  unfold kernelRun0_A.sl.r_2
  rw [load_k harg5 x2 _ (tl (2 * (i 1).val - 1)) 1 hw rfl, load_q harg4 x1 _ 1 rfl rfl, load_n harg7 x4 _ (tl (2 * (i 1).val - 1)) 1 rfl hw rfl]
  rfl

theorem r_3_eq : kernelRun0_A.sl.r_3 i arg4 harg4 arg5 harg5 arg7 harg7 x1 x2 x4 = scoreA x1 x2 x4 (tl (2 * (i 1).val)) 0 := by
  have h1 : (i 1).val < 32 := (i 1).isLt
  have hr : (tl (2 * (i 1).val)).val = 2 * (i 1).val := tl_val (by omega)
  have hw := (Words.tail2 h1).2.trans (congrArg (256 * ·) hr.symm)
  unfold kernelRun0_A.sl.r_3
  rw [load_k harg5 x2 _ (tl (2 * (i 1).val)) 0 hw rfl, load_q harg4 x1 _ 0 rfl rfl, load_n harg7 x4 _ (tl (2 * (i 1).val)) 0 rfl hw rfl]
  rfl

theorem r_4_eq : kernelRun0_A.sl.r_4 i arg4 harg4 arg5 harg5 arg7 harg7 x1 x2 x4 = scoreA x1 x2 x4 (tl (2 * (i 1).val)) 1 := by
  have h1 : (i 1).val < 32 := (i 1).isLt
  have hr : (tl (2 * (i 1).val)).val = 2 * (i 1).val := tl_val (by omega)
  have hw := (Words.tail2 h1).2.trans (congrArg (256 * ·) hr.symm)
  unfold kernelRun0_A.sl.r_4
  rw [load_k harg5 x2 _ (tl (2 * (i 1).val)) 1 hw rfl, load_q harg4 x1 _ 1 rfl rfl, load_n harg7 x4 _ (tl (2 * (i 1).val)) 1 rfl hw rfl]
  rfl

theorem r_5_eq : kernelRun0_A.sl.r_5 i arg4 harg4 arg5 harg5 arg7 harg7 x1 x2 x4 = scoreB x1 x2 x4 (tl (2 * (i 1).val + 1)) 0 := by
  have h1 : (i 1).val < 32 := (i 1).isLt
  have hr : (tl (2 * (i 1).val + 1)).val = 2 * (i 1).val + 1 := tl_val (by omega)
  have hw := (Words.tail3 h1).2.trans (congrArg (256 * ·) hr.symm)
  unfold kernelRun0_A.sl.r_5
  rw [load_k harg5 x2 _ (tl (2 * (i 1).val + 1)) 0 hw rfl, load_q harg4 x1 _ 0 rfl rfl, load_n harg7 x4 _ (tl (2 * (i 1).val + 1)) 0 rfl hw rfl]
  rfl

theorem r_10_eq : kernelRun0_A.sl.r_10 i arg4 harg4 arg5 harg5 arg7 harg7 x1 x2 x4 = scoreB x1 x2 x4 (tl (2 * (i 1).val + 1)) 1 := by
  have h1 : (i 1).val < 32 := (i 1).isLt
  have hr : (tl (2 * (i 1).val + 1)).val = 2 * (i 1).val + 1 := tl_val (by omega)
  have hw := (Words.tail3 h1).2.trans (congrArg (256 * ·) hr.symm)
  unfold kernelRun0_A.sl.r_10 kernelRun0_A.sl.r_6
  rw [load_k harg5 x2 _ (tl (2 * (i 1).val + 1)) 1 hw rfl, load_q harg4 x1 _ 1 rfl rfl, load_n harg7 x4 _ (tl (2 * (i 1).val + 1)) 1 rfl hw rfl]
  rfl

theorem r_7_eq : kernelRun0_A.sl.r_7 (F := F) i arg3 harg3 x0 = x0 (ix2 (headRow i 0) (tl (2 * (i 1).val))) := by
  have h1 : (i 1).val < 32 := (i 1).isLt
  exact load_c harg3 x0 _ _ _ _ (head_row i 0) ((Words.tail2 h1).1.trans (tl_val (by omega)).symm)

theorem r_8_eq : kernelRun0_A.sl.r_8 (F := F) i arg3 harg3 x0 = x0 (ix2 (headRow i 0) (tl (2 * (i 1).val - 1))) := by
  have h1 : (i 1).val < 32 := (i 1).isLt
  exact load_c harg3 x0 _ _ _ _ (head_row i 0) ((Words.tail1 h1).1.trans (tl_val (by omega)).symm)

theorem r_9_eq : kernelRun0_A.sl.r_9 (F := F) i arg3 harg3 x0 = x0 (ix2 (headRow i 0) (tl (2 * (i 1).val + 1))) := by
  have h1 : (i 1).val < 32 := (i 1).isLt
  exact load_c harg3 x0 _ _ _ _ (head_row i 0) ((Words.tail3 h1).1.trans (tl_val (by omega)).symm)

theorem r_12_eq : kernelRun0_A.sl.r_12 (F := F) i arg3 harg3 x0 = x0 (ix2 (headRow i 1) (tl (2 * (i 1).val))) := by
  have h1 : (i 1).val < 32 := (i 1).isLt
  exact load_c harg3 x0 _ _ _ _ (head_row i 1) ((Words.tail2 h1).1.trans (tl_val (by omega)).symm)

theorem r_13_eq : kernelRun0_A.sl.r_13 (F := F) i arg3 harg3 x0 = x0 (ix2 (headRow i 1) (tl (2 * (i 1).val - 1))) := by
  have h1 : (i 1).val < 32 := (i 1).isLt
  exact load_c harg3 x0 _ _ _ _ (head_row i 1) ((Words.tail1 h1).1.trans (tl_val (by omega)).symm)

theorem r_14_eq : kernelRun0_A.sl.r_14 (F := F) i arg3 harg3 x0 = x0 (ix2 (headRow i 1) (tl (2 * (i 1).val + 1))) := by
  have h1 : (i 1).val < 32 := (i 1).isLt
  exact load_c harg3 x0 _ _ _ _ (head_row i 1) ((Words.tail3 h1).1.trans (tl_val (by omega)).symm)

theorem r_11_eq : kernelRun0_A.sl.r_11 (F := F) i arg3 harg3 x0 = shiftT i x0 (before i) (before i) (tl (2 * (i 1).val - 1)) 0 := by
  unfold kernelRun0_A.sl.r_11
  rw [r_7_eq, r_8_eq, r_9_eq]
  rfl

theorem r_15_eq : kernelRun0_A.sl.r_15 (F := F) i arg3 harg3 x0 = shiftT i x0 (before i) (before i) (tl (2 * (i 1).val - 1)) 1 := by
  unfold kernelRun0_A.sl.r_15
  rw [r_12_eq, r_13_eq, r_14_eq]
  rfl

theorem r_22_eq : kernelRun0_A.sl.r_22 (F := F) i arg3 harg3 x0 = shiftT i x0 1#1 1#1 (tl (2 * (i 1).val)) 0 := by
  unfold kernelRun0_A.sl.r_22
  rw [r_7_eq, r_9_eq]
  rfl

theorem r_23_eq : kernelRun0_A.sl.r_23 (F := F) i arg3 harg3 x0 = shiftT i x0 1#1 1#1 (tl (2 * (i 1).val)) 1 := by
  unfold kernelRun0_A.sl.r_23
  rw [r_12_eq, r_14_eq]
  rfl

theorem r_31_eq : kernelRun0_A.sl.r_31 (F := F) i arg3 harg3 x0 = shiftT i x0 0#1 1#1 (tl (2 * (i 1).val + 1)) 0 := by
  unfold kernelRun0_A.sl.r_31
  rw [r_7_eq, r_9_eq]
  rfl

/-- The loop of remaining trips has none. -/
theorem rest_nil (𝒱 : Variants) (bd : Option 𝒱.V) (arg2 : Memref sig .tc .smem S128 .i32) (harg2 : arg2.IsWhole) (arg0 arg1 : BitVec 32)
    (v3 : Elt F .i32) (hw : k0_chk1 i v3) (v18 : FVec F S16x256 .bf16) (v21 : IVec S1x512 1) (v35 v40 : BitVec 32) (X3 : BufTy.Contents (Elt F) arg3.view.ty)
    (X4 : BufTy.Contents (Elt F) arg4.view.ty) (X5 : BufTy.Contents (Elt F) arg5.view.ty) (X6 : BufTy.Contents (Elt F) arg6.view.ty)
    (X7 : BufTy.Contents (Elt F) arg7.view.ty) (G9 : BufTy.Contents (Elt F) arg9.view.ty) (G10 : BufTy.Contents (Elt F) arg10.view.ty) :
    pb_k0_t2 (F := F) 𝒱 c bd i arg2 harg2 arg3 harg3 arg4 harg4 arg5 harg5 arg6 harg6 arg7 harg7 arg8 harg8 arg9 harg9 arg10 harg10 arg0 arg1 v3 hw v18 v21 v35 v40 X3 X4 X5 X6 X7 G9 G10
      (Scf.trips (k0_t2_loop i v3).lb (k0_t2_loop i v3).ub (k0_t2_loop i v3).st) = ([], []) := by
  rw [show Scf.trips (k0_t2_loop i v3).lb (k0_t2_loop i v3).ub (k0_t2_loop i v3).st = 0 from Scf.rem_trips _ _]
  rw [pb_k0_t2.eq_1]

variable (hx : 0 ≤ (kernelRun0_A.sl.r c i xt0).toInt)

include hx

theorem v169_eq : kernelRun0_A.sl.v169 c i arg3 harg3 arg4 harg4 arg5 harg5 arg6 harg6 arg7 harg7 arg8 harg8 arg9 harg9 arg10 harg10 x0 x1 x2 x3 x4 xt0 k0_hw1 = (stL i x0 x1 x2 x3 x4 (kernelRun0_A.sl.r c i xt0).toNat (k0_t1_loop i (kernelRun0_A.sl.r c i xt0)).trips 0).1 := by
  unfold kernelRun0_A.sl.v169
  rw [rest_nil]
  exact (loop_holds _ _ _ _ _ _ _ _ _ _ _ _ _ _ _ _ _ _ _ _ _ _ _ _ _ _ _ _ _ _ _ _ hx _ (le_refl _) 0).1

theorem v290_eq : kernelRun0_A.sl.v290 c i arg3 harg3 arg4 harg4 arg5 harg5 arg6 harg6 arg7 harg7 arg8 harg8 arg9 harg9 arg10 harg10 x0 x1 x2 x3 x4 xt0 k0_hw1 = (stL i x0 x1 x2 x3 x4 (kernelRun0_A.sl.r c i xt0).toNat (k0_t1_loop i (kernelRun0_A.sl.r c i xt0)).trips 0).2 := by
  unfold kernelRun0_A.sl.v290
  rw [rest_nil]
  exact (loop_holds _ _ _ _ _ _ _ _ _ _ _ _ _ _ _ _ _ _ _ _ _ _ _ _ _ _ _ _ _ _ _ _ hx _ (le_refl _) 0).2

theorem v185_eq : kernelRun0_A.sl.v185 c i arg3 harg3 arg4 harg4 arg5 harg5 arg6 harg6 arg7 harg7 arg8 harg8 arg9 harg9 arg10 harg10 x0 x1 x2 x3 x4 xt0 k0_hw1 = (stL i x0 x1 x2 x3 x4 (kernelRun0_A.sl.r c i xt0).toNat (k0_t1_loop i (kernelRun0_A.sl.r c i xt0)).trips 1).1 := by
  unfold kernelRun0_A.sl.v185 kernelRun0_A.sl.HS0_1_1
  rw [rest_nil]
  exact (View.readCov_skip _ _ _ _ _ disj_m').trans (loop_holds _ _ _ _ _ _ _ _ _ _ _ _ _ _ _ _ _ _ _ _ _ _ _ _ _ _ _ _ _ _ _ _ hx _ (le_refl _) 1).1

theorem v302_eq : kernelRun0_A.sl.v302 c i arg3 harg3 arg4 harg4 arg5 harg5 arg6 harg6 arg7 harg7 arg8 harg8 arg9 harg9 arg10 harg10 x0 x1 x2 x3 x4 xt0 k0_hw1 = (stL i x0 x1 x2 x3 x4 (kernelRun0_A.sl.r c i xt0).toNat (k0_t1_loop i (kernelRun0_A.sl.r c i xt0)).trips 1).2 := by
  unfold kernelRun0_A.sl.v302 kernelRun0_A.sl.HS1_1_1
  rw [rest_nil]
  exact (View.readCov_skip _ _ _ _ _ disj_a').trans (loop_holds _ _ _ _ _ _ _ _ _ _ _ _ _ _ _ _ _ _ _ _ _ _ _ _ _ _ _ _ _ _ _ _ hx _ (le_refl _) 1).2

/-- The states after this tile. -/
theorem holdsA : Holds arg9 arg10 (kernelRun0_A.sl.HS0_2 c i arg3 harg3 arg4 harg4 arg5 harg5 arg6 harg6 arg7 harg7 arg8 harg8 arg9 harg9 arg10 harg10 x0 x1 x2 x3 x4 xt0 k0_hw1) (kernelRun0_A.sl.HS1_2 c i arg3 harg3 arg4 harg4 arg5 harg5 arg6 harg6 arg7 harg7 arg8 harg8 arg9 harg9 arg10 harg10 x0 x1 x2 x3 x4 xt0 k0_hw1) (stA i x0 x1 x2 x3 x4 (kernelRun0_A.sl.r c i xt0).toNat (k0_t1_loop i (kernelRun0_A.sl.r c i xt0)).trips) := by
  have h1 : (i 1).val < 32 := (i 1).isLt
  have hr : (tl (2 * (i 1).val - 1)).val = 2 * (i 1).val - 1 := tl_val (by omega)
  unfold kernelRun0_A.sl.HS0_2 kernelRun0_A.sl.HS0_1_1 kernelRun0_A.sl.HS1_2 kernelRun0_A.sl.HS1_1_1
  refine holds_cons ?_ ?_ ?_ ?_
  · rw [r_1_eq, r_11_eq, v169_eq (hx := hx)]
    rfl
  · unfold kernelRun0_A.sl.r_18 kernelRun0_A.sl.r_19
    rw [r_2_eq, r_12_eq, r_13_eq, r_14_eq, v185_eq (hx := hx)]
    rfl
  · unfold kernelRun0_A.sl.r_16 kernelRun0_A.sl.r_17
    rw [r_1_eq, r_11_eq, v169_eq (hx := hx), v290_eq (hx := hx), load_v harg6 x3 _ (tl (2 * (i 1).val - 1)) 0 rfl ((Words.tail1 h1).2.trans (congrArg (256 * ·) hr.symm))]
    rfl
  · unfold kernelRun0_A.sl.r_30 kernelRun0_A.sl.r_20 kernelRun0_A.sl.r_21 kernelRun0_A.sl.r_15 kernelRun0_A.sl.r_18 kernelRun0_A.sl.r_19
    rw [r_2_eq, r_12_eq, r_13_eq, r_14_eq, v185_eq (hx := hx), v302_eq (hx := hx), load_v harg6 x3 _ (tl (2 * (i 1).val - 1)) 1 rfl ((Words.tail1 h1).2.trans (congrArg (256 * ·) hr.symm))]
    rfl

theorem v253_eq : kernelRun0_A.sl.v253 c i arg3 harg3 arg4 harg4 arg5 harg5 arg6 harg6 arg7 harg7 arg8 harg8 arg9 harg9 arg10 harg10 x0 x1 x2 x3 x4 xt0 k0_hw1 = (stA i x0 x1 x2 x3 x4 (kernelRun0_A.sl.r c i xt0).toNat (k0_t1_loop i (kernelRun0_A.sl.r c i xt0)).trips 0).1 := (holdsA c i arg3 harg3 arg4 harg4 arg5 harg5 arg6 harg6 arg7 harg7 arg8 harg8 arg9 harg9 arg10 harg10 x0 x1 x2 x3 x4 xt0 k0_hw1 hx  0).1
theorem v269_eq : kernelRun0_A.sl.v269 c i arg3 harg3 arg4 harg4 arg5 harg5 arg6 harg6 arg7 harg7 arg8 harg8 arg9 harg9 arg10 harg10 x0 x1 x2 x3 x4 xt0 k0_hw1 = (stA i x0 x1 x2 x3 x4 (kernelRun0_A.sl.r c i xt0).toNat (k0_t1_loop i (kernelRun0_A.sl.r c i xt0)).trips 1).1 := by
  unfold kernelRun0_A.sl.v269 kernelRun0_A.sl.HS0_3
  exact (View.readCov_skip _ _ _ _ _ disj_m').trans (holdsA c i arg3 harg3 arg4 harg4 arg5 harg5 arg6 harg6 arg7 harg7 arg8 harg8 arg9 harg9 arg10 harg10 x0 x1 x2 x3 x4 xt0 k0_hw1 hx 1).1
theorem v400_eq : kernelRun0_A.sl.v400 c i arg3 harg3 arg4 harg4 arg5 harg5 arg6 harg6 arg7 harg7 arg8 harg8 arg9 harg9 arg10 harg10 x0 x1 x2 x3 x4 xt0 k0_hw1 = (stA i x0 x1 x2 x3 x4 (kernelRun0_A.sl.r c i xt0).toNat (k0_t1_loop i (kernelRun0_A.sl.r c i xt0)).trips 0).2 := (holdsA c i arg3 harg3 arg4 harg4 arg5 harg5 arg6 harg6 arg7 harg7 arg8 harg8 arg9 harg9 arg10 harg10 x0 x1 x2 x3 x4 xt0 k0_hw1 hx 0).2
theorem v412_eq : kernelRun0_A.sl.v412 c i arg3 harg3 arg4 harg4 arg5 harg5 arg6 harg6 arg7 harg7 arg8 harg8 arg9 harg9 arg10 harg10 x0 x1 x2 x3 x4 xt0 k0_hw1 = (stA i x0 x1 x2 x3 x4 (kernelRun0_A.sl.r c i xt0).toNat (k0_t1_loop i (kernelRun0_A.sl.r c i xt0)).trips 1).2 := by
  unfold kernelRun0_A.sl.v412 kernelRun0_A.sl.HS1_3
  exact (View.readCov_skip _ _ _ _ _ disj_a').trans (holdsA c i arg3 harg3 arg4 harg4 arg5 harg5 arg6 harg6 arg7 harg7 arg8 harg8 arg9 harg9 arg10 harg10 x0 x1 x2 x3 x4 xt0 k0_hw1 hx 1).2

/-- The states after this tile. -/
theorem holdsB : Holds arg9 arg10 (kernelRun0_A.sl.HS0_4 c i arg3 harg3 arg4 harg4 arg5 harg5 arg6 harg6 arg7 harg7 arg8 harg8 arg9 harg9 arg10 harg10 x0 x1 x2 x3 x4 xt0 k0_hw1) (kernelRun0_A.sl.HS1_4 c i arg3 harg3 arg4 harg4 arg5 harg5 arg6 harg6 arg7 harg7 arg8 harg8 arg9 harg9 arg10 harg10 x0 x1 x2 x3 x4 xt0 k0_hw1) (stB i x0 x1 x2 x3 x4 (kernelRun0_A.sl.r c i xt0).toNat (k0_t1_loop i (kernelRun0_A.sl.r c i xt0)).trips) := by
  have h1 : (i 1).val < 32 := (i 1).isLt
  have hr : (tl (2 * (i 1).val)).val = 2 * (i 1).val := tl_val (by omega)
  unfold kernelRun0_A.sl.HS0_4 kernelRun0_A.sl.HS0_3 kernelRun0_A.sl.HS1_4 kernelRun0_A.sl.HS1_3
  refine holds_cons ?_ ?_ ?_ ?_
  · rw [r_3_eq, r_22_eq, v253_eq (hx := hx)]
    rfl
  · unfold kernelRun0_A.sl.r_26 kernelRun0_A.sl.r_27
    rw [r_4_eq, r_23_eq, v269_eq (hx := hx)]
    rfl
  · unfold kernelRun0_A.sl.r_24 kernelRun0_A.sl.r_25
    rw [r_3_eq, r_22_eq, v253_eq (hx := hx), v400_eq (hx := hx), load_v harg6 x3 _ (tl (2 * (i 1).val)) 0 rfl ((Words.tail2 h1).2.trans (congrArg (256 * ·) hr.symm))]
    rfl
  · unfold kernelRun0_A.sl.r_28 kernelRun0_A.sl.r_29 kernelRun0_A.sl.r_26 kernelRun0_A.sl.r_27
    rw [r_4_eq, r_23_eq, v269_eq (hx := hx), v412_eq (hx := hx), load_v harg6 x3 _ (tl (2 * (i 1).val)) 1 rfl ((Words.tail2 h1).2.trans (congrArg (256 * ·) hr.symm))]
    rfl

theorem v363_eq : kernelRun0_A.sl.v363 c i arg3 harg3 arg4 harg4 arg5 harg5 arg6 harg6 arg7 harg7 arg8 harg8 arg9 harg9 arg10 harg10 x0 x1 x2 x3 x4 xt0 k0_hw1 = (stB i x0 x1 x2 x3 x4 (kernelRun0_A.sl.r c i xt0).toNat (k0_t1_loop i (kernelRun0_A.sl.r c i xt0)).trips 0).1 := (holdsB c i arg3 harg3 arg4 harg4 arg5 harg5 arg6 harg6 arg7 harg7 arg8 harg8 arg9 harg9 arg10 harg10 x0 x1 x2 x3 x4 xt0 k0_hw1 hx  0).1
theorem v379_eq : kernelRun0_A.sl.v379 c i arg3 harg3 arg4 harg4 arg5 harg5 arg6 harg6 arg7 harg7 arg8 harg8 arg9 harg9 arg10 harg10 x0 x1 x2 x3 x4 xt0 k0_hw1 = (stB i x0 x1 x2 x3 x4 (kernelRun0_A.sl.r c i xt0).toNat (k0_t1_loop i (kernelRun0_A.sl.r c i xt0)).trips 1).1 := by
  unfold kernelRun0_A.sl.v379 kernelRun0_A.sl.HS0_5
  exact (View.readCov_skip _ _ _ _ _ disj_m').trans (holdsB c i arg3 harg3 arg4 harg4 arg5 harg5 arg6 harg6 arg7 harg7 arg8 harg8 arg9 harg9 arg10 harg10 x0 x1 x2 x3 x4 xt0 k0_hw1 hx 1).1
theorem v426_eq : kernelRun0_A.sl.v426 c i arg3 harg3 arg4 harg4 arg5 harg5 arg6 harg6 arg7 harg7 arg8 harg8 arg9 harg9 arg10 harg10 x0 x1 x2 x3 x4 xt0 k0_hw1 = (stB i x0 x1 x2 x3 x4 (kernelRun0_A.sl.r c i xt0).toNat (k0_t1_loop i (kernelRun0_A.sl.r c i xt0)).trips 0).2 := (holdsB c i arg3 harg3 arg4 harg4 arg5 harg5 arg6 harg6 arg7 harg7 arg8 harg8 arg9 harg9 arg10 harg10 x0 x1 x2 x3 x4 xt0 k0_hw1 hx 0).2
theorem v438_eq : kernelRun0_A.sl.v438 c i arg3 harg3 arg4 harg4 arg5 harg5 arg6 harg6 arg7 harg7 arg8 harg8 arg9 harg9 arg10 harg10 x0 x1 x2 x3 x4 xt0 k0_hw1 = (stB i x0 x1 x2 x3 x4 (kernelRun0_A.sl.r c i xt0).toNat (k0_t1_loop i (kernelRun0_A.sl.r c i xt0)).trips 1).2 := by
  unfold kernelRun0_A.sl.v438 kernelRun0_A.sl.HS1_5
  exact (View.readCov_skip _ _ _ _ _ disj_a').trans (holdsB c i arg3 harg3 arg4 harg4 arg5 harg5 arg6 harg6 arg7 harg7 arg8 harg8 arg9 harg9 arg10 harg10 x0 x1 x2 x3 x4 xt0 k0_hw1 hx 1).2

theorem last0 : k0_pay94 (kernelRun0_A.sl.r_33 c i arg3 harg3 arg4 harg4 arg5 harg5 arg6 harg6 arg7 harg7 arg8 harg8 arg9 harg9 arg10 harg10 x0 x1 x2 x3 x4 xt0 k0_hw1) (kernelRun0_A.sl.r_34 c i arg3 harg3 arg4 harg4 arg5 harg5 arg6 harg6 arg7 harg7 arg8 harg8 arg9 harg9 arg10 harg10 x0 x1 x2 x3 x4 xt0 k0_hw1) (kernelRun0_A.sl.r_38 i arg6 harg6 x3) (kernelRun0_A.sl.v426 c i arg3 harg3 arg4 harg4 arg5 harg5 arg6 harg6 arg7 harg7 arg8 harg8 arg9 harg9 arg10 harg10 x0 x1 x2 x3 x4 xt0 k0_hw1) = (stC i x0 x1 x2 x3 x4 (kernelRun0_A.sl.r c i xt0).toNat (k0_t1_loop i (kernelRun0_A.sl.r c i xt0)).trips 0).2 := by
  have h1 : (i 1).val < 32 := (i 1).isLt
  have hr : (tl (2 * (i 1).val + 1)).val = 2 * (i 1).val + 1 := tl_val (by omega)
  unfold kernelRun0_A.sl.r_33 kernelRun0_A.sl.r_34 kernelRun0_A.sl.r_38
  rw [r_5_eq, r_31_eq, v363_eq (hx := hx), v426_eq (hx := hx), load_v harg6 x3 _ (tl (2 * (i 1).val + 1)) 0 rfl ((Words.tail3 h1).2.trans (congrArg (256 * ·) hr.symm))]
  rfl

theorem last1 : k0_pay95 k0_pay36 (kernelRun0_A.sl.r_35 c i arg3 harg3 arg4 harg4 arg5 harg5 arg6 harg6 arg7 harg7 arg8 harg8 arg9 harg9 arg10 harg10 x0 x1 x2 x3 x4 xt0 k0_hw1) (kernelRun0_A.sl.r_37 c i arg3 harg3 arg4 harg4 arg5 harg5 arg6 harg6 arg7 harg7 arg8 harg8 arg9 harg9 arg10 harg10 x0 x1 x2 x3 x4 xt0 k0_hw1)
    (View.readAt (Elt F) arg6.view (Rect.unit (s := S128x16384) (k0_off40 i) S64x256.size (k0_off40_inb i)).toLoadRect (harg6.unread x3)) (kernelRun0_A.sl.v438 c i arg3 harg3 arg4 harg4 arg5 harg5 arg6 harg6 arg7 harg7 arg8 harg8 arg9 harg9 arg10 harg10 x0 x1 x2 x3 x4 xt0 k0_hw1) = (stC i x0 x1 x2 x3 x4 (kernelRun0_A.sl.r c i xt0).toNat (k0_t1_loop i (kernelRun0_A.sl.r c i xt0)).trips 1).2 := by
  have h1 : (i 1).val < 32 := (i 1).isLt
  have hr : (tl (2 * (i 1).val + 1)).val = 2 * (i 1).val + 1 := tl_val (by omega)
  unfold kernelRun0_A.sl.r_35 kernelRun0_A.sl.r_37 kernelRun0_A.sl.r_36 kernelRun0_A.sl.r_32
  rw [r_10_eq, r_12_eq, r_14_eq, v379_eq (hx := hx), v438_eq (hx := hx), load_v harg6 x3 _ (tl (2 * (i 1).val + 1)) 1 rfl ((Words.tail3 h1).2.trans (congrArg (256 * ·) hr.symm))]
  rfl

end Tail

end Cert.Tile

end
-- ==== Proof.Block.lean ====
/-
  The block a launch stores: the quotients of the last states' rows.
-/
module

public import proofs.«01_k».proof.Proof.Tail

@[expose] public section

noncomputable section

open Idealize.ShloMosaic Idealize.ShloMosaic.TcCoe Idealize.SL.Sem

namespace Cert.Tile

open Cert.KernelIdeal Cert.KernelIdeal.Gen

variable {F : FTy → Type} [FloatOps F] [Named F]

/-- The accumulator's rows of weighted values. -/
def numer (a : FVec F S1x80x512 .f32) : Vec F S1x64x512 .f32 :=
  fun x => a (ix3 (0 : Fin 1) (⟨(x 1).val, Nat.lt_trans (show (x 1).val < 64 from (x 1).isLt) (by omega)⟩ : Fin 80) (x 2))

/-- The accumulator's row of weights. -/
def denom (a : FVec F S1x80x512 .f32) : Vec F S1x1x512 .f32 :=
  fun x => a (ix3 (0 : Fin 1) (64 : Fin 80) (x 2))

theorem read_sub (arg : Memref sig .tc .vmem S2x80x512 .f32) (h : Fin 2) (w : S1x80x512.Idx → Elt F .f32)
    (L : List (View.Piece (Elt F) S2x80x512 .f32)) (B : LoadRect S2x80x512) (f : B.shape.Idx → S1x80x512.Idx)
    (hf : ∀ j, B.idx j = (headA h).emb (f j)) :
    arg.view.readCov (⟨headA h, w⟩ :: L) B = fun j => w (f j) := by
  rw [View.readCov_eq_canon']
  funext j
  rw [hf j]
  exact View.canon_cons_emb (headA h) w L (f j)

theorem read_numer (arg : Memref sig .tc .vmem S2x80x512 .f32) (h : Fin 2) (w : FVec F S1x80x512 .f32)
    (L : List (View.Piece (Elt F) S2x80x512 .f32)) {off : Fin 3 → ℕ} (inb : ∀ a, off a + S1x64x512.size a ≤ S2x80x512.size a)
    (h0 : off 0 = h.val) (h1 : off 1 = 0) (h2 : off 2 = 0) :
    arg.view.readCov (⟨headA h, w⟩ :: L) (Rect.unit (s := S2x80x512) off S1x64x512.size inb).toLoadRect = numer w := by
  refine read_sub arg h w L (Rect.unit (s := S2x80x512) off S1x64x512.size inb).toLoadRect (fun x : S1x64x512.Idx => ix3 (0 : Fin 1) (⟨(x 1).val, Nat.lt_trans (show (x 1).val < 64 from (x 1).isLt) (by omega)⟩ : Fin 80) (x 2)) ?_
  intro x
  funext a
  apply Fin.ext
  have h3 : (x 0 : ℕ) < 1 := (x 0).isLt
  fin_cases a
  · show off 0 + 1 * (x 0 : ℕ) = h.val + 1 * 0
    omega
  · show off 1 + 1 * (x 1 : ℕ) = 0 + 1 * (x 1 : ℕ)
    omega
  · show off 2 + 1 * (x 2 : ℕ) = 0 + 1 * (x 2 : ℕ)
    omega

theorem read_denom (arg : Memref sig .tc .vmem S2x80x512 .f32) (h : Fin 2) (w : FVec F S1x80x512 .f32)
    (L : List (View.Piece (Elt F) S2x80x512 .f32)) {off : Fin 3 → ℕ} (inb : ∀ a, off a + S1x1x512.size a ≤ S2x80x512.size a)
    (h0 : off 0 = h.val) (h1 : off 1 = 64) (h2 : off 2 = 0) :
    arg.view.readCov (⟨headA h, w⟩ :: L) (Rect.unit (s := S2x80x512) off S1x1x512.size inb).toLoadRect = denom w := by
  refine read_sub arg h w L (Rect.unit (s := S2x80x512) off S1x1x512.size inb).toLoadRect (fun x : S1x1x512.Idx => ix3 (0 : Fin 1) (64 : Fin 80) (x 2)) ?_
  intro x
  funext a
  apply Fin.ext
  have h3 : (x 0 : ℕ) < 1 := (x 0).isLt
  have h4 : (x 1 : ℕ) < 1 := (x 1).isLt
  fin_cases a
  · show off 0 + 1 * (x 0 : ℕ) = h.val + 1 * 0
    omega
  · show off 1 + 1 * (x 1 : ℕ) = 0 + 1 * 64
    omega
  · show off 2 + 1 * (x 2 : ℕ) = 0 + 1 * (x 2 : ℕ)
    omega

theorem disj_n : LoadRect.disj (headA 1) (Rect.unit (s := S2x80x512) ![0, 0, 0] S1x64x512.size inb_S2x80x512_S1x64x512_0_0_0).toLoadRect = true := by decide
theorem disj_d : LoadRect.disj (headA 1) (Rect.unit (s := S2x80x512) ![0, 64, 0] S1x1x512.size inb_S2x80x512_S1x1x512_0_64_0).toLoadRect = true := by decide

/-- The block stored, from the last states. -/
def blockOf (st : Fin 2 → St F) : Vec F S512x128 .bf16 :=
  k0_pay1 (k0_pay96 (numer (st 0).2) (denom (st 0).2) (numer (st 1).2) (denom (st 1).2))

theorem out_eq (c : Dev nD) (i : grid0.Coords) (arg3 : Memref sig .tc .smem S8x64 .f32) (harg3 : arg3.IsWhole) (arg4 : Memref sig .tc .vmem S128x512 .bf16) (harg4 : arg4.IsWhole) (arg5 : Memref sig .tc .vmem S16384x128 .bf16) (harg5 : arg5.IsWhole) (arg6 : Memref sig .tc .vmem S128x16384 .bf16) (harg6 : arg6.IsWhole) (arg7 : Memref sig .tc .vmem S1x16384x2 .f32) (harg7 : arg7.IsWhole) (arg8 : Memref sig .tc .vmem S512x128 .bf16) (harg8 : arg8.IsWhole) (arg9 : Memref sig .tc .vmem S2x1x512 .f32) (harg9 : arg9.IsWhole) (arg10 : Memref sig .tc .vmem S2x80x512 .f32) (harg10 : arg10.IsWhole) (x0 : Vec F S8x64 .f32) (x1 : Vec F S128x512 .bf16) (x2 : Vec F S16384x128 .bf16) (x3 : Vec F S128x16384 .bf16) (x4 : Vec F S1x16384x2 .f32) (xt0 : TbBuf0 (F := F) c tbM0_0)
    (k0_hw1 : k0_chk1 i (kernelRun0_A.sl.r c i xt0)) (hx : 0 ≤ (kernelRun0_A.sl.r c i xt0).toInt) :
    out0_A_5 c i arg3 harg3 arg4 harg4 arg5 harg5 arg6 harg6 arg7 harg7 arg8 harg8 arg9 harg9 arg10 harg10 x0 x1 x2 x3 x4 xt0 k0_hw1 = blockOf (stC i x0 x1 x2 x3 x4 (kernelRun0_A.sl.r c i xt0).toNat (k0_t1_loop i (kernelRun0_A.sl.r c i xt0)).trips) := by
  have hz : (![0, 0] : Fin 2 → ℕ) = fun _ => 0 := by funext a; fin_cases a <;> rfl
  have l0 := last0 c i arg3 harg3 arg4 harg4 arg5 harg5 arg6 harg6 arg7 harg7 arg8 harg8 arg9 harg9 arg10 harg10 x0 x1 x2 x3 x4 xt0 k0_hw1 hx
  have l1 := last1 c i arg3 harg3 arg4 harg4 arg5 harg5 arg6 harg6 arg7 harg7 arg8 harg8 arg9 harg9 arg10 harg10 x0 x1 x2 x3 x4 xt0 k0_hw1 hx
  have e0 : kernelRun0_A.sl.v447 c i arg3 harg3 arg4 harg4 arg5 harg5 arg6 harg6 arg7 harg7 arg8 harg8 arg9 harg9 arg10 harg10 x0 x1 x2 x3 x4 xt0 k0_hw1 = numer (stC i x0 x1 x2 x3 x4 (kernelRun0_A.sl.r c i xt0).toNat (k0_t1_loop i (kernelRun0_A.sl.r c i xt0)).trips 0).2 := by
    unfold kernelRun0_A.sl.v447 kernelRun0_A.sl.HS1_6 kernelRun0_A.sl.HS1_5
    rw [← l0]
    exact (View.readCov_skip _ _ _ _ _ disj_n).trans (read_numer arg10 0 _ _ _ rfl rfl rfl)
  have e1 : kernelRun0_A.sl.v449 c i arg3 harg3 arg4 harg4 arg5 harg5 arg6 harg6 arg7 harg7 arg8 harg8 arg9 harg9 arg10 harg10 x0 x1 x2 x3 x4 xt0 k0_hw1 = denom (stC i x0 x1 x2 x3 x4 (kernelRun0_A.sl.r c i xt0).toNat (k0_t1_loop i (kernelRun0_A.sl.r c i xt0)).trips 0).2 := by
    unfold kernelRun0_A.sl.v449 kernelRun0_A.sl.HS1_6 kernelRun0_A.sl.HS1_5
    rw [← l0]
    exact (View.readCov_skip _ _ _ _ _ disj_d).trans (read_denom arg10 0 _ _ _ rfl rfl rfl)
  have e2 : kernelRun0_A.sl.v453 c i arg3 harg3 arg4 harg4 arg5 harg5 arg6 harg6 arg7 harg7 arg8 harg8 arg9 harg9 arg10 harg10 x0 x1 x2 x3 x4 xt0 k0_hw1 = numer (stC i x0 x1 x2 x3 x4 (kernelRun0_A.sl.r c i xt0).toNat (k0_t1_loop i (kernelRun0_A.sl.r c i xt0)).trips 1).2 := by
    unfold kernelRun0_A.sl.v453 kernelRun0_A.sl.HS1_6
    rw [← l1]
    exact read_numer arg10 1 _ _ _ rfl rfl rfl
  have e3 : kernelRun0_A.sl.v455 c i arg3 harg3 arg4 harg4 arg5 harg5 arg6 harg6 arg7 harg7 arg8 harg8 arg9 harg9 arg10 harg10 x0 x1 x2 x3 x4 xt0 k0_hw1 = denom (stC i x0 x1 x2 x3 x4 (kernelRun0_A.sl.r c i xt0).toNat (k0_t1_loop i (kernelRun0_A.sl.r c i xt0)).trips 1).2 := by
    unfold kernelRun0_A.sl.v455 kernelRun0_A.sl.HS1_6
    rw [← l1]
    exact read_denom arg10 1 _ _ _ rfl rfl rfl
  unfold out0_A_5
  rw [View.read_writes_eq_canon _ _ _ (cover0_A_5 c i arg3 harg3 arg4 harg4 arg5 harg5 arg6 harg6 arg7 harg7 arg8 harg8 arg9 harg9 arg10 harg10 x0 x1 x2 x3 x4 xt0 k0_hw1)]
  unfold kernelRun0_A
  dsimp only
  rw [View.canon_unit_zero hz]
  unfold kernelRun0_A.sl.r_39
  rw [e0, e1, e2, e3]
  rfl

end Cert.Tile

end
-- ==== Proof.Column.lean ====
/-
  One query's column: a tile multiplies the accumulated sums by a power of two and adds the tile's own, each weight over
  the same power of two. The power is never required to be that of the largest score, only to be a real number.
-/
module

public import proofs.«01_k».proof.Proof.Block
public import Mathlib.Data.EReal.Operations
public import Mathlib.Analysis.SpecialFunctions.Pow.Real

@[expose] public section

noncomputable section

open Idealize.ShloMosaic Idealize.ShloMosaic.TcCoe Idealize.SL.Sem

namespace Cert.Tile

open Cert.KernelIdeal Cert.KernelIdeal.Gen

/-- A sum of terms under a nonnegative real factor. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction with
  | empty => simp
  | insert a s ha ih =>
    rw [Finset.sum_insert ha, Finset.sum_insert ha, ← ih]
    exact EReal.left_distrib_of_nonneg_of_ne_top (EReal.coe_nonneg.mpr hc) (EReal.coe_ne_top c) _ _

/-- A maximum of values below plus infinity is below plus infinity. -/
theorem fold_max_ne_top {ι : Type} (s : Finset ι) (f : ι → EReal) (h : ∀ k, f k ≠ ⊤) : s.fold max (⊥ : EReal) f ≠ ⊤ := by
  classical
  induction s using Finset.induction with
  | empty => simp
  | insert a s ha ih =>
    rw [Finset.fold_insert ha]
    rcases max_choice (f a) (s.fold max (⊥ : EReal) f) with e | e <;> rw [e]
    · exact h a
    · exact ih

theorem add_ne_top' {a b : EReal} (ha : a ≠ ⊤) (hb : b ≠ ⊤) : a + b ≠ ⊤ := EReal.add_ne_top ha hb

/-- The larger of a real number and a value below plus infinity is a real number. -/
theorem max_real (m : ℝ) {x : EReal} (hx : x ≠ ⊤) : ∃ m' : ℝ, max (m : EReal) x = m' := by
  induction x with
  | bot => exact ⟨m, by simp⟩
  | coe r => exact ⟨max m r, (EReal.coe_strictMono.monotone.map_max).symm⟩
  | top => exact absurd rfl hx

theorem two_mul_two (a b : ℝ) : Real.rpow 2 a * Real.rpow 2 b = Real.rpow 2 (a + b) :=
  (Real.rpow_add (by norm_num) a b).symm

theorem two_nonneg (a : ℝ) : 0 ≤ Real.rpow 2 a := Real.rpow_nonneg (by norm_num) a

/-- A weight over a power of two. -/
theorem exp2_split {s sh : EReal} (hs : s ≠ ⊤) (hsh : sh ≠ ⊤) (m : ℝ) :
    Ideal.exp2 (s - ((m : EReal) - sh)) = ((Real.rpow 2 (-m) : ℝ) : EReal) * Ideal.exp2 (s + sh) := by
  induction sh with
  | top => exact absurd rfl hsh
  | bot =>
    have e1 : (m : EReal) - ⊥ = ⊤ := by rfl
    rw [e1, EReal.sub_top, EReal.add_bot, Ideal.exp2_bot, mul_zero]
  | coe h =>
    induction s with
    | top => exact absurd rfl hs
    | bot =>
      have e1 : (⊥ : EReal) - ((m : EReal) - (h : EReal)) = ⊥ := by rw [← EReal.coe_sub]; rfl
      rw [e1, EReal.bot_add, Ideal.exp2_bot, mul_zero]
    | coe r =>
      rw [← EReal.coe_sub, ← EReal.coe_sub, ← EReal.coe_add, Ideal.exp2_coe, Ideal.exp2_coe, ← EReal.coe_mul]
      rw [two_mul_two]
      congr 2
      ring

theorem exp2_real_sub (m m' : ℝ) : Ideal.exp2 ((m : EReal) - (m' : EReal)) = ((Real.rpow 2 (m - m') : ℝ) : EReal) := by
  rw [← EReal.coe_sub]; rfl

/-- A column's state: its maximum is a real number `m`, and its sums are those of `acc` over `2 ^ m`. -/
def Column (st : St Ideal) (y : Fin 512) (acc : Fin 80 → EReal) : Prop :=
  ∃ m : ℝ, st.1 (ix3 0 0 y) = (m : EReal) ∧ ∀ r, st.2 (ix3 0 r y) = ((Real.rpow 2 (-m) : ℝ) : EReal) * acc r

/-- A key's weight for a column. -/
def weight (s : FVec Ideal S256x512 .f32) (sh : FVec Ideal S1x512 .f32) (k : Fin 256) (y : Fin 512) : EReal :=
  Ideal.exp2 ((s (ix2 k y) : EReal) + sh (ix2 0 y))

theorem column_step {s : FVec Ideal S256x512 .f32} {sh : FVec Ideal S1x512 .f32} {v : FVec Ideal S64x256 .bf16} {st : St Ideal} {y : Fin 512}
    {acc : Fin 80 → EReal} (hs : ∀ k, (s (ix2 k y) : EReal) ≠ ⊤) (hsh : (sh (ix2 0 y) : EReal) ≠ ⊤) (h : Column st y acc) :
    Column (step s sh v st) y (fun r => acc r + ∑ k : Fin 256, rowsOf v r k * weight s sh k y) := by
  obtain ⟨m, hm, ha⟩ := h
  obtain ⟨m', hm'⟩ : ∃ m' : ℝ, newM s sh st.1 (ix2 0 y) = (m' : EReal) := by
    rw [newM_apply, hm]
    exact max_real m (add_ne_top' (fold_max_ne_top _ _ hs) hsh)
  refine ⟨m', (newB_apply _ _ _ _).trans hm', fun r => ?_⟩
  show accV v (alphaV s sh st.1) (pV s sh st.1) st.2 (ix3 0 r y) = _
  rw [accV_apply, alphaV_apply, hm, hm', ha, exp2_real_sub]
  have e1 : ((Real.rpow 2 (-m) : ℝ) : EReal) * acc r * ((Real.rpow 2 (m - m') : ℝ) : EReal) = ((Real.rpow 2 (-m') : ℝ) : EReal) * acc r := by
    rw [mul_right_comm, mul_comm ((Real.rpow 2 (-m) : ℝ) : EReal), ← EReal.coe_mul]
    rw [two_mul_two, show m - m' + -m = -m' by ring]
  have e2 : ∀ k : Fin 256, rowsOf v r k * pV s sh st.1 (ix2 k y) = ((Real.rpow 2 (-m') : ℝ) : EReal) * (rowsOf v r k * weight s sh k y) := by
    intro k
    rw [pV_apply, hm', exp2_split (hs k) hsh m']
    exact mul_left_comm _ _ _
  rw [e1, Finset.sum_congr rfl fun k _ => e2 k, ← coe_mul_sum _ _ (two_nonneg _)]
  exact (EReal.left_distrib_of_nonneg_of_ne_top (EReal.coe_nonneg.mpr (two_nonneg _)) (EReal.coe_ne_top _) _ _).symm

theorem pay34_apply (x : S2x1x512.Idx) : k0_pay34 (F := Ideal) x = ((-633825300114114700748351602688 : ℝ) : EReal) := by
  show Ideal.ofBits .f32 0xF1000000#32 = _
  simp [Ideal.ofBits, Ideal.ieee, -EReal.coe_mul]
  norm_num

theorem pay35_apply (x : S2x80x512.Idx) : k0_pay35 (F := Ideal) x = (0 : EReal) := by
  show Ideal.ofBits .f32 0x00000000#32 = _
  simp [Ideal.ofBits, Ideal.ieee]

/-- Before the first tile all sums are zero. -/
theorem column_start (h : Fin 2) (y : Fin 512) : Column (st0 (F := Ideal) h) y (fun _ => 0) := by
  refine ⟨-633825300114114700748351602688, ?_, fun r => ?_⟩
  · exact pay34_apply ((headM h).idx (ix3 0 0 y))
  · rw [mul_zero]
    exact pay35_apply ((headA h).idx (ix3 0 r y))

end Cert.Tile

end
-- ==== Proof.Weights.lean ====
/-
  The weights of the tiles' keys: powers of two of a real number, or zero where the key is masked; and a query's sums over
  all keys.
-/
module

public import proofs.«01_k».proof.Proof.Column

@[expose] public section

noncomputable section

open Idealize.ShloMosaic Idealize.ShloMosaic.TcCoe Idealize.SL.Sem

namespace Cert.Tile

open Cert.KernelIdeal Cert.KernelIdeal.Gen

/-- The tile a query of block `g` lies in. -/
abbrev ownTile (g : ℕ) (y : Fin 512) : Fin 64 := tl (if y.val < 256 then 2 * g else 2 * g + 1)

/-- An unmasked key's weight: two to the score plus the shift. -/
def pow2 (S : Fin 64 → Fin 256 → Fin 512 → ℝ) (cp : Fin 64 → ℝ) (g : ℕ) (J : Fin 64) (k : Fin 256) (y : Fin 512) : ℝ :=
  Real.rpow 2 (S J k y + (Real.log 2)⁻¹ * (cp (ownTile g y) - cp J))

theorem scoreA_apply (x1 : Vec Ideal S128x512 .bf16) (x2 : Vec Ideal S16384x128 .bf16) (x4 : Vec Ideal S1x16384x2 .f32) (J : Fin 64) (h : Fin 2)
    (k : Fin 256) (y : Fin 512) :
    scoreA x1 x2 x4 J h (ix2 k y) = if y.val < 256 ∧ y.val < k.val then (⊥ : EReal) else scoreT x1 x2 x4 J h (ix2 k y) := by
  show Scalar.select (k0_pay38 (ix2 k y)) (⊥ : EReal) (scoreT x1 x2 x4 J h (ix2 k y)) = _
  rw [futA_apply]
  split <;> rfl

theorem scoreB_apply (x1 : Vec Ideal S128x512 .bf16) (x2 : Vec Ideal S16384x128 .bf16) (x4 : Vec Ideal S1x16384x2 .f32) (J : Fin 64) (h : Fin 2)
    (k : Fin 256) (y : Fin 512) :
    scoreB x1 x2 x4 J h (ix2 k y) = if 256 ≤ y.val ∧ y.val < k.val + 256 then (⊥ : EReal) else scoreT x1 x2 x4 J h (ix2 k y) := by
  show Scalar.select (k0_pay39 (ix2 k y)) (⊥ : EReal) (scoreT x1 x2 x4 J h (ix2 k y)) = _
  rw [futB_apply]
  split <;> rfl

section Block

variable {i : grid0.Coords} {x0 : Vec Ideal S8x64 .f32} {x1 : Vec Ideal S128x512 .bf16} {x2 : Vec Ideal S16384x128 .bf16}
  {x3 : Vec Ideal S128x16384 .bf16} {x4 : Vec Ideal S1x16384x2 .f32} {h : Fin 2} {S : Fin 64 → Fin 256 → Fin 512 → ℝ} {cp : Fin 64 → ℝ}
  (hS : ∀ J k y, scoreT x1 x2 x4 J h (ix2 k y) = ((S J k y : ℝ) : EReal)) (hc : ∀ J, x0 (ix2 (headRow i h) J) = ((cp J : ℝ) : EReal))

include hc in
theorem shift_on (J : Fin 64) (y : Fin 512) :
    shiftT i x0 1#1 1#1 J h (ix2 0 y) = (((Real.log 2)⁻¹ * (cp (ownTile (i 1).val y) - cp J) : ℝ) : EReal) := by
  show Scalar.select (k0_pay37 (ix2 0 y)) ((((Real.log 2)⁻¹ : ℝ) : EReal) * (x0 (ix2 (headRow i h) (tl (2 * (i 1).val))) - x0 (ix2 (headRow i h) J)))
    ((((Real.log 2)⁻¹ : ℝ) : EReal) * (x0 (ix2 (headRow i h) (tl (2 * (i 1).val + 1))) - x0 (ix2 (headRow i h) J))) = _
  rw [first_apply, hc, hc, hc, ← EReal.coe_sub, ← EReal.coe_mul, ← EReal.coe_sub, ← EReal.coe_mul]
  unfold ownTile
  by_cases hy : y.val < 256
  · rw [if_pos hy, if_pos hy]; rfl
  · rw [if_neg hy, if_neg hy]; rfl

theorem shift_off (J : Fin 64) (y : Fin 512) : shiftT i x0 0#1 0#1 J h (ix2 0 y) = (⊥ : EReal) := by
  show Scalar.select (k0_pay37 (ix2 0 y)) (⊥ : EReal) (⊥ : EReal) = _
  unfold Scalar.select
  split <;> rfl

include hc in
theorem shift_second (J : Fin 64) (y : Fin 512) :
    shiftT i x0 0#1 1#1 J h (ix2 0 y)
      = if y.val < 256 then (⊥ : EReal) else (((Real.log 2)⁻¹ * (cp (ownTile (i 1).val y) - cp J) : ℝ) : EReal) := by
  show Scalar.select (k0_pay37 (ix2 0 y)) (⊥ : EReal)
    ((((Real.log 2)⁻¹ : ℝ) : EReal) * (x0 (ix2 (headRow i h) (tl (2 * (i 1).val + 1))) - x0 (ix2 (headRow i h) J))) = _
  rw [first_apply, hc, hc, ← EReal.coe_sub, ← EReal.coe_mul]
  unfold ownTile
  by_cases hy : y.val < 256
  · rw [if_pos hy, if_pos hy]; rfl
  · rw [if_neg hy, if_neg hy, if_neg hy]; rfl

include hS hc in
theorem weight_on (J : Fin 64) (k : Fin 256) (y : Fin 512) :
    weight (scoreT x1 x2 x4 J h) (shiftT i x0 1#1 1#1 J h) k y = ((pow2 S cp (i 1).val J k y : ℝ) : EReal) := by
  unfold weight
  rw [hS, shift_on hc, ← EReal.coe_add]
  rfl

theorem weight_off (J : Fin 64) (k : Fin 256) (y : Fin 512) :
    weight (scoreT x1 x2 x4 J h) (shiftT i x0 0#1 0#1 J h) k y = 0 := by
  unfold weight
  rw [shift_off, EReal.add_bot]
  rfl

include hS hc in
theorem weight_first (J : Fin 64) (k : Fin 256) (y : Fin 512) :
    weight (scoreA x1 x2 x4 J h) (shiftT i x0 1#1 1#1 J h) k y
      = (((if y.val < 256 ∧ y.val < k.val then 0 else pow2 S cp (i 1).val J k y) : ℝ) : EReal) := by
  unfold weight
  rw [scoreA_apply]
  split
  · rw [EReal.bot_add]; rfl
  · exact weight_on hS hc J k y

include hS hc in
theorem weight_second (J : Fin 64) (k : Fin 256) (y : Fin 512) :
    weight (scoreB x1 x2 x4 J h) (shiftT i x0 0#1 1#1 J h) k y
      = (((if y.val < k.val + 256 then 0 else pow2 S cp (i 1).val J k y) : ℝ) : EReal) := by
  unfold weight
  rw [scoreB_apply, shift_second hc]
  by_cases hy : y.val < 256
  · rw [if_pos hy, if_pos (show y.val < k.val + 256 by omega), EReal.add_bot]; rfl
  · rw [if_neg hy]
    by_cases hk : y.val < k.val + 256
    · rw [if_pos ⟨by omega, hk⟩, if_pos hk, EReal.bot_add]; rfl
    · rw [if_neg (fun e => hk e.2), if_neg hk, hS, ← EReal.coe_add]; rfl

include hS in
theorem scoreT_ne_top (J : Fin 64) (k : Fin 256) (y : Fin 512) : (scoreT x1 x2 x4 J h (ix2 k y) : EReal) ≠ ⊤ := by
  rw [hS]; exact EReal.coe_ne_top _

include hS in
theorem scoreA_ne_top (J : Fin 64) (k : Fin 256) (y : Fin 512) : (scoreA x1 x2 x4 J h (ix2 k y) : EReal) ≠ ⊤ := by
  rw [scoreA_apply]
  split
  · exact bot_ne_top
  · exact scoreT_ne_top hS J k y

include hS in
theorem scoreB_ne_top (J : Fin 64) (k : Fin 256) (y : Fin 512) : (scoreB x1 x2 x4 J h (ix2 k y) : EReal) ≠ ⊤ := by
  rw [scoreB_apply]
  split
  · exact bot_ne_top
  · exact scoreT_ne_top hS J k y

include hc in
theorem shift_on_ne_top (J : Fin 64) (y : Fin 512) : (shiftT i x0 1#1 1#1 J h (ix2 0 y) : EReal) ≠ ⊤ := by
  rw [shift_on hc]; exact EReal.coe_ne_top _

include hc in
theorem shift_second_ne_top (J : Fin 64) (y : Fin 512) : (shiftT i x0 0#1 1#1 J h (ix2 0 y) : EReal) ≠ ⊤ := by
  rw [shift_second hc]
  split
  · exact bot_ne_top
  · exact EReal.coe_ne_top _

theorem before_eq : before i = if 1 ≤ (i 1).val then 1#1 else 0#1 := Words.some_before (show (i 1).val < 32 from (i 1).isLt)

/-- A key's weight: zero where it is masked. -/
def keyWeight (S : Fin 64 → Fin 256 → Fin 512 → ℝ) (cp : Fin 64 → ℝ) (g n : ℕ) (J : Fin 64) (k : Fin 256) (y : Fin 512) : ℝ :=
  if J.val < min n (2 * g - 1) ∨ 512 * g + y.val < 256 * J.val + k.val then 0 else pow2 S cp g J k y

/-- A tile's part of a query's sums. -/
def tileSum (x3 : Vec Ideal S128x16384 .bf16) (h : Fin 2) (W : Fin 64 → Fin 256 → ℝ) (r : Fin 80) (J : Fin 64) : EReal :=
  ∑ k : Fin 256, rowsOf (tileV x3 J h) r k * ((W J k : ℝ) : EReal)

theorem tileSum_zero (W : Fin 64 → Fin 256 → ℝ) (r : Fin 80) (J : Fin 64) (hW : ∀ k, W J k = 0) : tileSum x3 h W r J = 0 := by
  unfold tileSum
  exact Finset.sum_eq_zero fun k _ => by rw [hW, EReal.coe_zero, mul_zero]

/-- A sum over the tiles is that over a run of tiles ending with the last three, when all others are zero. -/
theorem sum_run (f : Fin 64 → EReal) (lo T : ℕ) (hT : lo + T + 3 ≤ 64) (h0 : ∀ J : Fin 64, J.val < lo → f J = 0)
    (h1 : ∀ J : Fin 64, lo + T + 3 ≤ J.val → f J = 0) :
    ∑ J, f J = (∑ k ∈ Finset.range T, f (tl (lo + k))) + f (tl (lo + T)) + f (tl (lo + T + 1)) + f (tl (lo + T + 2)) := by
  have e : ∑ J : Fin 64, f J = ∑ j ∈ Finset.range 64, f (tl j) := by
    rw [← Fin.sum_univ_eq_sum_range (fun j => f (tl j)) 64]
    refine Finset.sum_congr rfl fun J _ => congrArg f (Fin.ext ?_)
    exact (tl_val J.isLt).symm
  have z0 : ∑ j ∈ Finset.range lo, f (tl j) = 0 := Finset.sum_eq_zero fun j hj => by
    have := Finset.mem_range.mp hj
    exact h0 _ (by rw [tl_val (by omega)]; omega)
  obtain ⟨R, hR⟩ : ∃ R, 64 = lo + (T + 3) + R := ⟨64 - (lo + (T + 3)), by omega⟩
  have z1 : ∑ j ∈ Finset.range R, f (tl (lo + (T + 3) + j)) = 0 := Finset.sum_eq_zero fun j hj => by
    have := Finset.mem_range.mp hj
    exact h1 _ (by rw [tl_val (by omega)]; omega)
  rw [e, hR, Finset.sum_range_add, Finset.sum_range_add, z0, z1, zero_add, add_zero, Finset.sum_range_succ, Finset.sum_range_succ,
    Finset.sum_range_succ]
  rfl

include hS hc in
theorem column_loop (n : ℕ) (y : Fin 512) (T : ℕ) :
    Column (stL i x0 x1 x2 x3 x4 n T h) y (fun r =>
      ∑ k ∈ Finset.range T, tileSum x3 h (fun J k => pow2 S cp (i 1).val J k y) r (tl (n + k))) := by
  induction T with
  | zero => exact column_start h y
  | succ T ih =>
    have e := column_step (v := tileV x3 (tl (n + T)) h) (fun k => scoreT_ne_top hS (tl (n + T)) k y) (shift_on_ne_top hc (tl (n + T)) y) ih
    simp only [weight_on hS hc] at e
    simp only [Finset.sum_range_succ]
    exact e

include hS hc in
/-- A query's sums after a launch: those over every key of every tile, a masked key with weight zero. -/
theorem column_end (n : ℕ) (y : Fin 512) :
    Column (stC i x0 x1 x2 x3 x4 n (2 * (i 1).val - 1 - n) h) y (fun r =>
      ∑ J : Fin 64, tileSum x3 h (fun J k => keyWeight S cp (i 1).val n J k y) r J) := by
  have hg : (i 1).val < 32 := (i 1).isLt
  generalize hgg : (i 1).val = g at hg
  have hA : Column (stA i x0 x1 x2 x3 x4 n (2 * g - 1 - n) h) y (fun r =>
      (∑ k ∈ Finset.range (2 * g - 1 - n), tileSum x3 h (fun J k => pow2 S cp g J k y) r (tl (n + k)))
        + tileSum x3 h (fun J k => if 1 ≤ g then pow2 S cp g J k y else 0) r (tl (2 * g - 1))) := by
    by_cases h1 : 1 ≤ g
    · have e := column_step (v := tileV x3 (tl (2 * (i 1).val - 1)) h) (fun k => scoreT_ne_top hS (tl (2 * (i 1).val - 1)) k y)
        (shift_on_ne_top hc (tl (2 * (i 1).val - 1)) y) (column_loop (x3 := x3) hS hc n y (2 * g - 1 - n))
      simp only [weight_on hS hc, hgg] at e
      simp only [if_pos h1]
      unfold stA
      rw [before_eq, hgg, if_pos h1]
      exact e
    · have e := column_step (v := tileV x3 (tl (2 * (i 1).val - 1)) h) (fun k => scoreT_ne_top hS (tl (2 * (i 1).val - 1)) k y)
        (sh := shiftT i x0 0#1 0#1 (tl (2 * (i 1).val - 1)) h) (by rw [shift_off]; exact bot_ne_top)
        (column_loop (x3 := x3) hS hc n y (2 * g - 1 - n))
      simp only [weight_off, hgg] at e
      simp only [if_neg h1]
      unfold stA
      rw [before_eq, hgg, if_neg h1]
      exact e
  have hB := column_step (v := tileV x3 (tl (2 * g)) h) (fun k => scoreA_ne_top hS (tl (2 * g)) k y) (shift_on_ne_top hc (tl (2 * g)) y) hA
  have hC := column_step (v := tileV x3 (tl (2 * g + 1)) h) (fun k => scoreB_ne_top hS (tl (2 * g + 1)) k y)
    (shift_second_ne_top hc (tl (2 * g + 1)) y) hB
  simp only [weight_first hS hc, weight_second hS hc, hgg] at hC
  have hE : stC i x0 x1 x2 x3 x4 n (2 * g - 1 - n) h = step (scoreB x1 x2 x4 (tl (2 * g + 1)) h) (shiftT i x0 0#1 1#1 (tl (2 * g + 1)) h)
      (tileV x3 (tl (2 * g + 1)) h) (step (scoreA x1 x2 x4 (tl (2 * g)) h) (shiftT i x0 1#1 1#1 (tl (2 * g)) h) (tileV x3 (tl (2 * g)) h)
        (stA i x0 x1 x2 x3 x4 n (2 * g - 1 - n) h)) := by
    unfold stC stB
    rw [hgg]
  rw [hE]
  refine cast (congrArg _ (funext fun r => ?_)) hC
  have hcong : ∀ (J : Fin 64) (U U' : Fin 64 → Fin 256 → ℝ), (∀ k, U J k = U' J k) → tileSum x3 h U r J = tileSum x3 h U' r J :=
    fun J U U' hU => by
      unfold tileSum
      exact Finset.sum_congr rfl fun k _ => by rw [hU]
  by_cases h1 : 1 ≤ g
  · have hlo : min n (2 * g - 1) + (2 * g - 1 - n) = 2 * g - 1 := by omega
    rw [sum_run _ (min n (2 * g - 1)) (2 * g - 1 - n) (by omega)
      (fun J hJ => tileSum_zero _ _ _ fun k => if_pos (Or.inl hJ))
      (fun J hJ => tileSum_zero _ _ _ fun k => if_pos (Or.inr (by omega)))]
    rw [hlo, show 2 * g - 1 + 1 = 2 * g by omega, show 2 * g - 1 + 2 = 2 * g + 1 by omega]
    refine congrArg₂ (· + ·) (congrArg₂ (· + ·) (congrArg₂ (· + ·) (Finset.sum_congr rfl fun k hk => ?_) ?_) ?_) ?_
    · have hk := Finset.mem_range.mp hk
      rw [show min n (2 * g - 1) = n by omega]
      refine hcong _ _ _ fun k' => ?_
      unfold keyWeight
      rw [tl_val (by omega), if_neg (by omega)]
    · refine hcong _ _ _ fun k' => ?_
      unfold keyWeight
      rw [if_pos h1, tl_val (by omega), if_neg (by omega)]
    · refine hcong _ (fun J k => if y.val < 256 ∧ y.val < k.val then 0 else pow2 S cp g J k y) _ fun k' => ?_
      unfold keyWeight
      rw [tl_val (by omega)]
      by_cases hk : y.val < 256 ∧ y.val < k'.val
      · rw [if_pos hk, if_pos (by omega)]
      · rw [if_neg hk, if_neg (by omega)]
    · refine hcong _ (fun J k => if y.val < k.val + 256 then 0 else pow2 S cp g J k y) _ fun k' => ?_
      unfold keyWeight
      rw [tl_val (by omega)]
      by_cases hk : y.val < k'.val + 256
      · rw [if_pos hk, if_pos (by omega)]
      · rw [if_neg hk, if_neg (by omega)]
  · obtain rfl : g = 0 := by omega
    rw [sum_run _ 0 0 (by omega) (fun J hJ => absurd hJ (by omega))
      (fun J hJ => tileSum_zero _ _ _ fun k => if_pos (Or.inr (by omega)))]
    rw [show 2 * 0 - 1 - n = 0 by omega, Finset.sum_range_zero, Finset.sum_range_zero, zero_add, zero_add,
      tileSum_zero (W := fun J k => if 1 ≤ 0 then pow2 S cp 0 J k y else 0) (hW := fun k => if_neg (by omega)), zero_add,
      tileSum_zero (W := fun J k => keyWeight S cp 0 n J k y) (J := tl (0 + 0 + 2))
        (hW := fun k => if_pos (Or.inr (by rw [tl_val (by omega)]; omega))), add_zero]
    refine congrArg₂ (· + ·) ?_ ?_
    · refine hcong _ (fun J k => if y.val < 256 ∧ y.val < k.val then 0 else pow2 S cp 0 J k y) _ fun k' => ?_
      unfold keyWeight
      rw [tl_val (by omega)]
      by_cases hk : y.val < 256 ∧ y.val < k'.val
      · rw [if_pos hk, if_pos (by omega)]
      · rw [if_neg hk, if_neg (by omega)]
    · refine hcong _ (fun J k => if y.val < k.val + 256 then 0 else pow2 S cp 0 J k y) _ fun k' => ?_
      unfold keyWeight
      rw [tl_val (by omega)]
      by_cases hk : y.val < k'.val + 256
      · rw [if_pos hk, if_pos (by omega)]
      · rw [if_neg hk, if_neg (by omega)]

end Block

end Cert.Tile

end
-- ==== Proof.Model.lean ====
/-
  The attention's output as a formula over the arguments' elements, and a launch's block as that formula.
-/
module

public import proofs.«01_k».proof.Proof.Weights

@[expose] public section

noncomputable section

open Idealize.ShloMosaic Idealize.ShloMosaic.TcCoe Idealize.SL.Sem

namespace Cert.Model

open Cert.KernelIdeal

/-- The scores' data as real numbers: the products of queries and keys, the gates' sums inside a tile, and those of the tiles. -/
structure Reals where
  Q : Fin 8 → Fin 16384 → Fin 16384 → ℝ
  N : Fin 8 → Fin 16384 → ℝ
  C : Fin 8 → Fin 64 → ℝ

/-- Column `d` of head `H`. -/
abbrev col (H : Fin 8) (d : Fin 64) : Fin 512 := ⟨64 * H.val + d.val, by omega⟩

/-- The query, the key and the value of a position at a head's dimension, and the gate sum. -/
def query (a2 : Vec Ideal S2048x16384 .bf16) (H : Fin 8) (d : Fin 64) (t : Fin 16384) : EReal :=
  a2 (ix2 (⟨1024 + (64 * H.val + d.val), by omega⟩ : Fin 2048) t)
def key (a3 : Vec Ideal S16384x1024 .bf16) (H : Fin 8) (d : Fin 64) (s : Fin 16384) : EReal :=
  a3 (ix2 s (⟨64 * H.val + d.val, by omega⟩ : Fin 1024))
def val (a2 : Vec Ideal S2048x16384 .bf16) (H : Fin 8) (d : Fin 64) (s : Fin 16384) : EReal :=
  a2 (ix2 (⟨1536 + (64 * H.val + d.val), by omega⟩ : Fin 2048) s)
def gate (a4 : Vec Ideal S4x16384x2 .f32) (H : Fin 8) (s : Fin 16384) : EReal :=
  a4 (ix3 (⟨H.val / 2, by omega⟩ : Fin 4) s (⟨H.val % 2, by omega⟩ : Fin 2))

/-- The table's word for a head's pair and a query block. -/
def word (a0 : IVec S128 32) (p : Fin 4) (g : Fin 32) : BitVec 32 := a0 (ix1 (⟨32 * p.val + g.val, by omega⟩ : Fin 128))

/-- The real numbers are those of the arguments. -/
structure Reals.Of (R : Reals) (a1 : Vec Ideal S8x64 .f32) (a2 : Vec Ideal S2048x16384 .bf16) (a3 : Vec Ideal S16384x1024 .bf16)
    (a4 : Vec Ideal S4x16384x2 .f32) : Prop where
  Q : ∀ H t s, ∑ d : Fin 64, key a3 H d s * query a2 H d t = ((R.Q H t s : ℝ) : EReal)
  N : ∀ H s, gate a4 H s = ((R.N H s : ℝ) : EReal)
  C : ∀ H J, (a1 (ix2 H J) : EReal) = ((R.C H J : ℝ) : EReal)

/-- A key is hidden from a query: it lies in the future, or before the first tile of the query's block. -/
def Hidden (n g t s : ℕ) : Prop := s / 256 < min n (2 * g - 1) ∨ t < s

instance (n g t s : ℕ) : Decidable (Hidden n g t s) := by unfold Hidden; infer_instance

/-- A key's weight for a query, before the division. -/
def wt (a0 : IVec S128 32) (R : Reals) (H : Fin 8) (t s : Fin 16384) : ℝ :=
  if Hidden (word a0 ⟨H.val / 2, by omega⟩ ⟨t.val / 512, by omega⟩).toNat (t.val / 512) t.val s.val then 0
  else Real.rpow 2 ((R.Q H t s + R.N H s) + (Real.log 2)⁻¹ * (R.C H ⟨t.val / 256, by omega⟩ - R.C H ⟨s.val / 256, by omega⟩))

theorem wt_nonneg (a0 : IVec S128 32) (R : Reals) (H : Fin 8) (t s : Fin 16384) : 0 ≤ wt a0 R H t s := by
  unfold wt
  split
  · exact le_refl _
  · exact Tile.two_nonneg _

/-- A query sees itself. -/
theorem wt_self (a0 : IVec S128 32) (R : Reals) (H : Fin 8) (t : Fin 16384) : 0 < wt a0 R H t t := by
  unfold wt
  rw [if_neg (by unfold Hidden; omega)]
  exact Real.rpow_pos_of_pos (by norm_num) _

/-- The weights' sum. -/
def total (a0 : IVec S128 32) (R : Reals) (H : Fin 8) (t : Fin 16384) : ℝ := ∑ s, wt a0 R H t s

theorem total_pos (a0 : IVec S128 32) (R : Reals) (H : Fin 8) (t : Fin 16384) : 0 < total a0 R H t :=
  Finset.sum_pos' (fun s _ => wt_nonneg a0 R H t s) ⟨t, Finset.mem_univ _, wt_self a0 R H t⟩

/-- The attention's output. -/
def attn (a0 : IVec S128 32) (a2 : Vec Ideal S2048x16384 .bf16) (R : Reals) (H : Fin 8) (d : Fin 64) (t : Fin 16384) : EReal :=
  (∑ s, val a2 H d s * ((wt a0 R H t s : ℝ) : EReal)) * (((total a0 R H t)⁻¹ : ℝ) : EReal)

/-- A sum over positions, tile by tile. -/
theorem sum_tiles (f : Fin 16384 → EReal) : ∑ J : Fin 64, ∑ k : Fin 256, f (Tile.keyRow J k) = ∑ s, f s := by
  rw [← Fintype.sum_prod_type' (fun J k => f (Tile.keyRow J k))]
  refine Fintype.sum_bijective (fun x : Fin 64 × Fin 256 => Tile.keyRow x.1 x.2) ⟨?_, ?_⟩ _ _ (fun _ => rfl)
  · rintro ⟨J, k⟩ ⟨J', k'⟩ e
    have e := congrArg Fin.val e
    dsimp only at e
    exact Prod.ext (Fin.ext (show J.val = J'.val by omega)) (Fin.ext (show k.val = k'.val by omega))
  · intro s
    exact ⟨(⟨s.val / 256, by omega⟩, ⟨s.val % 256, by omega⟩), Fin.ext (show 256 * (s.val / 256) + s.val % 256 = s.val by omega)⟩

/-- A sum of real numbers. -/
theorem coe_sum {ι : Type} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

/-- A quotient whose two sides have a positive real factor in common. -/
theorem div_common {c L : ℝ} (hc : 0 < c) (hL : 0 < L) (X : EReal) :
    Ideal.div ((c : EReal) * X) ((c : EReal) * (L : EReal)) = X * ((L⁻¹ : ℝ) : EReal) := by
  rw [← EReal.coe_mul, Ideal.div_coe (mul_pos hc hL).ne', mul_comm (c : EReal) X, mul_assoc, ← EReal.coe_mul]
  congr 2
  field_simp

section Block

open Cert.Tile

/-- The head of a launch. -/
abbrev head (i : grid0.Coords) (h : Fin 2) : Fin 8 := headRow i h

/-- The position of a query of a launch. -/
abbrev pos (i : grid0.Coords) (y : Fin 512) : Fin 16384 :=
  ⟨512 * (i 1).val + y.val, by have h : (i 1).val < 32 := (i 1).isLt; omega⟩

variable {a0 : IVec S128 32} {a1 : Vec Ideal S8x64 .f32} {a2 : Vec Ideal S2048x16384 .bf16} {a3 : Vec Ideal S16384x1024 .bf16}
  {a4 : Vec Ideal S4x16384x2 .f32} {R : Reals} (hR : R.Of a1 a2 a3 a4)
  {i : grid0.Coords} {x1 : Vec Ideal S128x512 .bf16} {x2 : Vec Ideal S16384x128 .bf16}
  {x3 : Vec Ideal S128x16384 .bf16} {x4 : Vec Ideal S1x16384x2 .f32}
  (h1 : ∀ (h : Fin 2) (d : Fin 64) (y : Fin 512), x1 (ix2 (headCol h d) y) = query a2 (head i h) d (pos i y))
  (h2 : ∀ (h : Fin 2) (d : Fin 64) (s : Fin 16384), x2 (ix2 s (headCol h d)) = key a3 (head i h) d s)
  (h3 : ∀ (h : Fin 2) (d : Fin 64) (s : Fin 16384), x3 (ix2 (headCol h d) s) = val a2 (head i h) d s)
  (h4 : ∀ (h : Fin 2) (s : Fin 16384), x4 (ix3 0 s h) = gate a4 (head i h) s)

include hR h1 h2 h4 in
theorem score_real (h : Fin 2) (J : Fin 64) (k : Fin 256) (y : Fin 512) :
    scoreT x1 x2 x4 J h (ix2 k y)
      = ((R.Q (head i h) (pos i y) (keyRow J k) + R.N (head i h) (keyRow J k) : ℝ) : EReal) := by
  unfold scoreT
  rw [score_apply, EReal.coe_add, ← hR.Q, ← hR.N]
  refine congrArg₂ (· + ·) (Finset.sum_congr rfl fun d _ => congrArg₂ (· * ·) ?_ ?_) ?_
  · exact h2 h d _
  · exact h1 h d y
  · exact h4 h _

theorem word_head (h : Fin 2) (y : Fin 512) (hp : (head i h).val / 2 < 4) (hg : (pos i y).val / 512 < 32) :
    word a0 ⟨(head i h).val / 2, hp⟩ ⟨(pos i y).val / 512, hg⟩ = word a0 (i 0) (i 1) := by
  congr 1
  · apply Fin.ext
    show (2 * (i 0).val + h.val) / 2 = (i 0).val
    omega
  · apply Fin.ext
    show (512 * (i 1).val + y.val) / 512 = (i 1).val
    omega

/-- A launch's key weight is the formula's. -/
theorem weight_eq (h : Fin 2) (J : Fin 64) (k : Fin 256) (y : Fin 512) :
    keyWeight (fun J k y => R.Q (head i h) (pos i y) (keyRow J k) + R.N (head i h) (keyRow J k)) (R.C (head i h)) (i 1).val
      (word a0 (i 0) (i 1)).toNat J k y = wt a0 R (head i h) (pos i y) (keyRow J k) := by
  have hg : (i 1).val < 32 := (i 1).isLt
  unfold keyWeight wt
  rw [word_head h y]
  have e1 : (pos i y).val / 512 = (i 1).val := by show (512 * (i 1).val + y.val) / 512 = _; omega
  have e2 : (keyRow J k).val / 256 = J.val := by show (256 * J.val + k.val) / 256 = _; omega
  refine if_congr ?_ rfl ?_
  · unfold Hidden
    rw [e1, e2]
  · unfold pow2
    have e3 : ownTile (i 1).val y = ⟨(pos i y).val / 256, by omega⟩ := by
      apply Fin.ext
      unfold ownTile
      rw [tl_val (by split <;> omega)]
      show _ = (512 * (i 1).val + y.val) / 256
      split <;> omega
    have e4 : (⟨(keyRow J k).val / 256, by omega⟩ : Fin 64) = J := Fin.ext e2
    rw [e3, e4]

include hR h1 h2 h3 h4 in
theorem block_value (h : Fin 2) (d : Fin 64) (y : Fin 512) :
    blockOf (stC i a1 x1 x2 x3 x4 (word a0 (i 0) (i 1)).toNat (2 * (i 1).val - 1 - (word a0 (i 0) (i 1)).toNat)) (ix2 y (headCol h d))
      = attn a0 a2 R (head i h) d (pos i y) := by
  obtain ⟨m, -, hm⟩ := column_end (i := i) (x0 := a1) (x3 := x3) (h := h) (cp := R.C (head i h)) (score_real hR h1 h2 h4 h) (fun J => hR.C _ J)
    (word a0 (i 0) (i 1)).toNat y
  have hX : (∑ J : Fin 64, tileSum x3 h (fun J k => keyWeight (fun J k y => R.Q (head i h) (pos i y) (keyRow J k) + R.N (head i h) (keyRow J k))
      (R.C (head i h)) (i 1).val (word a0 (i 0) (i 1)).toNat J k y) ⟨d.val, by omega⟩ J)
      = ∑ s, val a2 (head i h) d s * ((wt a0 R (head i h) (pos i y) s : ℝ) : EReal) := by
    rw [← sum_tiles]
    refine Finset.sum_congr rfl fun J _ => Finset.sum_congr rfl fun k _ => ?_
    refine congrArg₂ (fun (a : EReal) (w : ℝ) => a * (w : EReal)) ?_ (weight_eq h J k y)
    unfold rowsOf
    rw [dif_pos (show d.val < 64 from d.isLt)]
    exact h3 h d _
  have hL : (∑ J : Fin 64, tileSum x3 h (fun J k => keyWeight (fun J k y => R.Q (head i h) (pos i y) (keyRow J k) + R.N (head i h) (keyRow J k))
      (R.C (head i h)) (i 1).val (word a0 (i 0) (i 1)).toNat J k y) 64 J)
      = ((total a0 R (head i h) (pos i y) : ℝ) : EReal) := by
    unfold total
    rw [← coe_sum, ← sum_tiles]
    refine Finset.sum_congr rfl fun J _ => Finset.sum_congr rfl fun k _ => ?_
    refine (congrArg₂ (fun (a : EReal) (w : ℝ) => a * (w : EReal)) ?_ (weight_eq h J k y)).trans (one_mul _)
    rfl
  have hq := div_common (c := Real.rpow 2 (-m)) (Real.rpow_pos_of_pos (by norm_num) _) (total_pos a0 R (head i h) (pos i y))
    (∑ s, val a2 (head i h) d s * ((wt a0 R (head i h) (pos i y) s : ℝ) : EReal))
  have hnum := (hm ⟨d.val, by omega⟩).trans (congrArg (fun X => ((Real.rpow 2 (-m) : ℝ) : EReal) * X) hX)
  have hden := (hm 64).trans (congrArg (fun X => ((Real.rpow 2 (-m) : ℝ) : EReal) * X) hL)
  rw [← hnum, ← hden] at hq
  refine Eq.trans ?_ hq
  unfold blockOf
  rw [final_apply]
  have hd := d.isLt
  match h with
  | ⟨0, _⟩ =>
    rw [dif_pos (show 64 * 0 + d.val < 64 by omega)]
    have e : (⟨64 * 0 + d.val, by omega⟩ : Fin 64) = d := Fin.ext (by show 64 * 0 + d.val = d.val; omega)
    rw [e]
    rfl
  | ⟨1, _⟩ =>
    rw [dif_neg (show ¬ 64 * 1 + d.val < 64 by omega)]
    have e : (⟨64 * 1 + d.val - 64, by omega⟩ : Fin 64) = d := Fin.ext (by show 64 * 1 + d.val - 64 = d.val; omega)
    rw [e]
    rfl

end Block

end Cert.Model

end
-- ==== Proof.Array.lean ====
/-
  The result array after the run: every launch writes its block, and the blocks tile the array.
-/
module

public import proofs.«01_k».proof.Proof.Model
public import proofs.«01_k».proof.Proof.Checks
public import Idealize.ShloMosaic.Lib.Pipeline.Value

@[expose] public section

noncomputable section

open Idealize.ShloMosaic Idealize.ShloMosaic.TcCoe Idealize.SL.Sem
open Idealize.ShloMosaic.Pipeline (Dat)

namespace Cert.Array

open Cert.KernelIdeal Cert.KernelIdeal.Gen Cert.Model Cert.Tile

variable (m : (ℓ : Loc nD τ sig) → Buf (Elt Ideal) ℓ) (ρ : Dev nD → PrngReg)

/-- The arguments of the launch memory. -/
abbrev arg0 (c : Dev nD) : IVec S128 32 := m ((c.tc : Thread nD τ).loc main_arg0)
abbrev arg1 (c : Dev nD) : Vec Ideal S8x64 .f32 := m ((c.tc : Thread nD τ).loc main_arg1)
abbrev arg2 (c : Dev nD) : Vec Ideal S2048x16384 .bf16 := m ((c.tc : Thread nD τ).loc main_arg2)
abbrev arg3 (c : Dev nD) : Vec Ideal S16384x1024 .bf16 := m ((c.tc : Thread nD τ).loc main_arg3)
abbrev arg4 (c : Dev nD) : Vec Ideal S4x16384x2 .f32 := m ((c.tc : Thread nD τ).loc main_arg4)

theorem off_word (i : grid0.Coords) : k0_off1 i 0 = 32 * (i 0).val + (i 1).val := by
  have h0 : (i 0).val < 4 := (i 0).isLt
  have h1 : (i 1).val < 32 := (i 1).isLt
  show (Scalar.indexCast (Scalar.addi (Scalar.muli (BitVec.ofNat 32 (i 0).val) 32#32) (BitVec.ofNat 32 (i 1).val))).toNat = _
  have e : (IntOp.addi (IntOp.muli (BitVec.ofNat 32 (i 0).val) 32#32) (BitVec.ofNat 32 (i 1).val)).toNat = 32 * (i 0).val + (i 1).val := by
    simp only [IntOp.addi, IntOp.muli, BitVec.toNat_add, BitVec.toNat_mul, BitVec.toNat_ofNat]
    omega
  exact e

theorem read_word (X : IVec S128 32) (i : grid0.Coords) (h : (S1.Idx)) :
    View.readAt (Elt Ideal) tbM0_0.view (Rect.unit (s := S128) (k0_off1 i) S1.size (k0_off1_inb i)).toLoadRect X h = word X (i 0) (i 1) := by
  rw [View.readAt_eq_ld]
  show X _ = X _
  congr 1
  funext a
  apply Fin.ext
  fin_cases a
  refine (Rect.idx_unit_val _ _ _ _ _).trans ?_
  have hh : (h 0).val < 1 := (h 0).isLt
  show k0_off1 i 0 + (h 0).val = 32 * (i 0).val + (i 1).val
  rw [off_word]
  omega

/-- The word a launch reads from the table. -/
theorem word_eq (c : Dev nD) (i : grid0.Coords) :
    kernelRun0_A.sl.r (F := Ideal) c i (tbl m 0) = word (arg0 m c) (i 0) (i 1) := by
  obtain rfl : c = 0 := Subsingleton.elim _ _
  unfold kernelRun0_A.sl.r
  exact read_word (arg0 m 0) i _

theorem tr1 : ∀ i : grid0.Coords, cc0_transform_1 i 0 = 8 + (i 0).val ∧ cc0_transform_1 i 1 = (i 1).val := by decide +kernel
theorem tr2 : ∀ i : grid0.Coords, cc0_transform_2 i 0 = 0 ∧ cc0_transform_2 i 1 = (i 0).val := by decide +kernel
theorem tr3 : ∀ i : grid0.Coords, cc0_transform_3 i 0 = 12 + (i 0).val ∧ cc0_transform_3 i 1 = 0 := by decide +kernel
theorem tr4 : ∀ i : grid0.Coords, cc0_transform_4 i 0 = (i 0).val ∧ cc0_transform_4 i 1 = 0 ∧ cc0_transform_4 i 2 = 0 := by decide +kernel
theorem tr5 : ∀ i : grid0.Coords, cc0_transform_5 i 0 = (i 1).val ∧ cc0_transform_5 i 1 = (i 0).val := by decide +kernel

section Blocks

variable (hO : Ok m) (c : Dev nD) (t : Fin (cfgM m hO).N)

/-- A launch's grid coordinates. -/
abbrev at' : grid0.Coords := grid0.coords t

theorem blk0 : (iblk m hO c 0 t : Vec Ideal S8x64 .f32) = arg1 m c := by
  refine funext fun (j : S8x64.Idx) => ?_
  unfold iblk
  refine (View.read_apply _ _).trans ?_
  show m _ _ = m _ _
  congr 1
  funext a
  apply Fin.ext
  match a with
  | ⟨0, _⟩ => show 0 * 8 + 1 * (j 0).val = (j 0).val; omega
  | ⟨1, _⟩ => show 0 * 64 + 1 * (j 1).val = (j 1).val; omega

theorem blk1 (h : Fin 2) (d : Fin 64) (y : Fin 512) :
    (iblk m hO c 1 t : Vec Ideal S128x512 .bf16) (ix2 (headCol h d) y) = query (arg2 m c) (head (grid0.coords t) h) d (pos (grid0.coords t) y) := by
  unfold iblk query
  refine (View.read_apply _ _).trans ?_
  show m _ _ = m _ _
  congr 1
  funext a
  apply Fin.ext
  match a with
  | ⟨0, _⟩ =>
    show cc0_transform_1 (grid0.coords t) 0 * 128 + 1 * (64 * h.val + d.val) = 1024 + (64 * (2 * (grid0.coords t 0).val + h.val) + d.val)
    rw [(tr1 _).1]; omega
  | ⟨1, _⟩ =>
    show cc0_transform_1 (grid0.coords t) 1 * 512 + 1 * y.val = 512 * (grid0.coords t 1).val + y.val
    rw [(tr1 _).2]; omega

theorem blk2 (h : Fin 2) (d : Fin 64) (s : Fin 16384) :
    (iblk m hO c 2 t : Vec Ideal S16384x128 .bf16) (ix2 s (headCol h d)) = key (arg3 m c) (head (grid0.coords t) h) d s := by
  unfold iblk key
  refine (View.read_apply _ _).trans ?_
  show m _ _ = m _ _
  congr 1
  funext a
  apply Fin.ext
  match a with
  | ⟨0, _⟩ =>
    show cc0_transform_2 (grid0.coords t) 0 * 16384 + 1 * s.val = s.val
    rw [(tr2 _).1]; omega
  | ⟨1, _⟩ =>
    show cc0_transform_2 (grid0.coords t) 1 * 128 + 1 * (64 * h.val + d.val) = 64 * (2 * (grid0.coords t 0).val + h.val) + d.val
    rw [(tr2 _).2]; omega

theorem blk3 (h : Fin 2) (d : Fin 64) (s : Fin 16384) :
    (iblk m hO c 3 t : Vec Ideal S128x16384 .bf16) (ix2 (headCol h d) s) = val (arg2 m c) (head (grid0.coords t) h) d s := by
  unfold iblk val
  refine (View.read_apply _ _).trans ?_
  show m _ _ = m _ _
  congr 1
  funext a
  apply Fin.ext
  match a with
  | ⟨0, _⟩ =>
    show cc0_transform_3 (grid0.coords t) 0 * 128 + 1 * (64 * h.val + d.val) = 1536 + (64 * (2 * (grid0.coords t 0).val + h.val) + d.val)
    rw [(tr3 _).1]; omega
  | ⟨1, _⟩ =>
    show cc0_transform_3 (grid0.coords t) 1 * 16384 + 1 * s.val = s.val
    rw [(tr3 _).2]; omega

theorem blk4 (h : Fin 2) (s : Fin 16384) :
    (iblk m hO c 4 t : Vec Ideal S1x16384x2 .f32) (ix3 0 s h) = gate (arg4 m c) (head (grid0.coords t) h) s := by
  unfold iblk gate
  refine (View.read_apply _ _).trans ?_
  show m _ _ = m _ _
  congr 1
  funext a
  apply Fin.ext
  match a with
  | ⟨0, _⟩ =>
    show cc0_transform_4 (grid0.coords t) 0 * 1 + 1 * 0 = (2 * (grid0.coords t 0).val + h.val) / 2
    rw [(tr4 _).1]; omega
  | ⟨1, _⟩ =>
    show cc0_transform_4 (grid0.coords t) 1 * 16384 + 1 * s.val = s.val
    rw [(tr4 _).2.1]; omega
  | ⟨2, _⟩ =>
    show cc0_transform_4 (grid0.coords t) 2 * 2 + 1 * h.val = (2 * (grid0.coords t 0).val + h.val) % 2
    rw [(tr4 _).2.2]; omega

end Blocks

/-- The whole output: row `t`, column `64 H + d`. -/
def result (a0 : IVec S128 32) (a2 : Vec Ideal S2048x16384 .bf16) (R : Reals) : Vec Ideal S16384x512 .bf16 :=
  fun z => attn a0 a2 R ⟨(z 1).val / 64, by have h : (z 1).val < 512 := (z 1).isLt; omega⟩ ⟨(z 1).val % 64, by omega⟩ (z 0)

section Run

variable (hO : Ok m) (hH : Hyps m hO) (hn : ∀ (c : Dev nD) (y : S128.Idx), 0 ≤ (arg0 m c y : BitVec 32).toInt)
  (R : Dev nD → Reals) (hR : ∀ c, (R c).Of (arg1 m c) (arg2 m c) (arg3 m c) (arg4 m c))

include hn hR in
/-- What a launch leaves, element by element. -/
theorem outs_apply (c : Dev nD) (t : Fin (cfgM m hO).N) (y : Fin 512) (h : Fin 2) (d : Fin 64) :
    outsAt0 m hO hH c t (ix2 y (headCol h d)) = attn (arg0 m c) (arg2 m c) (R c) (head (grid0.coords t) h) d (pos (grid0.coords t) y) := by
  have hx : 0 ≤ (word (arg0 m c) (grid0.coords t 0) (grid0.coords t 1)).toInt := hn c _
  have hb := block_value (a0 := arg0 m c) (hR c) (i := grid0.coords t) (blk1 m hO c t) (blk2 m hO c t) (blk3 m hO c t) (blk4 m hO c t) h d y
  have e := out_eq c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) scM0_0 (Memref.isWhole_whole _) scM0_1
    (Memref.isWhole_whole _) (iblk m hO c 0 t) (iblk m hO c 1 t) (iblk m hO c 2 t) (iblk m hO c 3 t) (iblk m hO c 4 t) (tbl m 0)
    (Hyps.c0 hH c t) ((word_eq m c _).symm ▸ hx)
  unfold outsAt0
  refine (congrFun e _).trans ?_
  rw [word_eq m c]
  have ht : (k0_t1_loop (grid0.coords t) (word (arg0 m c) (grid0.coords t 0) (grid0.coords t 1))).trips
      = 2 * (grid0.coords t 1).val - 1 - (word (arg0 m c) (grid0.coords t 0) (grid0.coords t 1)).toNat :=
    Words.trips_eq (show (grid0.coords t 1).val < 32 from (grid0.coords t 1).isLt) _ hx
  rw [ht, blk0 m hO c t]
  exact hb

include hn hR in
theorem block_apply (c : Dev nD) (t : Fin (cfgM m hO).N) (j : S512x128.Idx) :
    outsAt0 m hO hH c t j = result (arg0 m c) (arg2 m c) (R c) ((((cfgM m hO).win 5).blk t).view.emb j : S16384x512.Idx) := by
  have h0 : (grid0.coords t 0).val < 4 := (grid0.coords t 0).isLt
  have h1 : (grid0.coords t 1).val < 32 := (grid0.coords t 1).isLt
  have hj0 : (j 0).val < 512 := (j 0).isLt
  have hj1 : (j 1).val < 128 := (j 1).isLt
  have e := outs_apply m hO hH hn R hR c t ⟨(j 0).val, hj0⟩ ⟨(j 1).val / 64, by omega⟩ ⟨(j 1).val % 64, by omega⟩
  have ej : j = ix2 (⟨(j 0).val, hj0⟩ : Fin 512) (headCol ⟨(j 1).val / 64, by omega⟩ ⟨(j 1).val % 64, by omega⟩) := by
    funext a
    apply Fin.ext
    match a with
    | ⟨0, _⟩ => rfl
    | ⟨1, _⟩ => show (j 1).val = 64 * ((j 1).val / 64) + (j 1).val % 64; omega
  refine (congrArg (outsAt0 m hO hH c t) ej).trans (e.trans ?_)
  suffices h : ∀ z : S16384x512.Idx, (z 0).val = 512 * (grid0.coords t 1).val + (j 0).val →
      (z 1).val = 128 * (grid0.coords t 0).val + (j 1).val → _ = result (arg0 m c) (arg2 m c) (R c) z from
    h _ (by
      show cc0_transform_5 (grid0.coords t) 0 * 512 + 1 * (j 0).val = _
      rw [(tr5 _).1]; omega) (by
      show cc0_transform_5 (grid0.coords t) 1 * 128 + 1 * (j 1).val = _
      rw [(tr5 _).2]; omega)
  intro z e0 e1
  unfold result
  congr 1
  · apply Fin.ext
    show 2 * (grid0.coords t 0).val + (j 1).val / 64 = (z 1).val / 64
    omega
  · apply Fin.ext
    show (j 1).val % 64 = (z 1).val % 64
    omega
  · apply Fin.ext
    show 512 * (grid0.coords t 1).val + (j 0).val = (z 0).val
    omega

include hn hR in
theorem flushed_eq (c : Dev nD) (t : Fin (cfgM m hO).N) :
    (dats m hO hH 0 c).flushed 5 t = (((cfgM m hO).win 5).blk t).view.read (Elt Ideal) (result (arg0 m c) (arg2 m c) (R c)) := by
  show ((cfgM m hO).win 5).cut (grid0.coords t) ((dats m hO hH 0 c).after 5 t) = _
  rw [after0_5]
  funext j
  refine Eq.trans ?_ (View.read_apply _ _).symm
  exact block_apply m hO hH hn R hR c t j

theorem covered (z : S16384x512.Idx) : ∃ t : Fin (cfgM m hO).N, ((cfgM m hO).win 5).flush t = true ∧ z ∈ (((cfgM m hO).win 5).blk t).view.set := by
  have h0 : (z 0).val < 16384 := (z 0).isLt
  have h1 : (z 1).val < 512 := (z 1).isLt
  have hN : grid0.N = 128 := by decide +kernel
  have ht : (z 1).val / 128 * 32 + (z 0).val / 512 < grid0.N := by omega
  have c0 : (grid0.coords ⟨_, ht⟩ 0).val = (z 1).val / 128 :=
    (Pipeline.Grid.coords_val (G := grid0) ⟨_, ht⟩ 0 (S := 32) (B := 4) (by decide) rfl).trans (by show ((z 1).val / 128 * 32 + (z 0).val / 512) / 32 % 4 = _; omega)
  have c1 : (grid0.coords ⟨_, ht⟩ 1).val = (z 0).val / 512 :=
    (Pipeline.Grid.coords_val (G := grid0) ⟨_, ht⟩ 1 (S := 1) (B := 32) (by decide) rfl).trans (by show ((z 1).val / 128 * 32 + (z 0).val / 512) / 1 % 32 = _; omega)
  refine ⟨⟨_, ht⟩, flush0_5 _ _, ?_⟩
  show z ∈ ((View.whole main_v0).slice (((cfgM m hO).win 5).rect ⟨_, ht⟩)).set
  refine (View.set_slice_whole main_v0 (((cfgM m hO).win 5).rect ⟨_, ht⟩)).symm ▸ ?_
  refine Rect.mem_set_unit.mpr fun a => ?_
  match a with
  | ⟨0, _⟩ =>
    show cc0_transform_5 (grid0.coords ⟨_, ht⟩) 0 * 512 ≤ (z 0).val ∧ (z 0).val < cc0_transform_5 (grid0.coords ⟨_, ht⟩) 0 * 512 + 512
    rw [(tr5 _).1, c1]; omega
  | ⟨1, _⟩ =>
    show cc0_transform_5 (grid0.coords ⟨_, ht⟩) 1 * 128 ≤ (z 1).val ∧ (z 1).val < cc0_transform_5 (grid0.coords ⟨_, ht⟩) 1 * 128 + 128
    rw [(tr5 _).2, c0]; omega

include hn hR in
theorem final (c : Dev nD) : (dats m hO hH 0 c).arrAt 5 (cfgM m hO).N = result (arg0 m c) (arg2 m c) (R c) :=
  (dats m hO hH 0 c).arrAt_eq_of_cover 5 (result (arg0 m c) (arg2 m c) (R c)) (fun t _ => flushed_eq m hO hH hn R hR c t)
    fun z => covered m hO z

include hO hH hn hR in
/-- The run: the output array is the attention, and the arguments are unchanged. -/
theorem run : θ_run defs (onTc (τ := τ) (main (F := Ideal))) ⟨m, fun _ => 0, ρ⟩ fun r => ∀ c : Dev nD,
      r.2.mem ((c : Thread nD τ).loc main_v0) = result (arg0 m c) (arg2 m c) (R c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).trans (final m hO hH hn R hR c), h.2 c⟩)
    (θ_run_and ((θ_run defs _ _).mono (fun r h (c : Dev nD) => (h c).1 5) (run_main m ρ hO hH)) (unchanged m ρ hO hH))

end Run

end Cert.Array

end
-- ==== Proof.Mask.lean ====
/-
  The reference's mask as words: a key counts when it is not in the future and not before the first tile.
-/
module

public import proofs.«01_k».proof.Proof.Model
public import proofs.«01_k».proof.Proof.Gen.ReferenceIdeal.Read

@[expose] public section

noncomputable section

open Idealize.ShloMosaic Idealize.ShloMosaic.TcCoe Idealize.SL.Sem

namespace Cert.Attention

open Cert.ReferenceIdeal Cert.ReferenceIdeal.Read Cert.Model

/-- A signed comparison of words that stand for known integers. -/
theorem sge_int (a b : BitVec 32) : IntOp.cmpi .sge a b = if b.toInt ≤ a.toInt then 1#1 else 0#1 := by
  by_cases h : b.toInt ≤ a.toInt <;> simp [IntOp.cmpi, BitVec.sle, h]

theorem sle_int (a b : BitVec 32) : IntOp.cmpi .sle a b = if a.toInt ≤ b.toInt then 1#1 else 0#1 := by
  by_cases h : a.toInt ≤ b.toInt <;> simp [IntOp.cmpi, BitVec.sle, h]

/-- The first key a query block attends to, from the table's word. -/
def start (x : BitVec 32) (g : ℕ) : BitVec 32 :=
  IntOp.muli (IntOp.minsi x (IntOp.subi (IntOp.muli 2#32 (BitVec.ofNat 32 g)) 1#32)) 256#32

theorem bmod_small (z : ℤ) (h1 : -2147483648 ≤ z) (h2 : z < 2147483648) : z.bmod (2 ^ 32) = z :=
  Int.bmod_eq_of_le (by norm_num; omega) (by norm_num; omega)

theorem last_int (g : ℕ) (hg : g < 32) : (IntOp.subi (IntOp.muli 2#32 (BitVec.ofNat 32 g)) 1#32).toInt = 2 * (g : ℤ) - 1 := by
  have h1 : (IntOp.muli 2#32 (BitVec.ofNat 32 g)).toInt = 2 * (g : ℤ) := by
    simp only [IntOp.muli, BitVec.toInt_mul, Tile.toInt_small g (by omega)]
    rw [show (2#32 : BitVec 32).toInt = 2 from rfl]
    exact bmod_small _ (by omega) (by omega)
  generalize IntOp.muli 2#32 (BitVec.ofNat 32 g) = w at h1
  simp only [IntOp.subi, BitVec.toInt_sub, h1]
  rw [show (1#32 : BitVec 32).toInt = 1 from rfl]
  exact bmod_small _ (by omega) (by omega)

theorem start_int (x : BitVec 32) (hx : 0 ≤ x.toInt) (g : ℕ) (hg : g < 32) :
    (start x g).toInt = 256 * min (x.toNat : ℤ) (2 * (g : ℤ) - 1) := by
  have hx' : x.toInt = x.toNat := by
    rw [BitVec.toInt_eq_toNat_cond] at hx ⊢
    have := x.isLt
    split at hx <;> split <;> omega
  have hm : (IntOp.minsi x (IntOp.subi (IntOp.muli 2#32 (BitVec.ofNat 32 g)) 1#32)).toInt = min (x.toNat : ℤ) (2 * (g : ℤ) - 1) := by
    unfold IntOp.minsi
    simp only [BitVec.sle, BitVec.slt, last_int g hg, hx']
    split <;> rename_i h <;> simp only [decide_eq_true_eq] at h <;> first | rw [hx'] ; omega | rw [last_int g hg] ; omega
  unfold start
  generalize IntOp.minsi x _ = w at hm
  simp only [IntOp.muli, BitVec.toInt_mul, hm]
  rw [show (256#32).toInt = 256 from rfl]
  have : min (x.toNat : ℤ) (2 * (g : ℤ) - 1) ≤ 61 := by omega
  have : -1 ≤ min (x.toNat : ℤ) (2 * (g : ℤ) - 1) := by omega
  generalize min (x.toNat : ℤ) (2 * (g : ℤ) - 1) = z at *
  rw [mul_comm]
  exact bmod_small _ (by omega) (by omega)

theorem ofNat_int (s : ℕ) (hs : s < 16384) : (BitVec.ofNat 32 s).toInt = s := Tile.toInt_small s (by omega)

/-- The whole mask. -/
theorem mask_word (x : BitVec 32) (hx : 0 ≤ x.toInt) (g : ℕ) (hg : g < 32) (t s : ℕ) (ht : t < 16384) (hs : s < 16384) :
    IntOp.andi (IntOp.cmpi .sle (BitVec.ofNat 32 s) (BitVec.ofNat 32 t)) (IntOp.cmpi .sge (BitVec.ofNat 32 s) (start x g))
      = if Hidden x.toNat g t s then 0#1 else 1#1 := by
  rw [sle_int, sge_int, start_int x hx g hg, ofNat_int s hs, ofNat_int t ht]
  by_cases h1 : (s : ℤ) ≤ t <;> by_cases h2 : 256 * min (x.toNat : ℤ) (2 * (g : ℤ) - 1) ≤ s
  · rw [if_pos h1, if_pos h2, if_neg (by unfold Hidden; omega)]; rfl
  · rw [if_pos h1, if_neg h2, if_pos (by unfold Hidden; omega)]; rfl
  · rw [if_neg h1, if_pos h2, if_pos (by unfold Hidden; omega)]; rfl
  · rw [if_neg h1, if_neg h2, if_pos (by unfold Hidden; omega)]; rfl

theorem start_apply (x0 : IVec S128 32) (H : Fin 8) (t : Fin 16384) :
    val_main_v43 (F := Ideal) x0 (ix2 H t) = start (word x0 ⟨H.val / 2, by omega⟩ ⟨t.val / 512, by omega⟩) (t.val / 512) := by
  rw [val_main_v43_apply, val_main_v42_apply, val_main_v41_apply, val_main_v40_apply, val_main_v39_apply, val_main_v38_apply,
    val_main_c_1_apply, val_main_v37_apply, val_main_v36_apply, val_main_v35_apply, val_main_c_0_apply, val_main_v34_apply,
    val_main_v33_apply, val_main_c_apply, val_main_v32_apply, val_main_v31_apply]
  have e : idx_main_v40 (idx_main_v41 (idx_main_v42 (idx_main_v43 (ix2 H t))))
      = ix2 (⟨H.val / 2, by omega⟩ : Fin 4) (⟨t.val / 512, by omega⟩ : Fin 32) := by
    have hH := H.isLt
    have ht := t.isLt
    funext a
    apply Fin.ext
    match a with
    | ⟨0, _⟩ =>
      show ((H.val * 16384 + t.val) / 16384 * 32 + (H.val * 16384 + t.val) / 512 % 32) / 64 = H.val / 2
      omega
    | ⟨1, _⟩ =>
      show ((H.val * 16384 + t.val) / 16384 * 32 + (H.val * 16384 + t.val) / 512 % 32) % 32 = t.val / 512
      omega
  rw [e]
  unfold start word
  have e' : idx_main_v31 (ix2 (⟨H.val / 2, by omega⟩ : Fin 4) (⟨t.val / 512, by omega⟩ : Fin 32))
      = ix1 (⟨32 * (H.val / 2) + t.val / 512, by omega⟩ : Fin 128) := by
    funext a
    apply Fin.ext
    match a with
    | ⟨0, _⟩ => show H.val / 2 * 32 + t.val / 512 = 32 * (H.val / 2) + t.val / 512; omega
  rw [e']
  rfl

theorem mask_apply (x0 : IVec S128 32) (hx : ∀ y, 0 ≤ (x0 y : BitVec 32).toInt) (H : Fin 8) (t s : Fin 16384) :
    val_main_v56 (F := Ideal) x0 (ix3 H t s)
      = if Hidden (word x0 ⟨H.val / 2, by omega⟩ ⟨t.val / 512, by omega⟩).toNat (t.val / 512) t.val s.val then 0#1 else 1#1 := by
  rw [val_main_v56_apply, val_main_v55_apply, val_main_v49_apply, val_main_v47_apply, val_main_v45_apply, val_main_v44_apply,
    val_main_v48_apply, val_main_v46_apply, val_main_v44_apply, val_main_v54_apply, val_main_v52_apply, val_main_v50_apply,
    val_main_v44_apply, val_main_v53_apply, val_main_v51_apply]
  have e : idx_main_v51 (idx_main_v53 (ix3 H t s)) = ix2 H t := by
    funext a
    match a with
    | ⟨0, _⟩ => rfl
    | ⟨1, _⟩ => rfl
  rw [e, start_apply]
  exact mask_word _ (hx _) _ (by omega) _ _ t.isLt s.isLt

end Cert.Attention

end
-- ==== Proof.Reference.lean ====
/-
  The reference's result as the attention's formula: its scores as real numbers, its softmax, and its weighted sums.
-/
module

public import proofs.«01_k».proof.Proof.Mask
public import Idealize.ShloMosaic.Lib.Pointwise

@[expose] public section

noncomputable section

open Idealize.ShloMosaic Idealize.ShloMosaic.TcCoe Idealize.SL.Sem

namespace Cert.Attention

open Cert.ReferenceIdeal Cert.ReferenceIdeal.Gen Cert.ReferenceIdeal.Read Cert.Model

/-! ### The arguments' rearrangements -/

/-- Indices with equal components are equal. -/
theorem ext2 {a b : ℕ} {x y : Shape.Idx ⟨2, ![a, b]⟩} (h0 : (x 0).val = (y 0).val) (h1 : (x 1).val = (y 1).val) : x = y := by
  funext k
  apply Fin.ext
  match k with
  | ⟨0, _⟩ => exact h0
  | ⟨1, _⟩ => exact h1

theorem ext3 {a b c : ℕ} {x y : Shape.Idx ⟨3, ![a, b, c]⟩} (h0 : (x 0).val = (y 0).val) (h1 : (x 1).val = (y 1).val)
    (h2 : (x 2).val = (y 2).val) : x = y := by
  funext k
  apply Fin.ext
  match k with
  | ⟨0, _⟩ => exact h0
  | ⟨1, _⟩ => exact h1
  | ⟨2, _⟩ => exact h2

section Layout
variable (x1 : Vec Ideal S8x64 .f32) (x2 : Vec Ideal S2048x16384 .bf16) (x3 : Vec Ideal S16384x1024 .bf16) (x4 : Vec Ideal S4x16384x2 .f32)
variable (H : Fin 8) (d : Fin 64) (t : Fin 16384)

theorem query_apply : val_main_v3 (F := Ideal) x2 (ix3 H t d) = query x2 H d t := by
  rw [val_main_v3_apply, val_main_v2_apply, val_main_v1_apply, val_main_v0_apply]
  refine congrArg x2 (ext2 ?_ ?_)
  · show 1024 + ((H.val * 64 + d.val) * 16384 + t.val) / 16384 = 1024 + (64 * H.val + d.val)
    omega
  · show ((H.val * 64 + d.val) * 16384 + t.val) % 16384 = t.val
    omega

theorem value_apply : val_main_v11 (F := Ideal) x2 (ix3 H t d) = val x2 H d t := by
  rw [val_main_v11_apply, val_main_v10_apply, val_main_v9_apply, val_main_v8_apply]
  refine congrArg x2 (ext2 ?_ ?_)
  · show 1536 + ((H.val * 64 + d.val) * 16384 + t.val) / 16384 = 1536 + (64 * H.val + d.val)
    omega
  · show ((H.val * 64 + d.val) * 16384 + t.val) % 16384 = t.val
    omega

theorem key_apply : val_main_v7 (F := Ideal) x3 (ix3 H t d) = key x3 H d t := by
  rw [val_main_v7_apply, val_main_v6_apply, val_main_v5_apply, val_main_v4_apply]
  refine congrArg x3 (ext2 ?_ ?_)
  · show ((t.val * 8 + H.val) * 64 + d.val) / 512 = t.val
    omega
  · show ((t.val * 8 + H.val) * 64 + d.val) % 512 = 64 * H.val + d.val
    omega

theorem gate_apply : val_main_v13 (F := Ideal) x4 (ix2 H t) = gate x4 H t := by
  rw [val_main_v13_apply, val_main_v12_apply]
  refine congrArg x4 (ext3 ?_ ?_ ?_)
  · show (H.val * 16384 + t.val) / 32768 = H.val / 2
    omega
  · show (H.val * 16384 + t.val) % 16384 = t.val
    omega
  · show (H.val * 16384 + t.val) / 16384 % 2 = H.val % 2
    omega

theorem tile_apply : val_main_v16 (F := Ideal) x1 (ix2 H t) = x1 (ix2 H (⟨t.val / 256, by omega⟩ : Fin 64)) := by
  rw [val_main_v16_apply, val_main_v15_apply]
  refine congrArg x1 (ext2 ?_ ?_)
  · show (H.val * 16384 + t.val) / 16384 = H.val
    omega
  · show (H.val * 16384 + t.val) / 256 % 64 = t.val / 256
    omega

end Layout

/-! ### The scores -/

/-- The reference's `log 2`. -/
theorem log_two (i : S_.Idx) : val_main_v14 (F := Ideal) i = ((Real.log 2 : ℝ) : EReal) := by
  rw [val_main_v14_apply, val_main_cst_apply]
  show Ideal.log (Ideal.ofBits .f32 0x40000000#32) = _
  rw [show Ideal.ofBits .f32 0x40000000#32 = ((2 : ℝ) : EReal) from by simp [Ideal.ofBits, Ideal.ieee, -EReal.coe_mul]; norm_num]
  rw [Ideal.log_coe, if_neg (by norm_num)]

/-- The decay up to a position. -/
def decay (R : Reals) (H : Fin 8) (t : Fin 16384) : ℝ := R.C H ⟨t.val / 256, by omega⟩ - R.N H t * Real.log 2

/-- A score, as a real number. -/
def score (R : Reals) (H : Fin 8) (t s : Fin 16384) : ℝ := R.Q H t s * Real.log 2 + decay R H t - decay R H s

section Scores
variable {x0 : IVec S128 32} {x1 : Vec Ideal S8x64 .f32} {x2 : Vec Ideal S2048x16384 .bf16} {x3 : Vec Ideal S16384x1024 .bf16}
  {x4 : Vec Ideal S4x16384x2 .f32} {R : Reals} (hR : R.Of x1 x2 x3 x4) (hx : ∀ y, 0 ≤ (x0 y : BitVec 32).toInt)
variable (H : Fin 8) (t s : Fin 16384)

include hR in
theorem decay_apply : val_main_v20 (F := Ideal) x1 x4 (ix2 H t) = ((decay R H t : ℝ) : EReal) := by
  rw [val_main_v20_apply, val_main_v19_apply, val_main_v18_apply, val_main_v17_apply, log_two, tile_apply, gate_apply, hR.N]
  refine (congrArg (fun z : EReal => z - ((R.N H t : ℝ) : EReal) * ((Real.log 2 : ℝ) : EReal)) (hR.C H _)).trans ?_
  unfold decay
  rw [EReal.coe_sub, EReal.coe_mul]

include hR in
theorem product_apply : val_main_v21 (F := Ideal) x2 x3 (ix3 H t s) = ((R.Q H t s : ℝ) : EReal) := by
  rw [val_main_v21_apply, ← hR.Q H t s]
  refine Finset.sum_congr rfl fun k _ => ?_
  rw [mul_comm]
  exact congrArg₂ (fun a b : EReal => a * b) (key_apply x3 H k s) (query_apply x2 H k t)

include hR in
theorem score_apply : val_main_v30 (F := Ideal) x1 x2 x3 x4 (ix3 H t s) = ((score R H t s : ℝ) : EReal) := by
  have eq : val_main_v26 (F := Ideal) x1 x4 (ix3 H t s) = ((decay R H t : ℝ) : EReal) := by
    rw [val_main_v26_apply, val_main_v25_apply, ← decay_apply hR H t]
    exact congrArg _ (ext2 rfl rfl)
  have ek : val_main_v29 (F := Ideal) x1 x4 (ix3 H t s) = ((decay R H s : ℝ) : EReal) := by
    rw [val_main_v29_apply, val_main_v28_apply, ← decay_apply hR H s]
    exact congrArg _ (ext2 rfl rfl)
  rw [val_main_v30_apply, val_main_v27_apply, val_main_v24_apply, val_main_v23_apply, val_main_v22_apply, log_two, product_apply hR, eq, ek]
  show ((R.Q H t s : ℝ) : EReal) * ((Real.log 2 : ℝ) : EReal) + ((decay R H t : ℝ) : EReal) - ((decay R H s : ℝ) : EReal) = _
  unfold score
  rw [EReal.coe_sub, EReal.coe_add, EReal.coe_mul]

theorem neg_inf_word : Ideal.ofBits .f32 0xFF800000#32 = ⊥ := by simp [Ideal.ofBits, Ideal.ieee]

include hR hx in
/-- The masked score. -/
theorem masked_apply : val_main_v57 (F := Ideal) x0 x1 x2 x3 x4 (ix3 H t s)
    = if Hidden (word x0 ⟨H.val / 2, by omega⟩ ⟨t.val / 512, by omega⟩).toNat (t.val / 512) t.val s.val then (⊥ : EReal)
      else ((score R H t s : ℝ) : EReal) := by
  rw [val_main_v57_apply, mask_apply x0 hx, score_apply hR, val_main_call0_v1_apply, val_main_call0_v0_apply, val_main_cst_2_apply]
  by_cases h : Hidden (word x0 ⟨H.val / 2, by omega⟩ ⟨t.val / 512, by omega⟩).toNat (t.val / 512) t.val s.val
  · rw [if_pos h, if_pos h]
    exact neg_inf_word
  · rw [if_neg h, if_neg h]
    rfl

/-- The row's maximum. -/
theorem fold_apply (v : FVec Ideal S8x16384x16384 .f32) (h : S8x16384x16384.ReducesTo [2] S8x16384) :
    Host.reduce FloatOps.maximumf v (val_main_cst_3 (F := Ideal)) h h_S_ (ix2 H t)
      = Finset.univ.fold max (⊥ : EReal) fun k : Fin 16384 => v (ix3 H t k) := by
  have e : (val_main_cst_3 (F := Ideal)) (Shape.Idx.first h_S_) = (⊥ : EReal) := neg_inf_word
  rw [← e]
  simp only [pointwise]

include hR hx in
theorem max_apply : ∃ M : ℝ, val_main_v60 (F := Ideal) x0 x1 x2 x3 x4 (ix2 H t) = (M : EReal) := by
  have e59 : val_main_v59 (F := Ideal) (ix2 H t) = (⊥ : EReal) := by
    rw [val_main_v59_apply, val_main_cst_4_apply]; exact neg_inf_word
  have e58 : val_main_v58 (F := Ideal) x0 x1 x2 x3 x4 (ix2 H t)
      = Finset.univ.fold max (⊥ : EReal) fun k : Fin 16384 => val_main_v57 (F := Ideal) x0 x1 x2 x3 x4 (ix3 H t k) := by
    unfold val_main_v58
    exact fold_apply H t _ _
  rw [val_main_v60_apply, e59, e58]
  have hd : ((score R H t t : ℝ) : EReal) ≤ Finset.univ.fold max (⊥ : EReal) fun k : Fin 16384 => val_main_v57 (F := Ideal) x0 x1 x2 x3 x4 (ix3 H t k) := by
    refine (Finset.le_fold_max _).mpr (Or.inr ⟨t, Finset.mem_univ _, ?_⟩)
    rw [masked_apply hR hx, if_neg (by unfold Hidden; omega)]
  have ht : (Finset.univ.fold max (⊥ : EReal) fun k : Fin 16384 => val_main_v57 (F := Ideal) x0 x1 x2 x3 x4 (ix3 H t k)) ≠ ⊤ := by
    refine Tile.fold_max_ne_top _ _ fun k => ?_
    rw [masked_apply hR hx]
    split
    · exact bot_ne_top
    · exact EReal.coe_ne_top _
  obtain ⟨M, hM⟩ := Tile.max_real (score R H t t) ht
  refine ⟨M, ?_⟩
  rw [← hM, max_eq_right hd]
  exact max_eq_right bot_le

/-- An exponential of a score is a weight, up to a factor of the row. -/
theorem exp_score (M : ℝ) : Real.exp (score R H t s - M)
    = Real.exp (-(R.N H t * Real.log 2) - M)
      * Real.rpow 2 ((R.Q H t s + R.N H s) + (Real.log 2)⁻¹ * (R.C H ⟨t.val / 256, by omega⟩ - R.C H ⟨s.val / 256, by omega⟩)) := by
  show _ = _ * (2 : ℝ) ^ (_ : ℝ)
  rw [Real.rpow_def_of_pos (by norm_num), ← Real.exp_add]
  have h2 : Real.log 2 ≠ 0 := (Real.log_pos (by norm_num)).ne'
  congr 1
  unfold score decay
  field_simp
  ring

include hR hx in
/-- The exponentials of a row are the weights, up to one positive factor. -/
theorem exp_apply : ∃ c : ℝ, 0 < c ∧ ∀ s, val_main_v64 (F := Ideal) x0 x1 x2 x3 x4 (ix3 H t s) = (c : EReal) * ((wt x0 R H t s : ℝ) : EReal) := by
  obtain ⟨M, hM⟩ := max_apply hR hx H t
  refine ⟨Real.exp (-(R.N H t * Real.log 2) - M), Real.exp_pos _, fun s => ?_⟩
  have e62 : val_main_v62 (F := Ideal) x0 x1 x2 x3 x4 (ix3 H t s) = (M : EReal) := by
    rw [val_main_v62_apply, val_main_v61_apply, ← hM]
    exact congrArg _ (ext2 rfl rfl)
  rw [val_main_v64_apply, val_main_v63_apply, e62, masked_apply hR hx]
  unfold wt
  by_cases h : Hidden (word x0 ⟨H.val / 2, by omega⟩ ⟨t.val / 512, by omega⟩).toNat (t.val / 512) t.val s.val
  · rw [if_pos h, if_pos h]
    show Ideal.exp ((⊥ : EReal) - (M : EReal)) = _
    rw [EReal.bot_sub, EReal.coe_zero, mul_zero]
    rfl
  · rw [if_neg h, if_neg h]
    show Ideal.exp (((score R H t s : ℝ) : EReal) - (M : EReal)) = _
    rw [← EReal.coe_sub, Ideal.exp_coe, exp_score, EReal.coe_mul]

include hR hx in
/-- The softmax is a weight over the weights' sum. -/
theorem soft_apply : val_main_v68 (F := Ideal) x0 x1 x2 x3 x4 (ix3 H t s) = ((wt x0 R H t s : ℝ) : EReal) * (((total x0 R H t)⁻¹ : ℝ) : EReal) := by
  obtain ⟨c, hc, he⟩ := exp_apply hR hx H t
  have e65 : val_main_v65 (F := Ideal) x0 x1 x2 x3 x4 (ix2 H t) = (c : EReal) * ((total x0 R H t : ℝ) : EReal) := by
    rw [val_main_v65_apply, val_main_cst_5_apply]
    unfold total
    rw [← coe_sum, Tile.coe_mul_sum _ c hc.le]
    have z : (FloatOps.ofBits .f32 0x00000000#32 : Ideal .f32) = (0 : EReal) := by
      show Ideal.ofBits .f32 0x00000000#32 = _
      simp [Ideal.ofBits, Ideal.ieee]
    refine (congrArg₂ (fun a b : EReal => a + b) z (Finset.sum_congr rfl fun k _ => ?_)).trans (zero_add _)
    refine (congrArg (val_main_v64 (F := Ideal) x0 x1 x2 x3 x4) (?_ : idx_main_v65 (ix2 H t) k = ix3 H t k)).trans (he k)
    exact ext3 rfl rfl rfl
  have e67 : val_main_v67 (F := Ideal) x0 x1 x2 x3 x4 (ix3 H t s) = (c : EReal) * ((total x0 R H t : ℝ) : EReal) := by
    rw [val_main_v67_apply, val_main_v66_apply, ← e65]
    exact congrArg _ (ext2 rfl rfl)
  rw [val_main_v68_apply, he, e67]
  exact div_common hc (total_pos x0 R H t) _

include hR hx in
theorem attn_apply (d : Fin 64) : val_main_v69 (F := Ideal) x0 x1 x2 x3 x4 (ix3 H t d) = attn x0 x2 R H d t := by
  rw [val_main_v69_apply]
  unfold attn
  rw [mul_comm, Tile.coe_mul_sum _ _ (inv_nonneg.mpr (total_pos x0 R H t).le)]
  refine Finset.sum_congr rfl fun k _ => ?_
  have e1 : lidx_main_v69 (ix3 H t d) k = ix3 H t k := ext3 rfl rfl rfl
  have e2 : ridx_main_v69 (ix3 H t d) k = ix3 H k d := ext3 rfl rfl rfl
  rw [e1, e2, soft_apply hR hx, value_apply]
  rw [mul_comm ((wt x0 R H t k : ℝ) : EReal), mul_assoc, mul_comm ((wt x0 R H t k : ℝ) : EReal)]

include hR hx in
/-- The reference's result. -/
theorem result_apply (z : S16384x512.Idx) : val_main_v72 (F := Ideal) x0 x1 x2 x3 x4 z
    = attn x0 x2 R (⟨(z 1).val / 64, by have : (z 1).val < 512 := (z 1).isLt; omega⟩ : Fin 8) (⟨(z 1).val % 64, by omega⟩ : Fin 64) (z 0) := by
  rw [val_main_v72_apply, val_main_v71_apply, val_main_v70_apply]
  have h0 : (z 0).val < 16384 := (z 0).isLt
  have h1 : (z 1).val < 512 := (z 1).isLt
  refine Eq.trans ?_ (attn_apply hR hx _ _ _)
  refine congrArg (val_main_v69 (F := Ideal) x0 x1 x2 x3 x4) (ext3 ?_ ?_ ?_)
  · show ((z 0).val * 512 + (z 1).val) / 64 % 8 = (z 1).val / 64
    omega
  · show ((z 0).val * 512 + (z 1).val) / 512 = (z 0).val
    omega
  · show ((z 0).val * 512 + (z 1).val) % 64 = (z 1).val % 64
    omega

end Scores

end Cert.Attention

end
-- ==== Proof.Tables.lean ====
/-
  What the precondition `regions` says of the experts' tables, word by word.
-/
module

public import proofs.«01_k».proof.Defs
public import proofs.«01_k».proof.Proof.Gen.Pre_regions
public import Idealize.ShloMosaic.Lib.ReduceAll
public import Idealize.ShloMosaic.Lib.WordCmp
public import Idealize.ShloMosaic.Lib.Affine
public import Idealize.ShloMosaic.Lib.Pipeline.Value
public import Idealize.ShloMosaic.Lib.ValueIdx

@[expose] public section

namespace Cert.Tables

open Idealize.ShloMosaic Idealize.ShloMosaic.ValueIdx Cert.Pre_regions

instance : Subsingleton S_.Idx := ⟨fun a b => funext fun k => k.elim0⟩

theorem of_bit {b : Bool} (h : BitVec.ofBool b = 1#1) : b = true := by revert h; cases b <;> decide

theorem sle_word {x y : BitVec 32} (h : IntOp.cmpi .sle x y = 1#1) : x.toInt ≤ y.toInt :=
  of_decide_eq_true (of_bit (h ▸ (WordCmp.cmpi_sle_eq x y).symm))
theorem sge_word {x y : BitVec 32} (h : IntOp.cmpi .sge x y = 1#1) : y.toInt ≤ x.toInt :=
  of_decide_eq_true (of_bit (h ▸ (WordCmp.cmpi_sge_eq x y).symm))
theorem slt_word {x y : BitVec 32} (h : IntOp.cmpi .slt x y = 1#1) : x.toInt < y.toInt :=
  of_decide_eq_true (of_bit (h ▸ (WordCmp.cmpi_slt_eq x y).symm))
theorem eq_word {x y : BitVec 32} (h : IntOp.cmpi .eq x y = 1#1) : x = y :=
  of_decide_eq_true (of_bit (h ▸ (WordCmp.cmpi_eq_eq x y).symm))

/-- A signed word between two small numbers, unsigned. -/
theorem small {x : BitVec 32} {k : ℕ} (h0 : 0 ≤ x.toInt) (h : x.toInt ≤ k) : x.toNat ≤ k ∧ x.toInt = x.toNat := by
  have e := BitVec.toInt_eq_toNat_cond x
  have l := x.isLt
  split at e <;> omega

theorem ofNat_small {k : ℕ} (h : k < 1000) : (BitVec.ofNat 32 k).toInt = k := by
  have e : (BitVec.ofNat 32 k).toNat = k := by rw [BitVec.toNat_ofNat]; omega
  rw [WordCmp.toInt_eq_toNat_of_lt_half (by rw [e]; show k < 2147483648; omega), e]

/-- The block after, the last block's being the first. -/
abbrev succ (k : Fin 160) : Fin 160 := ⟨(k.val + 1) % 160, Nat.mod_lt _ (by decide)⟩

variable [Facts] {F : FTy → Type} [FloatOps F]

/-- The rotated table. -/
theorem rotated (a : IVec S160 32) (k : Fin 160) (h : k.val + 1 < 160) :
    concatenate S160 0 [⟨S159, extractStridedSlice S159 ![1] a Facts.slices_S160_S159_1⟩, ⟨S1, extractStridedSlice S1 ![0] a Facts.slices_S160_S1_0⟩]
      Facts.concatenates_S159_S1_S160_d0 (ix1 k) = a (ix1 (succ k)) := by
  refine (concatenate_pair_apply_left (t := S160) (s₁ := S159) (s₂ := S1) 0 _ _ _ (ix1 k) rfl (show S159.Idx from ix1 (⟨k.val, by omega⟩ : Fin 159)) fun b => match b with | ⟨0, _⟩ => rfl).trans ?_
  refine congrArg a (funext fun b => Fin.ext ?_)
  match b with
  | ⟨0, _⟩ => show 1 + k.val = (k.val + 1) % 160; omega

/-- `regions`, decoded. -/
theorem regions (a0 a1 : IVec S160 32) (a2 : IVec S1 32) (a3 : FVec F S655360x128 .f32) (a4 : FVec F S32x1024x2048 .f32)
    (a5 : FVec F S32x1x2048 .f32) (a6 : FVec F S32x1024x1024 .f32) (a7 : FVec F S32x1x1024 .f32)
    (h : fn (F := F) a0 a1 a2 a3 a4 a5 a6 a7 = fun _ => 1#1) :
    (∀ k : Fin 160, (a0 (ix1 k) : BitVec 32).toNat < 32) ∧ 1 ≤ (a2 (ix1 0) : BitVec 32).toNat ∧ (a2 (ix1 0) : BitVec 32).toNat ≤ 160
      ∧ ∀ k : Fin 160, k.val < (a2 (ix1 0) : BitVec 32).toNat →
        a1 (ix1 k) = if k.val + 1 < (a2 (ix1 0) : BitVec 32).toNat then (if a0 (ix1 (succ k)) ≠ a0 (ix1 k) then a0 (ix1 (succ k)) else a1 (ix1 (succ k)))
          else 4294967295#32 := by
  have e := congrFun h (fun k => k.elim0)
  dsimp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have n1 : (1#32).toInt ≤ (a2 (ix1 0) : BitVec 32).toInt := sge_word (Host.reduce_andi_all _ _ _ _ _ e1 (ix1 0))
  have n2 : (a2 (ix1 0) : BitVec 32).toInt ≤ (160#32).toInt := sle_word (Host.reduce_andi_all _ _ _ _ _ e2 (ix1 0))
  have b0 : ∀ k : Fin 160, (0#32).toInt ≤ (a0 (ix1 k) : BitVec 32).toInt := fun k => sge_word (Host.reduce_andi_all _ _ _ _ _ e3 (ix1 k))
  have b1 : ∀ k : Fin 160, (a0 (ix1 k) : BitVec 32).toInt < (32#32).toInt := fun k => slt_word (Host.reduce_andi_all _ _ _ _ _ e4 (ix1 k))
  rw [show (1#32).toInt = 1 from rfl] at n1
  rw [show (160#32).toInt = 160 from rfl] at n2
  obtain ⟨n3, n4⟩ := small (k := 160) (by omega) n2
  refine ⟨fun k => ?_, by omega, n3, fun k hk => ?_⟩
  · have l := b0 k
    have u := b1 k
    rw [show (0#32).toInt = 0 from rfl] at l
    rw [show (32#32).toInt = 32 from rfl] at u
    have := (small (k := 31) l (by omega)).1
    omega
  · have r := Host.reduce_andi_all _ _ _ _ _ e5 (ix1 k)
    have hs : ∀ y : S_.Idx, shapeCast S_ a2 Facts.shapeCasts_S1_S_ y = a2 (ix1 0) := fun y =>
      congrArg a2 (funext fun b => match b with | ⟨0, _⟩ => Subsingleton.elim (α := Fin 1) _ _)
    rcases IntOp.ori_eq_one.1 r with r | r
    · have r := sle_word r
      rw [show broadcastInDim S160 ![] Facts.bcast_S_S160 (shapeCast S_ a2 Facts.shapeCasts_S1_S_) (ix1 k) = a2 (ix1 0) from hs _,
        show iotaInDim S160 32 0 (ix1 k) = BitVec.ofNat 32 k.val from rfl, ofNat_small (by omega)] at r
      omega
    · refine (eq_word r).trans ?_
      have hadd : IntOp.addi (BitVec.ofNat 32 k.val) 1#32 = BitVec.ofNat 32 (k.val + 1) := (BitVec.ofNat_add _ _).symm
      have hc : IntOp.cmpi .slt (IntOp.addi (BitVec.ofNat 32 k.val) 1#32) (a2 (ix1 0)) = BitVec.ofBool (decide (k.val + 1 < (a2 (ix1 0) : BitVec 32).toNat)) := by
        rw [hadd, WordCmp.cmpi_slt_eq, ofNat_small (by omega), n4]
        exact congrArg BitVec.ofBool (decide_eq_decide.2 (by omega))
      by_cases h1 : k.val + 1 < (a2 (ix1 0) : BitVec 32).toNat
      · rw [if_pos h1]
        rw [decide_eq_true h1] at hc
        refine (WordCmp.select_of_eq_one (c := _) ((congrArg (fun z => IntOp.cmpi .slt (IntOp.addi (BitVec.ofNat 32 k.val) 1#32) z) (hs _)).trans hc) _ _).trans ?_
        have r0 := rotated a0 k (by omega)
        have r1 := rotated a1 k (by omega)
        by_cases h2 : a0 (ix1 (succ k)) ≠ a0 (ix1 k)
        · rw [if_pos h2]
          refine (WordCmp.select_of_eq_one (c := _) ((congrArg (fun z => IntOp.cmpi .ne z (a0 (ix1 k))) r0).trans ?_) _ _).trans r0
          rw [WordCmp.cmpi_ne_eq, decide_eq_true h2]; rfl
        · rw [if_neg h2]
          refine (WordCmp.select_of_eq_zero (c := _) ((congrArg (fun z => IntOp.cmpi .ne z (a0 (ix1 k))) r0).trans ?_) _ _).trans r1
          rw [WordCmp.cmpi_ne_eq, decide_eq_false h2]; rfl
      · rw [if_neg h1]
        rw [decide_eq_false h1] at hc
        exact WordCmp.select_of_eq_zero (c := _) ((congrArg (fun z => IntOp.cmpi .slt (IntOp.addi (BitVec.ofNat 32 k.val) 1#32) z) (hs _)).trans hc) _ _

end Cert.Tables
-- ==== Proof.ExpertsIdealLoops.lean ====
/-
  The body of the experts' call, run symbolically.
-/
module

public import proofs.«01_k».proof.Proof.Gen.ExpertsIdeal.Launch
public import proofs.«01_k».proof.Proof.Gen.ExpertsIdeal.Skeleton
public import proofs.«01_k».proof.Proof.Gen.ExpertsIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit

@[expose] public section

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The rounding loop 1 -/

/-- Before trip `k` the rows under `128 k` of the rounded copy are the rounded rows of the fetched matrix. -/
def Rounded1 (arg10 : Memref sig .tc .vmem S1024x2048 .f32) (arg12 : Memref sig .tc .vmem S1024x2048 .bf16)
    (X : BufTy.Contents (Elt F) arg10.view.ty) (k : ℕ) (f : BufTy.Contents (Elt F) arg12.view.ty) : Prop :=
  ∀ y : S1024x2048.Idx, (y 0).val < 128 * k → arg12.view.read (Elt F) f y = FloatOps.truncf .bf16 bitsLt_bf16_f32 (arg10.view.read (Elt F) X y)

theorem off1_eq : ∀ k : Fin k0_t1_loop.trips, k0_off8 k = ![128 * k.val, 0] := by decide

theorem rounded1_step (arg10 : Memref sig .tc .vmem S1024x2048 .f32) (arg12 : Memref sig .tc .vmem S1024x2048 .bf16)
    (X : BufTy.Contents (Elt F) arg10.view.ty) (k : Fin k0_t1_loop.trips) (f : BufTy.Contents (Elt F) arg12.view.ty)
    (h : Rounded1 arg10 arg12 X k.val f) :
    Rounded1 arg10 arg12 X (k.val + 1) (arg12.view.writes (Elt F) f
      [⟨Rect.unit (s := S1024x2048) (k0_off8 k) S128x2048.size (k0_off8_inb k), k0_pay1 (arg10.view.readAt (Elt F) (Rect.unit (s := S1024x2048) (k0_off8 k) S128x2048.size (k0_off8_inb k)).toLoadRect X)⟩]) := by
  intro y hy
  by_cases hm : (y 0).val < 128 * k.val
  · refine (View.read_writes_cons_unit_of_not_mem _ f (k0_off8_inb k) _ [] y (off1_eq k) 0 (Or.inl ?_)).trans (h y hm)
    exact hm
  · refine (View.read_writes_cons_unit_of_mem _ f (k0_off8_inb k) _ [] y
      (fun a => match a with | 0 => (⟨(y 0).val - 128 * k.val, by show _ < 128; omega⟩ : Fin 128) | 1 => y 1) (off1_eq k) ?_).trans ?_
    · intro a
      match a with
      | 0 => show (y 0).val = 128 * k.val + ((y 0).val - 128 * k.val); omega
      | 1 => show (y 1).val = 0 + (y 1).val; omega
    · show FloatOps.truncf .bf16 bitsLt_bf16_f32 (arg10.view.read (Elt F) X _) = _
      congr 2
      refine (congrArg _ (Shape.reshapeEquiv_self _ _)).trans ?_
      funext a
      apply Fin.ext
      have e := congrFun (off1_eq k) a
      match a, e with
      | 0, e => show k0_off8 k 0 + 1 * ((y 0).val - 128 * k.val) = (y 0).val; rw [e]; show 128 * k.val + _ = _; omega
      | 1, e => show k0_off8 k 1 + 1 * (y 1).val = (y 1).val; rw [e]; show 0 + _ = _; omega

/-- The same as an equation, trivial before the first trip. -/
def Done1 (arg10 : Memref sig .tc .vmem S1024x2048 .f32) (arg12 : Memref sig .tc .vmem S1024x2048 .bf16)
    (X : BufTy.Contents (Elt F) arg10.view.ty) (f : BufTy.Contents (Elt F) arg12.view.ty) : ℕ → Prop
  | 0 => True
  | k + 1 => Rounded1 arg10 arg12 X (k + 1) f

theorem done1_rounded {arg10 : Memref sig .tc .vmem S1024x2048 .f32} {arg12 : Memref sig .tc .vmem S1024x2048 .bf16}
    {X : BufTy.Contents (Elt F) arg10.view.ty} {f : BufTy.Contents (Elt F) arg12.view.ty} {k : ℕ}
    (h : Done1 arg10 arg12 X f k = True) : Rounded1 arg10 arg12 X k f := by
  match k, h with
  | 0, _ => exact fun y hy => absurd hy (by omega)
  | k + 1, h => exact of_eq_true h

set_option warn.classDefReducibility false in
/-- The loop by its invariant: the matrix stays as it is, the rows done are rounded. -/
@[sl_loop] def loopR1 (𝒱 : Variants) (c : Dev nD) (bd : Option 𝒱.V) (E : Set ℕ) (i : grid0.Coords) (arg1 : Memref sig .tc .smem S160 .i32) (harg1 : arg1.IsWhole) (arg2 : Memref sig .tc .smem S160 .i32) (harg2 : arg2.IsWhole) (arg3 : Memref sig .tc .smem S1 .i32) (harg3 : arg3.IsWhole) (arg4 : Memref sig .tc .vmem S4096x128 .f32) (harg4 : arg4.IsWhole) (arg5 : Memref sig .tc .hbm S32x1024x2048 .f32) (harg5 : arg5.IsWhole) (arg6 : Memref sig .tc .vmem S1x1x2048 .f32) (harg6 : arg6.IsWhole) (arg7 : Memref sig .tc .hbm S32x1024x1024 .f32) (harg7 : arg7.IsWhole) (arg8 : Memref sig .tc .vmem S1x1x1024 .f32) (harg8 : arg8.IsWhole) (arg9 : Memref sig .tc .vmem S4096x128 .f32) (harg9 : arg9.IsWhole) (arg10 : Memref sig .tc .vmem S1024x2048 .f32) (harg10 : arg10.IsWhole) (arg11 : Memref sig .tc .vmem S1024x1024 .f32) (harg11 : arg11.IsWhole) (arg12 : Memref sig .tc .vmem S1024x2048 .bf16) (harg12 : arg12.IsWhole) (arg13 : Memref sig .tc .vmem S1024x1024 .bf16) (harg13 : arg13.IsWhole) (arg14 : DmaSems sig S2)
    (X : BufTy.Contents (Elt F) arg10.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 where
  inv k _ := iprop((arg10.view.loc (c : Thread nD τ) ↦[arg10.view.set]{fullShare} X)
    ∗ (∃ f, (arg12.view.loc (c : Thread nD τ) ↦[arg12.view.set]{fullShare} f) ∗ ⌜Done1 arg10 arg12 X f k = True⌝))
  step k acc := by
    have hk : k.val < 8 := Nat.lt_of_lt_of_le k.isLt k0_t1_abs.2.1
    unfold k0_t1_body
    iintro ⟨HR, ⟨%f, HW, %hf⟩⟩
    sl_exec
    sl_step
    isplitl [HR]; · iexact HR
    iexists _; isplitl [HW]; · iexact HW
    ipureintro
    exact eq_true (rounded1_step _ _ _ _ _ (done1_rounded hf))

/-! ## The rounding loop 2 -/

/-- Before trip `k` the rows under `128 k` of the rounded copy are the rounded rows of the fetched matrix. -/
def Rounded2 (arg11 : Memref sig .tc .vmem S1024x1024 .f32) (arg13 : Memref sig .tc .vmem S1024x1024 .bf16)
    (X : BufTy.Contents (Elt F) arg11.view.ty) (k : ℕ) (f : BufTy.Contents (Elt F) arg13.view.ty) : Prop :=
  ∀ y : S1024x1024.Idx, (y 0).val < 128 * k → arg13.view.read (Elt F) f y = FloatOps.truncf .bf16 bitsLt_bf16_f32 (arg11.view.read (Elt F) X y)

theorem off2_eq : ∀ k : Fin k0_t2_loop.trips, k0_off9 k = ![128 * k.val, 0] := by decide

theorem rounded2_step (arg11 : Memref sig .tc .vmem S1024x1024 .f32) (arg13 : Memref sig .tc .vmem S1024x1024 .bf16)
    (X : BufTy.Contents (Elt F) arg11.view.ty) (k : Fin k0_t2_loop.trips) (f : BufTy.Contents (Elt F) arg13.view.ty)
    (h : Rounded2 arg11 arg13 X k.val f) :
    Rounded2 arg11 arg13 X (k.val + 1) (arg13.view.writes (Elt F) f
      [⟨Rect.unit (s := S1024x1024) (k0_off9 k) S128x1024.size (k0_off9_inb k), k0_pay2 (arg11.view.readAt (Elt F) (Rect.unit (s := S1024x1024) (k0_off9 k) S128x1024.size (k0_off9_inb k)).toLoadRect X)⟩]) := by
  intro y hy
  by_cases hm : (y 0).val < 128 * k.val
  · refine (View.read_writes_cons_unit_of_not_mem _ f (k0_off9_inb k) _ [] y (off2_eq k) 0 (Or.inl ?_)).trans (h y hm)
    exact hm
  · refine (View.read_writes_cons_unit_of_mem _ f (k0_off9_inb k) _ [] y
      (fun a => match a with | 0 => (⟨(y 0).val - 128 * k.val, by show _ < 128; omega⟩ : Fin 128) | 1 => y 1) (off2_eq k) ?_).trans ?_
    · intro a
      match a with
      | 0 => show (y 0).val = 128 * k.val + ((y 0).val - 128 * k.val); omega
      | 1 => show (y 1).val = 0 + (y 1).val; omega
    · show FloatOps.truncf .bf16 bitsLt_bf16_f32 (arg11.view.read (Elt F) X _) = _
      congr 2
      refine (congrArg _ (Shape.reshapeEquiv_self _ _)).trans ?_
      funext a
      apply Fin.ext
      have e := congrFun (off2_eq k) a
      match a, e with
      | 0, e => show k0_off9 k 0 + 1 * ((y 0).val - 128 * k.val) = (y 0).val; rw [e]; show 128 * k.val + _ = _; omega
      | 1, e => show k0_off9 k 1 + 1 * (y 1).val = (y 1).val; rw [e]; show 0 + _ = _; omega

/-- The same as an equation, trivial before the first trip. -/
def Done2 (arg11 : Memref sig .tc .vmem S1024x1024 .f32) (arg13 : Memref sig .tc .vmem S1024x1024 .bf16)
    (X : BufTy.Contents (Elt F) arg11.view.ty) (f : BufTy.Contents (Elt F) arg13.view.ty) : ℕ → Prop
  | 0 => True
  | k + 1 => Rounded2 arg11 arg13 X (k + 1) f

theorem done2_rounded {arg11 : Memref sig .tc .vmem S1024x1024 .f32} {arg13 : Memref sig .tc .vmem S1024x1024 .bf16}
    {X : BufTy.Contents (Elt F) arg11.view.ty} {f : BufTy.Contents (Elt F) arg13.view.ty} {k : ℕ}
    (h : Done2 arg11 arg13 X f k = True) : Rounded2 arg11 arg13 X k f := by
  match k, h with
  | 0, _ => exact fun y hy => absurd hy (by omega)
  | k + 1, h => exact of_eq_true h

set_option warn.classDefReducibility false in
/-- The loop by its invariant: the matrix stays as it is, the rows done are rounded. -/
@[sl_loop] def loopR2 (𝒱 : Variants) (c : Dev nD) (bd : Option 𝒱.V) (E : Set ℕ) (i : grid0.Coords) (arg1 : Memref sig .tc .smem S160 .i32) (harg1 : arg1.IsWhole) (arg2 : Memref sig .tc .smem S160 .i32) (harg2 : arg2.IsWhole) (arg3 : Memref sig .tc .smem S1 .i32) (harg3 : arg3.IsWhole) (arg4 : Memref sig .tc .vmem S4096x128 .f32) (harg4 : arg4.IsWhole) (arg5 : Memref sig .tc .hbm S32x1024x2048 .f32) (harg5 : arg5.IsWhole) (arg6 : Memref sig .tc .vmem S1x1x2048 .f32) (harg6 : arg6.IsWhole) (arg7 : Memref sig .tc .hbm S32x1024x1024 .f32) (harg7 : arg7.IsWhole) (arg8 : Memref sig .tc .vmem S1x1x1024 .f32) (harg8 : arg8.IsWhole) (arg9 : Memref sig .tc .vmem S4096x128 .f32) (harg9 : arg9.IsWhole) (arg10 : Memref sig .tc .vmem S1024x2048 .f32) (harg10 : arg10.IsWhole) (arg11 : Memref sig .tc .vmem S1024x1024 .f32) (harg11 : arg11.IsWhole) (arg12 : Memref sig .tc .vmem S1024x2048 .bf16) (harg12 : arg12.IsWhole) (arg13 : Memref sig .tc .vmem S1024x1024 .bf16) (harg13 : arg13.IsWhole) (arg14 : DmaSems sig S2)
    (X : BufTy.Contents (Elt F) arg11.view.ty) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 where
  inv k _ := iprop((arg11.view.loc (c : Thread nD τ) ↦[arg11.view.set]{fullShare} X)
    ∗ (∃ f, (arg13.view.loc (c : Thread nD τ) ↦[arg13.view.set]{fullShare} f) ∗ ⌜Done2 arg11 arg13 X f k = True⌝))
  step k acc := by
    have hk : k.val < 8 := Nat.lt_of_lt_of_le k.isLt k0_t2_abs.2.1
    unfold k0_t2_body
    iintro ⟨HR, ⟨%f, HW, %hf⟩⟩
    sl_exec
    sl_step
    isplitl [HR]; · iexact HR
    iexists _; isplitl [HW]; · iexact HW
    ipureintro
    exact eq_true (rounded2_step _ _ _ _ _ (done2_rounded hf))

end Cert.ExpertsIdeal.Moe

end
-- ==== Proof.ExpertsIdealBlock.lean ====
/-
  What the experts' call copies, holds and computes.
-/
module

public import proofs.«01_k».proof.Proof.Gen.ExpertsIdeal.Launch
public import proofs.«01_k».proof.Proof.Gen.ExpertsIdeal.Skeleton
public import proofs.«01_k».proof.Proof.Gen.ExpertsIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueLayout
public import proofs.«01_k».proof.Proof.ExpertsIdealLoops

@[expose] public section

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The buffers -/

abbrev scA : Memref sig .tc .vmem S1024x2048 .f32 := Memref.whole cc0_scratch0
abbrev scB : Memref sig .tc .vmem S1024x1024 .f32 := Memref.whole cc0_scratch1
abbrev rdA : Memref sig .tc .vmem S1024x2048 .bf16 := Memref.whole cc0_scratch2
abbrev rdB : Memref sig .tc .vmem S1024x1024 .bf16 := Memref.whole cc0_scratch3
abbrev hbA : Memref sig .tc .hbm S32x1024x2048 .f32 := Memref.whole main_arg4
abbrev hbB : Memref sig .tc .hbm S32x1024x1024 .f32 := Memref.whole main_arg6
abbrev tbE : Memref sig .tc .smem S160 .i32 := Memref.whole main_arg0
abbrev tbN : Memref sig .tc .smem S160 .i32 := Memref.whole main_arg1
abbrev tbU : Memref sig .tc .smem S1 .i32 := Memref.whole main_arg2
abbrev BufOf (c : Dev nD) {sp : Space} {S : Shape} {e : EltTy} (M : Memref sig .tc sp S e) : Type := Buf (Elt F) (M.view.loc (c : Thread nD τ))
/-- A buffer held whole. -/
abbrev held (c : Dev nD) {sp : Space} {S : Shape} {e : EltTy} (M : Memref sig .tc sp S e) (f : BufOf (F := F) c M) : sProp 𝕄 :=
  M.view.loc (c : Thread nD τ) ↦{fullShare} f
/-- The body's share of a prefetched table. -/
abbrev tbl (c : Dev nD) {sp : Space} {S : Shape} {e : EltTy} (M : Memref sig .tc sp S e) (f : BufOf (F := F) c M) : sProp 𝕄 :=
  M.view.loc (c : Thread nD τ) ↦{fullShare.right} f

/-- The words the body reads of the tables. -/
abbrev wPrev {c : Dev nD} (i : grid0.Coords) (x : BufOf (F := F) c tbE) : BitVec 32 :=
  tbE.view.readAt (Elt F) (Rect.unit (s := S160) (k0_off2 i) S1.size (k0_off2_inb i)).toLoadRect x (Shape.Idx.first (numel1_S1.symm ▸ Nat.one_pos))
abbrev wHere {c : Dev nD} (i : grid0.Coords) (x : BufOf (F := F) c tbE) : BitVec 32 :=
  tbE.view.readAt (Elt F) (Rect.unit (s := S160) (k0_off1 i) S1.size (k0_off1_inb i)).toLoadRect x (Shape.Idx.first (numel1_S1.symm ▸ Nat.one_pos))
abbrev wFirst {c : Dev nD} (x : BufOf (F := F) c tbE) : BitVec 32 :=
  tbE.view.readAt (Elt F) (Rect.unit (s := S160) ![0] S1.size inb_S160_S1_0).toLoadRect x (Shape.Idx.first (numel1_S1.symm ▸ Nat.one_pos))
abbrev wNow {c : Dev nD} (i : grid0.Coords) (x : BufOf (F := F) c tbE) : BitVec 32 :=
  tbE.view.readAt (Elt F) (Rect.unit (s := S160) (k0_off5 i) S1.size (k0_off5_inb i)).toLoadRect x (Shape.Idx.first (numel1_S1.symm ▸ Nat.one_pos))
abbrev wNext {c : Dev nD} (i : grid0.Coords) (x : BufOf (F := F) c tbN) : BitVec 32 :=
  tbN.view.readAt (Elt F) (Rect.unit (s := S160) (k0_off10 i) S1.size (k0_off10_inb i)).toLoadRect x (Shape.Idx.first (numel1_S1.symm ▸ Nat.one_pos))
abbrev wNext' {c : Dev nD} (i : grid0.Coords) (x : BufOf (F := F) c tbN) : BitVec 32 :=
  tbN.view.readAt (Elt F) (Rect.unit (s := S160) (k0_off11 i) S1.size (k0_off11_inb i)).toLoadRect x (Shape.Idx.first (numel1_S1.symm ▸ Nat.one_pos))
abbrev wUsed {c : Dev nD} (x : BufOf (F := F) c tbU) : BitVec 32 :=
  tbU.view.readAt (Elt F) (Rect.unit (s := S1) ![0] S1.size inb_S1_S1_0).toLoadRect x (Shape.Idx.first (numel1_S1.symm ▸ Nat.one_pos))

/-! ## What the copies bring -/

/-- An expert's matrices, of the arrays of all the experts'. -/
def matA (w : Vec F S32x1024x2048 .f32) (v : BitVec 32) : Vec F S1024x2048 .f32 :=
  fun y => w (ix3 (⟨v.toNat % 32, Nat.mod_lt _ (by decide)⟩ : Fin 32) (y 0 : Fin 1024) (y 1 : Fin 2048))
def matB (w : Vec F S32x1024x1024 .f32) (v : BitVec 32) : Vec F S1024x1024 .f32 :=
  fun y => w (ix3 (⟨v.toNat % 32, Nat.mod_lt _ (by decide)⟩ : Fin 32) (y 0 : Fin 1024) (y 1 : Fin 1024))

theorem eta2 {a b : ℕ} (y : (⟨2, ![a, b]⟩ : Shape).Idx) : y = ix2 (y 0 : Fin a) (y 1 : Fin b) :=
  funext fun k => match k with | 0 => rfl | 1 => rfl
theorem cons1 {a b : ℕ} (h : (⟨2, ![a, b]⟩ : Shape).numel = (⟨3, ![1, a, b]⟩ : Shape).numel) (y : (⟨2, ![a, b]⟩ : Shape).Idx) :
    Shape.reshapeEquiv h y = ix3 (0 : Fin 1) (y 0 : Fin a) (y 1 : Fin b) :=
  (congrArg _ (eta2 y)).trans (reshapeEquiv_ix2_1ab h _ _)

theorem slotA_read (w : Vec F S32x1024x2048 .f32) (v : BitVec 32) (hv : v.toNat < 32)
    (h : ∀ a, (k0_off12 v) a + S1x1024x2048.size a ≤ S32x1024x2048.size a) :
    ReadAs.same.apply (((hbA.slice (Rect.unit (s := S32x1024x2048) (k0_off12 v) S1x1024x2048.size h) (fun _ => rfl)).squeeze S1024x2048 squeezes_S1x1024x2048_S1024x2048).view.read (Elt F) w)
      = matA w v := by
  funext y
  refine (congrArg (fun t => w ((Rect.unit (s := S32x1024x2048) (k0_off12 v) S1x1024x2048.size h).idx t)) (cons1 _ y)).trans ?_
  unfold matA
  refine congrArg w (funext fun a => Fin.ext ?_)
  match a with
  | 0 => show v.toNat + 1 * 0 = v.toNat % 32; omega
  | 1 => show 0 + 1 * (y 0).val = (y 0).val; omega
  | 2 => show 0 + 1 * (y 1).val = (y 1).val; omega
theorem slotB_read (w : Vec F S32x1024x1024 .f32) (v : BitVec 32) (hv : v.toNat < 32)
    (h : ∀ a, (k0_off13 v) a + S1x1024x1024.size a ≤ S32x1024x1024.size a) :
    ReadAs.same.apply (((hbB.slice (Rect.unit (s := S32x1024x1024) (k0_off13 v) S1x1024x1024.size h) (fun _ => rfl)).squeeze S1024x1024 squeezes_S1x1024x1024_S1024x1024).view.read (Elt F) w)
      = matB w v := by
  funext y
  refine (congrArg (fun t => w ((Rect.unit (s := S32x1024x1024) (k0_off13 v) S1x1024x1024.size h).idx t)) (cons1 _ y)).trans ?_
  unfold matB
  refine congrArg w (funext fun a => Fin.ext ?_)
  match a with
  | 0 => show v.toNat + 1 * 0 = v.toNat % 32; omega
  | 1 => show 0 + 1 * (y 0).val = (y 0).val; omega
  | 2 => show 0 + 1 * (y 1).val = (y 1).val; omega

/-- The copies of an expert's matrices into the scratch, in flight: what each will hand back, and what stays held of the array
    it reads meanwhile. -/
def flyA (c : Dev nD) (w : BufOf (F := F) c hbA) (d : Vec F S1024x2048 .f32) : sProp 𝕄 :=
  iprop(∃ g S, Transfers.Flight (countersEmb (U := Pipeline.UD sig nD τ)) (c : Thread nD τ) (SemLoc.dma 8) () 262144
      iprop((scA.view.loc (c : Thread nD τ) ↦[scA.view.set]{fullShare} g) ∗ (hbA.view.loc (c : Thread nD τ) ↦[S]{fullShare} w))
    ∗ (hbA.view.loc (c : Thread nD τ) ↦[Finset.univ \ S]{fullShare} w) ∗ ⌜scA.view.read (Elt F) g = d⌝)
def flyB (c : Dev nD) (w : BufOf (F := F) c hbB) (d : Vec F S1024x1024 .f32) : sProp 𝕄 :=
  iprop(∃ g S, Transfers.Flight (countersEmb (U := Pipeline.UD sig nD τ)) (c : Thread nD τ) (SemLoc.dma 9) () 131072
      iprop((scB.view.loc (c : Thread nD τ) ↦[scB.view.set]{fullShare} g) ∗ (hbB.view.loc (c : Thread nD τ) ↦[S]{fullShare} w))
    ∗ (hbB.view.loc (c : Thread nD τ) ↦[Finset.univ \ S]{fullShare} w) ∗ ⌜scB.view.read (Elt F) g = d⌝)
/-- Nothing in flight: the cells at zero, the scratch at anything, the arrays whole. -/
def idle (c : Dev nD) (wA : BufOf (F := F) c hbA) (wB : BufOf (F := F) c hbB) : sProp 𝕄 :=
  iprop(semVal ((c : Thread nD τ), SemLoc.dma 8) 0 ∗ semVal ((c : Thread nD τ), SemLoc.dma 9) 0
    ∗ (∃ f, scA.view.loc (c : Thread nD τ) ↦[scA.view.set]{fullShare} f) ∗ (∃ f, scB.view.loc (c : Thread nD τ) ↦[scB.view.set]{fullShare} f)
    ∗ held c hbA wA ∗ held c hbB wB)

/-! ## What the block's rows become -/

/-- The rounding of a whole matrix. -/
abbrev rnd {s : Shape} (x : Vec F s .f32) : Vec F s .bf16 := fun y => FloatOps.truncf .bf16 bitsLt_bf16_f32 (x y)
/-- A rectangle of a value. -/
abbrev ldr {s : Shape} {e : EltTy} (x : Vec F s e) (r : LoadRect s) : r.shape.Idx → Elt F e := fun y => x (r.idx y)

theorem strided_inb (j : Fin 8) : ∀ a, S512x128.size a = 0 ∨ (![j.val, 0] : Fin 2 → ℕ) a + (![8, 1] : Fin 2 → ℕ) a * (S512x128.size a - 1) < S4096x128.size a := by
  revert j; decide
/-- Every eighth row from row `j`. -/
abbrev strided (j : Fin 8) : LoadRect S4096x128 := ⟨![j.val, 0], S512x128.size, ![8, 1], strided_inb j⟩
abbrev stridedR (j : Fin 8) : Rect S4096x128 := ⟨strided j, spos_8_1⟩
abbrev allA : LoadRect S1024x2048 := (Rect.unit (s := S1024x2048) ![0, 0] S1024x2048.size inb_S1024x2048_S1024x2048_0_0).toLoadRect
abbrev allB : LoadRect S1024x1024 := (Rect.unit (s := S1024x1024) ![0, 0] S1024x1024.size inb_S1024x1024_S1024x1024_0_0).toLoadRect
abbrev all1 : LoadRect S1x1x2048 := (Rect.unit (s := S1x1x2048) ![0, 0, 0] S1x1x2048.size inb_S1x1x2048_S1x1x2048_0_0_0).toLoadRect
abbrev all2 : LoadRect S1x1x1024 := (Rect.unit (s := S1x1x1024) ![0, 0, 0] S1x1x1024.size inb_S1x1x1024_S1x1x1024_0_0_0).toLoadRect

/-- The hidden activations of the block, of its rows read eight at a time, and one column slice of what they become. -/
def mid (x0 : Vec F S4096x128 .f32) (a : Vec F S1024x2048 .bf16) (x1 : Vec F S1x1x2048 .f32) : FVec F S512x1024 .bf16 :=
  k0_pay13 (ldr x0 (strided 0)) (ldr x0 (strided 1)) (ldr x0 (strided 2)) (ldr x0 (strided 3)) (ldr x0 (strided 4)) (ldr x0 (strided 5))
    (ldr x0 (strided 6)) (ldr x0 (strided 7)) (ldr a allA) (ldr x1 all1)
def slice (j : Fin 8) (v56 : FVec F S512x1024 .bf16) (v57 : Vec F S1024x1024 .bf16) (v59 : Vec F S1x1x1024 .f32) : Vec F S512x128 .f32 :=
  match j with
  | 0 => k0_pay4 v56 v57 v59
  | 1 => k0_pay5 v56 v57 v59
  | 2 => k0_pay6 v56 v57 v59
  | 3 => k0_pay7 v56 v57 v59
  | 4 => k0_pay8 v56 v57 v59
  | 5 => k0_pay9 v56 v57 v59
  | 6 => k0_pay10 v56 v57 v59
  | 7 => k0_pay11 v56 v57 v59
/-- The block written: row `8 r + j` is row `r` of column slice `j`. -/
def outBlk (x0 : Vec F S4096x128 .f32) (a : Vec F S1024x2048 .bf16) (b : Vec F S1024x1024 .bf16) (x1 : Vec F S1x1x2048 .f32)
    (x2 : Vec F S1x1x1024 .f32) : Vec F S4096x128 .f32 := fun y =>
  slice ⟨(y 0).val % 8, Nat.mod_lt _ (by decide)⟩ (mid x0 a x1) (ldr b allB) (ldr x2 all2)
    (ix2 (⟨(y 0).val / 8, Nat.div_lt_of_lt_mul (show (y 0).val < 8 * 512 from (y 0).isLt)⟩ : Fin 512) (y 1 : Fin 128))

/-- The pieces the body writes, of what it reads. -/
abbrev pieces (v56 : FVec F S512x1024 .bf16) (v57 : Vec F S1024x1024 .bf16) (v59 : Vec F S1x1x1024 .f32) : List (View.Piece (Elt F) S4096x128 .f32) :=
  [7, 6, 5, 4, 3, 2, 1, 0].map fun j => ⟨stridedR j, slice j v56 v57 v59⟩

theorem mem_all : ∀ j : Fin 8, j ∈ ([7, 6, 5, 4, 3, 2, 1, 0] : List (Fin 8)) := by decide

theorem mem_strided {j : Fin 8} {y : S4096x128.Idx} (h : y ∈ (stridedR j).set) : (y 0).val % 8 = j.val := by
  obtain ⟨k, hk, e⟩ := (LoadRect.mem_set (r := strided j)).1 h 0
  have e' : (y 0).val = j.val + 8 * k := e
  omega

theorem head_whole {sp : Space} {s : Shape} {e : EltTy} (v : View sig .tc sp s e) (f : BufTy.Contents (Elt F) v.ty) (x : Vec F s e)
    (L : List (View.Piece (Elt F) s e)) : v.read (Elt F) (v.writes (Elt F) f (⟨Rect.whole s, x⟩ :: L)) = x :=
  View.read_writes_whole v (v.writes (Elt F) f L) x

theorem read_all (arg9 : Memref sig .tc .vmem S4096x128 .f32) (f : BufTy.Contents (Elt F) arg9.view.ty) (x : Vec F S4096x128 .f32) :
    arg9.view.read (Elt F) (arg9.view.writes (Elt F) f [⟨Rect.unit (s := S4096x128) ![0, 0] S4096x128.size inb_S4096x128_S4096x128_0_0, x⟩]) = x := by
  funext y
  have h := View.read_writes_of_unique arg9.view f
    (⟨Rect.unit (s := S4096x128) ![0, 0] S4096x128.size inb_S4096x128_S4096x128_0_0, x⟩ : View.Piece (Elt F) S4096x128 .f32) y _
    (List.mem_singleton.2 rfl) (fun q hq _ => List.mem_singleton.1 hq)
  have e : (Rect.unit (s := S4096x128) ![0, 0] S4096x128.size inb_S4096x128_S4096x128_0_0).emb y = y := funext fun k => Fin.ext (by
    match k with
    | 0 => show 0 + 1 * (y 0).val = (y 0).val; omega
    | 1 => show 0 + 1 * (y 1).val = (y 1).val; omega)
  rw [e] at h
  exact h

theorem out_eq (arg9 : Memref sig .tc .vmem S4096x128 .f32) (f9 : BufTy.Contents (Elt F) arg9.view.ty)
    (arg4 : Memref sig .tc .vmem S4096x128 .f32) (f4 : BufTy.Contents (Elt F) arg4.view.ty)
    (arg6 : Memref sig .tc .vmem S1x1x2048 .f32) (f6 : BufTy.Contents (Elt F) arg6.view.ty)
    (arg8 : Memref sig .tc .vmem S1x1x1024 .f32) (f8 : BufTy.Contents (Elt F) arg8.view.ty)
    (arg12 : Memref sig .tc .vmem S1024x2048 .bf16) (f12 : BufTy.Contents (Elt F) arg12.view.ty)
    (arg13 : Memref sig .tc .vmem S1024x1024 .bf16) (f13 : BufTy.Contents (Elt F) arg13.view.ty)
    {x0 : Vec F S4096x128 .f32} {x1 : Vec F S1x1x2048 .f32} {x2 : Vec F S1x1x1024 .f32} {a : Vec F S1024x2048 .bf16} {b : Vec F S1024x1024 .bf16}
    (h0 : arg4.view.read (Elt F) f4 = x0) (h1 : arg6.view.read (Elt F) f6 = x1) (h2 : arg8.view.read (Elt F) f8 = x2)
    (ha : arg12.view.read (Elt F) f12 = a) (hb : arg13.view.read (Elt F) f13 = b) :
    arg9.view.read (Elt F) (arg9.view.writes (Elt F) f9 (pieces
      (k0_pay13 (arg4.view.readAt (Elt F) (strided 0) f4) (arg4.view.readAt (Elt F) (strided 1) f4) (arg4.view.readAt (Elt F) (strided 2) f4)
        (arg4.view.readAt (Elt F) (strided 3) f4) (arg4.view.readAt (Elt F) (strided 4) f4) (arg4.view.readAt (Elt F) (strided 5) f4)
        (arg4.view.readAt (Elt F) (strided 6) f4) (arg4.view.readAt (Elt F) (strided 7) f4) (arg12.view.readAt (Elt F) allA f12)
        (arg6.view.readAt (Elt F) all1 f6))
      (arg13.view.readAt (Elt F) allB f13) (arg8.view.readAt (Elt F) all2 f8))) = outBlk x0 a b x1 x2 := by
  subst h0 h1 h2 ha hb
  funext y
  have hj : (y 0).val % 8 < 8 := Nat.mod_lt _ (by decide)
  set j : Fin 8 := ⟨(y 0).val % 8, hj⟩ with hjd
  have hr : (y 0).val / 8 < 512 := Nat.div_lt_of_lt_mul (show (y 0).val < 8 * 512 from (y 0).isLt)
  have hy : (stridedR j).emb (ix2 (⟨(y 0).val / 8, hr⟩ : Fin 512) (y 1 : Fin 128)) = y := funext fun k => Fin.ext (by
    match k with
    | 0 => show (y 0).val % 8 + 8 * ((y 0).val / 8) = (y 0).val; omega
    | 1 => show 0 + 1 * (y 1).val = (y 1).val; omega)
  have key := View.read_writes_of_unique arg9.view f9
    (⟨stridedR j, slice j (mid (arg4.view.read (Elt F) f4) (arg12.view.read (Elt F) f12) (arg6.view.read (Elt F) f6))
      (ldr (arg13.view.read (Elt F) f13) allB) (ldr (arg8.view.read (Elt F) f8) all2)⟩ : View.Piece (Elt F) S4096x128 .f32)
    (ix2 (⟨(y 0).val / 8, hr⟩ : Fin 512) (y 1 : Fin 128))
    (pieces (mid (arg4.view.read (Elt F) f4) (arg12.view.read (Elt F) f12) (arg6.view.read (Elt F) f6))
      (ldr (arg13.view.read (Elt F) f13) allB) (ldr (arg8.view.read (Elt F) f8) all2))
    (List.mem_map.2 ⟨j, mem_all j, rfl⟩)
    (fun q hq hm => by
      obtain ⟨j', -, rfl⟩ := List.mem_map.1 hq
      have e1 := mem_strided (j := j') (y := y) (by rw [hy] at hm; exact hm)
      have e2 : j' = j := Fin.ext e1.symm
      subst e2; rfl)
  rw [hy] at key
  exact key

end Cert.ExpertsIdeal.Moe

end
-- ==== Proof.ExpertsIdealRuns.lean ====
/-
  The body of the experts' call, run symbolically.
-/
module

public import proofs.«01_k».proof.Proof.Gen.ExpertsIdeal.Launch
public import proofs.«01_k».proof.Proof.Gen.ExpertsIdeal.Skeleton
public import proofs.«01_k».proof.Proof.Gen.ExpertsIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueLayout
public import proofs.«01_k».proof.Proof.ExpertsIdealBlock

@[expose] public section

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 1000000 in
/-- The first block, another expert's copies issued. -/
theorem runR1 (c : Dev nD) (i : grid0.Coords) (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32)
    (te : BufOf (F := F) c tbE) (tn : BufOf (F := F) c tbN) (tu : BufOf (F := F) c tbU)
    (wA : BufOf (F := F) c hbA) (wB : BufOf (F := F) c hbB)
    (hc1 : k0_cond1 i = 1#1) (hk1 : k0_chk1 i (wFirst te)) (he : (wFirst te).toNat < 32)
    (hc2 : k0_cond2 i (wPrev i te) (wHere i te) (wUsed tu) = 1#1)
    (hk2 : k0_chk2 i (wPrev i te) (wHere i te) (wUsed tu) (wNow i te))
    (hc3 : k0_cond3 (wNext i tn) = 1#1)
    (hk3 : k0_chk3 i (wPrev i te) (wHere i te) (wUsed tu) (wNext i tn) (wNext' i tn)) (hn : (wNext' i tn).toNat < 32)
    (hc4 : k0_cond4 i (wUsed tu) = 1#1) (hc5 : ¬ k0_cond5 i (wUsed tu) = 1#1)
    (W : Waits sig Unit) (K : PUnit → sProp 𝕄) :
    iprop(owns (c : Thread nD τ) arg4 fullShare x0 ∗ owns (c : Thread nD τ) arg6 fullShare x1 ∗ owns (c : Thread nD τ) arg8 fullShare x2
        ∗ (∃ d, owns (c : Thread nD τ) arg9 fullShare d)
        ∗ tbl c tbE te ∗ tbl c tbN tn ∗ tbl c tbU tu
        ∗ (∃ d, owns (c : Thread nD τ) rdA fullShare d) ∗ (∃ d, owns (c : Thread nD τ) rdB fullShare d)
        ∗ idle c wA wB
        ∗ owes (c : Thread nD τ) 0 W
        ∗ (iprop(owns (c : Thread nD τ) arg4 fullShare x0 ∗ owns (c : Thread nD τ) arg6 fullShare x1 ∗ owns (c : Thread nD τ) arg8 fullShare x2
            ∗ owns (c : Thread nD τ) arg9 fullShare (outBlk x0 (rnd (matA wA (wFirst te))) (rnd (matB wB (wFirst te))) x1 x2)
            ∗ tbl c tbE te ∗ tbl c tbN tn ∗ tbl c tbU tu
            ∗ owns (c : Thread nD τ) rdA fullShare (rnd (matA wA (wFirst te))) ∗ owns (c : Thread nD τ) rdB fullShare (rnd (matB wB (wFirst te)))
            ∗ flyA c wA (matA wA (wNext' i tn)) ∗ flyB c wB (matB wB (wNext' i tn))
            ∗ (∃ W', owes (c : Thread nD τ) 0 W')) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  rw [cc0_experts_eq_skeleton]; unfold cc0_experts_skel
  unfold owns idle flyA flyB
  iintro ⟨⟨%fx0, %hx0, H0⟩, ⟨%fx1, %hx1, H1⟩, ⟨%fx2, %hx2, H2⟩, ⟨%d9, %f9, -, H9⟩, HE, HN, HU, ⟨%da, %ra, -, HRA⟩, ⟨%db, %rb, -, HRB⟩, ⟨HFA, HFB, ⟨%gA, HSA⟩, ⟨%gB, HSB⟩, HWA, HWB⟩, HW, Hk⟩
  obtain rfl := harg4.eq_unread hx0
  obtain rfl := harg6.eq_unread hx1
  obtain rfl := harg8.eq_unread hx2
  sl_exec (disch := first | sl_exact hk1 | sl_exact hk2 | sl_exact hk3)
  sl_step
  iapply Hk
  isplitl [H0]
  · iexists _; isplitr; swap; · iexact H0
    ipureintro; exact harg4.read_unread _
  isplitl [H1]
  · iexists _; isplitr; swap; · iexact H1
    ipureintro; exact harg6.read_unread _
  isplitl [H2]
  · iexists _; isplitr; swap; · iexact H2
    ipureintro; exact harg8.read_unread _
  isplitl [H9]
  · iexists _; isplitr; swap; · iexact H9
    ipureintro; exact out_eq arg9 _ arg4 _ arg6 _ arg8 _ rdA _ rdB _ (harg4.read_unread _) (harg6.read_unread _) (harg8.read_unread _)
      (funext fun y => (done1_rounded hL2 y (Nat.lt_of_lt_of_le (y 0).isLt (by decide))).trans (congrArg (FloatOps.truncf .bf16 bitsLt_bf16_f32) (congrFun ((head_whole scA.view _ _ _).trans (slotA_read wA (wFirst te) he _)) y)))
      (funext fun y => (done2_rounded hL5 y (Nat.lt_of_lt_of_le (y 0).isLt (by decide))).trans (congrArg (FloatOps.truncf .bf16 bitsLt_bf16_f32) (congrFun ((head_whole scB.view _ _ _).trans (slotB_read wB (wFirst te) he _)) y)))
  isplitl [HE]; · iexact HE
  isplitl [HN]; · iexact HN
  isplitl [HU]; · iexact HU
  isplitl [HRA]
  · iexists _; isplitr; swap; · iexact HRA
    ipureintro; exact (funext fun y => (done1_rounded hL2 y (Nat.lt_of_lt_of_le (y 0).isLt (by decide))).trans (congrArg (FloatOps.truncf .bf16 bitsLt_bf16_f32) (congrFun ((head_whole scA.view _ _ _).trans (slotA_read wA (wFirst te) he _)) y)))
  isplitl [HRB]
  · iexists _; isplitr; swap; · iexact HRB
    ipureintro; exact (funext fun y => (done2_rounded hL5 y (Nat.lt_of_lt_of_le (y 0).isLt (by decide))).trans (congrArg (FloatOps.truncf .bf16 bitsLt_bf16_f32) (congrFun ((head_whole scB.view _ _ _).trans (slotB_read wB (wFirst te) he _)) y)))
  isplitl [HFA HWA]
  · iexists _, _; isplitl [HFA]; · iexact HFA
    isplitl [HWA]; · iexact HWA
    ipureintro; exact (head_whole scA.view _ _ _).trans (slotA_read wA (wNext' i tn) hn _)
  isplitl [HFB HWB]
  · iexists _, _; isplitl [HFB]; · iexact HFB
    isplitl [HWB]; · iexact HWB
    ipureintro; exact (head_whole scB.view _ _ _).trans (slotB_read wB (wNext' i tn) hn _)
  iexists _; iexact HW

set_option maxHeartbeats 1000000 in
/-- The first block, no expert after its own. -/
theorem runR2 (c : Dev nD) (i : grid0.Coords) (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32)
    (te : BufOf (F := F) c tbE) (tn : BufOf (F := F) c tbN) (tu : BufOf (F := F) c tbU)
    (wA : BufOf (F := F) c hbA) (wB : BufOf (F := F) c hbB)
    (hc1 : k0_cond1 i = 1#1) (hk1 : k0_chk1 i (wFirst te)) (he : (wFirst te).toNat < 32)
    (hc2 : k0_cond2 i (wPrev i te) (wHere i te) (wUsed tu) = 1#1)
    (hk2 : k0_chk2 i (wPrev i te) (wHere i te) (wUsed tu) (wNow i te))
    (hc3 : ¬ k0_cond3 (wNext i tn) = 1#1)
    (hc4 : k0_cond4 i (wUsed tu) = 1#1) (hc5 : ¬ k0_cond5 i (wUsed tu) = 1#1)
    (W : Waits sig Unit) (K : PUnit → sProp 𝕄) :
    iprop(owns (c : Thread nD τ) arg4 fullShare x0 ∗ owns (c : Thread nD τ) arg6 fullShare x1 ∗ owns (c : Thread nD τ) arg8 fullShare x2
        ∗ (∃ d, owns (c : Thread nD τ) arg9 fullShare d)
        ∗ tbl c tbE te ∗ tbl c tbN tn ∗ tbl c tbU tu
        ∗ (∃ d, owns (c : Thread nD τ) rdA fullShare d) ∗ (∃ d, owns (c : Thread nD τ) rdB fullShare d)
        ∗ idle c wA wB
        ∗ owes (c : Thread nD τ) 0 W
        ∗ (iprop(owns (c : Thread nD τ) arg4 fullShare x0 ∗ owns (c : Thread nD τ) arg6 fullShare x1 ∗ owns (c : Thread nD τ) arg8 fullShare x2
            ∗ owns (c : Thread nD τ) arg9 fullShare (outBlk x0 (rnd (matA wA (wFirst te))) (rnd (matB wB (wFirst te))) x1 x2)
            ∗ tbl c tbE te ∗ tbl c tbN tn ∗ tbl c tbU tu
            ∗ owns (c : Thread nD τ) rdA fullShare (rnd (matA wA (wFirst te))) ∗ owns (c : Thread nD τ) rdB fullShare (rnd (matB wB (wFirst te)))
            ∗ idle c wA wB
            ∗ (∃ W', owes (c : Thread nD τ) 0 W')) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  rw [cc0_experts_eq_skeleton]; unfold cc0_experts_skel
  unfold owns idle
  iintro ⟨⟨%fx0, %hx0, H0⟩, ⟨%fx1, %hx1, H1⟩, ⟨%fx2, %hx2, H2⟩, ⟨%d9, %f9, -, H9⟩, HE, HN, HU, ⟨%da, %ra, -, HRA⟩, ⟨%db, %rb, -, HRB⟩, ⟨HFA, HFB, ⟨%gA, HSA⟩, ⟨%gB, HSB⟩, HWA, HWB⟩, HW, Hk⟩
  obtain rfl := harg4.eq_unread hx0
  obtain rfl := harg6.eq_unread hx1
  obtain rfl := harg8.eq_unread hx2
  sl_exec (disch := first | sl_exact hk1 | sl_exact hk2)
  sl_step
  iapply Hk
  isplitl [H0]
  · iexists _; isplitr; swap; · iexact H0
    ipureintro; exact harg4.read_unread _
  isplitl [H1]
  · iexists _; isplitr; swap; · iexact H1
    ipureintro; exact harg6.read_unread _
  isplitl [H2]
  · iexists _; isplitr; swap; · iexact H2
    ipureintro; exact harg8.read_unread _
  isplitl [H9]
  · iexists _; isplitr; swap; · iexact H9
    ipureintro; exact out_eq arg9 _ arg4 _ arg6 _ arg8 _ rdA _ rdB _ (harg4.read_unread _) (harg6.read_unread _) (harg8.read_unread _)
      (funext fun y => (done1_rounded hL2 y (Nat.lt_of_lt_of_le (y 0).isLt (by decide))).trans (congrArg (FloatOps.truncf .bf16 bitsLt_bf16_f32) (congrFun ((head_whole scA.view _ _ _).trans (slotA_read wA (wFirst te) he _)) y)))
      (funext fun y => (done2_rounded hL5 y (Nat.lt_of_lt_of_le (y 0).isLt (by decide))).trans (congrArg (FloatOps.truncf .bf16 bitsLt_bf16_f32) (congrFun ((head_whole scB.view _ _ _).trans (slotB_read wB (wFirst te) he _)) y)))
  isplitl [HE]; · iexact HE
  isplitl [HN]; · iexact HN
  isplitl [HU]; · iexact HU
  isplitl [HRA]
  · iexists _; isplitr; swap; · iexact HRA
    ipureintro; exact (funext fun y => (done1_rounded hL2 y (Nat.lt_of_lt_of_le (y 0).isLt (by decide))).trans (congrArg (FloatOps.truncf .bf16 bitsLt_bf16_f32) (congrFun ((head_whole scA.view _ _ _).trans (slotA_read wA (wFirst te) he _)) y)))
  isplitl [HRB]
  · iexists _; isplitr; swap; · iexact HRB
    ipureintro; exact (funext fun y => (done2_rounded hL5 y (Nat.lt_of_lt_of_le (y 0).isLt (by decide))).trans (congrArg (FloatOps.truncf .bf16 bitsLt_bf16_f32) (congrFun ((head_whole scB.view _ _ _).trans (slotB_read wB (wFirst te) he _)) y)))
  isplitl [HFA HFB HSA HSB HWA HWB]
  · isplitl [HFA]; · iexact HFA
    isplitl [HFB]; · iexact HFB
    isplitl [HSA]; · iexists _; iexact HSA
    isplitl [HSB]; · iexists _; iexact HSB
    isplitl [HWA]; · iexact HWA
    iexact HWB
  iexists _; iexact HW

set_option maxHeartbeats 1000000 in
/-- A region's first block, the next region's copies issued. -/
theorem runR3 (c : Dev nD) (i : grid0.Coords) (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32)
    (te : BufOf (F := F) c tbE) (tn : BufOf (F := F) c tbN) (tu : BufOf (F := F) c tbU)
    (wA : BufOf (F := F) c hbA) (wB : BufOf (F := F) c hbB) (dA : Vec F S1024x2048 .f32) (dB : Vec F S1024x1024 .f32)
    (hc1 : ¬ k0_cond1 i = 1#1)
    (hc2 : k0_cond2 i (wPrev i te) (wHere i te) (wUsed tu) = 1#1)
    (hk2 : k0_chk2 i (wPrev i te) (wHere i te) (wUsed tu) (wNow i te))
    (hc3 : k0_cond3 (wNext i tn) = 1#1)
    (hk3 : k0_chk3 i (wPrev i te) (wHere i te) (wUsed tu) (wNext i tn) (wNext' i tn)) (hn : (wNext' i tn).toNat < 32)
    (hc4 : k0_cond4 i (wUsed tu) = 1#1) (hc5 : ¬ k0_cond5 i (wUsed tu) = 1#1)
    (W : Waits sig Unit) (K : PUnit → sProp 𝕄) :
    iprop(owns (c : Thread nD τ) arg4 fullShare x0 ∗ owns (c : Thread nD τ) arg6 fullShare x1 ∗ owns (c : Thread nD τ) arg8 fullShare x2
        ∗ (∃ d, owns (c : Thread nD τ) arg9 fullShare d)
        ∗ tbl c tbE te ∗ tbl c tbN tn ∗ tbl c tbU tu
        ∗ (∃ d, owns (c : Thread nD τ) rdA fullShare d) ∗ (∃ d, owns (c : Thread nD τ) rdB fullShare d)
        ∗ flyA c wA dA ∗ flyB c wB dB
        ∗ owes (c : Thread nD τ) 0 W
        ∗ (iprop(owns (c : Thread nD τ) arg4 fullShare x0 ∗ owns (c : Thread nD τ) arg6 fullShare x1 ∗ owns (c : Thread nD τ) arg8 fullShare x2
            ∗ owns (c : Thread nD τ) arg9 fullShare (outBlk x0 (rnd dA) (rnd dB) x1 x2)
            ∗ tbl c tbE te ∗ tbl c tbN tn ∗ tbl c tbU tu
            ∗ owns (c : Thread nD τ) rdA fullShare (rnd dA) ∗ owns (c : Thread nD τ) rdB fullShare (rnd dB)
            ∗ flyA c wA (matA wA (wNext' i tn)) ∗ flyB c wB (matB wB (wNext' i tn))
            ∗ (∃ W', owes (c : Thread nD τ) 0 W')) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  rw [cc0_experts_eq_skeleton]; unfold cc0_experts_skel
  unfold owns flyA flyB
  iintro ⟨⟨%fx0, %hx0, H0⟩, ⟨%fx1, %hx1, H1⟩, ⟨%fx2, %hx2, H2⟩, ⟨%d9, %f9, -, H9⟩, HE, HN, HU, ⟨%da, %ra, -, HRA⟩, ⟨%db, %rb, -, HRB⟩, ⟨%gA, %SA, HFA, HWA, %hgA⟩, ⟨%gB, %SB, HFB, HWB, %hgB⟩, HW, Hk⟩
  obtain rfl := harg4.eq_unread hx0
  obtain rfl := harg6.eq_unread hx1
  obtain rfl := harg8.eq_unread hx2
  sl_exec (disch := first | sl_exact hk2 | sl_exact hk3)
  sl_step
  iapply Hk
  isplitl [H0]
  · iexists _; isplitr; swap; · iexact H0
    ipureintro; exact harg4.read_unread _
  isplitl [H1]
  · iexists _; isplitr; swap; · iexact H1
    ipureintro; exact harg6.read_unread _
  isplitl [H2]
  · iexists _; isplitr; swap; · iexact H2
    ipureintro; exact harg8.read_unread _
  isplitl [H9]
  · iexists _; isplitr; swap; · iexact H9
    ipureintro; exact out_eq arg9 _ arg4 _ arg6 _ arg8 _ rdA _ rdB _ (harg4.read_unread _) (harg6.read_unread _) (harg8.read_unread _)
      (funext fun y => (done1_rounded hL2 y (Nat.lt_of_lt_of_le (y 0).isLt (by decide))).trans (congrArg (FloatOps.truncf .bf16 bitsLt_bf16_f32) (congrFun hgA y)))
      (funext fun y => (done2_rounded hL5 y (Nat.lt_of_lt_of_le (y 0).isLt (by decide))).trans (congrArg (FloatOps.truncf .bf16 bitsLt_bf16_f32) (congrFun hgB y)))
  isplitl [HE]; · iexact HE
  isplitl [HN]; · iexact HN
  isplitl [HU]; · iexact HU
  isplitl [HRA]
  · iexists _; isplitr; swap; · iexact HRA
    ipureintro; exact (funext fun y => (done1_rounded hL2 y (Nat.lt_of_lt_of_le (y 0).isLt (by decide))).trans (congrArg (FloatOps.truncf .bf16 bitsLt_bf16_f32) (congrFun hgA y)))
  isplitl [HRB]
  · iexists _; isplitr; swap; · iexact HRB
    ipureintro; exact (funext fun y => (done2_rounded hL5 y (Nat.lt_of_lt_of_le (y 0).isLt (by decide))).trans (congrArg (FloatOps.truncf .bf16 bitsLt_bf16_f32) (congrFun hgB y)))
  isplitl [HFA HWA]
  · iexists _, _; isplitl [HFA]; · iexact HFA
    isplitl [HWA]; · iexact HWA
    ipureintro; exact (head_whole scA.view _ _ _).trans (slotA_read wA (wNext' i tn) hn _)
  isplitl [HFB HWB]
  · iexists _, _; isplitl [HFB]; · iexact HFB
    isplitl [HWB]; · iexact HWB
    ipureintro; exact (head_whole scB.view _ _ _).trans (slotB_read wB (wNext' i tn) hn _)
  iexists _; iexact HW

set_option maxHeartbeats 1000000 in
/-- The last region's first block. -/
theorem runR4 (c : Dev nD) (i : grid0.Coords) (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32)
    (te : BufOf (F := F) c tbE) (tn : BufOf (F := F) c tbN) (tu : BufOf (F := F) c tbU)
    (wA : BufOf (F := F) c hbA) (wB : BufOf (F := F) c hbB) (dA : Vec F S1024x2048 .f32) (dB : Vec F S1024x1024 .f32)
    (hc1 : ¬ k0_cond1 i = 1#1)
    (hc2 : k0_cond2 i (wPrev i te) (wHere i te) (wUsed tu) = 1#1)
    (hk2 : k0_chk2 i (wPrev i te) (wHere i te) (wUsed tu) (wNow i te))
    (hc3 : ¬ k0_cond3 (wNext i tn) = 1#1)
    (hc4 : k0_cond4 i (wUsed tu) = 1#1) (hc5 : ¬ k0_cond5 i (wUsed tu) = 1#1)
    (W : Waits sig Unit) (K : PUnit → sProp 𝕄) :
    iprop(owns (c : Thread nD τ) arg4 fullShare x0 ∗ owns (c : Thread nD τ) arg6 fullShare x1 ∗ owns (c : Thread nD τ) arg8 fullShare x2
        ∗ (∃ d, owns (c : Thread nD τ) arg9 fullShare d)
        ∗ tbl c tbE te ∗ tbl c tbN tn ∗ tbl c tbU tu
        ∗ (∃ d, owns (c : Thread nD τ) rdA fullShare d) ∗ (∃ d, owns (c : Thread nD τ) rdB fullShare d)
        ∗ flyA c wA dA ∗ flyB c wB dB
        ∗ owes (c : Thread nD τ) 0 W
        ∗ (iprop(owns (c : Thread nD τ) arg4 fullShare x0 ∗ owns (c : Thread nD τ) arg6 fullShare x1 ∗ owns (c : Thread nD τ) arg8 fullShare x2
            ∗ owns (c : Thread nD τ) arg9 fullShare (outBlk x0 (rnd dA) (rnd dB) x1 x2)
            ∗ tbl c tbE te ∗ tbl c tbN tn ∗ tbl c tbU tu
            ∗ owns (c : Thread nD τ) rdA fullShare (rnd dA) ∗ owns (c : Thread nD τ) rdB fullShare (rnd dB)
            ∗ idle c wA wB
            ∗ (∃ W', owes (c : Thread nD τ) 0 W')) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  rw [cc0_experts_eq_skeleton]; unfold cc0_experts_skel
  unfold owns flyA flyB idle
  iintro ⟨⟨%fx0, %hx0, H0⟩, ⟨%fx1, %hx1, H1⟩, ⟨%fx2, %hx2, H2⟩, ⟨%d9, %f9, -, H9⟩, HE, HN, HU, ⟨%da, %ra, -, HRA⟩, ⟨%db, %rb, -, HRB⟩, ⟨%gA, %SA, HFA, HWA, %hgA⟩, ⟨%gB, %SB, HFB, HWB, %hgB⟩, HW, Hk⟩
  obtain rfl := harg4.eq_unread hx0
  obtain rfl := harg6.eq_unread hx1
  obtain rfl := harg8.eq_unread hx2
  sl_exec (disch := first | sl_exact hk2)
  sl_step
  iapply Hk
  isplitl [H0]
  · iexists _; isplitr; swap; · iexact H0
    ipureintro; exact harg4.read_unread _
  isplitl [H1]
  · iexists _; isplitr; swap; · iexact H1
    ipureintro; exact harg6.read_unread _
  isplitl [H2]
  · iexists _; isplitr; swap; · iexact H2
    ipureintro; exact harg8.read_unread _
  isplitl [H9]
  · iexists _; isplitr; swap; · iexact H9
    ipureintro; exact out_eq arg9 _ arg4 _ arg6 _ arg8 _ rdA _ rdB _ (harg4.read_unread _) (harg6.read_unread _) (harg8.read_unread _)
      (funext fun y => (done1_rounded hL2 y (Nat.lt_of_lt_of_le (y 0).isLt (by decide))).trans (congrArg (FloatOps.truncf .bf16 bitsLt_bf16_f32) (congrFun hgA y)))
      (funext fun y => (done2_rounded hL5 y (Nat.lt_of_lt_of_le (y 0).isLt (by decide))).trans (congrArg (FloatOps.truncf .bf16 bitsLt_bf16_f32) (congrFun hgB y)))
  isplitl [HE]; · iexact HE
  isplitl [HN]; · iexact HN
  isplitl [HU]; · iexact HU
  isplitl [HRA]
  · iexists _; isplitr; swap; · iexact HRA
    ipureintro; exact (funext fun y => (done1_rounded hL2 y (Nat.lt_of_lt_of_le (y 0).isLt (by decide))).trans (congrArg (FloatOps.truncf .bf16 bitsLt_bf16_f32) (congrFun hgA y)))
  isplitl [HRB]
  · iexists _; isplitr; swap; · iexact HRB
    ipureintro; exact (funext fun y => (done2_rounded hL5 y (Nat.lt_of_lt_of_le (y 0).isLt (by decide))).trans (congrArg (FloatOps.truncf .bf16 bitsLt_bf16_f32) (congrFun hgB y)))
  isplitl [HFA HFB HFA_dst HFB_dst HWA HWB]
  · isplitl [HFA]; · iexact HFA
    isplitl [HFB]; · iexact HFB
    isplitl [HFA_dst]; · iexists _; iexact HFA_dst
    isplitl [HFB_dst]; · iexists _; iexact HFB_dst
    isplitl [HWA]; · iexact HWA
    iexact HWB
  iexists _; iexact HW

set_option maxHeartbeats 1000000 in
/-- A later block of a region. -/
theorem runR5 (c : Dev nD) (i : grid0.Coords) (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32)
    (te : BufOf (F := F) c tbE) (tn : BufOf (F := F) c tbN) (tu : BufOf (F := F) c tbU)
    (wA : BufOf (F := F) c hbA) (wB : BufOf (F := F) c hbB) (a : Vec F S1024x2048 .bf16) (b : Vec F S1024x1024 .bf16)
    (hc1 : ¬ k0_cond1 i = 1#1)
    (hc2 : ¬ k0_cond2 i (wPrev i te) (wHere i te) (wUsed tu) = 1#1)
    (hc4 : k0_cond4 i (wUsed tu) = 1#1) (hc5 : ¬ k0_cond5 i (wUsed tu) = 1#1)
    (W : Waits sig Unit) (K : PUnit → sProp 𝕄) :
    iprop(owns (c : Thread nD τ) arg4 fullShare x0 ∗ owns (c : Thread nD τ) arg6 fullShare x1 ∗ owns (c : Thread nD τ) arg8 fullShare x2
        ∗ (∃ d, owns (c : Thread nD τ) arg9 fullShare d)
        ∗ tbl c tbE te ∗ tbl c tbN tn ∗ tbl c tbU tu
        ∗ owns (c : Thread nD τ) rdA fullShare a ∗ owns (c : Thread nD τ) rdB fullShare b
        ∗ owes (c : Thread nD τ) 0 W
        ∗ (iprop(owns (c : Thread nD τ) arg4 fullShare x0 ∗ owns (c : Thread nD τ) arg6 fullShare x1 ∗ owns (c : Thread nD τ) arg8 fullShare x2
            ∗ owns (c : Thread nD τ) arg9 fullShare (outBlk x0 a b x1 x2)
            ∗ tbl c tbE te ∗ tbl c tbN tn ∗ tbl c tbU tu
            ∗ owns (c : Thread nD τ) rdA fullShare a ∗ owns (c : Thread nD τ) rdB fullShare b
            ∗ (∃ W', owes (c : Thread nD τ) 0 W')) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  rw [cc0_experts_eq_skeleton]; unfold cc0_experts_skel
  unfold owns
  iintro ⟨⟨%fx0, %hx0, H0⟩, ⟨%fx1, %hx1, H1⟩, ⟨%fx2, %hx2, H2⟩, ⟨%d9, %f9, -, H9⟩, HE, HN, HU, ⟨%ra, %hra, HRA⟩, ⟨%rb, %hrb, HRB⟩, HW, Hk⟩
  obtain rfl := harg4.eq_unread hx0
  obtain rfl := harg6.eq_unread hx1
  obtain rfl := harg8.eq_unread hx2
  sl_exec
  sl_step
  iapply Hk
  isplitl [H0]
  · iexists _; isplitr; swap; · iexact H0
    ipureintro; exact harg4.read_unread _
  isplitl [H1]
  · iexists _; isplitr; swap; · iexact H1
    ipureintro; exact harg6.read_unread _
  isplitl [H2]
  · iexists _; isplitr; swap; · iexact H2
    ipureintro; exact harg8.read_unread _
  isplitl [H9]
  · iexists _; isplitr; swap; · iexact H9
    ipureintro; exact out_eq arg9 _ arg4 _ arg6 _ arg8 _ rdA _ rdB _ (harg4.read_unread _) (harg6.read_unread _) (harg8.read_unread _) hra hrb
  isplitl [HE]; · iexact HE
  isplitl [HN]; · iexact HN
  isplitl [HU]; · iexact HU
  isplitl [HRA]
  · iexists _; isplitr; swap; · iexact HRA
    ipureintro; exact hra
  isplitl [HRB]
  · iexists _; isplitr; swap; · iexact HRB
    ipureintro; exact hrb
  iexists _; iexact HW

set_option maxHeartbeats 1000000 in
/-- A block that is not used. -/
theorem runR6 (c : Dev nD) (i : grid0.Coords) (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32)
    (te : BufOf (F := F) c tbE) (tn : BufOf (F := F) c tbN) (tu : BufOf (F := F) c tbU)
    (wA : BufOf (F := F) c hbA) (wB : BufOf (F := F) c hbB)
    (hc1 : ¬ k0_cond1 i = 1#1)
    (hc2 : ¬ k0_cond2 i (wPrev i te) (wHere i te) (wUsed tu) = 1#1)
    (hc4 : ¬ k0_cond4 i (wUsed tu) = 1#1) (hc5 : k0_cond5 i (wUsed tu) = 1#1)
    (W : Waits sig Unit) (K : PUnit → sProp 𝕄) :
    iprop(owns (c : Thread nD τ) arg4 fullShare x0 ∗ owns (c : Thread nD τ) arg6 fullShare x1 ∗ owns (c : Thread nD τ) arg8 fullShare x2
        ∗ (∃ d, owns (c : Thread nD τ) arg9 fullShare d)
        ∗ tbl c tbE te ∗ tbl c tbN tn ∗ tbl c tbU tu
        ∗ owes (c : Thread nD τ) 0 W
        ∗ (iprop(owns (c : Thread nD τ) arg4 fullShare x0 ∗ owns (c : Thread nD τ) arg6 fullShare x1 ∗ owns (c : Thread nD τ) arg8 fullShare x2
            ∗ owns (c : Thread nD τ) arg9 fullShare (k0_pay12 (F := F))
            ∗ tbl c tbE te ∗ tbl c tbN tn ∗ tbl c tbU tu
            ∗ (∃ W', owes (c : Thread nD τ) 0 W')) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  rw [cc0_experts_eq_skeleton]; unfold cc0_experts_skel
  unfold owns
  iintro ⟨⟨%fx0, %hx0, H0⟩, ⟨%fx1, %hx1, H1⟩, ⟨%fx2, %hx2, H2⟩, ⟨%d9, %f9, -, H9⟩, HE, HN, HU, HW, Hk⟩
  obtain rfl := harg4.eq_unread hx0
  obtain rfl := harg6.eq_unread hx1
  obtain rfl := harg8.eq_unread hx2
  sl_exec
  sl_step
  iapply Hk
  isplitl [H0]
  · iexists _; isplitr; swap; · iexact H0
    ipureintro; exact harg4.read_unread _
  isplitl [H1]
  · iexists _; isplitr; swap; · iexact H1
    ipureintro; exact harg6.read_unread _
  isplitl [H2]
  · iexists _; isplitr; swap; · iexact H2
    ipureintro; exact harg8.read_unread _
  isplitl [H9]
  · iexists _; isplitr; swap; · iexact H9
    ipureintro; exact read_all arg9 _ _
  isplitl [HE]; · iexact HE
  isplitl [HN]; · iexact HN
  isplitl [HU]; · iexact HU
  iexists _; iexact HW

end Cert.ExpertsIdeal.Moe

end
-- ==== Proof.ExpertsIdealRegions.lean ====
/-
  The tables of the experts' call: what they say of the regions, and the body at any point of the grid.
-/
module

public import proofs.«01_k».proof.Proof.Gen.ExpertsIdeal.Launch
public import proofs.«01_k».proof.Proof.Gen.ExpertsIdeal.Skeleton
public import proofs.«01_k».proof.Proof.Gen.ExpertsIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueLayout
public import proofs.«01_k».proof.Proof.ExpertsIdealRuns

@[expose] public section

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The words -/

/-- The word of a table at a block. -/
abbrev at160 (f : S160.Idx → BitVec 32) (k : ℕ) : BitVec 32 := f (ix1 (⟨k % 160, Nat.mod_lt _ (by decide)⟩ : Fin 160))

theorem one_idx (y : S1.Idx) : (y 0).val = 0 := Nat.lt_one_iff.1 (y 0).isLt
theorem off_here : ∀ i : grid0.Coords, k0_off1 i 0 = (i 0).val := by decide +kernel
theorem off_now : ∀ i : grid0.Coords, k0_off5 i 0 = (i 0).val := by decide +kernel
theorem off_next : ∀ i : grid0.Coords, k0_off10 i 0 = (i 0).val := by decide +kernel
theorem off_next' : ∀ i : grid0.Coords, k0_off11 i 0 = (i 0).val := by decide +kernel
theorem off_prev : ∀ i : grid0.Coords, k0_off2 i 0 = (i 0).val - 1 := by decide +kernel
theorem lt160 (i : grid0.Coords) : (i 0).val < 160 := (i 0).isLt

theorem word_eq (f : S160.Idx → BitVec 32) (off : Fin 1 → ℕ) (h : ∀ a, off a + S1.size a ≤ S160.size a) (k : ℕ) (e : off 0 = k) (y : S1.Idx) :
    f ((Rect.unit (s := S160) off S1.size h).toLoadRect.idx y) = at160 f k := by
  refine congrArg f (funext fun a => Fin.ext ?_)
  have hy := one_idx y
  have hl : off 0 + 1 ≤ 160 := h 0
  match a with
  | 0 => show off 0 + 1 * (y 0).val = k % 160; omega

section
variable {c : Dev nD} (i : grid0.Coords) (te : BufOf (F := F) c tbE) (tn : BufOf (F := F) c tbN) (tu : BufOf (F := F) c tbU)
theorem wHere_eq : wHere i te = at160 te (i 0).val := word_eq te _ (k0_off1_inb i) _ (off_here i) _
theorem wNow_eq : wNow i te = at160 te (i 0).val := word_eq te _ (k0_off5_inb i) _ (off_now i) _
theorem wPrev_eq : wPrev i te = at160 te ((i 0).val - 1) := word_eq te _ (k0_off2_inb i) _ (off_prev i) _
theorem wFirst_eq : wFirst te = at160 te 0 := word_eq te _ inb_S160_S1_0 _ rfl _
theorem wNext_eq : wNext i tn = at160 tn (i 0).val := word_eq tn _ (k0_off10_inb i) _ (off_next i) _
theorem wNext'_eq : wNext' i tn = at160 tn (i 0).val := word_eq tn _ (k0_off11_inb i) _ (off_next' i) _
/-- The number of used blocks. -/
abbrev used (f : S1.Idx → BitVec 32) : BitVec 32 := f (ix1 (0 : Fin 1))
theorem wUsed_eq : wUsed tu = used tu :=
  congrArg tu (funext fun a => match a with | 0 => Subsingleton.elim (α := Fin 1) _ _)
end

/-! ## The conditions -/

theorem toInt_used {n : BitVec 32} (h : n.toNat ≤ 160) : n.toInt = n.toNat := WordCmp.toInt_eq_toNat_of_lt_half (by
  show n.toNat < 2147483648; omega)
theorem toInt_at {k : ℕ} (h : k < 160) : (BitVec.ofNat 32 k).toInt = k := by
  have e : (BitVec.ofNat 32 k).toNat = k := by rw [BitVec.toNat_ofNat]; omega
  rw [WordCmp.toInt_eq_toNat_of_lt_half (by rw [e]; show k < 2147483648; omega), e]
theorem bit_one (b : Bool) : Scalar.cmpi .ne (Scalar.extui (BitVec.ofBool b) : BitVec 32) 0#32 = 1#1 ↔ b = true := by
  cases b <;> decide
theorem slt_at {k : ℕ} (hk : k < 160) {n : BitVec 32} (h : n.toNat ≤ 160) :
    Scalar.cmpi .slt (BitVec.ofNat 32 k) n = BitVec.ofBool (decide (k < n.toNat)) := by
  refine (WordCmp.cmpi_slt_eq _ _).trans (congrArg BitVec.ofBool (decide_eq_decide.2 ?_))
  rw [toInt_used h, toInt_at hk]; omega
theorem sge_at {k : ℕ} (hk : k < 160) {n : BitVec 32} (h : n.toNat ≤ 160) :
    Scalar.cmpi .sge (BitVec.ofNat 32 k) n = BitVec.ofBool (decide (n.toNat ≤ k)) := by
  refine (WordCmp.cmpi_sge_eq _ _).trans (congrArg BitVec.ofBool (decide_eq_decide.2 ?_))
  rw [toInt_used h, toInt_at hk]; omega
theorem cond1_iff : ∀ i : grid0.Coords, k0_cond1 i = 1#1 ↔ (i 0).val = 0 := by decide +kernel
theorem cond4_iff (i : grid0.Coords) {n : BitVec 32} (h : n.toNat ≤ 160) : k0_cond4 i n = 1#1 ↔ (i 0).val < n.toNat := by
  unfold k0_cond4; dsimp only
  rw [slt_at (lt160 i) h, bit_one, decide_eq_true_iff]
theorem cond5_iff (i : grid0.Coords) {n : BitVec 32} (h : n.toNat ≤ 160) : k0_cond5 i n = 1#1 ↔ n.toNat ≤ (i 0).val := by
  unfold k0_cond5; dsimp only
  rw [sge_at (lt160 i) h, bit_one, decide_eq_true_iff]
/-- Every point of the grid writes its block. -/
theorem idle_false (i : grid0.Coords) (n : BitVec 32) : (!(k0_cond4 i n == 1#1) && !(k0_cond5 i n == 1#1)) = false := by
  have h4 : k0_cond4 i n = 1#1 ↔ (BitVec.ofNat 32 (i 0).val).toInt < n.toInt := by
    unfold k0_cond4; dsimp only
    rw [show Scalar.cmpi .slt (BitVec.ofNat 32 (i 0).val) n = _ from WordCmp.cmpi_slt_eq _ _, bit_one, decide_eq_true_iff]
  have h5 : k0_cond5 i n = 1#1 ↔ n.toInt ≤ (BitVec.ofNat 32 (i 0).val).toInt := by
    unfold k0_cond5; dsimp only
    rw [show Scalar.cmpi .sge (BitVec.ofNat 32 (i 0).val) n = _ from WordCmp.cmpi_sge_eq _ _, bit_one, decide_eq_true_iff]
  by_cases h : (BitVec.ofNat 32 (i 0).val).toInt < n.toInt
  · rw [h4.2 h]; rfl
  · rw [h5.2 (by omega)]; exact Bool.and_false _
theorem cond3_iff (x : BitVec 32) : k0_cond3 x = 1#1 ↔ x.toNat < 2147483648 := by
  unfold k0_cond3; dsimp only
  rw [show Scalar.cmpi .sge x 0#32 = BitVec.ofBool (decide (x.toNat < 2 ^ (32 - 1))) from WordCmp.cmpi_sge_zero x, bit_one, decide_eq_true_iff]
  exact Iff.rfl
theorem eq_at {k : ℕ} (hk : k < 160) : Scalar.cmpi .eq (BitVec.ofNat 32 k) 0#32 = BitVec.ofBool (decide (k = 0)) := by
  refine (WordCmp.cmpi_eq_eq _ _).trans (congrArg BitVec.ofBool (decide_eq_decide.2 ?_))
  rw [← BitVec.toNat_inj, BitVec.toNat_ofNat]
  show k % 4294967296 = 0 ↔ _
  omega
theorem bits_or (a b : Bool) : Scalar.ori (BitVec.ofBool a) (BitVec.ofBool b) = BitVec.ofBool (a || b) := by cases a <;> cases b <;> rfl
theorem bits_and (a b : Bool) : Scalar.andi (BitVec.ofBool a) (BitVec.ofBool b) = BitVec.ofBool (a && b) := by cases a <;> cases b <;> rfl
theorem cond2_iff (i : grid0.Coords) (a b : BitVec 32) {n : BitVec 32} (h : n.toNat ≤ 160) :
    k0_cond2 i a b n = 1#1 ↔ (i 0).val < n.toNat ∧ ((i 0).val = 0 ∨ b ≠ a) := by
  unfold k0_cond2; dsimp only
  rw [slt_at (lt160 i) h, eq_at (lt160 i), show Scalar.cmpi .ne b a = BitVec.ofBool (decide (b ≠ a)) from WordCmp.cmpi_ne_eq b a,
    bits_or, bits_and, bit_one, Bool.and_eq_true, Bool.or_eq_true, decide_eq_true_iff, decide_eq_true_iff, decide_eq_true_iff]

theorem slotA_inb {v : BitVec 32} (h : v.toNat < 32) (off : Fin 3 → ℕ) (e : off = ![v.toNat, 0, 0]) (a : Fin 3) :
    off a + S1x1024x2048.size a ≤ S32x1024x2048.size a := by
  subst e
  match a with
  | 0 => show v.toNat + 1 ≤ 32; omega
  | 1 => show 0 + 1024 ≤ 1024; omega
  | 2 => show 0 + 2048 ≤ 2048; omega
theorem slotB_inb {v : BitVec 32} (h : v.toNat < 32) (off : Fin 3 → ℕ) (e : off = ![v.toNat, 0, 0]) (a : Fin 3) :
    off a + S1x1024x1024.size a ≤ S32x1024x1024.size a := by
  subst e
  match a with
  | 0 => show v.toNat + 1 ≤ 32; omega
  | 1 => show 0 + 1024 ≤ 1024; omega
  | 2 => show 0 + 1024 ≤ 1024; omega
theorem chk1_of (i : grid0.Coords) {v : BitVec 32} (h : v.toNat < 32) : k0_chk1 i v :=
  ⟨fun _ => slotA_inb h _ rfl, fun _ => slotB_inb h _ rfl⟩
theorem chk2_of (i : grid0.Coords) (a b n : BitVec 32) {v : BitVec 32} (h : v.toNat < 32) : k0_chk2 i a b n v :=
  ⟨fun _ => slotA_inb h _ rfl, fun _ => slotB_inb h _ rfl⟩
theorem chk3_of (i : grid0.Coords) (a b n x : BitVec 32) {v : BitVec 32} (h : v.toNat < 32) : k0_chk3 i a b n x v :=
  ⟨fun _ _ => slotA_inb h _ rfl, fun _ _ => slotB_inb h _ rfl⟩

/-! ## The regions -/

/-- What the tables say: the experts in range, the number of used blocks, and of each used block the expert of the next region,
    `-1` in the last region. -/
structure Regions (E N : ℕ → BitVec 32) (n : BitVec 32) : Prop where
  e : ∀ k, (E k).toNat < 32
  n1 : 1 ≤ n.toNat
  n2 : n.toNat ≤ 160
  last : N (n.toNat - 1) = 4294967295#32
  same : ∀ k, k + 1 < n.toNat → E (k + 1) = E k → N k = N (k + 1)
  diff : ∀ k, k + 1 < n.toNat → E (k + 1) ≠ E k → N k = E (k + 1)

theorem Regions.next {E N : ℕ → BitVec 32} {n : BitVec 32} (R : Regions E N n) :
    ∀ d k, k + d + 1 = n.toNat → (N k).toNat < 32 ∨ N k = 4294967295#32
  | 0, k, h => Or.inr (by rw [show k = n.toNat - 1 by omega]; exact R.last)
  | d + 1, k, h => by
    by_cases he : E (k + 1) = E k
    · rw [R.same k (by omega) he]; exact R.next d (k + 1) (by omega)
    · rw [R.diff k (by omega) he]; exact Or.inl (R.e _)
theorem Regions.next_cond {E N : ℕ → BitVec 32} {n : BitVec 32} (R : Regions E N n) {k : ℕ} (h : k < n.toNat) :
    k0_cond3 (N k) = 1#1 ↔ (N k).toNat < 32 := by
  rw [cond3_iff]
  rcases R.next (n.toNat - 1 - k) k (by omega) with h1 | h1
  · exact ⟨fun _ => h1, fun _ => by omega⟩
  · rw [h1]; decide

/-! ## The invariant -/

section
variable (c : Dev nD) (te : BufOf (F := F) c tbE) (tn : BufOf (F := F) c tbN) (tu : BufOf (F := F) c tbU)
  (wA : BufOf (F := F) c hbA) (wB : BufOf (F := F) c hbB)

/-- The rounded matrices: of the last used block's expert. -/
def ready (t : ℕ) : sProp 𝕄 :=
  iprop(∃ a b, owns (c : Thread nD τ) rdA fullShare a ∗ owns (c : Thread nD τ) rdB fullShare b
    ∗ ⌜1 ≤ t → t ≤ (used tu).toNat → a = rnd (matA wA (at160 te (t - 1))) ∧ b = rnd (matB wB (at160 te (t - 1)))⌝)
/-- The copies of the expert after: under way where there is one. -/
def pendOf (v : BitVec 32) : sProp 𝕄 :=
  if v.toNat < 32 then iprop(flyA c wA (matA wA v) ∗ flyB c wB (matB wB v)) else idle c wA wB
def pend (t : ℕ) : sProp 𝕄 :=
  if 1 ≤ t ∧ t ≤ (used tu).toNat then pendOf c wA wB (at160 tn (t - 1)) else idle c wA wB
def Inv (t : ℕ) : sProp 𝕄 :=
  iprop((∃ r, prngReg c r) ∗ (tbl c tbE te ∗ tbl c tbN tn ∗ tbl c tbU tu) ∗ ready c te tu wA wB t ∗ pend c tn tu wA wB t)

/-- The block written at a point. -/
def outAt (t : ℕ) (x0 : Vec F S4096x128 .f32) (x1 : Vec F S1x1x2048 .f32) (x2 : Vec F S1x1x1024 .f32) : Vec F S4096x128 .f32 :=
  if t < (used tu).toNat then outBlk x0 (rnd (matA wA (at160 te t))) (rnd (matB wB (at160 te t))) x1 x2 else k0_pay12 (F := F)

theorem pend_zero : pend c tn tu wA wB 0 = idle c wA wB := if_neg (by omega)
theorem pend_used {t : ℕ} (h1 : 1 ≤ t) (h : t ≤ (used tu).toNat) : pend c tn tu wA wB t = pendOf c wA wB (at160 tn (t - 1)) := if_pos ⟨h1, h⟩
theorem pend_ge {t : ℕ} (R : Regions (at160 te) (at160 tn) (used tu)) (h : (used tu).toNat ≤ t) : pend c tn tu wA wB t = idle c wA wB := by
  by_cases e : t ≤ (used tu).toNat
  · have e' : t = (used tu).toNat := by omega
    rw [pend_used c tn tu wA wB (e' ▸ R.n1) e, e', R.last]
    exact if_neg (by decide)
  · exact if_neg (by omega)
theorem pendOf_lt {v : BitVec 32} (h : v.toNat < 32) : pendOf c wA wB v = iprop(flyA c wA (matA wA v) ∗ flyB c wB (matB wB v)) := if_pos h
theorem pendOf_ge {v : BitVec 32} (h : ¬ v.toNat < 32) : pendOf c wA wB v = idle c wA wB := if_neg h

set_option maxHeartbeats 1000000 in
/-- The body at any point, from the invariant before it to the invariant after. -/
theorem step (R : Regions (at160 te) (at160 tn) (used tu)) (i : grid0.Coords)
    (arg4 : Memref sig .tc .vmem S4096x128 .f32) (harg4 : arg4.IsWhole)
    (arg6 : Memref sig .tc .vmem S1x1x2048 .f32) (harg6 : arg6.IsWhole) (arg8 : Memref sig .tc .vmem S1x1x1024 .f32) (harg8 : arg8.IsWhole)
    (arg9 : Memref sig .tc .vmem S4096x128 .f32) (harg9 : arg9.IsWhole)
    (x0 : Vec F S4096x128 .f32) (x1 : Vec F S1x1x2048 .f32) (x2 : Vec F S1x1x1024 .f32) (W : Waits sig Unit) (K : PUnit → sProp 𝕄) :
    iprop(Inv c te tn tu wA wB (i 0).val ∗ owes (c : Thread nD τ) 0 W
        ∗ owns (c : Thread nD τ) arg4 fullShare x0 ∗ owns (c : Thread nD τ) arg6 fullShare x1 ∗ owns (c : Thread nD τ) arg8 fullShare x2 ∗ (∃ d, owns (c : Thread nD τ) arg9 fullShare d)
        ∗ (iprop(Inv c te tn tu wA wB ((i 0).val + 1) ∗ (∃ W', owes (c : Thread nD τ) 0 W')
            ∗ owns (c : Thread nD τ) arg4 fullShare x0 ∗ owns (c : Thread nD τ) arg6 fullShare x1 ∗ owns (c : Thread nD τ) arg8 fullShare x2
            ∗ owns (c : Thread nD τ) arg9 fullShare (outAt c te tu wA wB (i 0).val x0 x1 x2)) -∗ K ⟨⟩))
      ⊢ wp frame (wpE (defs₀ (F := F)) Variants.none c none) Set.univ
          (cc0_experts i tbE (Memref.isWhole_whole _) tbN (Memref.isWhole_whole _) tbU (Memref.isWhole_whole _) arg4 harg4 hbA (Memref.isWhole_whole _) arg6 harg6 hbB (Memref.isWhole_whole _) arg8 harg8 arg9 harg9 scA (Memref.isWhole_whole _) scB (Memref.isWhole_whole _) rdA (Memref.isWhole_whole _) rdB (Memref.isWhole_whole _) cc0_scratch4) K := by
  have hx := lt160 i
  have ee := wHere_eq i te
  have en := wNow_eq i te
  have ep := wPrev_eq i te
  have e0 := wFirst_eq te
  have ex := wNext_eq i tn
  have ex' := wNext'_eq i tn
  have eu := wUsed_eq tu
  have c4 : k0_cond4 i (wUsed tu) = 1#1 ↔ (i 0).val < (used tu).toNat := by rw [eu]; exact cond4_iff i R.n2
  have c5 : k0_cond5 i (wUsed tu) = 1#1 ↔ (used tu).toNat ≤ (i 0).val := by rw [eu]; exact cond5_iff i R.n2
  have c2 : k0_cond2 i (wPrev i te) (wHere i te) (wUsed tu) = 1#1 ↔ (i 0).val < (used tu).toNat ∧ ((i 0).val = 0 ∨ at160 te (i 0).val ≠ at160 te ((i 0).val - 1)) := by
    rw [eu, ee, ep]; exact cond2_iff i _ _ R.n2
  have hen : (wNow i te).toNat < 32 := by rw [en]; exact R.e _
  have he0 : (wFirst te).toNat < 32 := by rw [e0]; exact R.e _
  unfold Inv
  by_cases hu : (i 0).val < (used tu).toNat
  · have c3 : k0_cond3 (wNext i tn) = 1#1 ↔ (at160 tn (i 0).val).toNat < 32 := by rw [ex]; exact R.next_cond hu
    rw [show outAt c te tu wA wB (i 0).val x0 x1 x2 = outBlk x0 (rnd (matA wA (at160 te (i 0).val))) (rnd (matB wB (at160 te (i 0).val))) x1 x2 from if_pos hu,
      pend_used c tn tu wA wB (t := (i 0).val + 1) (by omega) (by omega), Nat.add_sub_cancel]
    by_cases h0 : (i 0).val = 0
    · rw [show pend c tn tu wA wB (i 0).val = idle c wA wB by rw [h0]; exact pend_zero c tn tu wA wB]
      have e0' : wFirst te = at160 te (i 0).val := e0.trans (by rw [h0])
      by_cases hn : (at160 tn (i 0).val).toNat < 32
      · rw [pendOf_lt c wA wB hn]
        unfold ready
        iintro ⟨⟨Hg, ⟨HE, HN, HU⟩, ⟨%a, %b, HRA, HRB, %hab⟩, HP⟩, HW, H0, H1, H2, H9, Hk⟩
        have key := runR1 c i arg4 harg4 arg6 harg6 arg8 harg8 arg9 harg9 x0 x1 x2 te tn tu wA wB
          ((cond1_iff i).2 h0) (chk1_of i he0) he0 (c2.2 ⟨hu, Or.inl h0⟩) (chk2_of i _ _ _ hen) (c3.2 hn) (chk3_of i _ _ _ _ (by rw [ex']; exact hn)) (by rw [ex']; exact hn) (c4.2 hu) (fun e => absurd (c5.1 e) (by omega)) W K
        have ex0 : wNext' i tn = at160 tn (i 0).val := ex'
        rw [e0', ex0] at key
        iapply key
        isplitl [H0]; · iexact H0
        isplitl [H1]; · iexact H1
        isplitl [H2]; · iexact H2
        isplitl [H9]; · iexact H9
        isplitl [HE]; · iexact HE
        isplitl [HN]; · iexact HN
        isplitl [HU]; · iexact HU
        isplitl [HRA]; · iexists a; iexact HRA
        isplitl [HRB]; · iexists b; iexact HRB
        isplitl [HP]; · iexact HP
        isplitl [HW]; · iexact HW
        iintro ⟨H0, H1, H2, H9, HE, HN, HU, HRA, HRB, HPA, HPB, ⟨%W', HW⟩⟩
        iapply Hk
        isplitl [Hg HE HN HU HRA HRB HPA HPB]
        · isplitl [Hg]; · iexact Hg
          isplitl [HE HN HU]
          · isplitl [HE]; · iexact HE
            isplitl [HN]; · iexact HN
            iexact HU
          isplitl [HRA HRB]
          · iexists _, _; isplitl [HRA]; · iexact HRA
            isplitl [HRB]; · iexact HRB
            ipureintro; intro _ _; rw [Nat.add_sub_cancel]; exact ⟨rfl, rfl⟩
          isplitl [HPA]; · iexact HPA
          iexact HPB
        isplitl [HW]; · iexists W'; iexact HW
        isplitl [H0]; · iexact H0
        isplitl [H1]; · iexact H1
        isplitl [H2]; · iexact H2
        iexact H9
      · rw [pendOf_ge c wA wB hn]
        unfold ready
        iintro ⟨⟨Hg, ⟨HE, HN, HU⟩, ⟨%a, %b, HRA, HRB, %hab⟩, HP⟩, HW, H0, H1, H2, H9, Hk⟩
        have key := runR2 c i arg4 harg4 arg6 harg6 arg8 harg8 arg9 harg9 x0 x1 x2 te tn tu wA wB
          ((cond1_iff i).2 h0) (chk1_of i he0) he0 (c2.2 ⟨hu, Or.inl h0⟩) (chk2_of i _ _ _ hen) (fun e => hn (c3.1 e)) (c4.2 hu) (fun e => absurd (c5.1 e) (by omega)) W K
        rw [e0'] at key
        iapply key
        isplitl [H0]; · iexact H0
        isplitl [H1]; · iexact H1
        isplitl [H2]; · iexact H2
        isplitl [H9]; · iexact H9
        isplitl [HE]; · iexact HE
        isplitl [HN]; · iexact HN
        isplitl [HU]; · iexact HU
        isplitl [HRA]; · iexists a; iexact HRA
        isplitl [HRB]; · iexists b; iexact HRB
        isplitl [HP]; · iexact HP
        isplitl [HW]; · iexact HW
        iintro ⟨H0, H1, H2, H9, HE, HN, HU, HRA, HRB, HP, ⟨%W', HW⟩⟩
        iapply Hk
        isplitl [Hg HE HN HU HRA HRB HP]
        · isplitl [Hg]; · iexact Hg
          isplitl [HE HN HU]
          · isplitl [HE]; · iexact HE
            isplitl [HN]; · iexact HN
            iexact HU
          isplitl [HRA HRB]
          · iexists _, _; isplitl [HRA]; · iexact HRA
            isplitl [HRB]; · iexact HRB
            ipureintro; intro _ _; rw [Nat.add_sub_cancel]; exact ⟨rfl, rfl⟩
          iexact HP
        isplitl [HW]; · iexists W'; iexact HW
        isplitl [H0]; · iexact H0
        isplitl [H1]; · iexact H1
        isplitl [H2]; · iexact H2
        iexact H9
    · rw [pend_used c tn tu wA wB (t := (i 0).val) (by omega) (by omega)]
      have es : (i 0).val - 1 + 1 = (i 0).val := by omega
      by_cases he : at160 te (i 0).val = at160 te ((i 0).val - 1)
      · rw [R.same ((i 0).val - 1) (by omega) (by rw [es]; exact he), es]
        unfold ready
        iintro ⟨⟨Hg, ⟨HE, HN, HU⟩, ⟨%a, %b, HRA, HRB, %hab⟩, HP⟩, HW, H0, H1, H2, H9, Hk⟩
        obtain ⟨rfl, rfl⟩ := hab (by omega) (by omega)
        iapply (runR5 c i arg4 harg4 arg6 harg6 arg8 harg8 arg9 harg9 x0 x1 x2 te tn tu wA wB (rnd (matA wA (at160 te ((i 0).val - 1)))) (rnd (matB wB (at160 te ((i 0).val - 1))))
          (fun e => h0 ((cond1_iff i).1 e)) (fun e => (c2.1 e).2.elim h0 (fun e' => e' he)) (c4.2 hu) (fun e => absurd (c5.1 e) (by omega)) W K)
        isplitl [H0]; · iexact H0
        isplitl [H1]; · iexact H1
        isplitl [H2]; · iexact H2
        isplitl [H9]; · iexact H9
        isplitl [HE]; · iexact HE
        isplitl [HN]; · iexact HN
        isplitl [HU]; · iexact HU
        isplitl [HRA]; · iexact HRA
        isplitl [HRB]; · iexact HRB
        isplitl [HW]; · iexact HW
        iintro ⟨H0, H1, H2, H9, HE, HN, HU, HRA, HRB, ⟨%W', HW⟩⟩
        iapply Hk
        isplitl [Hg HE HN HU HRA HRB HP]
        · isplitl [Hg]; · iexact Hg
          isplitl [HE HN HU]
          · isplitl [HE]; · iexact HE
            isplitl [HN]; · iexact HN
            iexact HU
          isplitl [HRA HRB]
          · iexists _, _; isplitl [HRA]; · iexact HRA
            isplitl [HRB]; · iexact HRB
            ipureintro; intro _ _; rw [Nat.add_sub_cancel, he]; exact ⟨rfl, rfl⟩
          iexact HP
        isplitl [HW]; · iexists W'; iexact HW
        isplitl [H0]; · iexact H0
        isplitl [H1]; · iexact H1
        isplitl [H2]; · iexact H2
        rw [he]
        iexact H9
      · rw [R.diff ((i 0).val - 1) (by omega) (by rw [es]; exact he), es, pendOf_lt c wA wB (R.e _)]
        by_cases hn : (at160 tn (i 0).val).toNat < 32
        · rw [pendOf_lt c wA wB hn]
          unfold ready
          iintro ⟨⟨Hg, ⟨HE, HN, HU⟩, ⟨%a, %b, HRA, HRB, %hab⟩, HP⟩, HW, H0, H1, H2, H9, Hk⟩
          have key := runR3 c i arg4 harg4 arg6 harg6 arg8 harg8 arg9 harg9 x0 x1 x2 te tn tu wA wB (matA wA (at160 te (i 0).val)) (matB wB (at160 te (i 0).val))
            (fun e => h0 ((cond1_iff i).1 e)) (c2.2 ⟨hu, Or.inr he⟩) (chk2_of i _ _ _ hen) (c3.2 hn) (chk3_of i _ _ _ _ (by rw [ex']; exact hn)) (by rw [ex']; exact hn) (c4.2 hu) (fun e => absurd (c5.1 e) (by omega)) W K
          have ex0 : wNext' i tn = at160 tn (i 0).val := ex'
          rw [ex0] at key
          iapply key
          isplitl [H0]; · iexact H0
          isplitl [H1]; · iexact H1
          isplitl [H2]; · iexact H2
          isplitl [H9]; · iexact H9
          isplitl [HE]; · iexact HE
          isplitl [HN]; · iexact HN
          isplitl [HU]; · iexact HU
          isplitl [HRA]; · iexists a; iexact HRA
          isplitl [HRB]; · iexists b; iexact HRB
          icases HP with ⟨HPA, HPB⟩
          isplitl [HPA]; · iexact HPA
          isplitl [HPB]; · iexact HPB
          isplitl [HW]; · iexact HW
          iintro ⟨H0, H1, H2, H9, HE, HN, HU, HRA, HRB, HPA, HPB, ⟨%W', HW⟩⟩
          iapply Hk
          isplitl [Hg HE HN HU HRA HRB HPA HPB]
          · isplitl [Hg]; · iexact Hg
            isplitl [HE HN HU]
            · isplitl [HE]; · iexact HE
              isplitl [HN]; · iexact HN
              iexact HU
            isplitl [HRA HRB]
            · iexists _, _; isplitl [HRA]; · iexact HRA
              isplitl [HRB]; · iexact HRB
              ipureintro; intro _ _; rw [Nat.add_sub_cancel]; exact ⟨rfl, rfl⟩
            isplitl [HPA]; · iexact HPA
            iexact HPB
          isplitl [HW]; · iexists W'; iexact HW
          isplitl [H0]; · iexact H0
          isplitl [H1]; · iexact H1
          isplitl [H2]; · iexact H2
          iexact H9
        · rw [pendOf_ge c wA wB hn]
          unfold ready
          iintro ⟨⟨Hg, ⟨HE, HN, HU⟩, ⟨%a, %b, HRA, HRB, %hab⟩, HP⟩, HW, H0, H1, H2, H9, Hk⟩
          iapply (runR4 c i arg4 harg4 arg6 harg6 arg8 harg8 arg9 harg9 x0 x1 x2 te tn tu wA wB (matA wA (at160 te (i 0).val)) (matB wB (at160 te (i 0).val))
            (fun e => h0 ((cond1_iff i).1 e)) (c2.2 ⟨hu, Or.inr he⟩) (chk2_of i _ _ _ hen) (fun e => hn (c3.1 e)) (c4.2 hu) (fun e => absurd (c5.1 e) (by omega)) W K)
          isplitl [H0]; · iexact H0
          isplitl [H1]; · iexact H1
          isplitl [H2]; · iexact H2
          isplitl [H9]; · iexact H9
          isplitl [HE]; · iexact HE
          isplitl [HN]; · iexact HN
          isplitl [HU]; · iexact HU
          isplitl [HRA]; · iexists a; iexact HRA
          isplitl [HRB]; · iexists b; iexact HRB
          icases HP with ⟨HPA, HPB⟩
          isplitl [HPA]; · iexact HPA
          isplitl [HPB]; · iexact HPB
          isplitl [HW]; · iexact HW
          iintro ⟨H0, H1, H2, H9, HE, HN, HU, HRA, HRB, HP, ⟨%W', HW⟩⟩
          iapply Hk
          isplitl [Hg HE HN HU HRA HRB HP]
          · isplitl [Hg]; · iexact Hg
            isplitl [HE HN HU]
            · isplitl [HE]; · iexact HE
              isplitl [HN]; · iexact HN
              iexact HU
            isplitl [HRA HRB]
            · iexists _, _; isplitl [HRA]; · iexact HRA
              isplitl [HRB]; · iexact HRB
              ipureintro; intro _ _; rw [Nat.add_sub_cancel]; exact ⟨rfl, rfl⟩
            iexact HP
          isplitl [HW]; · iexists W'; iexact HW
          isplitl [H0]; · iexact H0
          isplitl [H1]; · iexact H1
          isplitl [H2]; · iexact H2
          iexact H9
  · rw [show outAt c te tu wA wB (i 0).val x0 x1 x2 = k0_pay12 (F := F) from if_neg hu,
      pend_ge c te tn tu wA wB R (t := (i 0).val) (by omega), pend_ge c te tn tu wA wB R (t := (i 0).val + 1) (by omega)]
    unfold ready
    iintro ⟨⟨Hg, ⟨HE, HN, HU⟩, ⟨%a, %b, HRA, HRB, %hab⟩, HP⟩, HW, H0, H1, H2, H9, Hk⟩
    iapply (runR6 c i arg4 harg4 arg6 harg6 arg8 harg8 arg9 harg9 x0 x1 x2 te tn tu wA wB
      (fun e => hu (by have := (cond1_iff i).1 e; have := R.n1; omega)) (fun e => hu (c2.1 e).1) (fun e => hu (c4.1 e)) (c5.2 (by omega)) W K)
    isplitl [H0]; · iexact H0
    isplitl [H1]; · iexact H1
    isplitl [H2]; · iexact H2
    isplitl [H9]; · iexact H9
    isplitl [HE]; · iexact HE
    isplitl [HN]; · iexact HN
    isplitl [HU]; · iexact HU
    isplitl [HW]; · iexact HW
    iintro ⟨H0, H1, H2, H9, HE, HN, HU, ⟨%W', HW⟩⟩
    iapply Hk
    isplitl [Hg HE HN HU HRA HRB HP]
    · isplitl [Hg]; · iexact Hg
      isplitl [HE HN HU]
      · isplitl [HE]; · iexact HE
        isplitl [HN]; · iexact HN
        iexact HU
      isplitl [HRA HRB]
      · iexists _, _; isplitl [HRA]; · iexact HRA
        isplitl [HRB]; · iexact HRB
        ipureintro; intro _ h; omega
      iexact HP
    isplitl [HW]; · iexists W'; iexact HW
    isplitl [H0]; · iexact H0
    isplitl [H1]; · iexact H1
    isplitl [H2]; · iexact H2
    iexact H9
end

end Cert.ExpertsIdeal.Moe

end
-- ==== Proof.ExpertsIdealFrame.lean ====
/-
  The launch of the experts' call: the proof data of its pipeline, the run, and the frame.
-/
module

public import proofs.«01_k».proof.Proof.Gen.ExpertsIdeal.Launch
public import proofs.«01_k».proof.Proof.Gen.ExpertsIdeal.Skeleton
public import proofs.«01_k».proof.Proof.Gen.ExpertsIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueLayout
public import proofs.«01_k».proof.Proof.ExpertsIdealRegions
public import Idealize.ShloMosaic.Lib.Claim

@[expose] public section

set_option maxRecDepth 16384

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The region's entry -/

/-- The buffers when the region is entered: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents. -/
def tabs : pre0.Contents (Elt F) := fun j => V m (0 : Dev nD) (pre0.ref j)
theorem V_pre (c : Dev nD) (j : Fin 3) : V m c (pre0.ref j) = tabs m j := by
  obtain rfl : c = 0 := Subsingleton.elim _ _; rfl
/-- The expert of each block, the expert of the next region, and the number of used blocks. -/
abbrev exps : S160.Idx → BitVec 32 := tabs m 0
abbrev nexts : S160.Idx → BitVec 32 := tabs m 1
abbrev cnt : S1.Idx → BitVec 32 := tabs m 2
abbrev Ok : Prop := ok0 (F := F) (tabs m)
abbrev Regs : Prop := Regions (at160 (exps m)) (at160 (nexts m)) (used (cnt m))
abbrev adm (hO : Ok m) : (pcfg0 (F := F)).Adm := ⟨tabs m, hO⟩
abbrev cfgM (hO : Ok m) : Pipeline.Cfg sig Λ₀ := cfg0 (adm m hO)

theorem PhiT_eq (c : Dev nD) : (Pipeline.ΦT pre0 (tabs m) c : sProp 𝕄)
    = iprop(tbl c tbE (tabs m 0) ∗ tbl c tbN (tabs m 1) ∗ tbl c tbU (tabs m 2)) := by
  unfold Pipeline.ΦT Pipeline.prefHeld
  rw [bigSep_univ_eq_bigSepL [(0 : Fin 3), 1, 2] (by decide) (by decide)]
  rfl

/-- The body's own semaphores, and the arrays it copies from by itself. -/
def osem : Fin 2 → SemLoc sig := fun j => (![SemLoc.dma 8, SemLoc.dma 9] : Fin 2 → SemLoc sig) j
theorem ownSemFacts : Pipeline.OwnSemFacts spec0 osem := by decide
theorem ownSems_eq (c : Dev nD) : (Pipeline.ownSems0 (Ix := Unit) (Name := ℕ) (U := Pipeline.UD sig nD τ) (Lvl := ℕ) (Val := Elt F) (τ := τ) osem c : sProp 𝕄)
    = iprop(semVal ((c : Thread nD τ), SemLoc.dma 8) 0 ∗ semVal ((c : Thread nD τ), SemLoc.dma 9) 0) := by
  rw [Pipeline.ownSems0_eq_of_list c osem [0, 1] (by decide) (by decide)]; rfl
def hbm : Finset (Ref sig .tc) := {main_arg4, main_arg6}
theorem hbm_sub : hbm ⊆ Pipeline.restRefsP sig pre0 spec0 := by decide
theorem hbmPts_eq (c : Dev nD) : (bigSep hbm (fun b => (c : Thread nD τ).loc b ↦{fullShare} V m c b) : sProp 𝕄)
    = iprop(held c hbA (V m c main_arg4) ∗ held c hbB (V m c main_arg6)) := by
  rw [BI.bigSep_eq_bigSepL_of_eq [main_arg4, main_arg6] (by decide) (by decide)]; rfl

theorem PhiD_eq (c : Dev nD) : (Pipeline.ΦD osem spec0 hbm (V m) c : sProp 𝕄)
    = iprop(((∃ d, owns (c : Thread nD τ) scA fullShare d) ∗ (∃ d, owns (c : Thread nD τ) scB fullShare d)
          ∗ (∃ d, owns (c : Thread nD τ) rdA fullShare d) ∗ (∃ d, owns (c : Thread nD τ) rdB fullShare d))
        ∗ (∃ r, prngReg c r)
        ∗ (semVal ((c : Thread nD τ), SemLoc.dma 8) 0 ∗ semVal ((c : Thread nD τ), SemLoc.dma 9) 0)
        ∗ (held c hbA (V m c main_arg4) ∗ held c hbB (V m c main_arg6))) := by
  rw [Pipeline.ΦD_eq, scopedRest0_eq, ownSems_eq, hbmPts_eq]
  simp only [scA, scB, rdA, rdB, owns_whole]
  try rfl

/-- The whole invariant before a point. -/
abbrev InvM (c : Dev nD) (t : ℕ) : sProp 𝕄 :=
  Inv c (tabs m 0 : BufOf (F := F) c tbE) (tabs m 1 : BufOf (F := F) c tbN) (tabs m 2 : BufOf (F := F) c tbU) (V m c main_arg4 : BufOf (F := F) c hbA) (V m c main_arg6 : BufOf (F := F) c hbB) t

section
variable (c : Dev nD) (te : BufOf (F := F) c tbE) (tn : BufOf (F := F) c tbN) (tu : BufOf (F := F) c tbU)
  (wA : BufOf (F := F) c hbA) (wB : BufOf (F := F) c hbB)
/-- What the region hands the body, in the invariant's words. -/
abbrev handed : sProp 𝕄 :=
  iprop(((∃ d, owns (c : Thread nD τ) scA fullShare d) ∗ (∃ d, owns (c : Thread nD τ) scB fullShare d)
          ∗ (∃ d, owns (c : Thread nD τ) rdA fullShare d) ∗ (∃ d, owns (c : Thread nD τ) rdB fullShare d))
        ∗ (∃ r, prngReg c r)
        ∗ (semVal ((c : Thread nD τ), SemLoc.dma 8) 0 ∗ semVal ((c : Thread nD τ), SemLoc.dma 9) 0)
        ∗ (held c hbA wA ∗ held c hbB wB))
theorem start : iprop(handed c wA wB ∗ (tbl c tbE te ∗ tbl c tbN tn ∗ tbl c tbU tu)) ⊢ Inv c te tn tu wA wB 0 := by
  unfold Inv ready
  rw [pend_zero]
  unfold handed idle owns
  iintro ⟨⟨⟨⟨%da, %fa, %_, HA⟩, ⟨%db, %fb, %_, HB⟩, ⟨%a, HRA⟩, ⟨%b, HRB⟩⟩, Hg, ⟨HS8, HS9⟩, ⟨HhA, HhB⟩⟩, HT⟩
  isplitl [Hg]; · iexact Hg
  isplitl [HT]; · iexact HT
  isplitl [HRA HRB]
  · iexists a, b
    isplitl [HRA]; · iexact HRA
    isplitl [HRB]; · iexact HRB
    ipureintro; intro h; omega
  isplitl [HS8]; · iexact HS8
  isplitl [HS9]; · iexact HS9
  isplitl [HA]; · iexists fa; iexact HA
  isplitl [HB]; · iexists fb; iexact HB
  isplitl [HhA]; · iexact HhA
  iexact HhB
theorem finish (R : Regions (at160 te) (at160 tn) (used tu)) : Inv c te tn tu wA wB 160 ⊢ handed c wA wB := by
  unfold Inv ready
  rw [pend_ge c te tn tu wA wB R (t := 160) R.n2]
  unfold idle
  iintro ⟨Hg, HT, ⟨%a, %b, HRA, HRB, %_⟩, HS8, HS9, ⟨%fa, HA⟩, ⟨%fb, HB⟩, HhA, HhB⟩
  isplitl [HA HB HRA HRB]
  · isplitl [HA]
    · iexists _; unfold owns; iexists fa; isplitr
      swap; · iexact HA
      ipureintro; rfl
    isplitl [HB]
    · iexists _; unfold owns; iexists fb; isplitr
      swap; · iexact HB
      ipureintro; rfl
    isplitl [HRA]; · iexists a; iexact HRA
    iexists b; iexact HRB
  isplitl [Hg]; · iexact Hg
  isplitl [HS8 HS9]
  · isplitl [HS8]; · iexact HS8
    iexact HS9
  isplitl [HhA]; · iexact HhA
  iexact HhB
end

theorem inv_start (c : Dev nD) : iprop(Pipeline.ΦD osem spec0 hbm (V m) c ∗ Pipeline.ΦT pre0 (tabs m) c) ⊢ InvM m c 0 := by
  rw [PhiD_eq, PhiT_eq]
  exact start c _ _ _ _ _
theorem inv_end (R : Regs m) (c : Dev nD) : InvM m c 160 ⊢ Pipeline.ΦD osem spec0 hbm (V m) c := by
  rw [PhiD_eq]
  exact finish c _ _ _ _ _ R

/-! ## The windows' blocks and the proof data -/

/-- A window's block at a point, read off its array as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output's block holds after a point. -/
def outM (hO : Ok m) (c : Dev nD) (t : Fin (cfgM m hO).N) : Vec F S4096x128 .f32 :=
  outAt c (tabs m 0 : BufOf (F := F) c tbE) (tabs m 2 : BufOf (F := F) c tbU) (V m c main_arg4 : BufOf (F := F) c hbA) (V m c main_arg6 : BufOf (F := F) c hbB) (grid0.coords t 0).val
    (iblk m hO c 0 t) (iblk m hO c 1 t) (iblk m hO c 2 t)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outM m hO c t
  Φ t := InvM m c t.val
  q _ := fullShare
  owed _ := 0

section
variable (hO : Ok m) (c : Dev nD)
theorem A_eq (c : Dev nD) (w : Fin (cfgM m hO).W) : (dats m hO 0 c).A w = V m c (Pipeline.arrRef spec0 w) := by dsimp only [dats]
theorem after_0 (t : Fin (cfgM m hO).N) : (dats m hO 0 c).after 0 t = iblk m hO c 0 t := by dsimp only [dats]; try rfl
theorem after_1 (t : Fin (cfgM m hO).N) : (dats m hO 0 c).after 1 t = iblk m hO c 1 t := by dsimp only [dats]; try rfl
theorem after_2 (t : Fin (cfgM m hO).N) : (dats m hO 0 c).after 2 t = iblk m hO c 2 t := by dsimp only [dats]; try rfl
theorem after_3 (t : Fin (cfgM m hO).N) : (dats m hO 0 c).after 3 t = outM m hO c t := by dsimp only [dats]; try rfl
theorem before_0 (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

abbrev st0 (t : Fin (cfgM m hO).N) : Memref sig .tc .vmem S4096x128 .f32 := spec0_0.stage ((cfgM m hO).slots t 0)
abbrev st1 (t : Fin (cfgM m hO).N) : Memref sig .tc .vmem S1x1x2048 .f32 := spec0_1.stage ((cfgM m hO).slots t 1)
abbrev st2 (t : Fin (cfgM m hO).N) : Memref sig .tc .vmem S1x1x1024 .f32 := spec0_2.stage ((cfgM m hO).slots t 2)
abbrev st3 (t : Fin (cfgM m hO).N) : Memref sig .tc .vmem S4096x128 .f32 := spec0_3.stage ((cfgM m hO).slots t 3)

/-- The body at a point of the pipeline. -/
abbrev bodyAt (t : Fin (cfgM m hO).N) :=
  cc0_experts (F := F) (grid0.coords t) tbE (Memref.isWhole_whole _) tbN (Memref.isWhole_whole _) tbU (Memref.isWhole_whole _)
    (st0 m hO t) (hstage0_0 (((cfgM m hO).slots t 0).cast nbuf0_0)) hbA (Memref.isWhole_whole _)
    (st1 m hO t) (hstage0_1 (((cfgM m hO).slots t 1).cast nbuf0_1)) hbB (Memref.isWhole_whole _)
    (st2 m hO t) (hstage0_2 (((cfgM m hO).slots t 2).cast nbuf0_2))
    (st3 m hO t) (hstage0_3 (((cfgM m hO).slots t 3).cast nbuf0_3)) scA (Memref.isWhole_whole _) scB (Memref.isWhole_whole _) rdA (Memref.isWhole_whole _) rdB (Memref.isWhole_whole _) cc0_scratch4

def bodyPre (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))
def bodyPost (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))

theorem coord (t : Fin (cfgM m hO).N) : (grid0.coords t 0).val = t.val :=
  (by decide +kernel : ∀ t : Fin grid0.N, (grid0.coords t 0).val = t.val) t

theorem sound_body (R : Regs m) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2]
  rw [after_0, after_1, after_2, after_3,
    show (dats m hO 0 c).Φ t.castSucc = InvM m c (grid0.coords t 0).val from congrArg (InvM m c) (coord m hO t).symm,
    show (dats m hO 0 c).Φ t.succ = InvM m c ((grid0.coords t 0).val + 1) from congrArg (fun k => InvM m c (k + 1)) (coord m hO t).symm]
  unfold Dat.owesAt Pipeline.owesWithin outM
  iintro ⟨HI, ⟨%W, -, HW⟩, ⟨%d0, H0⟩, ⟨%d1, H1⟩, ⟨%d2, H2⟩, ⟨%d3, H3⟩⟩
  iapply (step c _ _ _ _ _ R (grid0.coords t) _ _ _ _ _ _ _ _ (iblk m hO c 0 t) (iblk m hO c 1 t) (iblk m hO c 2 t) W _)
  isplitl [HI]; · iexact HI
  isplitl [HW]; · iexact HW
  isplitl [H0]; · iexact H0
  isplitl [H1]; · iexact H1
  isplitl [H2]; · iexact H2
  isplitl [H3]; · iexists _; iexact H3
  iintro ⟨HI, ⟨%W', HW⟩, H0, H1, H2, H3⟩
  isplitl [HI]; · iexact HI
  isplitl [HW]
  · iexists W'; isplitr
    · ipureintro; exact fun _ _ => Or.inl trivial
    iexact HW
  isplitl [H0]; · iexact H0
  isplitl [H1]; · iexact H1
  isplitl [H2]; · iexact H2
  iexact H3

theorem row (t : Fin (cfgM m hO).N) :
    defs₀ (F := F) .tc (cfgM m hO).body ((cfgM m hO).bodyArgs t ((cfgM m hO).slots t)) = bodyAt m hO t := by
  unfold defs₀; rw [Defs.onTc_tc]

theorem body_obligation (R : Regs m) : BodyObligation (dats (F := F) m hO 0 c) (defs₀ (F := F)) Variants.none () Set.univ := fun t => by
  rw [bigSep_W0, bigSep_W0, row m hO]
  refine triple_restated (sound_body m hO c R t) rfl .rfl fun _ => ?_
  have hi : (cfgM m hO).idle 3 ((cfgM m hO).grid.coords t) = false := idle_false _ _
  refine sep_mono .rfl (sep_mono .rfl (sep_mono .rfl (sep_mono .rfl (sep_mono .rfl ?_))))
  show owns (c : Thread nD τ) (st3 m hO t) fullShare ((dats m hO 0 c).after 3 t) ⊢ match (cfgM m hO).idle 3 ((cfgM m hO).grid.coords t) with
    | true => _
    | false => _
  rw [hi]
end

/-! ## The run and the frame -/

set_option backward.isDefEq.respectTransparency.types false in
/-- Every run ends, with every array at what the proof data say and every counter at zero. -/
theorem run_main (hO : Ok m) (R : Regs m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem defs₀ Variants.none ownSemFacts
    hbm hbm_sub m ρ main (hbody := fun c => (body_obligation m hO c R).loose) (hshare := fun c => (dats m hO 0 c).share_full fun _ => rfl)
    (howed := fun _ _ => rfl) (V := V m) (hmain := hmain m Variants.none) (hA := A_eq m hO) (hpf := V_pre m)
    (hin := inv_start m) (hout := inv_end m R)

/-- The arguments end as they were. -/
theorem unchanged (hO : Ok m) {r : PUnit × MemSt nD τ sig (Elt F)}
    (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).2 main_arg0 (by decide : main_arg0 ∈ Pipeline.restRefs sig spec0),
    (h c).2 main_arg1 (by decide : main_arg1 ∈ Pipeline.restRefs sig spec0),
    (h c).2 main_arg2 (by decide : main_arg2 ∈ Pipeline.restRefs sig spec0),
    ((h c).1 0).trans (((dats m hO 0 c).arrAt_in 0 rfl _).trans (A_eq m hO c 0)),
    (h c).2 main_arg4 (by decide : main_arg4 ∈ Pipeline.restRefs sig spec0),
    ((h c).1 1).trans (((dats m hO 0 c).arrAt_in 1 rfl _).trans (A_eq m hO c 1)),
    (h c).2 main_arg6 (by decide : main_arg6 ∈ Pipeline.restRefs sig spec0),
    ((h c).1 2).trans (((dats m hO 0 c).arrAt_in 2 rfl _).trans (A_eq m hO c 2))⟩

/-- The frame. -/
theorem frame_all (hO : Ok m) (R : Regs m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => unchanged m hO h.1 c, h.2⟩) (run_main m ρ hO R)

end Cert.ExpertsIdeal.Moe

end
-- ==== Proof.ExpertsIdealEntry.lean ====
/-
  The experts' tables under the precondition `regions`: the blocks in range, and the regions as the body needs them.
-/
module

public import proofs.«01_k».proof.Proof.Gen.ExpertsIdeal.Launch
public import proofs.«01_k».proof.Proof.Gen.ExpertsIdeal.Skeleton
public import proofs.«01_k».proof.Proof.Gen.ExpertsIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.ValueLayout
public import proofs.«01_k».proof.Proof.ExpertsIdealFrame
public import proofs.«01_k».proof.Proof.Tables
public import Idealize.ShloMosaic.Lib.Claim

@[expose] public section

set_option maxRecDepth 16384

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The windows' indices -/

/-- The block of rows a point reads: its own, the last used one past the used blocks. -/
def rowBlk (n : BitVec 32) (k : ℕ) : ℕ := min k (n.toNat - 1)

theorem word_at (f : S160.Idx → BitVec 32) (i : grid0.Coords) (y : S1.Idx) :
    f ((Rect.unit (s := S160) (k0_off1 i) S1.size (k0_off1_inb i)).toLoadRect.idx y) = at160 f (i 0).val := word_eq f _ (k0_off1_inb i) _ (off_here i) _

theorem at_used (f : S1.Idx → BitVec 32) (z : S1.Idx) : f z = used f :=
  congrArg f (funext fun a => match a with | 0 => Subsingleton.elim (α := Fin 1) _ _)

theorem sub_one {n : BitVec 32} (h1 : 1 ≤ n.toNat) (h2 : n.toNat ≤ 160) : (IntOp.subi n 1#32).toNat = n.toNat - 1 := by
  show (n - 1#32).toNat = _
  rw [BitVec.toNat_sub]
  show (4294967296 - 1 + n.toNat) % 4294967296 = _
  omega

theorem row_word (i : grid0.Coords) {n : BitVec 32} (h1 : 1 ≤ n.toNat) (h2 : n.toNat ≤ 160) :
    (IntOp.minsi (BitVec.ofNat 32 (i 0).val) (IntOp.subi n 1#32)).toNat = rowBlk n (i 0).val := by
  have hi := lt160 i
  have e := sub_one h1 h2
  have ea : (BitVec.ofNat 32 (i 0).val).toNat = (i 0).val := by rw [BitVec.toNat_ofNat]; omega
  have eb : (IntOp.subi n 1#32).toInt = (IntOp.subi n 1#32).toNat := toInt_used (by omega)
  unfold IntOp.minsi rowBlk
  split
  · rename_i h
    have h := of_decide_eq_true (show decide ((BitVec.ofNat 32 (i 0).val).toInt < (IntOp.subi n 1#32).toInt) = true from h)
    rw [toInt_at hi, eb, e] at h; omega
  · rename_i h
    have h := of_decide_eq_false (show decide ((BitVec.ofNat 32 (i 0).val).toInt < (IntOp.subi n 1#32).toInt) = false from Bool.eq_false_iff.2 h)
    rw [toInt_at hi, eb, e] at h; omega

variable (m : (ℓ : Loc nD τ sig) → Buf (Elt F) ℓ)

theorem tr0 (R : Regs m) (i : grid0.Coords) : cc0_transform_0 inb_S1_S1_0 numel1_S1 (tabs m) i = ![rowBlk (used (cnt m)) (i 0).val, 0] := by
  refine (congrArg (fun v : BitVec 32 => ![(IntOp.minsi (BitVec.ofNat 32 (i 0).val) (IntOp.subi v 1#32)).toNat, 0]) (at_used (cnt m) _)).trans ?_
  exact congrArg (fun k : ℕ => ![k, 0]) (row_word i R.n1 R.n2)
theorem tr1 (i : grid0.Coords) : cc0_transform_2 k0_off1_inb numel1_S1 (tabs m) i = ![(at160 (exps m) (i 0).val).toNat, 0, 0] :=
  congrArg (fun v : BitVec 32 => ![v.toNat, 0, 0]) (word_at (exps m) i _)
theorem tr2 (i : grid0.Coords) : cc0_transform_4 k0_off1_inb numel1_S1 (tabs m) i = ![(at160 (exps m) (i 0).val).toNat, 0, 0] :=
  congrArg (fun v : BitVec 32 => ![v.toNat, 0, 0]) (word_at (exps m) i _)
theorem tr3 : ∀ i : grid0.Coords, cc0_transform_5 i = ![(i 0).val, 0] := by decide +kernel

theorem ok_of (R : Regs m) : Ok m := by
  refine ⟨fun i => ⟨fun a => ?_, .inl rfl⟩, fun i => ⟨fun a => ?_, .inl rfl⟩, fun i => ⟨fun a => ?_, .inl rfl⟩⟩
  · rw [tr0 m R]
    have hi := lt160 i
    match a with
    | ⟨0, _⟩ => show (min (i 0).val _ + 1) * 4096 ≤ 655360; omega
    | ⟨1, _⟩ => show (0 + 1) * 128 ≤ 128; omega
  · rw [tr1 m]
    have h := R.e (i 0).val
    match a with
    | ⟨0, _⟩ => show ((at160 (exps m) (i 0).val).toNat + 1) * 1 ≤ 32; omega
    | ⟨1, _⟩ => show (0 + 1) * 1 ≤ 1; omega
    | ⟨2, _⟩ => show (0 + 1) * 2048 ≤ 2048; omega
  · rw [tr2 m]
    have h := R.e (i 0).val
    match a with
    | ⟨0, _⟩ => show ((at160 (exps m) (i 0).val).toNat + 1) * 1 ≤ 32; omega
    | ⟨1, _⟩ => show (0 + 1) * 1 ≤ 1; omega
    | ⟨2, _⟩ => show (0 + 1) * 1024 ≤ 1024; omega

/-! ## The precondition -/

theorem regions_of {a0 a1 : S160.Idx → BitVec 32} {a2 : S1.Idx → BitVec 32}
    (h : (∀ k : Fin 160, (a0 (ix1 k)).toNat < 32) ∧ 1 ≤ (a2 (ix1 0)).toNat ∧ (a2 (ix1 0)).toNat ≤ 160
      ∧ ∀ k : Fin 160, k.val < (a2 (ix1 0)).toNat →
        a1 (ix1 k) = if k.val + 1 < (a2 (ix1 0)).toNat then (if a0 (ix1 (Tables.succ k)) ≠ a0 (ix1 k) then a0 (ix1 (Tables.succ k)) else a1 (ix1 (Tables.succ k)))
          else 4294967295#32) : Regions (at160 a0) (at160 a1) (used a2) := by
  obtain ⟨h0, h1, h2, h3⟩ := h
  have hu : used a2 = a2 (ix1 0) := rfl
  rw [← hu] at h1 h2 h3
  have at_lt : ∀ (f : S160.Idx → BitVec 32) (k : ℕ) (hk : k < 160), at160 f k = f (ix1 ⟨k, hk⟩) := fun f k hk =>
    congrArg f (congrArg ix1 (Fin.ext (Nat.mod_eq_of_lt hk)))
  have st : ∀ k, k + 1 < (used a2).toNat → at160 a1 k
      = if at160 a0 (k + 1) ≠ at160 a0 k then at160 a0 (k + 1) else at160 a1 (k + 1) := fun k hk => by
    have := h3 ⟨k, by omega⟩ (by show k < (used a2).toNat; omega)
    rw [if_pos (show k + 1 < (used a2).toNat from hk)] at this
    rw [at_lt a1 k (by omega), at_lt a0 k (by omega)]
    exact this
  refine ⟨fun k => h0 _, h1, h2, ?_, fun k hk he => ?_, fun k hk he => ?_⟩
  · have := h3 ⟨(used a2).toNat - 1, by omega⟩ (by show (used a2).toNat - 1 < (used a2).toNat; omega)
    rw [at_lt _ _ (by omega)]
    exact this.trans (if_neg (by show ¬ (used a2).toNat - 1 + 1 < (used a2).toNat; omega))
  · rw [st k hk, if_neg (not_not_intro he)]
  · rw [st k hk, if_pos he]

theorem regs_of [Pre_regions.Facts] (h : ∀ c : Dev nD, Pre_regions.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) = fun _ => 1#1) : Regs m :=
  regions_of (Tables.regions _ _ _ _ _ _ _ _ (h 0))

end Cert.ExpertsIdeal.Moe

end
-- ==== Proof.ExpertsModel.lean ====
/-
  The experts of a mixture layer, as plain functions of the arrays: what one token becomes under the expert its region belongs to.
-/
module

public import Idealize.ShloMosaic.Lib.ValueIdx
public import Idealize.ShloMosaic.PureOps.Ideal.Laws

@[expose] public section

noncomputable section

namespace Cert.Mixture

open Idealize.ShloMosaic Idealize.ShloMosaic.ValueIdx
open scoped BigOperators

/-- The arrays: the tokens in rows of 128, and the experts' two matrices with their biases. -/
abbrev Tokens := (⟨2, ![655360, 128]⟩ : Shape).Idx → Ideal .f32
abbrev Up := (⟨3, ![32, 1024, 2048]⟩ : Shape).Idx → Ideal .f32
abbrev UpBias := (⟨3, ![32, 1, 2048]⟩ : Shape).Idx → Ideal .f32
abbrev Down := (⟨3, ![32, 1024, 1024]⟩ : Shape).Idx → Ideal .f32
abbrev DownBias := (⟨3, ![32, 1, 1024]⟩ : Shape).Idx → Ideal .f32

/-- The constants, as both programs write them. -/
abbrev seven : Ideal .f32 := FloatOps.ofBits .f32 0x40E00000#32
abbrev minusSeven : Ideal .f32 := FloatOps.ofBits .f32 0xC0E00000#32
abbrev steep : Ideal .f32 := FloatOps.ofBits .f32 0x3FD9DB23#32
abbrev one : Ideal .f32 := FloatOps.ofBits .f32 0x3F800000#32

/-- A token under an expert's first matrix. -/
def hid (row : Fin 1024 → Ideal .f32) (w : Up) (b : UpBias) (e : Fin 32) (g : Fin 2048) : Ideal .f32 :=
  FloatOps.addf (φ := .f32) (∑ k : Fin 1024, row k * w (ix3 e k g) : EReal) (b (ix3 e 0 g))

/-- The gated unit: the gate capped from above and passed through its own sigmoid, the linear part clipped and shifted by one. -/
def act (g l : Ideal .f32) : Ideal .f32 :=
  FloatOps.mulf (φ := .f32)
    (FloatOps.mulf (φ := .f32) (FloatOps.minimumf (φ := .f32) g seven)
      (FloatOps.logistic (φ := .f32) (FloatOps.mulf (φ := .f32) steep (FloatOps.minimumf (φ := .f32) g seven))))
    (FloatOps.addf (φ := .f32) (FloatOps.minimumf (φ := .f32) seven (FloatOps.maximumf (φ := .f32) minusSeven l)) one)

def gateCol (f : Fin 1024) : Fin 2048 := ⟨f.val, by omega⟩
def linCol (f : Fin 1024) : Fin 2048 := ⟨1024 + f.val, by omega⟩

def unit (row : Fin 1024 → Ideal .f32) (w : Up) (b : UpBias) (e : Fin 32) (f : Fin 1024) : Ideal .f32 :=
  act (hid row w b e (gateCol f)) (hid row w b e (linCol f))

/-- What the expert makes of the token. -/
def out (row : Fin 1024 → Ideal .f32) (w : Up) (b : UpBias) (v : Down) (d : DownBias) (e : Fin 32) (j : Fin 1024) : Ideal .f32 :=
  FloatOps.addf (φ := .f32) (∑ f : Fin 1024, unit row w b e f * v (ix3 e f j) : EReal) (d (ix3 e 0 j))

/-- Token `r` of block `b`: eight rows of the array. -/
def row (x : Tokens) (b : Fin 160) (r : Fin 512) (k : Fin 1024) : Ideal .f32 :=
  x (ix2 (⟨4096 * b.val + 8 * r.val + k.val / 128, by omega⟩ : Fin 655360) (⟨k.val % 128, by omega⟩ : Fin 128))

/-- The expert a table names for a block. -/
def expert (E : Fin 160 → BitVec 32) (b : Fin 160) : Fin 32 := ⟨(E b).toNat % 32, Nat.mod_lt _ (by decide)⟩

/-- The whole array: a used block's tokens under its expert, zero in the blocks that are not used. -/
def result (E : Fin 160 → BitVec 32) (n : ℕ) (x : Tokens) (w : Up) (b : UpBias) (v : Down) (d : DownBias) : Tokens := fun z =>
  have h0 : (z 0).val < 655360 := (z 0).isLt
  have h1 : (z 1).val < 128 := (z 1).isLt
  if (z 0).val / 4096 < n then
    out (row x ⟨(z 0).val / 4096, by omega⟩ ⟨(z 0).val % 4096 / 8, by omega⟩) w b v d (expert E ⟨(z 0).val / 4096, by omega⟩)
      ⟨128 * ((z 0).val % 8) + (z 1).val, by omega⟩
  else FloatOps.ofBits .f32 0x00000000#32

end Cert.Mixture

end
-- ==== Proof.ExpertsIdealBlockValue.lean ====
/-
  The block the experts' body writes, read element by element: the mixture of `ExpertsModel`.
-/
module

public import proofs.«01_k».proof.Proof.ExpertsIdealBlock
public import proofs.«01_k».proof.Proof.ExpertsModel
public import Idealize.ShloMosaic.Lib.MatmulPlain
public import Idealize.ShloMosaic.Lib.Pipeline.Value
public import Idealize.ShloMosaic.PureOps.Ideal.Laws

@[expose] public section

set_option maxRecDepth 16384

noncomputable section

namespace Cert.ExpertsIdeal.Moe

open Cert.ExpertsIdeal Cert.ExpertsIdeal.Gen Cert.Mixture
open Idealize.ShloMosaic Idealize.ShloMosaic.TcCoe Idealize.ShloMosaic.ValueIdx
open scoped BigOperators

/-! ## The two products -/

theorem product_up (l : FVec Ideal S512x1024 .bf16) (w : FVec Ideal S1024x2048 .bf16) (r : Fin 512) (g : Fin 2048) :
    matmul dot_S512x1024_S1024x2048_S512x2048_1_0_0_1_n_n none l w (constant S512x2048 .f32 0x00000000#32) (ix2 r g)
      = (∑ k : Fin 1024, l (ix2 r k) * w (ix2 k g) : EReal) := by
  refine (Ideal.matmul_plain_apply (M := 512) (K := 1024) (N := 2048) none l w (constant S512x2048 .f32 0x00000000#32) r g).trans ?_
  show (Ideal.ofBits .f32 0x00000000#32 + _ : EReal) = _
  rw [Ideal.ofBits_zero_f32, zero_add]

theorem product_down (l : FVec Ideal S512x1024 .bf16) (w : FVec Ideal S1024x1024 .bf16) (r : Fin 512) (g : Fin 1024) :
    matmul dot_S512x1024_S1024x1024_S512x1024_1_0_0_1_n_n none l w (constant S512x1024 .f32 0x00000000#32) (ix2 r g)
      = (∑ k : Fin 1024, l (ix2 r k) * w (ix2 k g) : EReal) := by
  refine (Ideal.matmul_plain_apply (M := 512) (K := 1024) (N := 1024) none l w (constant S512x1024 .f32 0x00000000#32) r g).trans ?_
  show (Ideal.ofBits .f32 0x00000000#32 + _ : EReal) = _
  rw [Ideal.ofBits_zero_f32, zero_add]

/-! ## The biases, spread over the rows -/

theorem bias_up (b : Vec Ideal S1x1x2048 .f32) (r : Fin 512) (g : Fin 2048) :
    broadcastTo S512x2048 (shapeCast S1x2048 b shapeCasts_S1x1x2048_S1x2048) broadcasts_S1x2048_S512x2048 (ix2 r g) = b (ix3 0 0 g) :=
  (broadcastTo_apply _ broadcasts_S1x2048_S512x2048 (ix2 r g) (ix2 0 g) (fun a => match a with
    | ⟨0, _⟩ => by show 0 = if (1 : ℕ) = 1 then 0 else _; rw [if_pos rfl]
    | ⟨1, _⟩ => by show g.val = if (2048 : ℕ) = 1 then 0 else g.val; rw [if_neg (by decide)])).trans
    (shapeCast_apply b shapeCasts_S1x1x2048_S1x2048 (ix2 0 g) (ix3 0 0 g) (by
      rw [Shape.rowMajor_val_two, Shape.rowMajor_val_three]; rfl))

theorem bias_down (b : Vec Ideal S1x1x1024 .f32) (r : Fin 512) (g : Fin 1024) :
    broadcastTo S512x1024 (shapeCast S1x1024 b shapeCasts_S1x1x1024_S1x1024) broadcasts_S1x1024_S512x1024 (ix2 r g) = b (ix3 0 0 g) :=
  (broadcastTo_apply _ broadcasts_S1x1024_S512x1024 (ix2 r g) (ix2 0 g) (fun a => match a with
    | ⟨0, _⟩ => by show 0 = if (1 : ℕ) = 1 then 0 else _; rw [if_pos rfl]
    | ⟨1, _⟩ => by show g.val = if (1024 : ℕ) = 1 then 0 else g.val; rw [if_neg (by decide)])).trans
    (shapeCast_apply b shapeCasts_S1x1x1024_S1x1024 (ix2 0 g) (ix3 0 0 g) (by
      rw [Shape.rowMajor_val_two, Shape.rowMajor_val_three]; rfl))

/-! ## The rows, eight pieces side by side -/

/-- The eight strided reads side by side: token `r` is rows `8 r … 8 r + 7` of the block in order. -/
theorem pieces_row (x0 : Vec Ideal S4096x128 .f32) (r : Fin 512) (k : Fin 1024) :
    concatenate S512x1024 1 [⟨S512x128, ldr x0 (strided 0)⟩, ⟨S512x128, ldr x0 (strided 1)⟩, ⟨S512x128, ldr x0 (strided 2)⟩, ⟨S512x128, ldr x0 (strided 3)⟩,
        ⟨S512x128, ldr x0 (strided 4)⟩, ⟨S512x128, ldr x0 (strided 5)⟩, ⟨S512x128, ldr x0 (strided 6)⟩, ⟨S512x128, ldr x0 (strided 7)⟩]
      concatenates_S512x128_S512x128_S512x128_S512x128_S512x128_S512x128_S512x128_S512x128_S512x1024_d1 (ix2 r k)
      = x0 (ix2 (⟨8 * r.val + k.val / 128, by omega⟩ : Fin 4096) (⟨k.val % 128, by omega⟩ : Fin 128)) := by
  have hk := k.isLt
  refine (concatenate_ofFn_apply (t := S512x1024) (s₁ := S512x128) 1 (N := 8) (fun n => ldr x0 (strided n))
    concatenates_S512x128_S512x128_S512x128_S512x128_S512x128_S512x128_S512x128_S512x128_S512x1024_d1 rfl 128 rfl (ix2 r k)
    ⟨k.val / 128, by omega⟩ rfl (ix2 r (⟨k.val % 128, by omega⟩ : Fin 128)) rfl (fun b hb => ?_)).trans ?_
  · match b with
    | ⟨0, _⟩ => rfl
    | ⟨1, _⟩ => exact absurd rfl hb
  · refine congrArg x0 (funext fun a => Fin.ext ?_)
    match a with
    | ⟨0, _⟩ => show k.val / 128 + 8 * r.val = 8 * r.val + k.val / 128; omega
    | ⟨1, _⟩ => show 0 + 1 * (k.val % 128) = k.val % 128; omega

/-! ## The hidden units -/

variable (x0 : Vec Ideal S4096x128 .f32) (a : Vec Ideal S1024x2048 .bf16) (b : Vec Ideal S1024x1024 .bf16) (x1 : Vec Ideal S1x1x2048 .f32)
  (x2 : Vec Ideal S1x1x1024 .f32)

/-- A load of a whole value is the value. -/
theorem load_a (y : S1024x2048.Idx) : ldr a allA y = a y :=
  congrArg a (funext fun k => Fin.ext (match k with
    | ⟨0, _⟩ => by show 0 + 1 * (y 0).val = (y 0).val; omega
    | ⟨1, _⟩ => by show 0 + 1 * (y 1).val = (y 1).val; omega))
theorem load_b (y : S1024x1024.Idx) : ldr b allB y = b y :=
  congrArg b (funext fun k => Fin.ext (match k with
    | ⟨0, _⟩ => by show 0 + 1 * (y 0).val = (y 0).val; omega
    | ⟨1, _⟩ => by show 0 + 1 * (y 1).val = (y 1).val; omega))
theorem load_x1 (y : S1x1x2048.Idx) : ldr x1 all1 y = x1 y :=
  congrArg x1 (funext fun k => Fin.ext (match k with
    | ⟨0, _⟩ => by show 0 + 1 * (y 0).val = (y 0).val; omega
    | ⟨1, _⟩ => by show 0 + 1 * (y 1).val = (y 1).val; omega
    | ⟨2, _⟩ => by show 0 + 1 * (y 2).val = (y 2).val; omega))
theorem load_x2 (y : S1x1x1024.Idx) : ldr x2 all2 y = x2 y :=
  congrArg x2 (funext fun k => Fin.ext (match k with
    | ⟨0, _⟩ => by show 0 + 1 * (y 0).val = (y 0).val; omega
    | ⟨1, _⟩ => by show 0 + 1 * (y 1).val = (y 1).val; omega
    | ⟨2, _⟩ => by show 0 + 1 * (y 2).val = (y 2).val; omega))

/-- The block's token, of the block's rows. -/
def tok (r : Fin 512) (k : Fin 1024) : Ideal .f32 := x0 (ix2 (⟨8 * r.val + k.val / 128, by omega⟩ : Fin 4096) (⟨k.val % 128, by omega⟩ : Fin 128))

/-- The first product with its bias, as the body computes it. -/
def first : FVec Ideal S512x2048 .f32 :=
  addf (matmul (φ₁ := .bf16) (φ₂ := .bf16) dot_S512x1024_S1024x2048_S512x2048_1_0_0_1_n_n none
    (truncf .bf16 (concatenate S512x1024 1 [⟨S512x128, ldr x0 (strided 0)⟩, ⟨S512x128, ldr x0 (strided 1)⟩, ⟨S512x128, ldr x0 (strided 2)⟩,
        ⟨S512x128, ldr x0 (strided 3)⟩, ⟨S512x128, ldr x0 (strided 4)⟩, ⟨S512x128, ldr x0 (strided 5)⟩, ⟨S512x128, ldr x0 (strided 6)⟩, ⟨S512x128, ldr x0 (strided 7)⟩]
      concatenates_S512x128_S512x128_S512x128_S512x128_S512x128_S512x128_S512x128_S512x128_S512x1024_d1 : FVec Ideal S512x1024 .f32) bitsLt_bf16_f32) (ldr a allA : FVec Ideal S1024x2048 .bf16)
    (constant S512x2048 .f32 0x00000000#32))
    (broadcastTo S512x2048 (shapeCast S1x2048 (ldr x1 all1) shapeCasts_S1x1x2048_S1x2048) broadcasts_S1x2048_S512x2048)

variable {w : Up} {bg : UpBias} {v : Down} {bd : DownBias} {e : Fin 32}
  (ha : ∀ k g, a (ix2 k g) = w (ix3 e k g)) (h1 : ∀ g, x1 (ix3 0 0 g) = bg (ix3 e 0 g))
  (hb : ∀ k g, b (ix2 k g) = v (ix3 e k g)) (h2 : ∀ g, x2 (ix3 0 0 g) = bd (ix3 e 0 g))

include ha h1 in
theorem first_apply (r : Fin 512) (g : Fin 2048) : first x0 a x1 (ix2 r g) = hid (tok x0 r) w bg e g := by
  unfold first hid
  refine congrArg₂ (FloatOps.addf (φ := .f32)) ?_ ?_
  · refine (product_up _ _ r g).trans (Finset.sum_congr rfl fun k _ => ?_)
    refine congrArg₂ (fun p q : EReal => p * q) (pieces_row x0 r k) ?_
    exact (load_a a _).trans (ha k g)
  · refine (bias_up _ r g).trans ?_
    exact (load_x1 x1 _).trans (h1 g)

include ha h1 in
theorem mid_apply (r : Fin 512) (f : Fin 1024) : mid x0 a x1 (ix2 r f) = unit (tok x0 r) w bg e f := by
  have hg : extractStridedSlice S512x1024 ![0, 0] (first x0 a x1) slices_S512x2048_o0_0_S512x1024 (ix2 r f) = hid (tok x0 r) w bg e (gateCol f) :=
    (extractStridedSlice_apply _ _ slices_S512x2048_o0_0_S512x1024 (ix2 r f) (ix2 r (gateCol f)) (fun k => match k with
      | ⟨0, _⟩ => by show r.val = 0 + r.val; omega
      | ⟨1, _⟩ => by show f.val = 0 + f.val; omega)).trans (first_apply x0 a x1 ha h1 r _)
  have hl : extractStridedSlice S512x1024 ![0, 1024] (first x0 a x1) slices_S512x2048_o0_1024_S512x1024 (ix2 r f) = hid (tok x0 r) w bg e (linCol f) :=
    (extractStridedSlice_apply _ _ slices_S512x2048_o0_1024_S512x1024 (ix2 r f) (ix2 r (linCol f)) (fun k => match k with
      | ⟨0, _⟩ => by show r.val = 0 + r.val; omega
      | ⟨1, _⟩ => rfl)).trans (first_apply x0 a x1 ha h1 r _)
  unfold unit
  rw [← hg, ← hl]
  unfold mid k0_pay13 act first
  rfl

/-! ## What comes out -/

include ha h1 hb h2 in
theorem second_apply (r : Fin 512) (j : Fin 1024) :
    k0_pay3 (mid x0 a x1) (ldr b allB) (ldr x2 all2) (ix2 r j) = out (tok x0 r) w bg v bd e j := by
  unfold k0_pay3 out
  refine congrArg₂ (FloatOps.addf (φ := .f32)) ?_ ?_
  · refine (product_down _ _ r j).trans (Finset.sum_congr rfl fun k _ => ?_)
    refine congrArg₂ (fun p q : EReal => p * q) (mid_apply x0 a x1 ha h1 r k) ?_
    exact (load_b b _).trans (hb k j)
  · refine (bias_down _ r j).trans ?_
    exact (load_x2 x2 _).trans (h2 j)

theorem cut (x : FVec Ideal S512x1024 .f32) {off : Fin 2 → ℕ} (h : S512x1024.Slices off S512x128) (n : ℕ) (hoff : off = ![0, n]) (r : Fin 512) (d : Fin 128)
    (g : Fin 1024) (hg : g.val = n + d.val) : extractStridedSlice S512x128 off x h (ix2 r d) = x (ix2 r g) := by
  subst hoff
  exact extractStridedSlice_apply _ _ h (ix2 r d) (ix2 r g) (fun k => match k with
    | ⟨0, _⟩ => (Nat.zero_add _).symm
    | ⟨1, _⟩ => hg)

theorem slice_apply (j : Fin 8) (p : FVec Ideal S512x1024 .bf16) (q : Vec Ideal S1024x1024 .bf16) (s : Vec Ideal S1x1x1024 .f32) (r : Fin 512) (d : Fin 128) :
    slice j p q s (ix2 r d) = k0_pay3 p q s (ix2 r (⟨128 * j.val + d.val, by omega⟩ : Fin 1024)) := by
  match j with
  | 0 => exact cut (k0_pay3 p q s) slices_S512x1024_o0_0_S512x128 0 rfl r d (⟨128 * 0 + d.val, by omega⟩ : Fin 1024) rfl
  | 1 => exact cut (k0_pay3 p q s) slices_S512x1024_o0_128_S512x128 128 rfl r d (⟨128 * 1 + d.val, by omega⟩ : Fin 1024) rfl
  | 2 => exact cut (k0_pay3 p q s) slices_S512x1024_o0_256_S512x128 256 rfl r d (⟨128 * 2 + d.val, by omega⟩ : Fin 1024) rfl
  | 3 => exact cut (k0_pay3 p q s) slices_S512x1024_o0_384_S512x128 384 rfl r d (⟨128 * 3 + d.val, by omega⟩ : Fin 1024) rfl
  | 4 => exact cut (k0_pay3 p q s) slices_S512x1024_o0_512_S512x128 512 rfl r d (⟨128 * 4 + d.val, by omega⟩ : Fin 1024) rfl
  | 5 => exact cut (k0_pay3 p q s) slices_S512x1024_o0_640_S512x128 640 rfl r d (⟨128 * 5 + d.val, by omega⟩ : Fin 1024) rfl
  | 6 => exact cut (k0_pay3 p q s) slices_S512x1024_o0_768_S512x128 768 rfl r d (⟨128 * 6 + d.val, by omega⟩ : Fin 1024) rfl
  | 7 => exact cut (k0_pay3 p q s) slices_S512x1024_o0_896_S512x128 896 rfl r d (⟨128 * 7 + d.val, by omega⟩ : Fin 1024) rfl

include ha h1 hb h2 in
/-- The block written: row `y0` of it is column slice `y0 mod 8` of token `y0 / 8`. -/
theorem outBlk_apply (y0 : Fin 4096) (y1 : Fin 128) :
    outBlk x0 a b x1 x2 (ix2 y0 y1)
      = out (tok x0 (⟨y0.val / 8, by omega⟩ : Fin 512)) w bg v bd e (⟨128 * (y0.val % 8) + y1.val, by omega⟩ : Fin 1024) := by
  unfold outBlk
  refine (slice_apply _ _ _ _ _ _).trans ?_
  exact second_apply x0 a b x1 x2 ha h1 hb h2 (⟨y0.val / 8, by omega⟩ : Fin 512) (⟨128 * (y0.val % 8) + y1.val, by omega⟩ : Fin 1024)

end Cert.ExpertsIdeal.Moe

end
-- ==== Proof.ExpertsIdealValue.lean ====
/-
  The experts' result array after the run: every grid point writes its block of rows, and the blocks tile the array.
-/
module

public import proofs.«01_k».proof.Proof.ExpertsIdealEntry
public import proofs.«01_k».proof.Proof.ExpertsIdealBlockValue

@[expose] public section

set_option maxRecDepth 16384

noncomputable section

namespace Cert.ExpertsIdeal.Moe

open Cert.ExpertsIdeal Cert.ExpertsIdeal.Gen Cert.Mixture
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The arguments of the launch memory. -/
abbrev argE (c : Dev nD) : IVec S160 32 := m ((c.tc : Thread nD τ).loc main_arg0)
abbrev argU (c : Dev nD) : IVec S1 32 := m ((c.tc : Thread nD τ).loc main_arg2)
abbrev argX (c : Dev nD) : Tokens := m ((c.tc : Thread nD τ).loc main_arg3)
abbrev argW (c : Dev nD) : Up := m ((c.tc : Thread nD τ).loc main_arg4)
abbrev argB (c : Dev nD) : UpBias := m ((c.tc : Thread nD τ).loc main_arg5)
abbrev argV (c : Dev nD) : Down := m ((c.tc : Thread nD τ).loc main_arg6)
abbrev argD (c : Dev nD) : DownBias := m ((c.tc : Thread nD τ).loc main_arg7)

/-- The mixture of the launch memory's arguments. -/
abbrev mixture (c : Dev nD) : Tokens :=
  result (fun k => argE m c (ix1 k)) (argU m c (ix1 0)).toNat (argX m c) (argW m c) (argB m c) (argV m c) (argD m c)

section Blocks

variable (hO : Ok m) (R : Regs m) (c : Dev nD) (t : Fin (cfgM m hO).N)

theorem lt_N (t : Fin (cfgM m hO).N) : t.val < 160 := by
  have h := lt160 (grid0.coords t)
  rwa [coord m hO t] at h

include R in
/-- The rows a used point reads are its own. -/
theorem rows_apply (hu : t.val < (used (cnt m)).toNat) (y0 : Fin 4096) (y1 : Fin 128) :
    (iblk m hO c 0 t : Vec Ideal S4096x128 .f32) (ix2 y0 y1) = argX m c (ix2 (⟨4096 * t.val + y0.val, by have := lt_N m hO t; omega⟩ : Fin 655360) y1) := by
  unfold iblk
  refine (View.read_apply _ _).trans ?_
  show m _ _ = m _ _
  congr 1
  funext a
  apply Fin.ext
  have e := tr0 m R (grid0.coords t)
  match a with
  | ⟨0, _⟩ =>
    show cc0_transform_0 inb_S1_S1_0 numel1_S1 (tabs m) (grid0.coords t) 0 * 4096 + 1 * y0.val = 4096 * t.val + y0.val
    rw [e]
    show min (grid0.coords t 0).val ((used (cnt m)).toNat - 1) * 4096 + 1 * y0.val = _
    rw [coord m hO t]; omega
  | ⟨1, _⟩ =>
    show cc0_transform_0 inb_S1_S1_0 numel1_S1 (tabs m) (grid0.coords t) 1 * 128 + 1 * y1.val = y1.val
    rw [e]
    show 0 * 128 + 1 * y1.val = y1.val
    omega

include R in
theorem bias1_apply (g : Fin 2048) :
    (iblk m hO c 1 t : Vec Ideal S1x1x2048 .f32) (ix3 0 0 g)
      = argB m c (ix3 (⟨(at160 (exps m) t.val).toNat % 32, Nat.mod_lt _ (by decide)⟩ : Fin 32) 0 g) := by
  unfold iblk
  refine (View.read_apply _ _).trans ?_
  show m _ _ = m _ _
  congr 1
  funext a
  apply Fin.ext
  have e := tr1 m (grid0.coords t)
  have hl := R.e t.val
  match a with
  | ⟨0, _⟩ =>
    show cc0_transform_2 k0_off1_inb numel1_S1 (tabs m) (grid0.coords t) 0 * 1 + 1 * 0 = (at160 (exps m) t.val).toNat % 32
    rw [e]
    show (at160 (exps m) (grid0.coords t 0).val).toNat * 1 + 1 * 0 = _
    rw [coord m hO t]; omega
  | ⟨1, _⟩ =>
    show cc0_transform_2 k0_off1_inb numel1_S1 (tabs m) (grid0.coords t) 1 * 1 + 1 * 0 = 0
    rw [e]; rfl
  | ⟨2, _⟩ =>
    show cc0_transform_2 k0_off1_inb numel1_S1 (tabs m) (grid0.coords t) 2 * 2048 + 1 * g.val = g.val
    rw [e]
    show 0 * 2048 + 1 * g.val = g.val
    omega

include R in
theorem bias2_apply (g : Fin 1024) :
    (iblk m hO c 2 t : Vec Ideal S1x1x1024 .f32) (ix3 0 0 g)
      = argD m c (ix3 (⟨(at160 (exps m) t.val).toNat % 32, Nat.mod_lt _ (by decide)⟩ : Fin 32) 0 g) := by
  unfold iblk
  refine (View.read_apply _ _).trans ?_
  show m _ _ = m _ _
  congr 1
  funext a
  apply Fin.ext
  have e := tr2 m (grid0.coords t)
  have hl := R.e t.val
  match a with
  | ⟨0, _⟩ =>
    show cc0_transform_4 k0_off1_inb numel1_S1 (tabs m) (grid0.coords t) 0 * 1 + 1 * 0 = (at160 (exps m) t.val).toNat % 32
    rw [e]
    show (at160 (exps m) (grid0.coords t 0).val).toNat * 1 + 1 * 0 = _
    rw [coord m hO t]; omega
  | ⟨1, _⟩ =>
    show cc0_transform_4 k0_off1_inb numel1_S1 (tabs m) (grid0.coords t) 1 * 1 + 1 * 0 = 0
    rw [e]; rfl
  | ⟨2, _⟩ =>
    show cc0_transform_4 k0_off1_inb numel1_S1 (tabs m) (grid0.coords t) 2 * 1024 + 1 * g.val = g.val
    rw [e]
    show 0 * 1024 + 1 * g.val = g.val
    omega

/-- The array a point's block comes from, and the block's token in it. -/
theorem dev0 (c : Dev nD) : c = 0 := Subsingleton.elim _ _

theorem at_fin (f : S160.Idx → BitVec 32) (k : ℕ) (hk : k < 160) : at160 f k = f (ix1 (⟨k, hk⟩ : Fin 160)) :=
  congrArg f (congrArg ix1 (Fin.ext (Nat.mod_eq_of_lt hk)))

include R in
theorem out_apply (y0 : Fin 4096) (y1 : Fin 128) :
    outM m hO c t (ix2 y0 y1) = mixture m c (ix2 (⟨4096 * t.val + y0.val, by have := lt_N m hO t; omega⟩ : Fin 655360) y1) := by
  obtain rfl := dev0 c
  have ht := lt_N m hO t
  have hd : (4096 * t.val + y0.val) / 4096 = t.val := by omega
  unfold outM outAt
  rw [coord m hO t]
  unfold mixture result
  by_cases hu : t.val < (used (cnt m)).toNat
  · rw [if_pos hu]
    refine Eq.trans ?_ (if_pos (show (4096 * t.val + y0.val) / 4096 < (argU m 0 (ix1 0)).toNat by rw [hd]; exact hu)).symm
    refine (outBlk_apply (iblk m hO 0 0 t) _ _ (iblk m hO 0 1 t) (iblk m hO 0 2 t) (w := argW m 0) (bg := argB m 0) (v := argV m 0) (bd := argD m 0)
      (e := ⟨(at160 (exps m) t.val).toNat % 32, Nat.mod_lt _ (by decide)⟩) (fun k g => rfl) (fun g => bias1_apply m hO R 0 t g) (fun k g => rfl)
      (fun g => bias2_apply m hO R 0 t g) y0 y1).trans ?_
    have hrow : tok (iblk m hO 0 0 t) (⟨y0.val / 8, by omega⟩ : Fin 512)
        = Mixture.row (argX m 0) ⟨(4096 * t.val + y0.val) / 4096, by omega⟩ ⟨(4096 * t.val + y0.val) % 4096 / 8, by omega⟩ := by
      funext k
      unfold tok Mixture.row
      refine (rows_apply m hO R 0 t hu _ _).trans (congrArg (argX m 0) (funext fun a => Fin.ext ?_))
      match a with
      | ⟨0, _⟩ =>
        show 4096 * t.val + (8 * (y0.val / 8) + k.val / 128) = 4096 * ((4096 * t.val + y0.val) / 4096) + 8 * ((4096 * t.val + y0.val) % 4096 / 8) + k.val / 128
        omega
      | ⟨1, _⟩ => rfl
    have he : (⟨(at160 (exps m) t.val).toNat % 32, Nat.mod_lt _ (by decide)⟩ : Fin 32)
        = expert (fun k => argE m 0 (ix1 k)) ⟨(4096 * t.val + y0.val) / 4096, by omega⟩ := by
      unfold expert
      refine Fin.ext (congrArg (fun v : BitVec 32 => v.toNat % 32) ?_)
      rw [at_fin _ t.val ht]
      exact congrArg (argE m 0) (congrArg ix1 (Fin.ext hd.symm))
    rw [hrow, he]
    refine congrArg (out _ _ _ _ _ _) (Fin.ext ?_)
    show 128 * (y0.val % 8) + y1.val = 128 * ((4096 * t.val + y0.val) % 8) + y1.val
    omega
  · rw [if_neg hu]
    exact (if_neg (show ¬ (4096 * t.val + y0.val) / 4096 < (argU m 0 (ix1 0)).toNat by rw [hd]; exact hu)).symm

include R in
theorem block_apply (j : S4096x128.Idx) :
    outM m hO c t j = mixture m c ((((cfgM m hO).win 3).blk t).view.emb j : S655360x128.Idx) := by
  have ht := lt_N m hO t
  have hj0 : (j 0).val < 4096 := (j 0).isLt
  refine (congrArg (outM m hO c t) (eta2 j)).trans ((out_apply m hO R c t (j 0) (j 1)).trans (congrArg (mixture m c) ?_))
  funext a
  apply Fin.ext
  have e := tr3 (grid0.coords t)
  match a with
  | ⟨0, _⟩ =>
    show 4096 * t.val + (j 0).val = cc0_transform_5 (grid0.coords t) 0 * 4096 + 1 * (j 0).val
    rw [e]
    show _ = (grid0.coords t 0).val * 4096 + 1 * (j 0).val
    rw [coord m hO t]; omega
  | ⟨1, _⟩ =>
    show (j 1).val = cc0_transform_5 (grid0.coords t) 1 * 128 + 1 * (j 1).val
    rw [e]
    show _ = 0 * 128 + 1 * (j 1).val
    omega

include R in
theorem flushed_eq : (dats m hO 0 c).flushed 3 t = (((cfgM m hO).win 3).blk t).view.read (Elt Ideal) (mixture m c) := by
  show ((cfgM m hO).win 3).cut (grid0.coords t) ((dats m hO 0 c).after 3 t) = _
  rw [after_3]
  funext j
  refine Eq.trans ?_ (View.read_apply _ _).symm
  exact block_apply m hO R c t j

end Blocks

/-- Every point writes its block back: the next point's is another. -/
theorem writes_back (hO : Ok m) : ∀ t : Fin (cfgM m hO).N, ((cfgM m hO).win 3).flush t = true :=
  (fun t => (Pipeline.Window.flushOf_reads cc0_transform_5 reads0_3 hreads0_3 0 (by decide) (by decide)
    (Pipeline.Window.sep_of_coord cc0_transform_5 0 0 (fun _ => rfl) (by decide)) (P := 1) (m := 0) (by decide) rfl t).mpr (Nat.mod_one _) :
    ∀ t : Fin grid0.N, Pipeline.Window.flushOf grid0 true cc0_transform_5 t = true)

theorem covered (hO : Ok m) (z : S655360x128.Idx) :
    ∃ t : Fin (cfgM m hO).N, ((cfgM m hO).win 3).flush t = true ∧ z ∈ (((cfgM m hO).win 3).blk t).view.set := by
  have h0 : (z 0).val < 655360 := (z 0).isLt
  have h1 : (z 1).val < 128 := (z 1).isLt
  have hN : grid0.N = 160 := by decide +kernel
  have ht : (z 0).val / 4096 < grid0.N := by omega
  have c0 : (grid0.coords ⟨_, ht⟩ 0).val = (z 0).val / 4096 := coord m hO ⟨_, ht⟩
  refine ⟨⟨_, ht⟩, writes_back m hO _, ?_⟩
  show z ∈ ((View.whole main_v0).slice (((cfgM m hO).win 3).rect ⟨_, ht⟩)).set
  refine (View.set_slice_whole main_v0 (((cfgM m hO).win 3).rect ⟨_, ht⟩)).symm ▸ ?_
  refine Rect.mem_set_unit.mpr fun a => ?_
  have e := tr3 (grid0.coords ⟨_, ht⟩)
  match a with
  | ⟨0, _⟩ =>
    show cc0_transform_5 (grid0.coords ⟨_, ht⟩) 0 * 4096 ≤ (z 0).val ∧ (z 0).val < cc0_transform_5 (grid0.coords ⟨_, ht⟩) 0 * 4096 + 4096
    rw [e]
    show (grid0.coords ⟨_, ht⟩ 0).val * 4096 ≤ (z 0).val ∧ (z 0).val < (grid0.coords ⟨_, ht⟩ 0).val * 4096 + 4096
    rw [c0]; omega
  | ⟨1, _⟩ =>
    show cc0_transform_5 (grid0.coords ⟨_, ht⟩) 1 * 128 ≤ (z 1).val ∧ (z 1).val < cc0_transform_5 (grid0.coords ⟨_, ht⟩) 1 * 128 + 128
    rw [e]
    show 0 * 128 ≤ (z 1).val ∧ (z 1).val < 0 * 128 + 128
    omega

theorem final (hO : Ok m) (R : Regs m) (c : Dev nD) : (dats m hO 0 c).arrAt 3 (cfgM m hO).N = mixture m c :=
  (dats m hO 0 c).arrAt_eq_of_cover 3 (mixture m c) (fun t _ => flushed_eq m hO R c t) fun z => covered m hO z

/-- The run: the result array is the mixture, and the arguments are unchanged. -/
theorem run (hO : Ok m) (R : Regs m) : θ_run defs (onTc (τ := τ) (main (F := Ideal))) ⟨m, fun _ => 0, ρ⟩ fun r => ∀ c : Dev nD,
      r.2.mem ((c : Thread nD τ).loc main_v0) = mixture m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 3).trans (final m hO R c), unchanged m hO h.1 c⟩) (run_main m ρ hO R)

end Cert.ExpertsIdeal.Moe

end
-- ==== Proof.ExpertsReferenceValue.lean ====
/-
  The experts' reference, read element by element: it is the mixture of `ExpertsModel`.
-/
module

public import proofs.«01_k».proof.Proof.ExpertsModel
public import proofs.«01_k».proof.Proof.Gen.ExpertsReferenceIdeal.Read
public import Idealize.ShloMosaic.Lib.WordCmp

@[expose] public section

noncomputable section

namespace Cert.Mixture

open Cert.ExpertsReferenceIdeal Cert.ExpertsReferenceIdeal.Gen Cert.ExpertsReferenceIdeal.Read
open Idealize.ShloMosaic Idealize.ShloMosaic.TcCoe Idealize.ShloMosaic.ValueIdx
open scoped BigOperators

/-! ## The gather of a block's matrix -/

/-- The matrices `[32, A, B]`, one picked per block: `[160, A, B]`. -/
abbrev pickDims (A B : ℕ) (wf : GatherDims.WF ⟨3, ![32, A, B]⟩ ⟨2, ![160, 1]⟩ ⟨3, ![160, A, B]⟩ [1, 2] [0] [] [0] [] 1 ![1, A, B]) :
    GatherDims ⟨3, ![32, A, B]⟩ ⟨2, ![160, 1]⟩ ⟨3, ![160, A, B]⟩ where
  offsetDims := [1, 2]
  collapsedSliceDims := [0]
  operandBatchingDims := []
  startIndicesBatchingDims := []
  startIndexMap := [0]
  indexVectorDim := 1
  sliceSizes := ![1, A, B]
  wf := wf

theorem three1 : ¬ (1 : Fin 3) = 0 := by decide
theorem three2 : ¬ (2 : Fin 3) = 0 := by decide

theorem pick_apply {A B : ℕ} {α : Type}
    (wf : GatherDims.WF ⟨3, ![32, A, B]⟩ ⟨2, ![160, 1]⟩ ⟨3, ![160, A, B]⟩ [1, 2] [0] [] [0] [] 1 ![1, A, B])
    (x : (⟨3, ![32, A, B]⟩ : Shape).Idx → α) (idx : IVec ⟨2, ![160, 1]⟩ 32) (p : Fin 160) (a : Fin A) (b : Fin B) (v : BitVec 32)
    (hv : idx (ix2 p 0) = v) (hlt : v.toNat < 32) :
    Host.gather (pickDims A B wf) x idx (ix3 p a b) = x (ix3 (⟨v.toNat % 32, Nat.mod_lt _ (by decide)⟩ : Fin 32) a b) := by
  unfold Host.gather
  congr 1
  funext k
  refine Fin.ext ?_
  show (pickDims A B wf).start (ix3 p a b) idx k + (pickDims A B wf).batchCoord (ix3 p a b) k + (pickDims A B wf).offCoord (ix3 p a b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (pickDims A B wf).startIndexMap from List.mem_singleton.mpr rfl)]
    have hsi : (pickDims A B wf).siIdx (ix3 p a b) ⟨List.idxOf (0 : Fin 3) (pickDims A B wf).startIndexMap,
        List.idxOf_lt_length_iff.2 (List.mem_singleton.mpr rfl)⟩ = ix2 p 0 := by
      funext c; refine Fin.ext ?_
      match c with
      | ⟨0, _⟩ => rfl
      | ⟨1, _⟩ => rfl
    rw [hsi, hv]
    have hi : v.toInt = (v.toNat : ℤ) := WordCmp.toInt_eq_toNat_of_lt_half (by omega)
    show min v.toInt.toNat (32 - 1) + 0 + 0 = v.toNat % 32
    rw [hi]
    omega
  · unfold GatherDims.start
    rw [dif_neg (show ¬ (1 : Fin 3) ∈ (pickDims A B wf).startIndexMap from fun h => absurd (List.mem_singleton.mp h) three1)]
    show 0 + 0 + (pickDims A B wf).offCoord (ix3 p a b) 1 = a.val
    unfold GatherDims.offCoord
    rw [dif_pos ((GatherDims.mem_sKept _ _).mpr ⟨fun h => absurd (List.mem_singleton.mp h) three1, List.not_mem_nil⟩)]
    exact (Nat.zero_add _).trans rfl
  · unfold GatherDims.start
    rw [dif_neg (show ¬ (2 : Fin 3) ∈ (pickDims A B wf).startIndexMap from fun h => absurd (List.mem_singleton.mp h) three2)]
    show 0 + 0 + (pickDims A B wf).offCoord (ix3 p a b) 2 = b.val
    unfold GatherDims.offCoord
    rw [dif_pos ((GatherDims.mem_sKept _ _).mpr ⟨fun h => absurd (List.mem_singleton.mp h) three2, List.not_mem_nil⟩)]
    exact (Nat.zero_add _).trans rfl

/-! ## The index words -/

/-- A table entry below 32 is not negative, so the wrap of negative indices leaves it alone. -/
theorem wrap_word {v : BitVec 32} (h : v.toNat < 32) : Scalar.select (IntOp.cmpi .slt v 0#32) (IntOp.addi v 32#32) v = v := by
  have hi : v.toInt = (v.toNat : ℤ) := WordCmp.toInt_eq_toNat_of_lt_half (by omega)
  have hz : IntOp.cmpi .slt v 0#32 = 0#1 := by
    rw [WordCmp.cmpi_slt_eq, hi, decide_eq_false (by show ¬ (v.toNat : ℤ) < 0; omega)]
    rfl
  rw [hz]
  rfl

variable (x0 : IVec S160 32) (x2 : IVec S1 32) (x3 : Tokens) (x4 : Up) (x5 : UpBias) (x6 : Down) (x7 : DownBias)

/-- The table's entries in order. -/
abbrev entries (x0 : IVec S160 32) : Fin 160 → BitVec 32 := fun k => x0 (ix1 k)

variable (hx : ∀ k : Fin 160, (x0 (ix1 k)).toNat < 32)

theorem idx1_eq (p : Fin 160) (i : S160.Idx) (h : (i 0).val = p.val) : i = ix1 p := funext fun a => Fin.ext (match a with | ⟨0, _⟩ => h)

include hx in
theorem index6 (p : Fin 160) : val_main_v6 (F := Ideal) x0 (ix2 p 0) = x0 (ix1 p) := by
  rw [val_main_v6_apply, idx1_eq p (idx_main_v6 _) rfl, val_main_v5_apply, val_main_v2_apply, val_main_v4_apply, val_main_v1_apply, val_main_v3_apply]
  exact wrap_word (hx p)
include hx in
theorem index14 (p : Fin 160) : val_main_v14 (F := Ideal) x0 (ix2 p 0) = x0 (ix1 p) := by
  rw [val_main_v14_apply, idx1_eq p (idx_main_v14 _) rfl, val_main_v13_apply, val_main_v10_apply, val_main_v12_apply, val_main_v9_apply, val_main_v11_apply]
  exact wrap_word (hx p)
include hx in
theorem index40 (p : Fin 160) : val_main_v40 (F := Ideal) x0 (ix2 p 0) = x0 (ix1 p) := by
  rw [val_main_v40_apply, idx1_eq p (idx_main_v40 _) rfl, val_main_v39_apply, val_main_v36_apply, val_main_v38_apply, val_main_v35_apply, val_main_v37_apply]
  exact wrap_word (hx p)
include hx in
theorem index48 (p : Fin 160) : val_main_v48 (F := Ideal) x0 (ix2 p 0) = x0 (ix1 p) := by
  rw [val_main_v48_apply, idx1_eq p (idx_main_v48 _) rfl, val_main_v47_apply, val_main_v44_apply, val_main_v46_apply, val_main_v43_apply, val_main_v45_apply]
  exact wrap_word (hx p)

include hx in
theorem picked7 (p : Fin 160) (k : Fin 1024) (g : Fin 2048) :
    val_main_v7 (F := Ideal) x0 x4 (ix3 p k g) = x4 (ix3 (expert (entries x0) p) k g) :=
  pick_apply _ x4 _ p k g _ (index6 x0 hx p) (hx p)
include hx in
theorem picked15 (p : Fin 160) (g : Fin 2048) :
    val_main_v15 (F := Ideal) x0 x5 (ix3 p 0 g) = x5 (ix3 (expert (entries x0) p) 0 g) :=
  pick_apply _ x5 _ p 0 g _ (index14 x0 hx p) (hx p)
include hx in
theorem picked41 (p : Fin 160) (k g : Fin 1024) :
    val_main_v41 (F := Ideal) x0 x6 (ix3 p k g) = x6 (ix3 (expert (entries x0) p) k g) :=
  pick_apply _ x6 _ p k g _ (index40 x0 hx p) (hx p)
include hx in
theorem picked49 (p : Fin 160) (g : Fin 1024) :
    val_main_v49 (F := Ideal) x0 x7 (ix3 p 0 g) = x7 (ix3 (expert (entries x0) p) 0 g) :=
  pick_apply _ x7 _ p 0 g _ (index48 x0 hx p) (hx p)

/-! ## The token's way through its expert -/

theorem idx3_eq {a b c : ℕ} (i : (⟨3, ![a, b, c]⟩ : Shape).Idx) (p : Fin a) (r : Fin b) (k : Fin c) (h0 : (i 0).val = p.val) (h1 : (i 1).val = r.val)
    (h2 : (i 2).val = k.val) : i = ix3 p r k :=
  funext fun x => Fin.ext (match x with | ⟨0, _⟩ => h0 | ⟨1, _⟩ => h1 | ⟨2, _⟩ => h2)

theorem tokens (p : Fin 160) (r : Fin 512) (k : Fin 1024) : val_main_v0 (F := Ideal) x3 (ix3 p r k) = row x3 p r k := by
  rw [val_main_v0_apply]
  unfold row
  refine congrArg x3 (funext fun a => Fin.ext ?_)
  match a with
  | ⟨0, _⟩ => show ((p.val * 512 + r.val) * 1024 + k.val) / 128 = 4096 * p.val + 8 * r.val + k.val / 128; omega
  | ⟨1, _⟩ => show ((p.val * 512 + r.val) * 1024 + k.val) % 128 = k.val % 128; omega

include hx in
theorem hidden (p : Fin 160) (r : Fin 512) (g : Fin 2048) :
    val_main_v17 (F := Ideal) x0 x3 x4 x5 (ix3 p r g) = hid (row x3 p r) x4 x5 (expert (entries x0) p) g := by
  rw [val_main_v17_apply, val_main_v8_apply, val_main_v16_apply]
  unfold hid
  refine congrArg₂ (FloatOps.addf (φ := .f32)) (Finset.sum_congr rfl fun k _ => ?_) ?_
  · rw [idx3_eq (lidx_main_v8 (ix3 p r g) k) p r k rfl rfl rfl, idx3_eq (ridx_main_v8 (ix3 p r g) k) p k g rfl rfl rfl, tokens,
      picked7 x0 x4 hx]
  · rw [idx3_eq (idx_main_v16 (ix3 p r g)) p 0 g rfl rfl rfl, picked15 x0 x5 hx]

theorem one_eq : (FloatOps.ofBits .f32 0x3F800000#32 : Ideal .f32) = (1 : EReal) := by
  show Ideal.ofBits .f32 0x3F800000#32 = 1
  simp [Ideal.ofBits, Ideal.ieee, -EReal.coe_mul]; norm_num

/-- One over one plus the exponential of the opposite, written out. -/
theorem sigmoid (u : Ideal .f32) :
    FloatOps.hostDivf (φ := .f32) (FloatOps.ofBits .f32 0x3F800000#32 : Ideal .f32)
      (FloatOps.addf (φ := .f32) (FloatOps.ofBits .f32 0x3F800000#32) (FloatOps.hostUnary (φ := .f32) .exp (FloatOps.hostNegf (φ := .f32) u)))
      = FloatOps.logistic (φ := .f32) u := by
  rw [one_eq]
  rfl

include hx in
theorem units (p : Fin 160) (r : Fin 512) (f : Fin 1024) :
    val_main_v34 (F := Ideal) x0 x3 x4 x5 (ix3 p r f) = unit (row x3 p r) x4 x5 (expert (entries x0) p) f := by
  have hg : val_main_v18 (F := Ideal) x0 x3 x4 x5 (ix3 p r f) = hid (row x3 p r) x4 x5 (expert (entries x0) p) (gateCol f) := by
    rw [val_main_v18_apply, idx3_eq (idx_main_v18 (ix3 p r f)) p r (gateCol f) rfl rfl rfl, hidden x0 x3 x4 x5 hx]
  have hl : val_main_v21 (F := Ideal) x0 x3 x4 x5 (ix3 p r f) = hid (row x3 p r) x4 x5 (expert (entries x0) p) (linCol f) := by
    rw [val_main_v21_apply, idx3_eq (idx_main_v21 (ix3 p r f)) p r (linCol f) rfl rfl rfl, hidden x0 x3 x4 x5 hx]
  unfold unit act
  rw [← hg, ← hl, ← sigmoid]
  rw [val_main_v34_apply, val_main_v33_apply, val_main_v31_apply, val_main_v30_apply, val_main_v28_apply, val_main_v26_apply, val_main_v25_apply,
    val_main_v24_apply, val_main_v22_apply, val_main_call0_v2_apply, val_main_v20_apply, val_main_v19_apply, val_main_v23_apply, val_main_v27_apply,
    val_main_v29_apply, val_main_v32_apply, val_main_call0_v1_apply, val_main_call0_v4_apply]
  rfl

include hx in
theorem outs (p : Fin 160) (r : Fin 512) (j : Fin 1024) :
    val_main_v51 (F := Ideal) x0 x3 x4 x5 x6 x7 (ix3 p r j) = out (row x3 p r) x4 x5 x6 x7 (expert (entries x0) p) j := by
  rw [val_main_v51_apply, val_main_v42_apply, val_main_v50_apply]
  unfold out
  refine congrArg₂ (FloatOps.addf (φ := .f32)) (Finset.sum_congr rfl fun k _ => ?_) ?_
  · rw [idx3_eq (lidx_main_v42 (ix3 p r j) k) p r k rfl rfl rfl, idx3_eq (ridx_main_v42 (ix3 p r j) k) p k j rfl rfl rfl,
      units x0 x3 x4 x5 hx, picked41 x0 x6 hx]
  · rw [idx3_eq (idx_main_v50 (ix3 p r j)) p 0 j rfl rfl rfl, picked49 x0 x7 hx]

/-! ## The used blocks -/

theorem used_bit (h2 : (x2 (ix1 0)).toNat ≤ 160) (p : Fin 160) :
    val_main_v55 (F := Ideal) x2 (ix1 p) = if p.val < (x2 (ix1 0)).toNat then 1#1 else 0#1 := by
  rw [val_main_v55_apply, val_main_v52_apply, val_main_v54_apply]
  have hs : val_main_v53 (F := Ideal) x2 (idx_main_v54 (ix1 p)) = x2 (ix1 0) := by
    unfold val_main_v53
    exact shapeCast_apply x2 shapeCasts_S1_S_ _ (ix1 0) (by
      have a := (S1.rowMajor (ix1 0)).isLt
      have b := (S_.rowMajor (idx_main_v54 (ix1 p))).isLt
      have ea : S1.numel = 1 := by decide
      have eb : S_.numel = 1 := by decide
      omega)
  rw [hs, WordCmp.cmpi_slt_eq]
  have h1 : (BitVec.ofNat 32 p.val).toNat = p.val := by rw [BitVec.toNat_ofNat]; omega
  have e1 : (BitVec.ofNat 32 ((ix1 p : S160.Idx) 0).val).toInt = (p.val : ℤ) :=
    (WordCmp.toInt_eq_toNat_of_lt_half (by show (BitVec.ofNat 32 p.val).toNat < _; omega)).trans (congrArg _ h1)
  have e2 : (x2 (ix1 0)).toInt = ((x2 (ix1 0)).toNat : ℤ) := WordCmp.toInt_eq_toNat_of_lt_half (by omega)
  rw [e1, e2]
  by_cases h : p.val < (x2 (ix1 0)).toNat
  · rw [if_pos h, decide_eq_true (Nat.cast_lt.2 h)]; rfl
  · rw [if_neg h, decide_eq_false (fun q => h (Nat.cast_lt.1 q))]; rfl

include hx in
/-- The reference's result is the mixture. -/
theorem reference_eq (h2 : (x2 (ix1 0)).toNat ≤ 160) :
    val_main_v58 (F := Ideal) x0 x2 x3 x4 x5 x6 x7 = result (entries x0) (x2 (ix1 0)).toNat x3 x4 x5 x6 x7 := by
  funext (z : S655360x128.Idx)
  have h0 : (z 0).val < 655360 := (z 0).isLt
  have h1 : (z 1).val < 128 := (z 1).isLt
  rw [val_main_v58_apply, idx3_eq (idx_main_v58 z) ⟨(z 0).val / 4096, by omega⟩ ⟨(z 0).val % 4096 / 8, by omega⟩ ⟨128 * ((z 0).val % 8) + (z 1).val, by omega⟩
    (by show ((z 0).val * 128 + (z 1).val) / 524288 = (z 0).val / 4096; omega)
    (by show ((z 0).val * 128 + (z 1).val) / 1024 % 512 = (z 0).val % 4096 / 8; omega)
    (by show ((z 0).val * 128 + (z 1).val) % 1024 = 128 * ((z 0).val % 8) + (z 1).val; omega)]
  rw [val_main_v57_apply, val_main_call1_v1_apply, val_main_v56_apply, outs x0 x3 x4 x5 x6 x7 hx,
    idx1_eq ⟨(z 0).val / 4096, by omega⟩ (idx_main_v56 _) rfl, used_bit x2 h2, val_main_call1_v2_apply]
  unfold result
  by_cases h : (z 0).val / 4096 < (x2 (ix1 0)).toNat
  · rw [if_pos h, if_pos h]; rfl
  · rw [if_neg h, if_neg h]; rfl

end Cert.Mixture

end
-- ==== Proof.ModulationIdealValue.lean ====
/-
  The modulation: the conditioning through its own sigmoid, times the weights, plus the bias. The kernel's array and the reference
  are this formula.
-/
module

public import proofs.«01_k».proof.Proof.Gen.ModulationIdeal.Frame
public import proofs.«01_k».proof.Proof.Gen.ModulationReferenceIdeal.Read
public import proofs.«01_k».proof.Proof.ExpertsReferenceValue
public import Idealize.ShloMosaic.Lib.MatmulPlain
public import Idealize.ShloMosaic.Lib.Pipeline.Value
public import Idealize.ShloMosaic.PureOps.Ideal.Laws

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Modulate

/-- The conditioning, the weights, the bias and the result. -/
abbrev Cond := (⟨2, ![8, 1024]⟩ : Shape).Idx → Ideal .f32
abbrev Weights := (⟨2, ![1024, 6144]⟩ : Shape).Idx → Ideal .f32
abbrev Bias := (⟨2, ![1, 6144]⟩ : Shape).Idx → Ideal .f32
abbrev Out := (⟨2, ![8, 6144]⟩ : Shape).Idx → Ideal .f32

/-- A number times its own sigmoid. -/
def silu (x : Ideal .f32) : Ideal .f32 := FloatOps.mulf (φ := .f32) x (FloatOps.logistic (φ := .f32) x)

/-- Row `r`, column `g` of the modulation. -/
def entry (x : Cond) (w : Weights) (b : Bias) (r : Fin 8) (g : Fin 6144) : Ideal .f32 :=
  FloatOps.addf (φ := .f32) (∑ k : Fin 1024, silu (x (ix2 r k)) * w (ix2 k g) : EReal) (b (ix2 0 g))

def result (x : Cond) (w : Weights) (b : Bias) : Out := fun z => entry x w b (z 0) (z 1)

section Reference

open Cert.ModulationReferenceIdeal Cert.ModulationReferenceIdeal.Gen Cert.ModulationReferenceIdeal.Read

theorem idx_eq {a b : ℕ} (i : (⟨2, ![a, b]⟩ : Shape).Idx) (p : Fin a) (k : Fin b) (h0 : (i 0).val = p.val) (h1 : (i 1).val = k.val) : i = ix2 p k :=
  funext fun c => Fin.ext (match c with | ⟨0, _⟩ => h0 | ⟨1, _⟩ => h1)

theorem reference_eq (x : Cond) (w : Weights) (b : Bias) : val_main_v3 (F := Ideal) x w b = result x w b := by
  funext z
  unfold result entry
  rw [val_main_v3_apply, val_main_v1_apply, val_main_v2_apply, idx_eq (idx_main_v2 z) 0 (z 1) rfl rfl]
  refine congrArg (fun s : Ideal .f32 => FloatOps.addf (φ := .f32) s (b (ix2 0 (z 1)))) (Finset.sum_congr rfl fun k _ => ?_)
  rw [idx_eq (lidx_main_v1 z k) (z 0) k rfl rfl, idx_eq (ridx_main_v1 z k) k (z 1) rfl rfl]
  refine congrArg (fun s : EReal => s * w (ix2 k (z 1))) ?_
  unfold silu
  rw [← Mixture.sigmoid]
  rfl

end Reference

section Kernel

open Cert.ModulationIdeal Cert.ModulationIdeal.Gen

theorem zero2 : (![0, 0] : Fin 2 → ℕ) = fun _ => 0 := by funext a; fin_cases a <;> rfl

/-- A product from zero, element by element. -/
theorem product (l : FVec Ideal S8x1024 .f32) (w : FVec Ideal S1024x1024 .f32) (r : Fin 8) (g : Fin 1024) :
    matmul dot_S8x1024_S1024x1024_S8x1024_1_0_0_1_n_n (some .fp32) l w (constant S8x1024 .f32 0x00000000#32) (ix2 r g)
      = (∑ k : Fin 1024, l (ix2 r k) * w (ix2 k g) : EReal) := by
  refine (Ideal.matmul_plain_apply (M := 8) (K := 1024) (N := 1024) (some .fp32) l w (constant S8x1024 .f32 0x00000000#32) r g).trans ?_
  show (Ideal.ofBits .f32 0x00000000#32 + _ : EReal) = _
  rw [Ideal.ofBits_zero_f32, zero_add]

/-- The body's block, element by element. -/
theorem block_value (x0 : Vec Ideal S8x1024 .f32) (x1 : Vec Ideal S1024x1024 .f32) (x2 : Vec Ideal S1x1024 .f32) (r : Fin 8) (g : Fin 1024) :
    out0_3 x0 x1 x2 (ix2 r g)
      = (FloatOps.addf (φ := .f32) (∑ k : Fin 1024, silu (x0 (ix2 r k)) * x1 (ix2 k g) : EReal) (x2 (ix2 0 g)) : Ideal .f32) := by
  unfold out0_3
  rw [View.canon_unit_zero zero2, View.ld_unit_zero zero2, View.ld_unit_zero zero2, View.ld_unit_zero zero2]
  have hm := product (mulf x0 (logistic x0)) x1 r g
  have hb : broadcastTo S8x1024 x2 broadcasts_S1x1024_S8x1024 (ix2 r g) = x2 (ix2 0 g) :=
    broadcastTo_apply _ broadcasts_S1x1024_S8x1024 (ix2 r g) (ix2 0 g) (fun a => match a with
      | ⟨0, _⟩ => by show 0 = if (1 : ℕ) = 1 then 0 else _; rw [if_pos rfl]
      | ⟨1, _⟩ => by show g.val = if (1024 : ℕ) = 1 then 0 else g.val; rw [if_neg (by decide)])
  have hs : (∑ k : Fin 1024, silu (x0 (ix2 r k)) * x1 (ix2 k g) : EReal)
      = (∑ k : Fin 1024, (mulf x0 (logistic x0) : FVec Ideal S8x1024 .f32) (ix2 r k) * x1 (ix2 k g) : EReal) := rfl
  rw [hs, ← hm, ← hb]
  rfl

variable (m : (ℓ : Loc nD τ sig) → Buf (Elt Ideal) ℓ) (ρ : Dev nD → PrngReg)

abbrev argX (c : Dev nD) : Cond := m ((c.tc : Thread nD τ).loc main_arg0)
abbrev argW (c : Dev nD) : Weights := m ((c.tc : Thread nD τ).loc main_arg1)
abbrev argB (c : Dev nD) : Bias := m ((c.tc : Thread nD τ).loc main_arg2)

abbrev modulation (c : Dev nD) : Out := result (argX m c) (argW m c) (argB m c)

theorem tr0 : ∀ i : grid0.Coords, cc0_transform_0 i 0 = 0 ∧ cc0_transform_0 i 1 = 0 := by decide +kernel
theorem tr1 : ∀ i : grid0.Coords, cc0_transform_1 i 0 = 0 ∧ cc0_transform_1 i 1 = (i 0).val := by decide +kernel
theorem tr2 : ∀ i : grid0.Coords, cc0_transform_2 i 0 = 0 ∧ cc0_transform_2 i 1 = (i 0).val := by decide +kernel
theorem tr3 : ∀ i : grid0.Coords, cc0_transform_3 i 0 = 0 ∧ cc0_transform_3 i 1 = (i 0).val := by decide +kernel

theorem coord : ∀ t : Fin grid0.N, (grid0.coords t 0).val = t.val := by decide +kernel
theorem lt_N : ∀ t : Fin grid0.N, t.val < 6 := by decide +kernel

variable (c : Dev nD) (t : Fin cfg0.N)

/-- A block's column in the array. -/
def col (t : Fin cfg0.N) (g : Fin 1024) : Fin 6144 := ⟨1024 * t.val + g.val, by have := lt_N t; omega⟩

theorem blk0 (r : Fin 8) (k : Fin 1024) : (iblk m c 0 t : Vec Ideal S8x1024 .f32) (ix2 r k) = argX m c (ix2 r k) := by
  unfold iblk
  refine (View.read_apply _ _).trans ?_
  show m _ _ = m _ _
  congr 1
  funext a
  apply Fin.ext
  match a with
  | ⟨0, _⟩ =>
    show cc0_transform_0 (grid0.coords t) 0 * 8 + 1 * r.val = r.val
    rw [(tr0 _).1]; omega
  | ⟨1, _⟩ =>
    show cc0_transform_0 (grid0.coords t) 1 * 1024 + 1 * k.val = k.val
    rw [(tr0 _).2]; omega

theorem blk1 (k g : Fin 1024) : (iblk m c 1 t : Vec Ideal S1024x1024 .f32) (ix2 k g) = argW m c (ix2 k (col t g)) := by
  unfold iblk
  refine (View.read_apply _ _).trans ?_
  show m _ _ = m _ _
  congr 1
  funext a
  apply Fin.ext
  match a with
  | ⟨0, _⟩ =>
    show cc0_transform_1 (grid0.coords t) 0 * 1024 + 1 * k.val = k.val
    rw [(tr1 _).1]; omega
  | ⟨1, _⟩ =>
    show cc0_transform_1 (grid0.coords t) 1 * 1024 + 1 * g.val = 1024 * t.val + g.val
    rw [(tr1 _).2, coord t]; omega

theorem blk2 (g : Fin 1024) : (iblk m c 2 t : Vec Ideal S1x1024 .f32) (ix2 0 g) = argB m c (ix2 0 (col t g)) := by
  unfold iblk
  refine (View.read_apply _ _).trans ?_
  show m _ _ = m _ _
  congr 1
  funext a
  apply Fin.ext
  match a with
  | ⟨0, _⟩ =>
    show cc0_transform_2 (grid0.coords t) 0 * 1 + 1 * 0 = 0
    rw [(tr2 _).1]
  | ⟨1, _⟩ =>
    show cc0_transform_2 (grid0.coords t) 1 * 1024 + 1 * g.val = 1024 * t.val + g.val
    rw [(tr2 _).2, coord t]; omega

theorem block_apply (j : S8x1024.Idx) :
    out0_3 (iblk m c 0 t) (iblk m c 1 t) (iblk m c 2 t) j = modulation m c (((cfg0.win 3).blk t).view.emb j : S8x6144.Idx) := by
  refine (congrArg (out0_3 (iblk m c 0 t) (iblk m c 1 t) (iblk m c 2 t)) (idx_eq j (j 0) (j 1) rfl rfl)).trans ((block_value _ _ _ (j 0) (j 1)).trans ?_)
  rw [blk2 m c t (j 1)]
  have hs : (∑ k : Fin 1024, silu ((iblk m c 0 t : Vec Ideal S8x1024 .f32) (ix2 (j 0) k)) * (iblk m c 1 t : Vec Ideal S1024x1024 .f32) (ix2 k (j 1)) : EReal)
      = ∑ k : Fin 1024, silu (argX m c (ix2 (j 0) k)) * argW m c (ix2 k (col t (j 1))) :=
    Finset.sum_congr rfl fun k _ => by rw [blk0 m c t (j 0) k, blk1 m c t k (j 1)]
  refine (congrArg (fun s : Ideal .f32 => FloatOps.addf (φ := .f32) s (argB m c (ix2 0 (col t (j 1))))) hs).trans ?_
  suffices h : ∀ z : S8x6144.Idx, z = ix2 (j 0 : Fin 8) (col t (j 1)) → entry (argX m c) (argW m c) (argB m c) (j 0) (col t (j 1)) = modulation m c z from
    h _ (idx_eq _ _ _ (by
      show cc0_transform_3 (grid0.coords t) 0 * 8 + 1 * (j 0).val = (j 0).val
      rw [(tr3 _).1]; omega) (by
      show cc0_transform_3 (grid0.coords t) 1 * 1024 + 1 * (j 1).val = 1024 * t.val + (j 1).val
      rw [(tr3 _).2, coord t]; omega))
  rintro z rfl
  rfl

theorem flushed_eq : (dats m 0 c).flushed 3 t = ((cfg0.win 3).blk t).view.read (Elt Ideal) (modulation m c) := by
  show (cfg0.win 3).cut (grid0.coords t) ((dats m 0 c).after 3 t) = _
  rw [after0_3]
  funext j
  refine Eq.trans ?_ (View.read_apply _ _).symm
  exact block_apply m c t j

/-- Every point writes its block back: the next point's is another. -/
theorem writes_back : ∀ t : Fin cfg0.N, (cfg0.win 3).flush t = true :=
  (fun t => (Pipeline.Window.flushOf_reads cc0_transform_3 reads0_3 hreads0_3 0 (by decide) (by decide)
    (Pipeline.Window.sep_of_coord cc0_transform_3 0 1 (fun _ => rfl) (by decide)) (P := 1) (m := 0) (by decide) rfl t).mpr (Nat.mod_one _) :
    ∀ t : Fin grid0.N, Pipeline.Window.flushOf grid0 true cc0_transform_3 t = true)

theorem covered (z : S8x6144.Idx) : ∃ t : Fin cfg0.N, (cfg0.win 3).flush t = true ∧ z ∈ ((cfg0.win 3).blk t).view.set := by
  have h0 : (z 0).val < 8 := (z 0).isLt
  have h1 : (z 1).val < 6144 := (z 1).isLt
  have hN : grid0.N = 6 := by decide +kernel
  have ht : (z 1).val / 1024 < grid0.N := by omega
  have c0 : (grid0.coords ⟨_, ht⟩ 0).val = (z 1).val / 1024 := coord ⟨_, ht⟩
  refine ⟨⟨_, ht⟩, writes_back _, ?_⟩
  show z ∈ ((View.whole main_v0).slice ((cfg0.win 3).rect ⟨_, ht⟩)).set
  refine (View.set_slice_whole main_v0 ((cfg0.win 3).rect ⟨_, ht⟩)).symm ▸ ?_
  refine Rect.mem_set_unit.mpr fun a => ?_
  match a with
  | ⟨0, _⟩ =>
    show cc0_transform_3 (grid0.coords ⟨_, ht⟩) 0 * 8 ≤ (z 0).val ∧ (z 0).val < cc0_transform_3 (grid0.coords ⟨_, ht⟩) 0 * 8 + 8
    rw [(tr3 _).1]; omega
  | ⟨1, _⟩ =>
    show cc0_transform_3 (grid0.coords ⟨_, ht⟩) 1 * 1024 ≤ (z 1).val ∧ (z 1).val < cc0_transform_3 (grid0.coords ⟨_, ht⟩) 1 * 1024 + 1024
    rw [(tr3 _).2, c0]; omega

theorem final : (dats m 0 c).arrAt 3 cfg0.N = modulation m c :=
  (dats m 0 c).arrAt_eq_of_cover 3 (modulation m c) (fun t _ => flushed_eq m c t) fun z => covered z

/-- The run: the result array is the modulation, and the arguments are unchanged. -/
theorem run : θ_run defs (onTc (τ := τ) (main (F := Ideal))) ⟨m, fun _ => 0, ρ⟩ fun r => ∀ c : Dev nD,
      r.2.mem ((c : Thread nD τ).loc main_v0) = modulation m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.2 c).1 3).trans (final m c), h.1 c⟩) (θ_run_and (unchanged m ρ) (run_main m ρ))

end Kernel

end Cert.Modulate

end
-- ==== Proof.ProjectionIdealValue.lean ====
/-
  The input projection: the hidden rows normalised, modulated, and times the weights. The kernel's two arrays of projected rows
  and columns are this formula, and so are the reference's.
-/
module

public import proofs.«01_k».proof.Proof.Gen.ProjectionIdeal.Frame
public import proofs.«01_k».proof.Proof.Gen.ProjectionReferenceIdeal.Read
public import Idealize.ShloMosaic.Lib.MatmulPlain
public import Idealize.ShloMosaic.Lib.WholeRead
public import Idealize.ShloMosaic.Lib.Pipeline.Value
public import Idealize.ShloMosaic.PureOps.Ideal.Laws

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Project

/-- Hidden rows, a vector of the hidden width, the weights. -/
abbrev Hidden (n : ℕ) := (⟨2, ![n, 1024]⟩ : Shape).Idx → Ideal .f32
abbrev Vector := (⟨2, ![1, 1024]⟩ : Shape).Idx → Ideal .f32
abbrev Weights := (⟨2, ![1024, 3072]⟩ : Shape).Idx → Ideal .bf16
abbrev Rows (n : ℕ) := (⟨2, ![n, 1024]⟩ : Shape).Idx → Ideal .bf16
abbrev Cols (n : ℕ) := (⟨2, ![2048, n]⟩ : Shape).Idx → Ideal .bf16

/-- The reciprocal root of a row's mean square. -/
def root {n : ℕ} (x : Hidden n) (r : Fin n) : Ideal .f32 :=
  FloatOps.rsqrt (φ := .f32) (FloatOps.addf (φ := .f32)
    (FloatOps.divf (φ := .f32) (∑ k : Fin 1024, FloatOps.mulf (φ := .f32) (x (ix2 r k)) (x (ix2 r k)) : EReal) (FloatOps.ofBits .f32 0x44800000#32))
    (FloatOps.ofBits .f32 0x358637BD#32))

/-- Row `r`, column `k` of the normalised and modulated rows. -/
def normed {n : ℕ} (x : Hidden n) (g sc sh : Vector) (r : Fin n) (k : Fin 1024) : Ideal .f32 :=
  FloatOps.addf (φ := .f32)
    (FloatOps.mulf (φ := .f32) (FloatOps.mulf (φ := .f32) (FloatOps.mulf (φ := .f32) (x (ix2 r k)) (root x r)) (g (ix2 0 k)))
      (FloatOps.addf (φ := .f32) (FloatOps.ofBits .f32 0x3F800000#32) (sc (ix2 0 k))))
    (sh (ix2 0 k))

/-- Row `r`, column `j` of the projection. -/
def proj {n : ℕ} (x : Hidden n) (g sc sh : Vector) (w : Weights) (r : Fin n) (j : Fin 3072) : Ideal .f32 :=
  (∑ k : Fin 1024, (normed x g sc sh r k : EReal) * w (ix2 k j) : EReal)

/-- Which column of the projection a column of the rows is: the second part, then the fifth. -/
def rowPart (j : Fin 1024) : Fin 3072 := if j.val < 512 then ⟨512 + j.val, by omega⟩ else ⟨1536 + j.val, by omega⟩

/-- Which column of the projection a row of the columns is: the fourth part, the sixth, the first, the third. -/
def colPart (i : Fin 2048) : Fin 3072 :=
  if h0 : i.val < 512 then ⟨1536 + i.val, by omega⟩ else if h1 : i.val < 1024 then ⟨2048 + i.val, by omega⟩
  else if h2 : i.val < 1536 then ⟨i.val - 1024, by omega⟩ else ⟨i.val - 512, by omega⟩

/-- The queries are scaled: those are the fourth part and the first. -/
def scaled (i : Fin 2048) (v : Ideal .f32) : Ideal .f32 :=
  if i.val < 512 then FloatOps.mulf (φ := .f32) v (FloatOps.ofBits .f32 0x3E38AA3B#32) else if i.val < 1024 then v
  else if i.val < 1536 then FloatOps.mulf (φ := .f32) v (FloatOps.ofBits .f32 0x3E38AA3B#32) else v

theorem rowPart_eq (j : Fin 1024) (q : Fin 3072) (h : j.val < 512 ∧ q.val = 512 + j.val ∨ 512 ≤ j.val ∧ q.val = 1536 + j.val) : rowPart j = q := by
  apply Fin.ext
  unfold rowPart
  split_ifs
  · show 512 + j.val = q.val; omega
  · show 1536 + j.val = q.val; omega

theorem colPart_eq (i : Fin 2048) (q : Fin 3072) (h : i.val < 512 ∧ q.val = 1536 + i.val ∨ (512 ≤ i.val ∧ i.val < 1024) ∧ q.val = 2048 + i.val
    ∨ (1024 ≤ i.val ∧ i.val < 1536) ∧ q.val = i.val - 1024 ∨ 1536 ≤ i.val ∧ q.val = i.val - 512) : colPart i = q := by
  apply Fin.ext
  unfold colPart
  split_ifs
  · show 1536 + i.val = q.val; omega
  · show 2048 + i.val = q.val; omega
  · show i.val - 1024 = q.val; omega
  · show i.val - 512 = q.val; omega

theorem scaled_yes (i : Fin 2048) (v : Ideal .f32) (h : i.val < 512 ∨ 1024 ≤ i.val ∧ i.val < 1536) :
    scaled i v = FloatOps.mulf (φ := .f32) v (FloatOps.ofBits .f32 0x3E38AA3B#32) := by
  unfold scaled
  split_ifs <;> first | rfl | omega

theorem scaled_no (i : Fin 2048) (v : Ideal .f32) (h : 512 ≤ i.val ∧ i.val < 1024 ∨ 1536 ≤ i.val) : scaled i v = v := by
  unfold scaled
  split_ifs <;> first | rfl | omega

/-- The projected rows, and the projected columns. -/
def rowsOf {n : ℕ} (x : Hidden n) (g sc sh : Vector) (w : Weights) : Rows n := fun z => (proj x g sc sh w (z 0) (rowPart (z 1)) : Ideal .f32)
def colsOf {n : ℕ} (x : Hidden n) (g sc sh : Vector) (w : Weights) : Cols n :=
  fun z => (scaled (z 0) (proj x g sc sh w (z 1) (colPart (z 0))) : Ideal .f32)

theorem idx_eq {a b : ℕ} (i : (⟨2, ![a, b]⟩ : Shape).Idx) (p : Fin a) (k : Fin b) (h0 : (i 0).val = p.val) (h1 : (i 1).val = k.val) : i = ix2 p k :=
  funext fun c => Fin.ext (match c with | ⟨0, _⟩ => h0 | ⟨1, _⟩ => h1)

section Kernel

open Cert.ProjectionIdeal Cert.ProjectionIdeal.Gen

theorem brow (y : FVec Ideal S1x1024 .f32) (r : Fin 512) (k : Fin 1024) :
    broadcastTo S512x1024 y broadcasts_S1x1024_S512x1024 (ix2 r k) = y (ix2 0 k) :=
  broadcastTo_apply _ broadcasts_S1x1024_S512x1024 (ix2 r k) (ix2 0 k) (fun a => match a with
    | ⟨0, _⟩ => by show 0 = if (1 : ℕ) = 1 then 0 else _; rw [if_pos rfl]
    | ⟨1, _⟩ => by show k.val = if (1024 : ℕ) = 1 then 0 else k.val; rw [if_neg (by decide)])

theorem bcol (y : FVec Ideal S512x1 .f32) (r : Fin 512) (k : Fin 1024) :
    broadcastTo S512x1024 y broadcasts_S512x1_S512x1024 (ix2 r k) = y (ix2 r 0) :=
  broadcastTo_apply _ broadcasts_S512x1_S512x1024 (ix2 r k) (ix2 r 0) (fun a => match a with
    | ⟨0, _⟩ => by show r.val = if (512 : ℕ) = 1 then 0 else r.val; rw [if_neg (by decide)]
    | ⟨1, _⟩ => by show 0 = if (1 : ℕ) = 1 then 0 else _; rw [if_pos rfl])

theorem square (x : FVec Ideal S512x1024 .f32) (r : Fin 512) :
    shapeCast S512x1 (multiReduction .add [1] S512 (mulf x x) 0x00000000#32 reduces_S512x1024_S512 (.inl rfl) rfl : FVec Ideal S512 .f32) shapeCasts_S512_S512x1 (ix2 r 0)
      = (∑ k : Fin 1024, FloatOps.mulf (φ := .f32) (x (ix2 r k)) (x (ix2 r k)) : EReal) := by
  refine (shapeCast_apply _ shapeCasts_S512_S512x1 (ix2 r 0) (ix1 r) (by
    rw [Shape.rowMajor_val_one, Shape.rowMajor_val_two]; show r.val = r.val * 1 + 0; omega)).trans ?_
  refine (Ideal.multiReduction_add_single (mulf x x) _ reduces_S512x1024_S512 _ _ (ix1 r)).trans ?_
  refine Finset.sum_congr rfl fun k _ => ?_
  rw [idx_eq (reduces_S512x1024_S512.lift (ix1 r) k) r k rfl rfl]
  rfl

/-- The body's rows, element by element. -/
theorem normed_value (x0 : Vec Ideal S512x1024 .f32) (x1 x2 x3 : Vec Ideal S1x1024 .f32) (r : Fin 512) (k : Fin 1024) :
    (k0_pay4 x0 x1 x2 x3 (ix2 r k) : EReal) = (normed x0 x1 x2 x3 r k : EReal) := by
  unfold k0_pay4 normed root
  rw [← square x0 r, ← brow x1 r k, ← brow x3 r k]
  have h1 := bcol (rsqrt (addf (divf (shapeCast S512x1 (multiReduction .add [1] S512 (mulf x0 x0) 0x00000000#32 reduces_S512x1024_S512 (.inl rfl) rfl : FVec Ideal S512 .f32) shapeCasts_S512_S512x1)
    (broadcast S512x1 (Scalar.ofBits .f32 0x44800000#32))) (broadcast S512x1 (Scalar.ofBits .f32 0x358637BD#32)))) r k
  have h2 := brow (addf (broadcast S1x1024 (Scalar.ofBits .f32 0x3F800000#32)) x2) r k
  refine Eq.trans ?_ (congrArg₂ (fun a b : Ideal .f32 => (FloatOps.addf (φ := .f32) (FloatOps.mulf (φ := .f32) (FloatOps.mulf (φ := .f32) (FloatOps.mulf (φ := .f32) (x0 (ix2 r k)) a)
    (broadcastTo S512x1024 x1 broadcasts_S1x1024_S512x1024 (ix2 r k))) b) (broadcastTo S512x1024 x3 broadcasts_S1x1024_S512x1024 (ix2 r k)) : Ideal .f32)) h1 h2)
  rfl

/-- A product from zero, element by element. -/
theorem product (l : FVec Ideal S512x1024 .bf16) (w : FVec Ideal S1024x512 .bf16) (r j : Fin 512) :
    matmul dot_S512x1024_S1024x512_S512x512_1_0_0_1_n_n none l w (constant S512x512 .f32 0x00000000#32) (ix2 r j)
      = (∑ k : Fin 1024, l (ix2 r k) * w (ix2 k j) : EReal) := by
  refine (Ideal.matmul_plain_apply (M := 512) (K := 1024) (N := 512) none l w (constant S512x512 .f32 0x00000000#32) r j).trans ?_
  show (Ideal.ofBits .f32 0x00000000#32 + _ : EReal) = _
  rw [Ideal.ofBits_zero_f32, zero_add]

/-- A load of a part of the weights. -/
theorem part (arg5 : Memref sig .tc .vmem S1024x3072 .bf16) (harg5 : arg5.IsWhole) (x4 : Vec Ideal S1024x3072 .bf16) (o : ℕ)
    (inb : ∀ a, (![0, o] : Fin 2 → ℕ) a + (![1024, 512] : Fin 2 → ℕ) a ≤ S1024x3072.size a) (k : Fin 1024) (j : Fin 512) (q : Fin 3072) (hq : q.val = o + j.val) :
    View.readAt (Elt Ideal) arg5.view (Rect.unit (s := S1024x3072) ![0, o] ![1024, 512] inb).toLoadRect (harg5.unread x4) (ix2 k j) = x4 (ix2 k q) := by
  refine (harg5.readAt_unread x4 _ _).trans (congrArg x4 (idx_eq _ k q ?_ ?_))
  · show 0 + 1 * k.val = k.val; omega
  · show o + 1 * j.val = q.val; omega

theorem whole0 (arg : Memref sig .tc .vmem S512x1024 .f32) (harg : arg.IsWhole) (x : Vec Ideal S512x1024 .f32) :
    View.readAt (Elt Ideal) arg.view (Rect.unit ![0, 0] S512x1024.size inb_S512x1024_S512x1024_0_0).toLoadRect (harg.unread x) = x := by
  funext y
  refine (harg.readAt_unread x _ _).trans (congrArg x (idx_eq _ (y 0) (y 1) ?_ ?_ |>.trans (idx_eq y (y 0) (y 1) rfl rfl).symm))
  · show 0 + 1 * (y 0).val = (y 0).val; omega
  · show 0 + 1 * (y 1).val = (y 1).val; omega

theorem whole1 (arg : Memref sig .tc .vmem S1x1024 .f32) (harg : arg.IsWhole) (x : Vec Ideal S1x1024 .f32) :
    View.readAt (Elt Ideal) arg.view (Rect.unit ![0, 0] S1x1024.size inb_S1x1024_S1x1024_0_0).toLoadRect (harg.unread x) = x := by
  funext y
  refine (harg.readAt_unread x _ _).trans (congrArg x (idx_eq _ (y 0) (y 1) ?_ ?_ |>.trans (idx_eq y (y 0) (y 1) rfl rfl).symm))
  · show 0 + 1 * (y 0).val = (y 0).val; omega
  · show 0 + 1 * (y 1).val = (y 1).val; omega

/-- A part of the projection of the body's rows. -/
theorem part_value (arg5 : Memref sig .tc .vmem S1024x3072 .bf16) (harg5 : arg5.IsWhole)
    (x0 : Vec Ideal S512x1024 .f32) (x1 x2 x3 : Vec Ideal S1x1024 .f32) (x4 : Vec Ideal S1024x3072 .bf16) (o : ℕ)
    (inb : ∀ a, (![0, o] : Fin 2 → ℕ) a + (![1024, 512] : Fin 2 → ℕ) a ≤ S1024x3072.size a) (r j : Fin 512) (q : Fin 3072) (hq : q.val = o + j.val) :
    matmul (φ₁ := .bf16) (φ₂ := .bf16) dot_S512x1024_S1024x512_S512x512_1_0_0_1_n_n none (k0_pay4 x0 x1 x2 x3 : FVec Ideal S512x1024 .bf16)
        (View.readAt (Elt Ideal) arg5.view (Rect.unit (s := S1024x3072) ![0, o] ![1024, 512] inb).toLoadRect (harg5.unread x4) : FVec Ideal S1024x512 .bf16)
        (constant S512x512 .f32 0x00000000#32) (ix2 r j)
      = proj x0 x1 x2 x3 x4 r q := by
  refine (product _ _ r j).trans ?_
  unfold proj
  refine Finset.sum_congr rfl fun k _ => ?_
  rw [part arg5 harg5 x4 o inb k j q hq]
  exact congrArg (fun s : EReal => s * (x4 (ix2 k q) : EReal)) (normed_value x0 x1 x2 x3 r k)

theorem turned (y : FVec Ideal S512x512 .f32) (r j : Fin 512) : transpose S512x512 [1, 0] y transposes_S512x512_p1_0_S512x512 (ix2 j r) = y (ix2 r j) :=
  transpose_apply [1, 0] y transposes_S512x512_p1_0_S512x512 (ix2 j r) (ix2 r j) (fun b => match b with | ⟨0, _⟩ => rfl | ⟨1, _⟩ => rfl)

theorem row_piece (x0 : Vec Ideal S512x1024 .f32) (x1 x2 x3 : Vec Ideal S1x1024 .f32) (x4 : Vec Ideal S1024x3072 .bf16) (z : S512x1024.Idx) (r : Fin 512) (q : Fin 3072)
    (h0 : (z 0).val = r.val) (h1 : (rowPart (z 1)).val = q.val) : rowsOf x0 x1 x2 x3 x4 z = proj x0 x1 x2 x3 x4 r q := by
  have e0 : z 0 = r := Fin.ext h0
  have e1 : rowPart (z 1) = q := Fin.ext h1
  show proj x0 x1 x2 x3 x4 (z 0) (rowPart (z 1)) = _
  rw [e0, e1]

theorem col_piece (x0 : Vec Ideal S512x1024 .f32) (x1 x2 x3 : Vec Ideal S1x1024 .f32) (x4 : Vec Ideal S1024x3072 .bf16) (z : S2048x512.Idx) (r : Fin 512) (i : Fin 2048)
    (h0 : (z 0).val = i.val) (h1 : (z 1).val = r.val) : colsOf x0 x1 x2 x3 x4 z = scaled i (proj x0 x1 x2 x3 x4 r (colPart i)) := by
  have e0 : z 0 = i := Fin.ext h0
  have e1 : z 1 = r := Fin.ext h1
  show scaled (z 0) (proj x0 x1 x2 x3 x4 (z 1) (colPart (z 0))) = _
  rw [e0, e1]

section Pieces

variable (arg5 : Memref sig .tc .vmem S1024x3072 .bf16) (harg5 : arg5.IsWhole)
  (x0 : Vec Ideal S512x1024 .f32) (x1 x2 x3 : Vec Ideal S1x1024 .f32) (x4 : Vec Ideal S1024x3072 .bf16)

/-! The body's stores into its two blocks, each a part of the projection. -/

theorem rows0 (x : S512x512.Idx) :
    k0_pay12 (k0_pay11 (k0_pay4 x0 x1 x2 x3) (View.readAt (Elt Ideal) arg5.view (Rect.unit (s := S1024x3072) ![0, 512] S1024x512.size inb_S1024x3072_S1024x512_0_512).toLoadRect (harg5.unread x4))) x = rowsOf x0 x1 x2 x3 x4 ((Rect.unit (s := S512x1024) ![0, 0] ![512, 512] inb_S512x1024_S512x512_0_0).emb x) := by
  obtain ⟨a, b, rfl⟩ : ∃ a b : Fin 512, x = ix2 a b := ⟨x 0, x 1, idx_eq x (x 0) (x 1) rfl rfl⟩
  have ha := a.isLt
  have hb := b.isLt
  refine Eq.trans ?_ (row_piece x0 x1 x2 x3 x4 _ a ⟨512 + b.val, by omega⟩ (by show 0 + 1 * a.val = a.val; omega)
    (congrArg Fin.val (rowPart_eq _ _ (by show 0 + 1 * b.val < 512 ∧ 512 + b.val = 512 + (0 + 1 * b.val) ∨ 512 ≤ 0 + 1 * b.val ∧ 512 + b.val = 1536 + (0 + 1 * b.val); omega)))).symm
  exact part_value arg5 harg5 x0 x1 x2 x3 x4 512 inb_S1024x3072_S1024x512_0_512 a b ⟨512 + b.val, by omega⟩ rfl

theorem rows512 (x : S512x512.Idx) :
    k0_pay18 (k0_pay4 x0 x1 x2 x3) (View.readAt (Elt Ideal) arg5.view (Rect.unit (s := S1024x3072) ![0, 2048] S1024x512.size inb_S1024x3072_S1024x512_0_2048).toLoadRect (harg5.unread x4)) x = rowsOf x0 x1 x2 x3 x4 ((Rect.unit (s := S512x1024) ![0, 512] ![512, 512] inb_S512x1024_S512x512_0_512).emb x) := by
  obtain ⟨a, b, rfl⟩ : ∃ a b : Fin 512, x = ix2 a b := ⟨x 0, x 1, idx_eq x (x 0) (x 1) rfl rfl⟩
  have ha := a.isLt
  have hb := b.isLt
  refine Eq.trans ?_ (row_piece x0 x1 x2 x3 x4 _ a ⟨2048 + b.val, by omega⟩ (by show 0 + 1 * a.val = a.val; omega)
    (congrArg Fin.val (rowPart_eq _ _ (by show 512 + 1 * b.val < 512 ∧ 2048 + b.val = 512 + (512 + 1 * b.val) ∨ 512 ≤ 512 + 1 * b.val ∧ 2048 + b.val = 1536 + (512 + 1 * b.val); omega)))).symm
  exact part_value arg5 harg5 x0 x1 x2 x3 x4 2048 inb_S1024x3072_S1024x512_0_2048 a b ⟨2048 + b.val, by omega⟩ rfl

theorem cols0 (x : S512x512.Idx) :
    k0_pay16 (k0_pay4 x0 x1 x2 x3) (View.readAt (Elt Ideal) arg5.view (Rect.unit (s := S1024x3072) ![0, 1536] S1024x512.size inb_S1024x3072_S1024x512_0_1536).toLoadRect (harg5.unread x4)) x = colsOf x0 x1 x2 x3 x4 ((Rect.unit (s := S2048x512) ![0, 0] ![512, 512] inb_S2048x512_S512x512_0_0).emb x) := by
  obtain ⟨a, b, rfl⟩ : ∃ a b : Fin 512, x = ix2 a b := ⟨x 0, x 1, idx_eq x (x 0) (x 1) rfl rfl⟩
  have ha := a.isLt
  have hb := b.isLt
  refine Eq.trans ?_ (col_piece x0 x1 x2 x3 x4 _ b ⟨0 + a.val, by omega⟩ (by show 0 + 1 * a.val = 0 + a.val; omega)
    (by show 0 + 1 * b.val = b.val; omega)).symm
  rw [colPart_eq ⟨0 + a.val, _⟩ ⟨1536 + a.val, by omega⟩ (by dsimp only; omega), scaled_yes _ _ (by dsimp only; omega),
    ← part_value arg5 harg5 x0 x1 x2 x3 x4 1536 inb_S1024x3072_S1024x512_0_1536 b a ⟨1536 + a.val, by omega⟩ rfl]
  exact congrArg (fun v : Ideal .f32 => FloatOps.mulf (φ := .f32) v (FloatOps.ofBits .f32 0x3E38AA3B#32)) (turned (matmul (φ₁ := .bf16) (φ₂ := .bf16) dot_S512x1024_S1024x512_S512x512_1_0_0_1_n_n none (k0_pay4 x0 x1 x2 x3)
    (View.readAt (Elt Ideal) arg5.view (Rect.unit (s := S1024x3072) ![0, 1536] ![1024, 512] inb_S1024x3072_S1024x512_0_1536).toLoadRect (harg5.unread x4)) (constant S512x512 .f32 0x00000000#32)) b a)

theorem cols512 (x : S512x512.Idx) :
    k0_pay19 (k0_pay4 x0 x1 x2 x3) (View.readAt (Elt Ideal) arg5.view (Rect.unit (s := S1024x3072) ![0, 2560] S1024x512.size inb_S1024x3072_S1024x512_0_2560).toLoadRect (harg5.unread x4)) x = colsOf x0 x1 x2 x3 x4 ((Rect.unit (s := S2048x512) ![512, 0] ![512, 512] inb_S2048x512_S512x512_512_0).emb x) := by
  obtain ⟨a, b, rfl⟩ : ∃ a b : Fin 512, x = ix2 a b := ⟨x 0, x 1, idx_eq x (x 0) (x 1) rfl rfl⟩
  have ha := a.isLt
  have hb := b.isLt
  refine Eq.trans ?_ (col_piece x0 x1 x2 x3 x4 _ b ⟨512 + a.val, by omega⟩ (by show 512 + 1 * a.val = 512 + a.val; omega)
    (by show 0 + 1 * b.val = b.val; omega)).symm
  rw [colPart_eq ⟨512 + a.val, _⟩ ⟨2560 + a.val, by omega⟩ (by dsimp only; omega), scaled_no _ _ (by dsimp only; omega),
    ← part_value arg5 harg5 x0 x1 x2 x3 x4 2560 inb_S1024x3072_S1024x512_0_2560 b a ⟨2560 + a.val, by omega⟩ rfl]
  exact (turned (matmul (φ₁ := .bf16) (φ₂ := .bf16) dot_S512x1024_S1024x512_S512x512_1_0_0_1_n_n none (k0_pay4 x0 x1 x2 x3)
    (View.readAt (Elt Ideal) arg5.view (Rect.unit (s := S1024x3072) ![0, 2560] ![1024, 512] inb_S1024x3072_S1024x512_0_2560).toLoadRect (harg5.unread x4)) (constant S512x512 .f32 0x00000000#32)) b a)

theorem cols1024 (x : S512x512.Idx) :
    k0_pay9 (k0_pay4 x0 x1 x2 x3) (View.readAt (Elt Ideal) arg5.view (Rect.unit (s := S1024x3072) ![0, 0] S1024x512.size inb_S1024x3072_S1024x512_0_0).toLoadRect (harg5.unread x4)) x = colsOf x0 x1 x2 x3 x4 ((Rect.unit (s := S2048x512) ![1024, 0] ![512, 512] inb_S2048x512_S512x512_1024_0).emb x) := by
  obtain ⟨a, b, rfl⟩ : ∃ a b : Fin 512, x = ix2 a b := ⟨x 0, x 1, idx_eq x (x 0) (x 1) rfl rfl⟩
  have ha := a.isLt
  have hb := b.isLt
  refine Eq.trans ?_ (col_piece x0 x1 x2 x3 x4 _ b ⟨1024 + a.val, by omega⟩ (by show 1024 + 1 * a.val = 1024 + a.val; omega)
    (by show 0 + 1 * b.val = b.val; omega)).symm
  rw [colPart_eq ⟨1024 + a.val, _⟩ ⟨0 + a.val, by omega⟩ (by dsimp only; omega), scaled_yes _ _ (by dsimp only; omega),
    ← part_value arg5 harg5 x0 x1 x2 x3 x4 0 inb_S1024x3072_S1024x512_0_0 b a ⟨0 + a.val, by omega⟩ rfl]
  exact congrArg (fun v : Ideal .f32 => FloatOps.mulf (φ := .f32) v (FloatOps.ofBits .f32 0x3E38AA3B#32)) (turned (matmul (φ₁ := .bf16) (φ₂ := .bf16) dot_S512x1024_S1024x512_S512x512_1_0_0_1_n_n none (k0_pay4 x0 x1 x2 x3)
    (View.readAt (Elt Ideal) arg5.view (Rect.unit (s := S1024x3072) ![0, 0] ![1024, 512] inb_S1024x3072_S1024x512_0_0).toLoadRect (harg5.unread x4)) (constant S512x512 .f32 0x00000000#32)) b a)

theorem cols1536 (x : S512x512.Idx) :
    k0_pay14 (k0_pay4 x0 x1 x2 x3) (View.readAt (Elt Ideal) arg5.view (Rect.unit (s := S1024x3072) ![0, 1024] S1024x512.size inb_S1024x3072_S1024x512_0_1024).toLoadRect (harg5.unread x4)) x = colsOf x0 x1 x2 x3 x4 ((Rect.unit (s := S2048x512) ![1536, 0] ![512, 512] inb_S2048x512_S512x512_1536_0).emb x) := by
  obtain ⟨a, b, rfl⟩ : ∃ a b : Fin 512, x = ix2 a b := ⟨x 0, x 1, idx_eq x (x 0) (x 1) rfl rfl⟩
  have ha := a.isLt
  have hb := b.isLt
  refine Eq.trans ?_ (col_piece x0 x1 x2 x3 x4 _ b ⟨1536 + a.val, by omega⟩ (by show 1536 + 1 * a.val = 1536 + a.val; omega)
    (by show 0 + 1 * b.val = b.val; omega)).symm
  rw [colPart_eq ⟨1536 + a.val, _⟩ ⟨1024 + a.val, by omega⟩ (by dsimp only; omega), scaled_no _ _ (by dsimp only; omega),
    ← part_value arg5 harg5 x0 x1 x2 x3 x4 1024 inb_S1024x3072_S1024x512_0_1024 b a ⟨1024 + a.val, by omega⟩ rfl]
  exact (turned (matmul (φ₁ := .bf16) (φ₂ := .bf16) dot_S512x1024_S1024x512_S512x512_1_0_0_1_n_n none (k0_pay4 x0 x1 x2 x3)
    (View.readAt (Elt Ideal) arg5.view (Rect.unit (s := S1024x3072) ![0, 1024] ![1024, 512] inb_S1024x3072_S1024x512_0_1024).toLoadRect (harg5.unread x4)) (constant S512x512 .f32 0x00000000#32)) b a)

end Pieces

variable (m : (ℓ : Loc nD τ sig) → Buf (Elt Ideal) ℓ) (ρ : Dev nD → PrngReg) (c : Dev nD) (t : Fin cfg0.N)

theorem rows_A (h0 : t.val % 32 = 0) (y : S512x1024.Idx) :
    (outsAt0 m c t.val t.isLt).1 y = rowsOf (iblk m c 0 t) (iblk m c 1 t) (iblk m c 2 t) (iblk m c 3 t) (iblk m c 4 t) y := by
  rw [outsAt0_A m c t h0]
  dsimp only
  unfold out0_A_7
  rw [View.read_writes_junk_eq_canon]
  refine View.canon_apply_of_pieces (Val := Elt Ideal) (rowsOf (iblk m c 0 t) (iblk m c 1 t) (iblk m c 2 t) (iblk m c 3 t) (iblk m c 4 t)) _ ?_ y (cover0_A_7 ..)
  unfold kernelRun0_A
  dsimp only
  refine List.forall_mem_cons.mpr ⟨?_, List.forall_mem_cons.mpr ⟨?_, by simp⟩⟩
  · intro x
    dsimp only
    unfold kernelRun0_A.sl.r
    rw [whole0, whole1, whole1, whole1]
    exact rows512 (ms0_4 t) (hs0_4 t) _ _ _ _ _ x
  · intro x
    dsimp only
    unfold kernelRun0_A.sl.r_2 kernelRun0_A.sl.r
    rw [whole0, whole1, whole1, whole1]
    exact rows0 (ms0_4 t) (hs0_4 t) _ _ _ _ _ x

theorem cols_A (h0 : t.val % 32 = 0) (y : S2048x512.Idx) :
    (outsAt0 m c t.val t.isLt).2.2.2.2.1 y = colsOf (iblk m c 0 t) (iblk m c 1 t) (iblk m c 2 t) (iblk m c 3 t) (iblk m c 4 t) y := by
  rw [outsAt0_A m c t h0]
  dsimp only
  unfold out0_A_11
  rw [View.read_writes_junk_eq_canon]
  refine View.canon_apply_of_pieces (Val := Elt Ideal) (colsOf (iblk m c 0 t) (iblk m c 1 t) (iblk m c 2 t) (iblk m c 3 t) (iblk m c 4 t)) _ ?_ y (cover0_A_11 ..)
  unfold kernelRun0_A
  dsimp only
  refine List.forall_mem_cons.mpr ⟨?_, List.forall_mem_cons.mpr ⟨?_, List.forall_mem_cons.mpr ⟨?_, List.forall_mem_cons.mpr ⟨?_, by simp⟩⟩⟩⟩
  · intro x
    dsimp only
    unfold kernelRun0_A.sl.r kernelRun0_A.sl.r_5
    rw [whole0, whole1, whole1, whole1]
    exact cols512 (ms0_4 t) (hs0_4 t) _ _ _ _ _ x
  · intro x
    dsimp only
    unfold kernelRun0_A.sl.r
    rw [whole0, whole1, whole1, whole1]
    exact cols0 (ms0_4 t) (hs0_4 t) _ _ _ _ _ x
  · intro x
    dsimp only
    unfold kernelRun0_A.sl.r
    rw [whole0, whole1, whole1, whole1]
    exact cols1536 (ms0_4 t) (hs0_4 t) _ _ _ _ _ x
  · intro x
    dsimp only
    unfold kernelRun0_A.sl.r
    rw [whole0, whole1, whole1, whole1]
    exact cols1024 (ms0_4 t) (hs0_4 t) _ _ _ _ _ x

theorem rows_B (h0 : ¬ t.val % 32 = 0) (y : S512x1024.Idx) :
    (outsAt0 m c t.val t.isLt).1 y = rowsOf (iblk m c 0 t) (iblk m c 1 t) (iblk m c 2 t) (iblk m c 3 t) (iblk m c 4 t) y := by
  rw [outsAt0_B m c t h0]
  dsimp only
  unfold out0_B_7
  rw [View.read_writes_junk_eq_canon]
  refine View.canon_apply_of_pieces (Val := Elt Ideal) (rowsOf (iblk m c 0 t) (iblk m c 1 t) (iblk m c 2 t) (iblk m c 3 t) (iblk m c 4 t)) _ ?_ y (cover0_B_7 ..)
  unfold kernelRun0_B
  dsimp only
  refine List.forall_mem_cons.mpr ⟨?_, List.forall_mem_cons.mpr ⟨?_, by simp⟩⟩
  · intro x
    dsimp only
    unfold kernelRun0_B.sl.r
    rw [whole0, whole1, whole1, whole1]
    exact rows512 (ms0_4 t) (hs0_4 t) _ _ _ _ _ x
  · intro x
    dsimp only
    unfold kernelRun0_B.sl.r_2 kernelRun0_B.sl.r
    rw [whole0, whole1, whole1, whole1]
    exact rows0 (ms0_4 t) (hs0_4 t) _ _ _ _ _ x

theorem cols_B (h0 : ¬ t.val % 32 = 0) (y : S2048x512.Idx) :
    (outsAt0 m c t.val t.isLt).2.2.2.2.1 y = colsOf (iblk m c 0 t) (iblk m c 1 t) (iblk m c 2 t) (iblk m c 3 t) (iblk m c 4 t) y := by
  rw [outsAt0_B m c t h0]
  dsimp only
  unfold out0_B_11
  rw [View.read_writes_junk_eq_canon]
  refine View.canon_apply_of_pieces (Val := Elt Ideal) (colsOf (iblk m c 0 t) (iblk m c 1 t) (iblk m c 2 t) (iblk m c 3 t) (iblk m c 4 t)) _ ?_ y (cover0_B_11 ..)
  unfold kernelRun0_B
  dsimp only
  refine List.forall_mem_cons.mpr ⟨?_, List.forall_mem_cons.mpr ⟨?_, List.forall_mem_cons.mpr ⟨?_, List.forall_mem_cons.mpr ⟨?_, by simp⟩⟩⟩⟩
  · intro x
    dsimp only
    unfold kernelRun0_B.sl.r kernelRun0_B.sl.r_5
    rw [whole0, whole1, whole1, whole1]
    exact cols512 (ms0_4 t) (hs0_4 t) _ _ _ _ _ x
  · intro x
    dsimp only
    unfold kernelRun0_B.sl.r
    rw [whole0, whole1, whole1, whole1]
    exact cols0 (ms0_4 t) (hs0_4 t) _ _ _ _ _ x
  · intro x
    dsimp only
    unfold kernelRun0_B.sl.r
    rw [whole0, whole1, whole1, whole1]
    exact cols1536 (ms0_4 t) (hs0_4 t) _ _ _ _ _ x
  · intro x
    dsimp only
    unfold kernelRun0_B.sl.r
    rw [whole0, whole1, whole1, whole1]
    exact cols1024 (ms0_4 t) (hs0_4 t) _ _ _ _ _ x

abbrev argX (c : Dev nD) : Hidden 16384 := m ((c.tc : Thread nD τ).loc main_arg0)
abbrev argG (c : Dev nD) : Vector := m ((c.tc : Thread nD τ).loc main_arg1)
abbrev argC (c : Dev nD) : Vector := m ((c.tc : Thread nD τ).loc main_arg2)
abbrev argS (c : Dev nD) : Vector := m ((c.tc : Thread nD τ).loc main_arg3)
abbrev argW (c : Dev nD) : Weights := m ((c.tc : Thread nD τ).loc main_arg4)

abbrev rows (c : Dev nD) : Rows 16384 := rowsOf (argX m c) (argG m c) (argC m c) (argS m c) (argW m c)
abbrev cols (c : Dev nD) : Cols 16384 := colsOf (argX m c) (argG m c) (argC m c) (argS m c) (argW m c)

theorem tr0 : ∀ i : grid0.Coords, cc0_transform_0 i 0 = (i 0).val ∧ cc0_transform_0 i 1 = 0 := by decide +kernel
theorem tr1 : ∀ i : grid0.Coords, cc0_transform_1 i 0 = 0 ∧ cc0_transform_1 i 1 = 0 := by decide +kernel
theorem tr2 : ∀ i : grid0.Coords, cc0_transform_2 i 0 = 0 ∧ cc0_transform_2 i 1 = 0 := by decide +kernel
theorem tr3 : ∀ i : grid0.Coords, cc0_transform_3 i 0 = 0 ∧ cc0_transform_3 i 1 = 0 := by decide +kernel
theorem tr4 : ∀ i : grid0.Coords, cc0_transform_4 i 0 = 0 ∧ cc0_transform_4 i 1 = 0 := by decide +kernel
theorem tr7 : ∀ i : grid0.Coords, cc0_transform_7 i 0 = (i 0).val ∧ cc0_transform_7 i 1 = 0 := by decide +kernel
theorem tr11 : ∀ i : grid0.Coords, cc0_transform_11 i 0 = 0 ∧ cc0_transform_11 i 1 = (i 0).val := by decide +kernel

theorem coord : ∀ t : Fin grid0.N, (grid0.coords t 0).val = t.val := by decide +kernel
theorem lt_N : ∀ t : Fin grid0.N, t.val < 32 := by decide +kernel

/-- A block's row in the array. -/
def at_row (t : Fin cfg0.N) (r : Fin 512) : Fin 16384 := ⟨512 * t.val + r.val, by have := lt_N t; omega⟩

theorem blk0 (r : Fin 512) (k : Fin 1024) : (iblk m c 0 t : Vec Ideal S512x1024 .f32) (ix2 r k) = argX m c (ix2 (at_row t r) k) := by
  unfold iblk
  refine (View.read_apply _ _).trans ?_
  show m _ _ = m _ _
  congr 1
  funext a
  apply Fin.ext
  match a with
  | ⟨0, _⟩ =>
    show cc0_transform_0 (grid0.coords t) 0 * 512 + 1 * r.val = 512 * t.val + r.val
    rw [(tr0 _).1, coord t]; omega
  | ⟨1, _⟩ =>
    show cc0_transform_0 (grid0.coords t) 1 * 1024 + 1 * k.val = k.val
    rw [(tr0 _).2]; omega

theorem blk1 : (iblk m c 1 t : Vec Ideal S1x1024 .f32) = argG m c := by
  funext y
  unfold iblk
  refine (View.read_apply _ _).trans ?_
  show m _ _ = m _ _
  congr 1
  funext a
  apply Fin.ext
  match a with
  | ⟨0, _⟩ =>
    show cc0_transform_1 (grid0.coords t) 0 * 1 + 1 * (y 0).val = (y 0).val
    rw [(tr1 _).1]; omega
  | ⟨1, _⟩ =>
    show cc0_transform_1 (grid0.coords t) 1 * 1024 + 1 * (y 1).val = (y 1).val
    rw [(tr1 _).2]; omega

theorem blk2 : (iblk m c 2 t : Vec Ideal S1x1024 .f32) = argC m c := by
  funext y
  unfold iblk
  refine (View.read_apply _ _).trans ?_
  show m _ _ = m _ _
  congr 1
  funext a
  apply Fin.ext
  match a with
  | ⟨0, _⟩ =>
    show cc0_transform_2 (grid0.coords t) 0 * 1 + 1 * (y 0).val = (y 0).val
    rw [(tr2 _).1]; omega
  | ⟨1, _⟩ =>
    show cc0_transform_2 (grid0.coords t) 1 * 1024 + 1 * (y 1).val = (y 1).val
    rw [(tr2 _).2]; omega

theorem blk3 : (iblk m c 3 t : Vec Ideal S1x1024 .f32) = argS m c := by
  funext y
  unfold iblk
  refine (View.read_apply _ _).trans ?_
  show m _ _ = m _ _
  congr 1
  funext a
  apply Fin.ext
  match a with
  | ⟨0, _⟩ =>
    show cc0_transform_3 (grid0.coords t) 0 * 1 + 1 * (y 0).val = (y 0).val
    rw [(tr3 _).1]; omega
  | ⟨1, _⟩ =>
    show cc0_transform_3 (grid0.coords t) 1 * 1024 + 1 * (y 1).val = (y 1).val
    rw [(tr3 _).2]; omega

theorem blk4 : (iblk m c 4 t : Vec Ideal S1024x3072 .bf16) = argW m c := by
  funext y
  unfold iblk
  refine (View.read_apply _ _).trans ?_
  show m _ _ = m _ _
  congr 1
  funext a
  apply Fin.ext
  match a with
  | ⟨0, _⟩ =>
    show cc0_transform_4 (grid0.coords t) 0 * 1024 + 1 * (y 0).val = (y 0).val
    rw [(tr4 _).1]; omega
  | ⟨1, _⟩ =>
    show cc0_transform_4 (grid0.coords t) 1 * 3072 + 1 * (y 1).val = (y 1).val
    rw [(tr4 _).2]; omega

/-- A block's projection is the array's, at the block's rows. -/
theorem proj_block (r : Fin 512) (j : Fin 3072) :
    proj (iblk m c 0 t : Vec Ideal S512x1024 .f32) (argG m c) (argC m c) (argS m c) (argW m c) r j
      = proj (argX m c) (argG m c) (argC m c) (argS m c) (argW m c) (at_row t r) j := by
  unfold proj normed root
  simp only [blk0 m c t]

theorem rows_block (j : S512x1024.Idx) : (outsAt0 m c t.val t.isLt).1 j = rows m c (((cfg0.win 7).blk t).view.emb j : S16384x1024.Idx) := by
  have h : (outsAt0 m c t.val t.isLt).1 j = rowsOf (iblk m c 0 t) (iblk m c 1 t) (iblk m c 2 t) (iblk m c 3 t) (iblk m c 4 t) j := by
    by_cases h0 : t.val % 32 = 0
    · exact rows_A m c t h0 j
    · exact rows_B m c t h0 j
  rw [h, blk1 m c t, blk2 m c t, blk3 m c t, blk4 m c t]
  obtain ⟨a, b, rfl⟩ : ∃ (a : Fin 512) (b : Fin 1024), j = ix2 a b := ⟨j 0, j 1, idx_eq j (j 0) (j 1) rfl rfl⟩
  refine (proj_block m c t a (rowPart b)).trans ?_
  suffices h : ∀ z : S16384x1024.Idx, z = ix2 (at_row t a) b → proj (argX m c) (argG m c) (argC m c) (argS m c) (argW m c) (at_row t a) (rowPart b) = rows m c z from
    h _ (idx_eq _ _ _ (by
      show cc0_transform_7 (grid0.coords t) 0 * 512 + 1 * a.val = 512 * t.val + a.val
      rw [(tr7 _).1, coord t]; omega) (by
      show cc0_transform_7 (grid0.coords t) 1 * 1024 + 1 * b.val = b.val
      rw [(tr7 _).2]; omega))
  rintro z rfl
  rfl

theorem cols_block (j : S2048x512.Idx) : (outsAt0 m c t.val t.isLt).2.2.2.2.1 j = cols m c (((cfg0.win 11).blk t).view.emb j : S2048x16384.Idx) := by
  have h : (outsAt0 m c t.val t.isLt).2.2.2.2.1 j = colsOf (iblk m c 0 t) (iblk m c 1 t) (iblk m c 2 t) (iblk m c 3 t) (iblk m c 4 t) j := by
    by_cases h0 : t.val % 32 = 0
    · exact cols_A m c t h0 j
    · exact cols_B m c t h0 j
  rw [h, blk1 m c t, blk2 m c t, blk3 m c t, blk4 m c t]
  obtain ⟨a, b, rfl⟩ : ∃ (a : Fin 2048) (b : Fin 512), j = ix2 a b := ⟨j 0, j 1, idx_eq j (j 0) (j 1) rfl rfl⟩
  refine (congrArg (scaled a) (proj_block m c t b (colPart a))).trans ?_
  suffices h : ∀ z : S2048x16384.Idx, z = ix2 a (at_row t b) →
      scaled a (proj (argX m c) (argG m c) (argC m c) (argS m c) (argW m c) (at_row t b) (colPart a)) = cols m c z from
    h _ (idx_eq _ _ _ (by
      show cc0_transform_11 (grid0.coords t) 0 * 2048 + 1 * a.val = a.val
      rw [(tr11 _).1]; omega) (by
      show cc0_transform_11 (grid0.coords t) 1 * 512 + 1 * b.val = 512 * t.val + b.val
      rw [(tr11 _).2, coord t]; omega))
  rintro z rfl
  rfl

theorem flushed_rows : (dats m 0 c).flushed 7 t = ((cfg0.win 7).blk t).view.read (Elt Ideal) (rows m c) := by
  show (cfg0.win 7).cut (grid0.coords t) ((dats m 0 c).after 7 t) = _
  rw [after0_7]
  funext j
  refine Eq.trans ?_ (View.read_apply _ _).symm
  exact rows_block m c t j

theorem flushed_cols : (dats m 0 c).flushed 11 t = ((cfg0.win 11).blk t).view.read (Elt Ideal) (cols m c) := by
  show (cfg0.win 11).cut (grid0.coords t) ((dats m 0 c).after 11 t) = _
  rw [after0_11]
  funext j
  refine Eq.trans ?_ (View.read_apply _ _).symm
  exact cols_block m c t j

theorem covered_rows (z : S16384x1024.Idx) : ∃ t : Fin cfg0.N, (cfg0.win 7).flush t = true ∧ z ∈ ((cfg0.win 7).blk t).view.set := by
  have h0 : (z 0).val < 16384 := (z 0).isLt
  have h1 : (z 1).val < 1024 := (z 1).isLt
  have hN : grid0.N = 32 := by decide +kernel
  have ht : (z 0).val / 512 < grid0.N := by omega
  have c0 : (grid0.coords ⟨_, ht⟩ 0).val = (z 0).val / 512 := coord ⟨_, ht⟩
  refine ⟨⟨_, ht⟩, flush0_7 _, ?_⟩
  show z ∈ ((View.whole main_v0_0).slice ((cfg0.win 7).rect ⟨_, ht⟩)).set
  refine (View.set_slice_whole main_v0_0 ((cfg0.win 7).rect ⟨_, ht⟩)).symm ▸ ?_
  refine Rect.mem_set_unit.mpr fun a => ?_
  match a with
  | ⟨0, _⟩ =>
    show cc0_transform_7 (grid0.coords ⟨_, ht⟩) 0 * 512 ≤ (z 0).val ∧ (z 0).val < cc0_transform_7 (grid0.coords ⟨_, ht⟩) 0 * 512 + 512
    rw [(tr7 _).1, c0]; omega
  | ⟨1, _⟩ =>
    show cc0_transform_7 (grid0.coords ⟨_, ht⟩) 1 * 1024 ≤ (z 1).val ∧ (z 1).val < cc0_transform_7 (grid0.coords ⟨_, ht⟩) 1 * 1024 + 1024
    rw [(tr7 _).2]; omega

theorem final_rows : (dats m 0 c).arrAt 7 cfg0.N = rows m c :=
  (dats m 0 c).arrAt_eq_of_cover 7 (rows m c) (fun t _ => flushed_rows m c t) fun z => covered_rows z

theorem covered_cols (z : S2048x16384.Idx) : ∃ t : Fin cfg0.N, (cfg0.win 11).flush t = true ∧ z ∈ ((cfg0.win 11).blk t).view.set := by
  have h0 : (z 0).val < 2048 := (z 0).isLt
  have h1 : (z 1).val < 16384 := (z 1).isLt
  have hN : grid0.N = 32 := by decide +kernel
  have ht : (z 1).val / 512 < grid0.N := by omega
  have c0 : (grid0.coords ⟨_, ht⟩ 0).val = (z 1).val / 512 := coord ⟨_, ht⟩
  refine ⟨⟨_, ht⟩, flush0_11 _, ?_⟩
  show z ∈ ((View.whole main_v0_4).slice ((cfg0.win 11).rect ⟨_, ht⟩)).set
  refine (View.set_slice_whole main_v0_4 ((cfg0.win 11).rect ⟨_, ht⟩)).symm ▸ ?_
  refine Rect.mem_set_unit.mpr fun a => ?_
  match a with
  | ⟨0, _⟩ =>
    show cc0_transform_11 (grid0.coords ⟨_, ht⟩) 0 * 2048 ≤ (z 0).val ∧ (z 0).val < cc0_transform_11 (grid0.coords ⟨_, ht⟩) 0 * 2048 + 2048
    rw [(tr11 _).1]; omega
  | ⟨1, _⟩ =>
    show cc0_transform_11 (grid0.coords ⟨_, ht⟩) 1 * 512 ≤ (z 1).val ∧ (z 1).val < cc0_transform_11 (grid0.coords ⟨_, ht⟩) 1 * 512 + 512
    rw [(tr11 _).2, c0]; omega

theorem final_cols : (dats m 0 c).arrAt 11 cfg0.N = cols m c :=
  (dats m 0 c).arrAt_eq_of_cover 11 (cols m c) (fun t _ => flushed_cols m c t) fun z => covered_cols z

/-- The run: the two arrays are the projected rows and columns, and the arguments are unchanged. -/
theorem run : θ_run defs (onTc (τ := τ) (main (F := Ideal))) ⟨m, fun _ => 0, ρ⟩ fun r => ∀ c : Dev nD,
      r.2.mem ((c : Thread nD τ).loc main_v0_0) = rows m c
      ∧ r.2.mem ((c : Thread nD τ).loc main_v0_4) = cols m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.2 c).1 7).trans (final_rows m c), ((h.2 c).1 11).trans (final_cols m c), h.1 c⟩) (θ_run_and (unchanged m ρ) (run_main m ρ))

end Kernel

section Reference

open Cert.ProjectionReferenceIdeal Cert.ProjectionReferenceIdeal.Read

variable (x0 : (⟨S16384x1024, .f32⟩ : BufTy).Contents (Elt Ideal)) (x1 x2 x3 : (⟨S1x1024, .f32⟩ : BufTy).Contents (Elt Ideal))
  (x4 : (⟨S1024x3072, .bf16⟩ : BufTy).Contents (Elt Ideal))

theorem reference_root (r : Fin 16384) : val_main_v7 (F := Ideal) x0 (ix2 r 0) = root x0 r := by
  rw [val_main_v7_apply, val_main_v6_apply, val_main_v4_apply, val_main_v2_apply, val_main_v1_apply, val_main_v3_apply, val_main_v5_apply,
    val_main_cst_apply, val_main_cst_0_apply, val_main_cst_1_apply]
  have hs : (FloatOps.ofBits (F := Ideal) .f32 0x00000000#32 + ∑ k : Fin 1024, val_main_v0 (F := Ideal) x0 (idx_main_v1 (idx_main_v2 (ix2 r 0)) k) : EReal)
      = (∑ k : Fin 1024, FloatOps.mulf (F := Ideal) (φ := .f32) (x0 (ix2 r k)) (x0 (ix2 r k)) : EReal) := by
    show (Ideal.ofBits .f32 0x00000000#32 + _ : EReal) = _
    rw [Ideal.ofBits_zero_f32, zero_add]
    refine Finset.sum_congr rfl fun k _ => ?_
    rw [idx_eq (idx_main_v1 (idx_main_v2 (ix2 r 0)) k) r k rfl rfl]
    rfl
  exact congrArg (fun s : Ideal .f32 => FloatOps.rsqrt (φ := .f32) (FloatOps.addf (φ := .f32)
    (FloatOps.divf (φ := .f32) s (FloatOps.ofBits .f32 0x44800000#32)) (FloatOps.ofBits .f32 0x358637BD#32))) hs

theorem reference_normed (r : Fin 16384) (k : Fin 1024) : val_main_v17 (F := Ideal) x0 x1 x2 x3 (ix2 r k) = normed x0 x1 x2 x3 r k := by
  rw [val_main_v17_apply, val_main_v15_apply, val_main_v11_apply, val_main_v9_apply, val_main_v8_apply, val_main_v10_apply, val_main_v14_apply,
    val_main_v13_apply, val_main_v12_apply, val_main_v16_apply, val_main_cst_2_apply,
    idx_eq (idx_main_v8 (ix2 r k)) r 0 rfl rfl, idx_eq (idx_main_v10 (ix2 r k)) 0 k rfl rfl, idx_eq (idx_main_v14 (ix2 r k)) 0 k rfl rfl,
    idx_eq (idx_main_v16 (ix2 r k)) 0 k rfl rfl, reference_root]
  rfl

theorem reference_proj (r : Fin 16384) (j : Fin 3072) : val_main_v19 (F := Ideal) x0 x1 x2 x3 x4 (ix2 r j) = proj x0 x1 x2 x3 x4 r j := by
  rw [val_main_v19_apply]
  unfold proj
  refine Finset.sum_congr rfl fun k _ => ?_
  rw [idx_eq (lidx_main_v19 (ix2 r j) k) r k rfl rfl, idx_eq (ridx_main_v19 (ix2 r j) k) k j rfl rfl, reference_normed]
  rfl

theorem reference_part20 (r : Fin 16384) (j : Fin 512) (q : Fin 3072) (h : q.val = j.val) :
    val_main_v20 (F := Ideal) x0 x1 x2 x3 x4 (ix2 r j) = proj x0 x1 x2 x3 x4 r q := by
  rw [val_main_v20_apply, idx_eq (idx_main_v20 (ix2 r j)) r q rfl h.symm, reference_proj]

theorem reference_part21 (r : Fin 16384) (j : Fin 512) (q : Fin 3072) (h : q.val = 512 + j.val) :
    val_main_v21 (F := Ideal) x0 x1 x2 x3 x4 (ix2 r j) = proj x0 x1 x2 x3 x4 r q := by
  rw [val_main_v21_apply, idx_eq (idx_main_v21 (ix2 r j)) r q rfl h.symm, reference_proj]

theorem reference_part22 (r : Fin 16384) (j : Fin 512) (q : Fin 3072) (h : q.val = 1024 + j.val) :
    val_main_v22 (F := Ideal) x0 x1 x2 x3 x4 (ix2 r j) = proj x0 x1 x2 x3 x4 r q := by
  rw [val_main_v22_apply, idx_eq (idx_main_v22 (ix2 r j)) r q rfl h.symm, reference_proj]

theorem reference_part23 (r : Fin 16384) (j : Fin 512) (q : Fin 3072) (h : q.val = 1536 + j.val) :
    val_main_v23 (F := Ideal) x0 x1 x2 x3 x4 (ix2 r j) = proj x0 x1 x2 x3 x4 r q := by
  rw [val_main_v23_apply, idx_eq (idx_main_v23 (ix2 r j)) r q rfl h.symm, reference_proj]

theorem reference_part24 (r : Fin 16384) (j : Fin 512) (q : Fin 3072) (h : q.val = 2048 + j.val) :
    val_main_v24 (F := Ideal) x0 x1 x2 x3 x4 (ix2 r j) = proj x0 x1 x2 x3 x4 r q := by
  rw [val_main_v24_apply, idx_eq (idx_main_v24 (ix2 r j)) r q rfl h.symm, reference_proj]

theorem reference_part25 (r : Fin 16384) (j : Fin 512) (q : Fin 3072) (h : q.val = 2560 + j.val) :
    val_main_v25 (F := Ideal) x0 x1 x2 x3 x4 (ix2 r j) = proj x0 x1 x2 x3 x4 r q := by
  rw [val_main_v25_apply, idx_eq (idx_main_v25 (ix2 r j)) r q rfl h.symm, reference_proj]

/-- The reference's rows. -/
theorem reference_rows : val_main_v33 (F := Ideal) x0 x1 x2 x3 x4 = rowsOf x0 x1 x2 x3 x4 := by
  funext z
  obtain ⟨r, j, rfl⟩ : ∃ (r : Fin 16384) (j : Fin 1024), z = ix2 r j := ⟨z 0, z 1, idx_eq z (z 0) (z 1) rfl rfl⟩
  rw [val_main_v33_apply]
  have hj := j.isLt
  have h : (val_main_v26 (F := Ideal) x0 x1 x2 x3 x4 (ix2 r j) : Ideal .f32) = proj x0 x1 x2 x3 x4 r (rowPart j) := by
    unfold val_main_v26
    by_cases h : j.val < 512
    · refine (concatenate_pair_apply_left (s₁ := S16384x512) (s₂ := S16384x512) (t := S16384x1024) 1 _ _ _ (ix2 r j) rfl (ix2 r ⟨j.val, h⟩)
        (fun b => match b with | ⟨0, _⟩ => rfl | ⟨1, _⟩ => rfl)).trans ?_
      exact reference_part21 x0 x1 x2 x3 x4 r ⟨j.val, h⟩ _ (congrArg Fin.val (rowPart_eq j ⟨512 + j.val, by omega⟩ (.inl ⟨h, rfl⟩)))
    · refine (concatenate_pair_apply_right (s₁ := S16384x512) (s₂ := S16384x512) (t := S16384x1024) 1 _ _ _ (ix2 r j) rfl rfl (ix2 r ⟨j.val - 512, by omega⟩)
        (fun b hb => match b, hb with | ⟨0, _⟩, _ => rfl | ⟨1, _⟩, hb => absurd rfl hb) (by show j.val - 512 + 512 = j.val; omega)).trans ?_
      exact reference_part24 x0 x1 x2 x3 x4 r ⟨j.val - 512, by omega⟩ _ ((congrArg Fin.val (rowPart_eq j ⟨1536 + j.val, by omega⟩ (.inr ⟨by omega, rfl⟩))).trans
        (by show 1536 + j.val = 2048 + (j.val - 512); omega))
  exact h

/-- The reference's columns. -/
theorem reference_cols : val_main_v34 (F := Ideal) x0 x1 x2 x3 x4 = colsOf x0 x1 x2 x3 x4 := by
  funext z
  obtain ⟨i, r, rfl⟩ : ∃ (i : Fin 2048) (r : Fin 16384), z = ix2 i r := ⟨z 0, z 1, idx_eq z (z 0) (z 1) rfl rfl⟩
  rw [val_main_v34_apply, val_main_v32_apply, idx_eq (idx_main_v32 (ix2 i r)) r i rfl rfl]
  have hi := i.isLt
  have h : (val_main_v31 (F := Ideal) x0 x1 x2 x3 x4 (ix2 r i) : Ideal .f32) = scaled i (proj x0 x1 x2 x3 x4 r (colPart i)) := by
    unfold val_main_v31
    by_cases h1 : i.val < 512
    · refine (concatenate_apply_piece (t := S16384x2048) 1 _ _ (ix2 r i) 0 (by simp) S16384x512 _ rfl rfl 0 rfl (ix2 r ⟨i.val, h1⟩)
        (fun b hb => match b, hb with | ⟨0, _⟩, _ => rfl | ⟨1, _⟩, hb => absurd rfl hb) (by show 0 + i.val = i.val; omega)).trans ?_
      rw [val_main_v28_apply, val_main_v27_apply, val_main_cst_3_apply, scaled_yes i _ (.inl h1), colPart_eq i ⟨1536 + i.val, by omega⟩ (.inl ⟨h1, rfl⟩),
        reference_part23 x0 x1 x2 x3 x4 r ⟨i.val, h1⟩ ⟨1536 + i.val, by omega⟩ rfl]
    · by_cases h2 : i.val < 1024
      · refine (concatenate_apply_piece (t := S16384x2048) 1 _ _ (ix2 r i) 1 (by simp) S16384x512 _ rfl rfl 512 rfl (ix2 r ⟨i.val - 512, by omega⟩)
          (fun b hb => match b, hb with | ⟨0, _⟩, _ => rfl | ⟨1, _⟩, hb => absurd rfl hb) (by show 512 + (i.val - 512) = i.val; omega)).trans ?_
        rw [scaled_no i _ (.inl ⟨by omega, h2⟩), colPart_eq i ⟨2048 + i.val, by omega⟩ (.inr (.inl ⟨⟨by omega, h2⟩, rfl⟩)),
          reference_part25 x0 x1 x2 x3 x4 r ⟨i.val - 512, by omega⟩ ⟨2048 + i.val, by omega⟩ (by show 2048 + i.val = 2560 + (i.val - 512); omega)]
      · by_cases h3 : i.val < 1536
        · refine (concatenate_apply_piece (t := S16384x2048) 1 _ _ (ix2 r i) 2 (by simp) S16384x512 _ rfl rfl 1024 rfl (ix2 r ⟨i.val - 1024, by omega⟩)
            (fun b hb => match b, hb with | ⟨0, _⟩, _ => rfl | ⟨1, _⟩, hb => absurd rfl hb) (by show 1024 + (i.val - 1024) = i.val; omega)).trans ?_
          rw [val_main_v30_apply, val_main_v29_apply, val_main_cst_4_apply, scaled_yes i _ (.inr ⟨by omega, h3⟩),
            colPart_eq i ⟨i.val - 1024, by omega⟩ (.inr (.inr (.inl ⟨⟨by omega, h3⟩, rfl⟩))),
            reference_part20 x0 x1 x2 x3 x4 r ⟨i.val - 1024, by omega⟩ ⟨i.val - 1024, by omega⟩ rfl]
        · refine (concatenate_apply_piece (t := S16384x2048) 1 _ _ (ix2 r i) 3 (by simp) S16384x512 _ rfl rfl 1536 rfl (ix2 r ⟨i.val - 1536, by omega⟩)
            (fun b hb => match b, hb with | ⟨0, _⟩, _ => rfl | ⟨1, _⟩, hb => absurd rfl hb) (by show 1536 + (i.val - 1536) = i.val; omega)).trans ?_
          rw [scaled_no i _ (.inr (by omega)), colPart_eq i ⟨i.val - 512, by omega⟩ (.inr (.inr (.inr ⟨by omega, rfl⟩))),
            reference_part22 x0 x1 x2 x3 x4 r ⟨i.val - 1536, by omega⟩ ⟨i.val - 512, by omega⟩ (by show i.val - 512 = 1024 + (i.val - 1536); omega)]
  exact h

end Reference

end Cert.Project

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_first_tiles
public import proofs.«01_k».proof.Proof.Gen.Pre_finite_scores
public import proofs.«01_k».proof.Proof.Checks
public import proofs.«01_k».proof.Proof.Decode
public import proofs.«01_k».proof.Proof.Array
public import proofs.«01_k».proof.Proof.Reference
public import proofs.«01_k».proof.Proof.Gen.Experts
public import proofs.«01_k».proof.Proof.Gen.Experts.Skeleton
public import proofs.«01_k».proof.Proof.Gen.Experts.Loops
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Loops
public import proofs.«01_k».proof.Proof.Gen.ExpertsIdeal.Launch
public import proofs.«01_k».proof.Proof.Gen.ExpertsIdeal.Flash
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.Pre_regions
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.Gen.Projection
public import proofs.«01_k».proof.Proof.Gen.Projection.Skeleton
public import proofs.«01_k».proof.Proof.Gen.Projection.Launch
public import proofs.«01_k».proof.Proof.Gen.Projection.Points
public import proofs.«01_k».proof.Proof.Gen.Projection.Frame
public import proofs.«01_k».proof.Proof.Gen.ProjectionIdeal
public import proofs.«01_k».proof.Proof.Gen.ProjectionIdeal.Skeleton
public import proofs.«01_k».proof.Proof.Gen.ProjectionIdeal.Launch
public import proofs.«01_k».proof.Proof.Gen.ProjectionIdeal.Points
public import proofs.«01_k».proof.Proof.Gen.ProjectionIdeal.Frame
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.ExpertsEntry
public import proofs.«01_k».proof.Proof.ExpertsIdealValue
public import proofs.«01_k».proof.Proof.ExpertsReferenceValue
public import proofs.«01_k».proof.Proof.ModulationIdealValue
public import proofs.«01_k».proof.Proof.ProjectionIdealValue
public import Idealize.ShloMosaic.Adequacy
public import Idealize.ShloMosaic.Init

@[expose] public section

noncomputable section

namespace Cert.Proof

open Idealize.ShloMosaic Idealize.SL.Sem

/-- The kernel runs, changes no argument, and leaves every semaphore at zero. -/
theorem frame_p : Cert.quiescent_Kernel := fun m ρ h =>
  Cert.Kernel.Gen.frame m ρ (KernelProof.ok_all m) (KernelProof.hyps_of m fun c y => Decode.first_tiles _ _ _ _ _ (h c) y)

/-- So does the idealized kernel. -/
theorem frame_pi : Cert.quiescent_KernelIdeal := fun m ρ h =>
  Cert.KernelIdeal.Gen.frame m ρ (KernelIdealProof.ok_all m) (KernelIdealProof.hyps_of m fun c y => Decode.first_tiles _ _ _ _ _ (h c) y)

/-- And under the stronger precondition of the value claim. -/
theorem frame_pi_finite : Cert.quiescent_KernelIdeal_pre_finite_scores := fun m ρ h =>
  Cert.KernelIdeal.Gen.frame m ρ (KernelIdealProof.ok_all m) (KernelIdealProof.hyps_of m fun c y => (Decode.finite_scores _ _ _ _ _ (h c)).1 y)

/-- The reference runs, changes no argument, and declares no semaphore. -/
theorem run_ri (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      (∀ c : Dev ReferenceIdeal.nD, r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run ReferenceIdeal.defs _ _).mono (fun r h => ⟨fun c => (h c).2, sem_eq_zero_of_no_sems (by decide) r.2⟩)
    (ReferenceIdeal.Value.run m ρ)

theorem frame_ri : Cert.quiescent_ReferenceIdeal := fun m ρ _ => run_ri m ρ

/-- The named constants have the values their words approximate. -/
theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xF1800000#32 _ rfl⟩

/-- Under the precondition of the value claim the scores' data are real numbers. -/
theorem reals (a0 : IVec KernelIdeal.S128 32) (a1 : Vec Ideal KernelIdeal.S8x64 .f32) (a2 : Vec Ideal KernelIdeal.S2048x16384 .bf16)
    (a3 : Vec Ideal KernelIdeal.S16384x1024 .bf16) (a4 : Vec Ideal KernelIdeal.S4x16384x2 .f32)
    (h : Pre_finite_scores.fn (F := Ideal) a0 a1 a2 a3 a4 = fun _ => 1#1) : ∃ R : Model.Reals, R.Of a1 a2 a3 a4 := by
  obtain ⟨_, h1, h4, h2, h3⟩ := Decode.finite_scores a0 a1 a2 a3 a4 h
  have hq : ∀ (H : Fin 8) (d : Fin 64) (t : Fin 16384), ∃ r : ℝ, Model.query a2 H d t = (r : EReal) := by
    intro H d t
    obtain ⟨r, hr⟩ := h2 (ix2 (Model.col H d) t)
    refine ⟨r, Eq.trans ?_ hr⟩
    refine congrArg a2 (Attention.ext2 ?_ ?_)
    · rfl
    · show t.val = 0 + t.val
      omega
  have hk : ∀ (H : Fin 8) (d : Fin 64) (s : Fin 16384), ∃ r : ℝ, Model.key a3 H d s = (r : EReal) := by
    intro H d s
    obtain ⟨r, hr⟩ := h3 (ix2 s (Model.col H d))
    refine ⟨r, Eq.trans ?_ hr⟩
    refine congrArg a3 (Attention.ext2 ?_ ?_)
    · show s.val = 0 + s.val
      omega
    · show 64 * H.val + d.val = 0 + (64 * H.val + d.val)
      omega
  choose q hq using hq
  choose k hk using hk
  choose n hn using h4
  choose c hc using h1
  refine ⟨⟨fun H t s => ∑ d : Fin 64, k H d s * q H d t, fun H s => n _, fun H J => c (ix2 H J)⟩, fun H t s => ?_, fun H s => hn _, fun H J => hc _⟩
  rw [← Model.coe_sum]
  refine Finset.sum_congr rfl fun d _ => ?_
  rw [hk, hq, EReal.coe_mul]

/-- The kernel's output is the reference's, element by element. -/
theorem algebraic : Cert.algebraic_KernelIdeal_ReferenceIdeal_pre_finite_scores := by
  intro m g m' g' h hm
  have hn : ∀ (c : Dev KernelIdeal.nD) (y : KernelIdeal.S128.Idx), 0 ≤ (Array.arg0 m c y : BitVec 32).toInt :=
    fun c y => (Decode.finite_scores _ _ _ _ _ (h c)).1 y
  have hr : ∀ c : Dev KernelIdeal.nD, ∃ R : Model.Reals, R.Of (Array.arg1 m c) (Array.arg2 m c) (Array.arg3 m c) (Array.arg4 m c) :=
    fun c => reals _ _ _ _ _ (h c)
  choose R hR using hr
  refine ⟨fun c => Array.result (Array.arg0 m c) (Array.arg2 m c) (R c),
    Array.run m g (KernelIdealProof.ok_all m) (KernelIdealProof.hyps_of m hn) hn R hR,
    (θ_run ReferenceIdeal.defs _ _).mono (fun r hv c => ⟨(hv c).1.trans ?_, (hv c).2⟩) (ReferenceIdeal.Value.run m' g')⟩
  rw [ReferenceIdeal.Read.val_main_v72_eq]
  obtain ⟨e0, e1, e2, e3, e4⟩ := hm c
  rw [e0, e1, e2, e3, e4]
  exact funext fun z => Attention.result_apply (hR c) (hn c) z

/-- The experts' kernel runs, changes no argument, and leaves every semaphore at zero. -/
theorem frame_experts : Cert.quiescent_Experts := fun m ρ h =>
  Experts.Moe.frame_all m ρ (Experts.Moe.ok_of m (Experts.Moe.regs_of m h)) (Experts.Moe.regs_of m h)

/-- So does the idealized one. -/
theorem frame_experts_ideal : Cert.quiescent_ExpertsIdeal := fun m ρ h =>
  ExpertsIdeal.Moe.frame_all m ρ (ExpertsIdeal.Moe.ok_of m (ExpertsIdeal.Moe.regs_of m h)) (ExpertsIdeal.Moe.regs_of m h)

/-- The experts' reference runs, changes no argument, and declares no semaphore. -/
theorem run_experts_reference (m : (ℓ : Loc ExpertsReferenceIdeal.nD ExpertsReferenceIdeal.τ ExpertsReferenceIdeal.sig) → Buf (Elt Ideal) ℓ)
    (ρ : Dev ExpertsReferenceIdeal.nD → PrngReg) :
    θ_run (ExpertsReferenceIdeal.defs (F := Ideal)) (onTc (τ := ExpertsReferenceIdeal.τ) (ExpertsReferenceIdeal.main (F := Ideal))) ⟨m, fun _ => 0, ρ⟩ (fun r =>
      (∀ c : Dev ExpertsReferenceIdeal.nD, r.2.mem ((c.tc : Thread ExpertsReferenceIdeal.nD ExpertsReferenceIdeal.τ).loc ExpertsReferenceIdeal.main_arg0) = m ((c.tc : Thread ExpertsReferenceIdeal.nD ExpertsReferenceIdeal.τ).loc ExpertsReferenceIdeal.main_arg0)
      ∧ r.2.mem ((c.tc : Thread ExpertsReferenceIdeal.nD ExpertsReferenceIdeal.τ).loc ExpertsReferenceIdeal.main_arg1) = m ((c.tc : Thread ExpertsReferenceIdeal.nD ExpertsReferenceIdeal.τ).loc ExpertsReferenceIdeal.main_arg1)
      ∧ r.2.mem ((c.tc : Thread ExpertsReferenceIdeal.nD ExpertsReferenceIdeal.τ).loc ExpertsReferenceIdeal.main_arg2) = m ((c.tc : Thread ExpertsReferenceIdeal.nD ExpertsReferenceIdeal.τ).loc ExpertsReferenceIdeal.main_arg2)
      ∧ r.2.mem ((c.tc : Thread ExpertsReferenceIdeal.nD ExpertsReferenceIdeal.τ).loc ExpertsReferenceIdeal.main_arg3) = m ((c.tc : Thread ExpertsReferenceIdeal.nD ExpertsReferenceIdeal.τ).loc ExpertsReferenceIdeal.main_arg3)
      ∧ r.2.mem ((c.tc : Thread ExpertsReferenceIdeal.nD ExpertsReferenceIdeal.τ).loc ExpertsReferenceIdeal.main_arg4) = m ((c.tc : Thread ExpertsReferenceIdeal.nD ExpertsReferenceIdeal.τ).loc ExpertsReferenceIdeal.main_arg4)
      ∧ r.2.mem ((c.tc : Thread ExpertsReferenceIdeal.nD ExpertsReferenceIdeal.τ).loc ExpertsReferenceIdeal.main_arg5) = m ((c.tc : Thread ExpertsReferenceIdeal.nD ExpertsReferenceIdeal.τ).loc ExpertsReferenceIdeal.main_arg5)
      ∧ r.2.mem ((c.tc : Thread ExpertsReferenceIdeal.nD ExpertsReferenceIdeal.τ).loc ExpertsReferenceIdeal.main_arg6) = m ((c.tc : Thread ExpertsReferenceIdeal.nD ExpertsReferenceIdeal.τ).loc ExpertsReferenceIdeal.main_arg6)
      ∧ r.2.mem ((c.tc : Thread ExpertsReferenceIdeal.nD ExpertsReferenceIdeal.τ).loc ExpertsReferenceIdeal.main_arg7) = m ((c.tc : Thread ExpertsReferenceIdeal.nD ExpertsReferenceIdeal.τ).loc ExpertsReferenceIdeal.main_arg7))
      ∧ r.2.sem = fun _ => 0) :=
  (θ_run ExpertsReferenceIdeal.defs _ _).mono (fun r h => ⟨fun c => (h c).2, sem_eq_zero_of_no_sems (by decide) r.2⟩)
    (ExpertsReferenceIdeal.Value.run m ρ)

/-- The experts' output is their reference's, element by element. -/
theorem algebraic_experts : Cert.algebraic_ExpertsIdeal_ExpertsReferenceIdeal := by
  intro m g m' g' h hm
  have R := ExpertsIdeal.Moe.regs_of m h
  refine ⟨fun c => ExpertsIdeal.Moe.mixture m c, ExpertsIdeal.Moe.run m g (ExpertsIdeal.Moe.ok_of m R) R,
    (θ_run ExpertsReferenceIdeal.defs _ _).mono (fun r hv c => ⟨(hv c).1.trans ?_, (hv c).2⟩) (ExpertsReferenceIdeal.Value.run m' g')⟩
  rw [ExpertsReferenceIdeal.Read.val_main_v58_eq]
  obtain ⟨e0, e1, e2, e3, e4, e5, e6, e7⟩ := hm c
  rw [e0, e2, e3, e4, e5, e6, e7]
  obtain rfl := ExpertsIdeal.Moe.dev0 c
  refine Mixture.reference_eq _ _ _ _ _ _ _ (fun k => ?_) R.n2
  have hk := R.e k.val
  rwa [ExpertsIdeal.Moe.at_fin _ k.val k.isLt] at hk

/-- The modulation's kernels run, change no argument, and leave every semaphore at zero. -/
theorem frame_modulation : Cert.quiescent_Modulation := fun m ρ _ => Modulation.Gen.frame m ρ
theorem frame_modulation_ideal : Cert.quiescent_ModulationIdeal := fun m ρ _ => ModulationIdeal.Gen.frame m ρ

/-- The modulation's reference runs, changes no argument, and declares no semaphore. -/
theorem run_modulation_reference (m : (ℓ : Loc ModulationReferenceIdeal.nD ModulationReferenceIdeal.τ ModulationReferenceIdeal.sig) → Buf (Elt Ideal) ℓ)
    (ρ : Dev ModulationReferenceIdeal.nD → PrngReg) :
    θ_run (ModulationReferenceIdeal.defs (F := Ideal)) (onTc (τ := ModulationReferenceIdeal.τ) (ModulationReferenceIdeal.main (F := Ideal))) ⟨m, fun _ => 0, ρ⟩ (fun r =>
      (∀ c : Dev ModulationReferenceIdeal.nD, r.2.mem ((c.tc : Thread ModulationReferenceIdeal.nD ModulationReferenceIdeal.τ).loc ModulationReferenceIdeal.main_arg0) = m ((c.tc : Thread ModulationReferenceIdeal.nD ModulationReferenceIdeal.τ).loc ModulationReferenceIdeal.main_arg0)
      ∧ r.2.mem ((c.tc : Thread ModulationReferenceIdeal.nD ModulationReferenceIdeal.τ).loc ModulationReferenceIdeal.main_arg1) = m ((c.tc : Thread ModulationReferenceIdeal.nD ModulationReferenceIdeal.τ).loc ModulationReferenceIdeal.main_arg1)
      ∧ r.2.mem ((c.tc : Thread ModulationReferenceIdeal.nD ModulationReferenceIdeal.τ).loc ModulationReferenceIdeal.main_arg2) = m ((c.tc : Thread ModulationReferenceIdeal.nD ModulationReferenceIdeal.τ).loc ModulationReferenceIdeal.main_arg2))
      ∧ r.2.sem = fun _ => 0) :=
  (θ_run ModulationReferenceIdeal.defs _ _).mono (fun r h => ⟨fun c => (h c).2, sem_eq_zero_of_no_sems (by decide) r.2⟩)
    (ModulationReferenceIdeal.Value.run m ρ)

/-- The modulation is its reference's, element by element. -/
theorem algebraic_modulation : Cert.algebraic_ModulationIdeal_ModulationReferenceIdeal := by
  intro m g m' g' _ hm
  refine ⟨fun c => Modulate.modulation m c, Modulate.run m g,
    (θ_run ModulationReferenceIdeal.defs _ _).mono (fun r hv c => ⟨(hv c).1.trans ?_, (hv c).2⟩) (ModulationReferenceIdeal.Value.run m' g')⟩
  rw [ModulationReferenceIdeal.Read.val_main_v3_eq]
  obtain ⟨e0, e1, e2⟩ := hm c
  rw [e0, e1, e2]
  exact Modulate.reference_eq _ _ _

/-- The projection's kernels run, change no argument, and leave every semaphore at zero. -/
theorem frame_projection : Cert.quiescent_Projection := fun m ρ _ => Projection.Gen.frame m ρ
theorem frame_projection_ideal : Cert.quiescent_ProjectionIdeal := fun m ρ _ => ProjectionIdeal.Gen.frame m ρ

/-- The projection's reference runs, changes no argument, and declares no semaphore. -/
theorem run_projection_reference (m : (ℓ : Loc ProjectionReferenceIdeal.nD ProjectionReferenceIdeal.τ ProjectionReferenceIdeal.sig) → Buf (Elt Ideal) ℓ)
    (ρ : Dev ProjectionReferenceIdeal.nD → PrngReg) :
    θ_run (ProjectionReferenceIdeal.defs (F := Ideal)) (onTc (τ := ProjectionReferenceIdeal.τ) (ProjectionReferenceIdeal.main (F := Ideal))) ⟨m, fun _ => 0, ρ⟩ (fun r =>
      (∀ c : Dev ProjectionReferenceIdeal.nD, r.2.mem ((c.tc : Thread ProjectionReferenceIdeal.nD ProjectionReferenceIdeal.τ).loc ProjectionReferenceIdeal.main_arg0) = m ((c.tc : Thread ProjectionReferenceIdeal.nD ProjectionReferenceIdeal.τ).loc ProjectionReferenceIdeal.main_arg0)
      ∧ r.2.mem ((c.tc : Thread ProjectionReferenceIdeal.nD ProjectionReferenceIdeal.τ).loc ProjectionReferenceIdeal.main_arg1) = m ((c.tc : Thread ProjectionReferenceIdeal.nD ProjectionReferenceIdeal.τ).loc ProjectionReferenceIdeal.main_arg1)
      ∧ r.2.mem ((c.tc : Thread ProjectionReferenceIdeal.nD ProjectionReferenceIdeal.τ).loc ProjectionReferenceIdeal.main_arg2) = m ((c.tc : Thread ProjectionReferenceIdeal.nD ProjectionReferenceIdeal.τ).loc ProjectionReferenceIdeal.main_arg2)
      ∧ r.2.mem ((c.tc : Thread ProjectionReferenceIdeal.nD ProjectionReferenceIdeal.τ).loc ProjectionReferenceIdeal.main_arg3) = m ((c.tc : Thread ProjectionReferenceIdeal.nD ProjectionReferenceIdeal.τ).loc ProjectionReferenceIdeal.main_arg3)
      ∧ r.2.mem ((c.tc : Thread ProjectionReferenceIdeal.nD ProjectionReferenceIdeal.τ).loc ProjectionReferenceIdeal.main_arg4) = m ((c.tc : Thread ProjectionReferenceIdeal.nD ProjectionReferenceIdeal.τ).loc ProjectionReferenceIdeal.main_arg4)
      ∧ r.2.mem ((c.tc : Thread ProjectionReferenceIdeal.nD ProjectionReferenceIdeal.τ).loc ProjectionReferenceIdeal.main_arg5) = m ((c.tc : Thread ProjectionReferenceIdeal.nD ProjectionReferenceIdeal.τ).loc ProjectionReferenceIdeal.main_arg5)
      ∧ r.2.mem ((c.tc : Thread ProjectionReferenceIdeal.nD ProjectionReferenceIdeal.τ).loc ProjectionReferenceIdeal.main_arg6) = m ((c.tc : Thread ProjectionReferenceIdeal.nD ProjectionReferenceIdeal.τ).loc ProjectionReferenceIdeal.main_arg6))
      ∧ r.2.sem = fun _ => 0) :=
  (θ_run ProjectionReferenceIdeal.defs _ _).mono (fun r h => ⟨fun c => (h c).2.2, sem_eq_zero_of_no_sems (by decide) r.2⟩)
    (ProjectionReferenceIdeal.Value.run m ρ)

/-- The projected rows and columns are the reference's, element by element. -/
theorem algebraic_projection : Cert.algebraic_ProjectionIdeal_ProjectionReferenceIdeal := by
  intro m g m' g' _ hm
  refine ⟨fun c => Project.rows m c, fun c => Project.cols m c, Project.run m g,
    (θ_run ProjectionReferenceIdeal.defs _ _).mono (fun r hv c => ⟨(hv c).1.trans ?_, (hv c).2.1.trans ?_, (hv c).2.2⟩) (ProjectionReferenceIdeal.Value.run m' g')⟩
  · rw [ProjectionReferenceIdeal.Read.val_main_v33_eq]
    obtain ⟨e0, e1, e2, e3, e4, _⟩ := hm c
    rw [e0, e1, e2, e3, e4]
    exact Project.reference_rows _ _ _ _ _
  · rw [ProjectionReferenceIdeal.Read.val_main_v34_eq]
    obtain ⟨e0, e1, e2, e3, e4, _⟩ := hm c
    rw [e0, e1, e2, e3, e4]
    exact Project.reference_cols _ _ _ _ _

theorem claim : Cert.Claim := ⟨Cert.Kernel.Gen.facts, Cert.KernelIdeal.Gen.facts, Cert.ReferenceIdeal.Gen.facts, Cert.Experts.Gen.facts, Cert.ExpertsIdeal.Gen.facts,
  Cert.ExpertsReferenceIdeal.Gen.facts, Cert.Modulation.Gen.facts, Cert.ModulationIdeal.Gen.facts, Cert.ModulationReferenceIdeal.Gen.facts,
  Cert.Projection.Gen.facts, Cert.ProjectionIdeal.Gen.facts, Cert.ProjectionReferenceIdeal.Gen.facts,
  Cert.Pre_first_tiles.Gen.facts, Cert.Pre_finite_scores.Gen.facts, Cert.Pre_regions.Gen.facts,
  frame_p, frame_pi, frame_pi_finite, frame_ri, (fun m ρ _ => run_ri m ρ), frame_experts, frame_experts_ideal,
  (fun m ρ _ => run_experts_reference m ρ), (fun m ρ _ => run_experts_reference m ρ),
  frame_modulation, frame_modulation_ideal, (fun m ρ _ => run_modulation_reference m ρ),
  frame_projection, frame_projection_ideal, (fun m ρ _ => run_projection_reference m ρ), preserves, algebraic, trivial, algebraic_experts, trivial, algebraic_modulation,
  trivial, algebraic_projection⟩

end Cert.Proof

end
